-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x8192 : Shape := ⟨2, ![128, 8192]⟩
abbrev S1 : Shape := ⟨1, ![1]⟩
abbrev S32 : Shape := ⟨1, ![32]⟩
abbrev S_ : Shape := ⟨0, ![]⟩
abbrev S31 : Shape := ⟨1, ![31]⟩
abbrev S31x1 : Shape := ⟨2, ![31, 1]⟩
abbrev S6 : Shape := ⟨1, ![6]⟩
abbrev S2x2x128x1408 : Shape := ⟨4, ![2, 2, 128, 1408]⟩
abbrev S2x2x128x1280 : Shape := ⟨4, ![2, 2, 128, 1280]⟩
abbrev S2x2 : Shape := ⟨2, ![2, 2]⟩
abbrev S128x128 : Shape := ⟨2, ![128, 128]⟩
abbrev S128x2816 : Shape := ⟨2, ![128, 2816]⟩
abbrev S128x2560 : Shape := ⟨2, ![128, 2560]⟩
abbrev S128x1408 : Shape := ⟨2, ![128, 1408]⟩
abbrev S1x1x128x1408 : Shape := ⟨4, ![1, 1, 128, 1408]⟩
abbrev S1x1 : Shape := ⟨2, ![1, 1]⟩
abbrev S128x1280 : Shape := ⟨2, ![128, 1280]⟩
abbrev S1x1x128x1280 : Shape := ⟨4, ![1, 1, 128, 1280]⟩

abbrev nBuf : Space → Nat
  | .hbm => 307
  | .vmem => 9
  | .smem => 6
  | _ => 0

abbrev hbmTy0_0 (i : Nat) : BufTy := match i % 128 with
  | 0 => ⟨S4096x128, .fp8e4m3⟩
  | 1 => ⟨S128x8192, .fp8e4m3⟩
  | 2 => ⟨S1, .f32⟩
  | 3 => ⟨S1, .f32⟩
  | 4 => ⟨S32, .i32⟩
  | 5 => ⟨S32, .i32⟩
  | 6 => ⟨S32, .i32⟩
  | 7 => ⟨S32, .i32⟩
  | 8 => ⟨S32, .i32⟩
  | 9 => ⟨S32, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S31, .i32⟩
  | 17 => ⟨S_, .i32⟩
  | 18 => ⟨S_, .i1⟩
  | 19 => ⟨S_, .i32⟩
  | 20 => ⟨S_, .i32⟩
  | 21 => ⟨S_, .i32⟩
  | 22 => ⟨S1, .i32⟩
  | 23 => ⟨S_, .i32⟩
  | 24 => ⟨S_, .i32⟩
  | 25 => ⟨S_, .i32⟩
  | 26 => ⟨S31, .i32⟩
  | 27 => ⟨S31, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S31, .i32⟩
  | 35 => ⟨S31, .i32⟩
  | 36 => ⟨S_, .i32⟩
  | 37 => ⟨S31, .i32⟩
  | 38 => ⟨S31, .i1⟩
  | 39 => ⟨S_, .i32⟩
  | 40 => ⟨S31, .i32⟩
  | 41 => ⟨S31, .i1⟩
  | 42 => ⟨S_, .i32⟩
  | 43 => ⟨S_, .i1⟩
  | 44 => ⟨S31, .i1⟩
  | 45 => ⟨S31, .i1⟩
  | 46 => ⟨S31, .i1⟩
  | 47 => ⟨S31, .i32⟩
  | 48 => ⟨S31, .i32⟩
  | 49 => ⟨S31, .i32⟩
  | 50 => ⟨S_, .i32⟩
  | 51 => ⟨S31, .i32⟩
  | 52 => ⟨S31, .i1⟩
  | 53 => ⟨S_, .i32⟩
  | 54 => ⟨S31, .i32⟩
  | 55 => ⟨S31, .i32⟩
  | 56 => ⟨S31, .i32⟩
  | 57 => ⟨S31x1, .i32⟩
  | 58 => ⟨S31, .i32⟩
  | 59 => ⟨S_, .i32⟩
  | 60 => ⟨S_, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i1⟩
  | 70 => ⟨S_, .i32⟩
  | 71 => ⟨S_, .i1⟩
  | 72 => ⟨S_, .i32⟩
  | 73 => ⟨S_, .i1⟩
  | 74 => ⟨S_, .i1⟩
  | 75 => ⟨S_, .i1⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S1, .i32⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S_, .i1⟩
  | 96 => ⟨S_, .i32⟩
  | 97 => ⟨S_, .i1⟩
  | 98 => ⟨S_, .i32⟩
  | 99 => ⟨S_, .i1⟩
  | 100 => ⟨S_, .i1⟩
  | 101 => ⟨S_, .i1⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S_, .i32⟩
  | 109 => ⟨S1, .i32⟩
  | 110 => ⟨S_, .i32⟩
  | 111 => ⟨S_, .i32⟩
  | 112 => ⟨S_, .i1⟩
  | 113 => ⟨S_, .i32⟩
  | 114 => ⟨S_, .i32⟩
  | 115 => ⟨S_, .i32⟩
  | 116 => ⟨S1, .i32⟩
  | 117 => ⟨S_, .i32⟩
  | 118 => ⟨S_, .i32⟩
  | 119 => ⟨S_, .i32⟩
  | 120 => ⟨S31, .i32⟩
  | 121 => ⟨S31, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S4096x128, .fp8e4m3⟩

abbrev hbmTy0_1 (i : Nat) : BufTy := match i % 128 with
  | 0 => ⟨S31, .i32⟩
  | 1 => ⟨S31, .i32⟩
  | 2 => ⟨S_, .i32⟩
  | 3 => ⟨S31, .i32⟩
  | 4 => ⟨S31, .i1⟩
  | 5 => ⟨S_, .i32⟩
  | 6 => ⟨S31, .i32⟩
  | 7 => ⟨S31, .i1⟩
  | 8 => ⟨S_, .i32⟩
  | 9 => ⟨S_, .i1⟩
  | 10 => ⟨S31, .i1⟩
  | 11 => ⟨S31, .i1⟩
  | 12 => ⟨S31, .i1⟩
  | 13 => ⟨S31, .i32⟩
  | 14 => ⟨S31, .i32⟩
  | 15 => ⟨S31, .i32⟩
  | 16 => ⟨S_, .i32⟩
  | 17 => ⟨S31, .i32⟩
  | 18 => ⟨S31, .i1⟩
  | 19 => ⟨S_, .i32⟩
  | 20 => ⟨S31, .i32⟩
  | 21 => ⟨S31, .i32⟩
  | 22 => ⟨S31, .i32⟩
  | 23 => ⟨S31x1, .i32⟩
  | 24 => ⟨S31, .i32⟩
  | 25 => ⟨S_, .i32⟩
  | 26 => ⟨S_, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i1⟩
  | 36 => ⟨S_, .i32⟩
  | 37 => ⟨S_, .i1⟩
  | 38 => ⟨S_, .i32⟩
  | 39 => ⟨S_, .i1⟩
  | 40 => ⟨S_, .i1⟩
  | 41 => ⟨S_, .i1⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S1, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i1⟩
  | 62 => ⟨S_, .i32⟩
  | 63 => ⟨S_, .i1⟩
  | 64 => ⟨S_, .i32⟩
  | 65 => ⟨S_, .i1⟩
  | 66 => ⟨S_, .i1⟩
  | 67 => ⟨S_, .i1⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S_, .i32⟩
  | 75 => ⟨S1, .i32⟩
  | 76 => ⟨S_, .i32⟩
  | 77 => ⟨S_, .i32⟩
  | 78 => ⟨S_, .i1⟩
  | 79 => ⟨S_, .i32⟩
  | 80 => ⟨S_, .i32⟩
  | 81 => ⟨S_, .i32⟩
  | 82 => ⟨S1, .i32⟩
  | 83 => ⟨S_, .i32⟩
  | 84 => ⟨S_, .i32⟩
  | 85 => ⟨S_, .i32⟩
  | 86 => ⟨S31, .i32⟩
  | 87 => ⟨S31, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S31, .i32⟩
  | 95 => ⟨S31, .i32⟩
  | 96 => ⟨S_, .i32⟩
  | 97 => ⟨S31, .i32⟩
  | 98 => ⟨S31, .i1⟩
  | 99 => ⟨S_, .i32⟩
  | 100 => ⟨S31, .i32⟩
  | 101 => ⟨S31, .i1⟩
  | 102 => ⟨S_, .i32⟩
  | 103 => ⟨S_, .i1⟩
  | 104 => ⟨S31, .i1⟩
  | 105 => ⟨S31, .i1⟩
  | 106 => ⟨S31, .i1⟩
  | 107 => ⟨S31, .i32⟩
  | 108 => ⟨S31, .i32⟩
  | 109 => ⟨S31, .i32⟩
  | 110 => ⟨S_, .i32⟩
  | 111 => ⟨S31, .i32⟩
  | 112 => ⟨S31, .i1⟩
  | 113 => ⟨S_, .i32⟩
  | 114 => ⟨S31, .i32⟩
  | 115 => ⟨S31, .i32⟩
  | 116 => ⟨S31, .i32⟩
  | 117 => ⟨S31x1, .i32⟩
  | 118 => ⟨S31, .i32⟩
  | 119 => ⟨S_, .i32⟩
  | 120 => ⟨S_, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S_, .i32⟩
  | _ => ⟨S4096x128, .fp8e4m3⟩

abbrev hbmTy0_2 (i : Nat) : BufTy := match i % 128 with
  | 0 => ⟨S_, .i32⟩
  | 1 => ⟨S_, .i1⟩
  | 2 => ⟨S_, .i32⟩
  | 3 => ⟨S_, .i1⟩
  | 4 => ⟨S_, .i32⟩
  | 5 => ⟨S_, .i1⟩
  | 6 => ⟨S_, .i1⟩
  | 7 => ⟨S_, .i1⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i1⟩
  | 28 => ⟨S_, .i32⟩
  | 29 => ⟨S_, .i1⟩
  | 30 => ⟨S_, .i32⟩
  | 31 => ⟨S_, .i1⟩
  | 32 => ⟨S_, .i1⟩
  | 33 => ⟨S_, .i1⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S1, .i32⟩
  | 42 => ⟨S_, .i32⟩
  | 43 => ⟨S1, .i32⟩
  | 44 => ⟨S1, .i32⟩
  | 45 => ⟨S1, .i32⟩
  | 46 => ⟨S1, .i32⟩
  | 47 => ⟨S1, .i32⟩
  | 48 => ⟨S1, .i32⟩
  | 49 => ⟨S6, .i32⟩
  | 50 => ⟨S128x8192, .f32⟩
  | _ => ⟨S4096x128, .fp8e4m3⟩

abbrev hbmTy (i : Nat) : BufTy := match i / 128 with
  | 0 => hbmTy0_0 i
  | 1 => hbmTy0_1 i
  | 2 => hbmTy0_2 i
  | _ => ⟨S4096x128, .fp8e4m3⟩

abbrev bufTy : (tb : Table) → Fin (tcTables nBuf tb) → BufTy
  | .hbm, ⟨i, _⟩ => hbmTy i
  | .local _ .vmem, ⟨0, _⟩ => ⟨S4096x128, .fp8e4m3⟩
  | .local _ .vmem, ⟨1, _⟩ => ⟨S128x8192, .fp8e4m3⟩
  | .local _ .vmem, ⟨2, _⟩ => ⟨S128x8192, .f32⟩
  | .local _ .vmem, ⟨3, _⟩ => ⟨S2x2x128x1408, .bf16⟩
  | .local _ .vmem, ⟨4, _⟩ => ⟨S2x2x128x1408, .bf16⟩
  | .local _ .vmem, ⟨5, _⟩ => ⟨S2x2x128x1408, .bf16⟩
  | .local _ .vmem, ⟨6, _⟩ => ⟨S2x2x128x1408, .bf16⟩
  | .local _ .vmem, ⟨7, _⟩ => ⟨S2x2x128x1280, .bf16⟩
  | .local _ .vmem, ⟨8, _⟩ => ⟨S2x2x128x1280, .bf16⟩
  | .local _ .smem, ⟨0, _⟩ => ⟨S1, .f32⟩
  | .local _ .smem, ⟨1, _⟩ => ⟨S1, .f32⟩
  | .local _ .smem, ⟨2, _⟩ => ⟨S31, .i32⟩
  | .local _ .smem, ⟨3, _⟩ => ⟨S31, .i32⟩
  | .local _ .smem, ⟨4, _⟩ => ⟨S31, .i32⟩
  | .local _ .smem, ⟨5, _⟩ => ⟨S6, .i32⟩
  | _, _ => ⟨S4096x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 4 → Bool
  | ⟨0, _⟩ => true
  | ⟨1, _⟩ => true
  | ⟨2, _⟩ => true
  | ⟨3, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 4 33 bufScoped semScoped dmaSemScoped tileCredit tileCredit_eq_zero tileCredit_pos).withBarriers [(0, 3)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_c_5 : Ref sig .tc := ⟨.hbm, 10, rfl⟩
abbrev main_c_6 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_7 : Ref sig .tc := ⟨.hbm, 17, rfl⟩
abbrev main_v6 : Ref sig .tc := ⟨.hbm, 18, rfl⟩
abbrev main_c_8 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_9 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_10 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_c_1 : Ref sig .tc := ⟨.hbm, 36, rfl⟩
abbrev main_call0_v5 : Ref sig .tc := ⟨.hbm, 37, rfl⟩
abbrev main_call0_v6 : Ref sig .tc := ⟨.hbm, 38, rfl⟩
abbrev main_call0_c_2 : Ref sig .tc := ⟨.hbm, 39, rfl⟩
abbrev main_call0_v7 : Ref sig .tc := ⟨.hbm, 40, rfl⟩
abbrev main_call0_v8 : Ref sig .tc := ⟨.hbm, 41, rfl⟩
abbrev main_call0_c_3 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_v14 : Ref sig .tc := ⟨.hbm, 49, rfl⟩
abbrev main_c_11 : Ref sig .tc := ⟨.hbm, 50, rfl⟩
abbrev main_v15 : Ref sig .tc := ⟨.hbm, 51, rfl⟩
abbrev main_v16 : Ref sig .tc := ⟨.hbm, 52, rfl⟩
abbrev main_c_12 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_c_13 : Ref sig .tc := ⟨.hbm, 59, rfl⟩
abbrev main_v22 : Ref sig .tc := ⟨.hbm, 60, rfl⟩
abbrev main_c_14 : Ref sig .tc := ⟨.hbm, 61, rfl⟩
abbrev main_call1_v0 : Ref sig .tc := ⟨.hbm, 62, rfl⟩
abbrev main_call1_c : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_c_1 : Ref sig .tc := ⟨.hbm, 68, rfl⟩
abbrev main_call1_v4 : Ref sig .tc := ⟨.hbm, 69, rfl⟩
abbrev main_call1_c_2 : Ref sig .tc := ⟨.hbm, 70, rfl⟩
abbrev main_call1_v5 : Ref sig .tc := ⟨.hbm, 71, rfl⟩
abbrev main_call1_c_3 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_v23 : Ref sig .tc := ⟨.hbm, 77, rfl⟩
abbrev main_c_15 : Ref sig .tc := ⟨.hbm, 78, rfl⟩
abbrev main_v24 : Ref sig .tc := ⟨.hbm, 79, rfl⟩
abbrev main_c_16 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_c_17 : Ref sig .tc := ⟨.hbm, 85, rfl⟩
abbrev main_v29 : Ref sig .tc := ⟨.hbm, 86, rfl⟩
abbrev main_c_18 : Ref sig .tc := ⟨.hbm, 87, rfl⟩
abbrev main_call2_v0 : Ref sig .tc := ⟨.hbm, 88, rfl⟩
abbrev main_call2_c : Ref sig .tc := ⟨.hbm, 89, rfl⟩
abbrev main_call2_v1 : Ref sig .tc := ⟨.hbm, 90, rfl⟩
abbrev main_call2_c_0 : Ref sig .tc := ⟨.hbm, 91, rfl⟩
abbrev main_call2_v2 : Ref sig .tc := ⟨.hbm, 92, rfl⟩
abbrev main_call2_v3 : Ref sig .tc := ⟨.hbm, 93, rfl⟩
abbrev main_call2_c_1 : Ref sig .tc := ⟨.hbm, 94, rfl⟩
abbrev main_call2_v4 : Ref sig .tc := ⟨.hbm, 95, rfl⟩
abbrev main_call2_c_2 : Ref sig .tc := ⟨.hbm, 96, rfl⟩
abbrev main_call2_v5 : Ref sig .tc := ⟨.hbm, 97, rfl⟩
abbrev main_call2_c_3 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_v9 : Ref sig .tc := ⟨.hbm, 102, rfl⟩
abbrev main_v30 : Ref sig .tc := ⟨.hbm, 103, rfl⟩
abbrev main_c_19 : Ref sig .tc := ⟨.hbm, 104, rfl⟩
abbrev main_v31 : Ref sig .tc := ⟨.hbm, 105, rfl⟩
abbrev main_c_20 : Ref sig .tc := ⟨.hbm, 106, rfl⟩
abbrev main_v32 : Ref sig .tc := ⟨.hbm, 107, rfl⟩
abbrev main_v33 : Ref sig .tc := ⟨.hbm, 108, rfl⟩
abbrev main_v34 : Ref sig .tc := ⟨.hbm, 109, rfl⟩
abbrev main_v35 : Ref sig .tc := ⟨.hbm, 110, rfl⟩
abbrev main_c_21 : Ref sig .tc := ⟨.hbm, 111, rfl⟩
abbrev main_v36 : Ref sig .tc := ⟨.hbm, 112, rfl⟩
abbrev main_c_22 : Ref sig .tc := ⟨.hbm, 113, rfl⟩
abbrev main_v37 : Ref sig .tc := ⟨.hbm, 114, rfl⟩
abbrev main_v38 : Ref sig .tc := ⟨.hbm, 115, rfl⟩
abbrev main_v39 : Ref sig .tc := ⟨.hbm, 116, rfl⟩
abbrev main_v40 : Ref sig .tc := ⟨.hbm, 117, rfl⟩
abbrev main_c_23 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_c_24 : Ref sig .tc := ⟨.hbm, 122, rfl⟩
abbrev main_call3_v0 : Ref sig .tc := ⟨.hbm, 123, rfl⟩
abbrev main_call3_c : Ref sig .tc := ⟨.hbm, 124, rfl⟩
abbrev main_call3_v1 : Ref sig .tc := ⟨.hbm, 125, rfl⟩
abbrev main_call3_c_0 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_call3_c_1 : Ref sig .tc := ⟨.hbm, 130, rfl⟩
abbrev main_call3_v5 : Ref sig .tc := ⟨.hbm, 131, rfl⟩
abbrev main_call3_v6 : Ref sig .tc := ⟨.hbm, 132, rfl⟩
abbrev main_call3_c_2 : Ref sig .tc := ⟨.hbm, 133, rfl⟩
abbrev main_call3_v7 : Ref sig .tc := ⟨.hbm, 134, rfl⟩
abbrev main_call3_v8 : Ref sig .tc := ⟨.hbm, 135, rfl⟩
abbrev main_call3_c_3 : Ref sig .tc := ⟨.hbm, 136, rfl⟩
abbrev main_call3_v9 : Ref sig .tc := ⟨.hbm, 137, rfl⟩
abbrev main_call3_v10 : Ref sig .tc := ⟨.hbm, 138, rfl⟩
abbrev main_call3_v11 : Ref sig .tc := ⟨.hbm, 139, rfl⟩
abbrev main_call3_v12 : Ref sig .tc := ⟨.hbm, 140, rfl⟩
abbrev main_call3_v13 : Ref sig .tc := ⟨.hbm, 141, rfl⟩
abbrev main_call3_v14 : Ref sig .tc := ⟨.hbm, 142, rfl⟩
abbrev main_v44 : Ref sig .tc := ⟨.hbm, 143, rfl⟩
abbrev main_c_25 : Ref sig .tc := ⟨.hbm, 144, rfl⟩
abbrev main_v45 : Ref sig .tc := ⟨.hbm, 145, rfl⟩
abbrev main_v46 : Ref sig .tc := ⟨.hbm, 146, rfl⟩
abbrev main_c_26 : Ref sig .tc := ⟨.hbm, 147, rfl⟩
abbrev main_v47 : Ref sig .tc := ⟨.hbm, 148, rfl⟩
abbrev main_v48 : Ref sig .tc := ⟨.hbm, 149, rfl⟩
abbrev main_v49 : Ref sig .tc := ⟨.hbm, 150, rfl⟩
abbrev main_v50 : Ref sig .tc := ⟨.hbm, 151, rfl⟩
abbrev main_v51 : Ref sig .tc := ⟨.hbm, 152, rfl⟩
abbrev main_c_27 : Ref sig .tc := ⟨.hbm, 153, rfl⟩
abbrev main_v52 : Ref sig .tc := ⟨.hbm, 154, rfl⟩
abbrev main_c_28 : Ref sig .tc := ⟨.hbm, 155, rfl⟩
abbrev main_call4_v0 : Ref sig .tc := ⟨.hbm, 156, rfl⟩
abbrev main_call4_c : Ref sig .tc := ⟨.hbm, 157, rfl⟩
abbrev main_call4_v1 : Ref sig .tc := ⟨.hbm, 158, rfl⟩
abbrev main_call4_c_0 : Ref sig .tc := ⟨.hbm, 159, rfl⟩
abbrev main_call4_v2 : Ref sig .tc := ⟨.hbm, 160, rfl⟩
abbrev main_call4_v3 : Ref sig .tc := ⟨.hbm, 161, rfl⟩
abbrev main_call4_c_1 : Ref sig .tc := ⟨.hbm, 162, rfl⟩
abbrev main_call4_v4 : Ref sig .tc := ⟨.hbm, 163, rfl⟩
abbrev main_call4_c_2 : Ref sig .tc := ⟨.hbm, 164, rfl⟩
abbrev main_call4_v5 : Ref sig .tc := ⟨.hbm, 165, rfl⟩
abbrev main_call4_c_3 : Ref sig .tc := ⟨.hbm, 166, rfl⟩
abbrev main_call4_v6 : Ref sig .tc := ⟨.hbm, 167, rfl⟩
abbrev main_call4_v7 : Ref sig .tc := ⟨.hbm, 168, rfl⟩
abbrev main_call4_v8 : Ref sig .tc := ⟨.hbm, 169, rfl⟩
abbrev main_call4_v9 : Ref sig .tc := ⟨.hbm, 170, rfl⟩
abbrev main_v53 : Ref sig .tc := ⟨.hbm, 171, rfl⟩
abbrev main_c_29 : Ref sig .tc := ⟨.hbm, 172, rfl⟩
abbrev main_v54 : Ref sig .tc := ⟨.hbm, 173, rfl⟩
abbrev main_c_30 : Ref sig .tc := ⟨.hbm, 174, rfl⟩
abbrev main_v55 : Ref sig .tc := ⟨.hbm, 175, rfl⟩
abbrev main_v56 : Ref sig .tc := ⟨.hbm, 176, rfl⟩
abbrev main_v57 : Ref sig .tc := ⟨.hbm, 177, rfl⟩
abbrev main_v58 : Ref sig .tc := ⟨.hbm, 178, rfl⟩
abbrev main_c_31 : Ref sig .tc := ⟨.hbm, 179, rfl⟩
abbrev main_v59 : Ref sig .tc := ⟨.hbm, 180, rfl⟩
abbrev main_c_32 : Ref sig .tc := ⟨.hbm, 181, rfl⟩
abbrev main_call5_v0 : Ref sig .tc := ⟨.hbm, 182, rfl⟩
abbrev main_call5_c : Ref sig .tc := ⟨.hbm, 183, rfl⟩
abbrev main_call5_v1 : Ref sig .tc := ⟨.hbm, 184, rfl⟩
abbrev main_call5_c_0 : Ref sig .tc := ⟨.hbm, 185, rfl⟩
abbrev main_call5_v2 : Ref sig .tc := ⟨.hbm, 186, rfl⟩
abbrev main_call5_v3 : Ref sig .tc := ⟨.hbm, 187, rfl⟩
abbrev main_call5_c_1 : Ref sig .tc := ⟨.hbm, 188, rfl⟩
abbrev main_call5_v4 : Ref sig .tc := ⟨.hbm, 189, rfl⟩
abbrev main_call5_c_2 : Ref sig .tc := ⟨.hbm, 190, rfl⟩
abbrev main_call5_v5 : Ref sig .tc := ⟨.hbm, 191, rfl⟩
abbrev main_call5_c_3 : Ref sig .tc := ⟨.hbm, 192, rfl⟩
abbrev main_call5_v6 : Ref sig .tc := ⟨.hbm, 193, rfl⟩
abbrev main_call5_v7 : Ref sig .tc := ⟨.hbm, 194, rfl⟩
abbrev main_call5_v8 : Ref sig .tc := ⟨.hbm, 195, rfl⟩
abbrev main_call5_v9 : Ref sig .tc := ⟨.hbm, 196, rfl⟩
abbrev main_v60 : Ref sig .tc := ⟨.hbm, 197, rfl⟩
abbrev main_c_33 : Ref sig .tc := ⟨.hbm, 198, rfl⟩
abbrev main_v61 : Ref sig .tc := ⟨.hbm, 199, rfl⟩
abbrev main_c_34 : Ref sig .tc := ⟨.hbm, 200, rfl⟩
abbrev main_v62 : Ref sig .tc := ⟨.hbm, 201, rfl⟩
abbrev main_v63 : Ref sig .tc := ⟨.hbm, 202, rfl⟩
abbrev main_v64 : Ref sig .tc := ⟨.hbm, 203, rfl⟩
abbrev main_v65 : Ref sig .tc := ⟨.hbm, 204, rfl⟩
abbrev main_c_35 : Ref sig .tc := ⟨.hbm, 205, rfl⟩
abbrev main_v66 : Ref sig .tc := ⟨.hbm, 206, rfl⟩
abbrev main_c_36 : Ref sig .tc := ⟨.hbm, 207, rfl⟩
abbrev main_v67 : Ref sig .tc := ⟨.hbm, 208, rfl⟩
abbrev main_v68 : Ref sig .tc := ⟨.hbm, 209, rfl⟩
abbrev main_v69 : Ref sig .tc := ⟨.hbm, 210, rfl⟩
abbrev main_v70 : Ref sig .tc := ⟨.hbm, 211, rfl⟩
abbrev main_c_37 : Ref sig .tc := ⟨.hbm, 212, rfl⟩
abbrev main_v71 : Ref sig .tc := ⟨.hbm, 213, rfl⟩
abbrev main_v72 : Ref sig .tc := ⟨.hbm, 214, rfl⟩
abbrev main_v73 : Ref sig .tc := ⟨.hbm, 215, rfl⟩
abbrev main_c_38 : Ref sig .tc := ⟨.hbm, 216, rfl⟩
abbrev main_call6_v0 : Ref sig .tc := ⟨.hbm, 217, rfl⟩
abbrev main_call6_c : Ref sig .tc := ⟨.hbm, 218, rfl⟩
abbrev main_call6_v1 : Ref sig .tc := ⟨.hbm, 219, rfl⟩
abbrev main_call6_c_0 : Ref sig .tc := ⟨.hbm, 220, rfl⟩
abbrev main_call6_v2 : Ref sig .tc := ⟨.hbm, 221, rfl⟩
abbrev main_call6_v3 : Ref sig .tc := ⟨.hbm, 222, rfl⟩
abbrev main_call6_v4 : Ref sig .tc := ⟨.hbm, 223, rfl⟩
abbrev main_call6_c_1 : Ref sig .tc := ⟨.hbm, 224, rfl⟩
abbrev main_call6_v5 : Ref sig .tc := ⟨.hbm, 225, rfl⟩
abbrev main_call6_v6 : Ref sig .tc := ⟨.hbm, 226, rfl⟩
abbrev main_call6_c_2 : Ref sig .tc := ⟨.hbm, 227, rfl⟩
abbrev main_call6_v7 : Ref sig .tc := ⟨.hbm, 228, rfl⟩
abbrev main_call6_v8 : Ref sig .tc := ⟨.hbm, 229, rfl⟩
abbrev main_call6_c_3 : Ref sig .tc := ⟨.hbm, 230, rfl⟩
abbrev main_call6_v9 : Ref sig .tc := ⟨.hbm, 231, rfl⟩
abbrev main_call6_v10 : Ref sig .tc := ⟨.hbm, 232, rfl⟩
abbrev main_call6_v11 : Ref sig .tc := ⟨.hbm, 233, rfl⟩
abbrev main_call6_v12 : Ref sig .tc := ⟨.hbm, 234, rfl⟩
abbrev main_call6_v13 : Ref sig .tc := ⟨.hbm, 235, rfl⟩
abbrev main_call6_v14 : Ref sig .tc := ⟨.hbm, 236, rfl⟩
abbrev main_v74 : Ref sig .tc := ⟨.hbm, 237, rfl⟩
abbrev main_c_39 : Ref sig .tc := ⟨.hbm, 238, rfl⟩
abbrev main_v75 : Ref sig .tc := ⟨.hbm, 239, rfl⟩
abbrev main_v76 : Ref sig .tc := ⟨.hbm, 240, rfl⟩
abbrev main_c_40 : Ref sig .tc := ⟨.hbm, 241, rfl⟩
abbrev main_v77 : Ref sig .tc := ⟨.hbm, 242, rfl⟩
abbrev main_v78 : Ref sig .tc := ⟨.hbm, 243, rfl⟩
abbrev main_v79 : Ref sig .tc := ⟨.hbm, 244, rfl⟩
abbrev main_v80 : Ref sig .tc := ⟨.hbm, 245, rfl⟩
abbrev main_v81 : Ref sig .tc := ⟨.hbm, 246, rfl⟩
abbrev main_c_41 : Ref sig .tc := ⟨.hbm, 247, rfl⟩
abbrev main_v82 : Ref sig .tc := ⟨.hbm, 248, rfl⟩
abbrev main_c_42 : Ref sig .tc := ⟨.hbm, 249, rfl⟩
abbrev main_call7_v0 : Ref sig .tc := ⟨.hbm, 250, rfl⟩
abbrev main_call7_c : Ref sig .tc := ⟨.hbm, 251, rfl⟩
abbrev main_call7_v1 : Ref sig .tc := ⟨.hbm, 252, rfl⟩
abbrev main_call7_c_0 : Ref sig .tc := ⟨.hbm, 253, rfl⟩
abbrev main_call7_v2 : Ref sig .tc := ⟨.hbm, 254, rfl⟩
abbrev main_call7_v3 : Ref sig .tc := ⟨.hbm, 255, rfl⟩
abbrev main_call7_c_1 : Ref sig .tc := ⟨.hbm, 256, rfl⟩
abbrev main_call7_v4 : Ref sig .tc := ⟨.hbm, 257, rfl⟩
abbrev main_call7_c_2 : Ref sig .tc := ⟨.hbm, 258, rfl⟩
abbrev main_call7_v5 : Ref sig .tc := ⟨.hbm, 259, rfl⟩
abbrev main_call7_c_3 : Ref sig .tc := ⟨.hbm, 260, rfl⟩
abbrev main_call7_v6 : Ref sig .tc := ⟨.hbm, 261, rfl⟩
abbrev main_call7_v7 : Ref sig .tc := ⟨.hbm, 262, rfl⟩
abbrev main_call7_v8 : Ref sig .tc := ⟨.hbm, 263, rfl⟩
abbrev main_call7_v9 : Ref sig .tc := ⟨.hbm, 264, rfl⟩
abbrev main_v83 : Ref sig .tc := ⟨.hbm, 265, rfl⟩
abbrev main_c_43 : Ref sig .tc := ⟨.hbm, 266, rfl⟩
abbrev main_v84 : Ref sig .tc := ⟨.hbm, 267, rfl⟩
abbrev main_c_44 : Ref sig .tc := ⟨.hbm, 268, rfl⟩
abbrev main_v85 : Ref sig .tc := ⟨.hbm, 269, rfl⟩
abbrev main_v86 : Ref sig .tc := ⟨.hbm, 270, rfl⟩
abbrev main_v87 : Ref sig .tc := ⟨.hbm, 271, rfl⟩
abbrev main_v88 : Ref sig .tc := ⟨.hbm, 272, rfl⟩
abbrev main_c_45 : Ref sig .tc := ⟨.hbm, 273, rfl⟩
abbrev main_v89 : Ref sig .tc := ⟨.hbm, 274, rfl⟩
abbrev main_c_46 : Ref sig .tc := ⟨.hbm, 275, rfl⟩
abbrev main_call8_v0 : Ref sig .tc := ⟨.hbm, 276, rfl⟩
abbrev main_call8_c : Ref sig .tc := ⟨.hbm, 277, rfl⟩
abbrev main_call8_v1 : Ref sig .tc := ⟨.hbm, 278, rfl⟩
abbrev main_call8_c_0 : Ref sig .tc := ⟨.hbm, 279, rfl⟩
abbrev main_call8_v2 : Ref sig .tc := ⟨.hbm, 280, rfl⟩
abbrev main_call8_v3 : Ref sig .tc := ⟨.hbm, 281, rfl⟩
abbrev main_call8_c_1 : Ref sig .tc := ⟨.hbm, 282, rfl⟩
abbrev main_call8_v4 : Ref sig .tc := ⟨.hbm, 283, rfl⟩
abbrev main_call8_c_2 : Ref sig .tc := ⟨.hbm, 284, rfl⟩
abbrev main_call8_v5 : Ref sig .tc := ⟨.hbm, 285, rfl⟩
abbrev main_call8_c_3 : Ref sig .tc := ⟨.hbm, 286, rfl⟩
abbrev main_call8_v6 : Ref sig .tc := ⟨.hbm, 287, rfl⟩
abbrev main_call8_v7 : Ref sig .tc := ⟨.hbm, 288, rfl⟩
abbrev main_call8_v8 : Ref sig .tc := ⟨.hbm, 289, rfl⟩
abbrev main_call8_v9 : Ref sig .tc := ⟨.hbm, 290, rfl⟩
abbrev main_v90 : Ref sig .tc := ⟨.hbm, 291, rfl⟩
abbrev main_c_47 : Ref sig .tc := ⟨.hbm, 292, rfl⟩
abbrev main_v91 : Ref sig .tc := ⟨.hbm, 293, rfl⟩
abbrev main_c_48 : Ref sig .tc := ⟨.hbm, 294, rfl⟩
abbrev main_v92 : Ref sig .tc := ⟨.hbm, 295, rfl⟩
abbrev main_v93 : Ref sig .tc := ⟨.hbm, 296, rfl⟩
abbrev main_v94 : Ref sig .tc := ⟨.hbm, 297, rfl⟩
abbrev main_v95 : Ref sig .tc := ⟨.hbm, 298, rfl⟩
abbrev main_v96 : Ref sig .tc := ⟨.hbm, 299, rfl⟩
abbrev main_v97 : Ref sig .tc := ⟨.hbm, 300, rfl⟩
abbrev main_v98 : Ref sig .tc := ⟨.hbm, 301, rfl⟩
abbrev main_v99 : Ref sig .tc := ⟨.hbm, 302, rfl⟩
abbrev main_v100 : Ref sig .tc := ⟨.hbm, 303, rfl⟩
abbrev main_v101 : Ref sig .tc := ⟨.hbm, 304, rfl⟩
abbrev main_v102 : Ref sig .tc := ⟨.hbm, 305, rfl⟩
abbrev main_v103 : Ref sig .tc := ⟨.hbm, 306, rfl⟩
abbrev cc0_stg0_0 : Ref sig .tc := ⟨.vmem, 0, rfl⟩
abbrev cc0_stg1_0 : Ref sig .tc := ⟨.vmem, 1, rfl⟩
abbrev cc0_stg8_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_stg5_0 : Ref sig .tc := ⟨.smem, 3, rfl⟩
abbrev cc0_stg6_0 : Ref sig .tc := ⟨.smem, 4, rfl⟩
abbrev cc0_stg7_0 : Ref sig .tc := ⟨.smem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 3

abbrev nD : Nat := 32
abbrev τ : Topo := Topo.v7x

variable {F : FTy → Type} [FloatOps F]

abbrev grid0 : Pipeline.Grid := .none

def k0_dev1 (v3 : BitVec 32) : Nat :=
  let c0_i32 : BitVec 32 := 0#32
  let c1_i32_1 : BitVec 32 := 1#32
  let v10 : BitVec 32 := Scalar.muli v3 c1_i32_1
  let v11 : BitVec 32 := Scalar.addi c0_i32 v10
  v11.toNat

def k0_dev2 (v4 : BitVec 32) : Nat :=
  let c0_i32_4 : BitVec 32 := 0#32
  let c1_i32_3 : BitVec 32 := 1#32
  let v12 : BitVec 32 := Scalar.muli v4 c1_i32_3
  let v13 : BitVec 32 := Scalar.addi c0_i32_4 v12
  v13.toNat

def k0_dev3 (v5 : BitVec 32) : Nat :=
  let c0_i32_7 : BitVec 32 := 0#32
  let c1_i32_6 : BitVec 32 := 1#32
  let v14 : BitVec 32 := Scalar.muli v5 c1_i32_6
  let v15 : BitVec 32 := Scalar.addi c0_i32_7 v14
  v15.toNat

def k0_dev4 (v6 : BitVec 32) : Nat :=
  let c0_i32_10 : BitVec 32 := 0#32
  let c1_i32_9 : BitVec 32 := 1#32
  let v16 : BitVec 32 := Scalar.muli v6 c1_i32_9
  let v17 : BitVec 32 := Scalar.addi c0_i32_10 v16
  v17.toNat

def k0_dev5 (v7 : BitVec 32) : Nat :=
  let c0_i32_13 : BitVec 32 := 0#32
  let c1_i32_12 : BitVec 32 := 1#32
  let v18 : BitVec 32 := Scalar.muli v7 c1_i32_12
  let v19 : BitVec 32 := Scalar.addi c0_i32_13 v18
  v19.toNat

def k0_dev6 (v8 : BitVec 32) : Nat :=
  let c0_i32_16 : BitVec 32 := 0#32
  let c1_i32_15 : BitVec 32 := 1#32
  let v20 : BitVec 32 := Scalar.muli v8 c1_i32_15
  let v21 : BitVec 32 := Scalar.addi c0_i32_16 v20
  v21.toNat

def k0_off1 (v22 : BitVec 32) : Fin 2 → Nat :=
  let c128_i32 : BitVec 32 := 128#32
  let v23 : BitVec 32 := Scalar.muli v22 c128_i32
  let v24 : Index := Scalar.indexCast v23
  let c0_18 : Index := 0#32
  ![v24.toNat, 0]

def k0_chk7 (v22 : BitVec 32) : Prop :=
  (∀ a, (k0_off1 v22) a + S128x128.size a ≤ S4096x128.size a)
theorem k0_off1_inb : ∀ (v22 : BitVec 32) (k0_hw7 : k0_chk7 v22), ∀ a, (k0_off1 v22) a + S128x128.size a ≤ S4096x128.size a := fun v22 k0_hw7 => k0_hw7

def k0_off2 (v30 : BitVec 32) : Fin 2 → Nat :=
  let c128_i32_22 : BitVec 32 := 128#32
  let v31 : BitVec 32 := Scalar.muli v30 c128_i32_22
  let v32 : Index := Scalar.indexCast v31
  let c0_23 : Index := 0#32
  ![v32.toNat, 0]

def k0_chk8 (v30 : BitVec 32) : Prop :=
  (∀ a, (k0_off2 v30) a + S128x128.size a ≤ S4096x128.size a)
theorem k0_off2_inb : ∀ (v30 : BitVec 32) (k0_hw8 : k0_chk8 v30), ∀ a, (k0_off2 v30) a + S128x128.size a ≤ S4096x128.size a := fun v30 k0_hw8 => k0_hw8

def k0_off3 (v38 : BitVec 32) : Fin 2 → Nat :=
  let c128_i32_27 : BitVec 32 := 128#32
  let v39 : BitVec 32 := Scalar.muli v38 c128_i32_27
  let v40 : Index := Scalar.indexCast v39
  let c0_28 : Index := 0#32
  ![v40.toNat, 0]

def k0_chk9 (v38 : BitVec 32) : Prop :=
  (∀ a, (k0_off3 v38) a + S128x128.size a ≤ S4096x128.size a)
theorem k0_off3_inb : ∀ (v38 : BitVec 32) (k0_hw9 : k0_chk9 v38), ∀ a, (k0_off3 v38) a + S128x128.size a ≤ S4096x128.size a := fun v38 k0_hw9 => k0_hw9

def k0_dev7 (v3 : BitVec 32) : Nat :=
  let c0_i32_44 : BitVec 32 := 0#32
  let c1_i32_43 : BitVec 32 := 1#32
  let v51 : BitVec 32 := Scalar.muli v3 c1_i32_43
  let v52 : BitVec 32 := Scalar.addi c0_i32_44 v51
  v52.toNat
def k0_dev8 (v4 : BitVec 32) : Nat :=
  let c0_i32_62 : BitVec 32 := 0#32
  let c1_i32_61 : BitVec 32 := 1#32
  let v66 : BitVec 32 := Scalar.muli v4 c1_i32_61
  let v67 : BitVec 32 := Scalar.addi c0_i32_62 v66
  v67.toNat
def k0_dev9 (v5 : BitVec 32) : Nat :=
  let c0_i32_80 : BitVec 32 := 0#32
  let c1_i32_79 : BitVec 32 := 1#32
  let v81 : BitVec 32 := Scalar.muli v5 c1_i32_79
  let v82 : BitVec 32 := Scalar.addi c0_i32_80 v81
  v82.toNat
def k0_dev10 (v3 : BitVec 32) : Nat :=
  let c0_i32_98 : BitVec 32 := 0#32
  let c1_i32_97 : BitVec 32 := 1#32
  let v96 : BitVec 32 := Scalar.muli v3 c1_i32_97
  let v97 : BitVec 32 := Scalar.addi c0_i32_98 v96
  v97.toNat
def k0_dev11 (v4 : BitVec 32) : Nat :=
  let c0_i32_116 : BitVec 32 := 0#32
  let c1_i32_115 : BitVec 32 := 1#32
  let v111 : BitVec 32 := Scalar.muli v4 c1_i32_115
  let v112 : BitVec 32 := Scalar.addi c0_i32_116 v111
  v112.toNat
def k0_dev12 (v5 : BitVec 32) : Nat :=
  let c0_i32_134 : BitVec 32 := 0#32
  let c1_i32_133 : BitVec 32 := 1#32
  let v126 : BitVec 32 := Scalar.muli v5 c1_i32_133
  let v127 : BitVec 32 := Scalar.addi c0_i32_134 v126
  v127.toNat
def k0_off4 (v136 : BitVec 32) : Fin 2 → Nat :=
  let c128_i32_140 : BitVec 32 := 128#32
  let v137 : BitVec 32 := Scalar.muli v136 c128_i32_140
  let v138 : Index := Scalar.indexCast v137
  let c0_141 : Index := 0#32
  ![v138.toNat, 0]

def k0_chk10 (v136 : BitVec 32) : Prop :=
  (∀ a, (k0_off4 v136) a + S128x128.size a ≤ S4096x128.size a)
theorem k0_off4_inb : ∀ (v136 : BitVec 32) (k0_hw10 : k0_chk10 v136), ∀ a, (k0_off4 v136) a + S128x128.size a ≤ S4096x128.size a := fun v136 k0_hw10 => k0_hw10

def k0_off5 (v144 : BitVec 32) : Fin 2 → Nat :=
  let c128_i32_146 : BitVec 32 := 128#32
  let v145 : BitVec 32 := Scalar.muli v144 c128_i32_146
  let v146 : Index := Scalar.indexCast v145
  let c0_147 : Index := 0#32
  ![v146.toNat, 0]

def k0_chk11 (v144 : BitVec 32) : Prop :=
  (∀ a, (k0_off5 v144) a + S128x128.size a ≤ S4096x128.size a)
theorem k0_off5_inb : ∀ (v144 : BitVec 32) (k0_hw11 : k0_chk11 v144), ∀ a, (k0_off5 v144) a + S128x128.size a ≤ S4096x128.size a := fun v144 k0_hw11 => k0_hw11

def k0_off6 (v152 : BitVec 32) : Fin 2 → Nat :=
  let c128_i32_152 : BitVec 32 := 128#32
  let v153 : BitVec 32 := Scalar.muli v152 c128_i32_152
  let v154 : Index := Scalar.indexCast v153
  let c0_153 : Index := 0#32
  ![v154.toNat, 0]

def k0_chk12 (v152 : BitVec 32) : Prop :=
  (∀ a, (k0_off6 v152) a + S128x128.size a ≤ S4096x128.size a)
theorem k0_off6_inb : ∀ (v152 : BitVec 32) (k0_hw12 : k0_chk12 v152), ∀ a, (k0_off6 v152) a + S128x128.size a ≤ S4096x128.size a := fun v152 k0_hw12 => k0_hw12

def k0_dev13 (v3 : BitVec 32) : Nat :=
  let c0_i32_188 : BitVec 32 := 0#32
  let c1_i32_187 : BitVec 32 := 1#32
  let v177 : BitVec 32 := Scalar.muli v3 c1_i32_187
  let v178 : BitVec 32 := Scalar.addi c0_i32_188 v177
  v178.toNat
def k0_dev14 (v4 : BitVec 32) : Nat :=
  let c0_i32_224 : BitVec 32 := 0#32
  let c1_i32_223 : BitVec 32 := 1#32
  let v204 : BitVec 32 := Scalar.muli v4 c1_i32_223
  let v205 : BitVec 32 := Scalar.addi c0_i32_224 v204
  v205.toNat
def k0_dev15 (v5 : BitVec 32) : Nat :=
  let c0_i32_260 : BitVec 32 := 0#32
  let c1_i32_259 : BitVec 32 := 1#32
  let v231 : BitVec 32 := Scalar.muli v5 c1_i32_259
  let v232 : BitVec 32 := Scalar.addi c0_i32_260 v231
  v232.toNat
def k0_dev16 (v6 : BitVec 32) : Nat :=
  let c0_i32_289 : BitVec 32 := 0#32
  let c1_i32_288 : BitVec 32 := 1#32
  let v258 : BitVec 32 := Scalar.muli v6 c1_i32_288
  let v259 : BitVec 32 := Scalar.addi c0_i32_289 v258
  v259.toNat
def k0_dev17 (v3 : BitVec 32) : Nat :=
  let c0_i32_299 : BitVec 32 := 0#32
  let c1_i32_298 : BitVec 32 := 1#32
  let v260 : BitVec 32 := Scalar.muli v3 c1_i32_298
  let v261 : BitVec 32 := Scalar.addi c0_i32_299 v260
  v261.toNat
def k0_dev18 (v7 : BitVec 32) : Nat :=
  let c0_i32_328 : BitVec 32 := 0#32
  let c1_i32_327 : BitVec 32 := 1#32
  let v287 : BitVec 32 := Scalar.muli v7 c1_i32_327
  let v288 : BitVec 32 := Scalar.addi c0_i32_328 v287
  v288.toNat
def k0_dev19 (v4 : BitVec 32) : Nat :=
  let c0_i32_338 : BitVec 32 := 0#32
  let c1_i32_337 : BitVec 32 := 1#32
  let v289 : BitVec 32 := Scalar.muli v4 c1_i32_337
  let v290 : BitVec 32 := Scalar.addi c0_i32_338 v289
  v290.toNat
def k0_dev20 (v8 : BitVec 32) : Nat :=
  let c0_i32_367 : BitVec 32 := 0#32
  let c1_i32_366 : BitVec 32 := 1#32
  let v316 : BitVec 32 := Scalar.muli v8 c1_i32_366
  let v317 : BitVec 32 := Scalar.addi c0_i32_367 v316
  v317.toNat
def k0_dev21 (v5 : BitVec 32) : Nat :=
  let c0_i32_377 : BitVec 32 := 0#32
  let c1_i32_376 : BitVec 32 := 1#32
  let v318 : BitVec 32 := Scalar.muli v5 c1_i32_376
  let v319 : BitVec 32 := Scalar.addi c0_i32_377 v318
  v319.toNat
def k0_off7 (v328 : BitVec 32) : Fin 2 → Nat :=
  let c128_i32_383 : BitVec 32 := 128#32
  let v329 : BitVec 32 := Scalar.muli v328 c128_i32_383
  let v330 : Index := Scalar.indexCast v329
  let c0_384 : Index := 0#32
  ![v330.toNat, 0]

def k0_chk13 (v328 : BitVec 32) : Prop :=
  (∀ a, (k0_off7 v328) a + S128x128.size a ≤ S4096x128.size a)
theorem k0_off7_inb : ∀ (v328 : BitVec 32) (k0_hw13 : k0_chk13 v328), ∀ a, (k0_off7 v328) a + S128x128.size a ≤ S4096x128.size a := fun v328 k0_hw13 => k0_hw13

def k0_off8 (v336 : BitVec 32) : Fin 2 → Nat :=
  let c128_i32_389 : BitVec 32 := 128#32
  let v337 : BitVec 32 := Scalar.muli v336 c128_i32_389
  let v338 : Index := Scalar.indexCast v337
  let c0_390 : Index := 0#32
  ![v338.toNat, 0]

def k0_chk14 (v336 : BitVec 32) : Prop :=
  (∀ a, (k0_off8 v336) a + S128x128.size a ≤ S4096x128.size a)
theorem k0_off8_inb : ∀ (v336 : BitVec 32) (k0_hw14 : k0_chk14 v336), ∀ a, (k0_off8 v336) a + S128x128.size a ≤ S4096x128.size a := fun v336 k0_hw14 => k0_hw14

def k0_off9 (v344 : BitVec 32) : Fin 2 → Nat :=
  let c128_i32_395 : BitVec 32 := 128#32
  let v345 : BitVec 32 := Scalar.muli v344 c128_i32_395
  let v346 : Index := Scalar.indexCast v345
  let c0_396 : Index := 0#32
  ![v346.toNat, 0]

def k0_chk15 (v344 : BitVec 32) : Prop :=
  (∀ a, (k0_off9 v344) a + S128x128.size a ≤ S4096x128.size a)
theorem k0_off9_inb : ∀ (v344 : BitVec 32) (k0_hw15 : k0_chk15 v344), ∀ a, (k0_off9 v344) a + S128x128.size a ≤ S4096x128.size a := fun v344 k0_hw15 => k0_hw15

def k0_dev22 (v3 : BitVec 32) : Nat :=
  let c0_i32_446 : BitVec 32 := 0#32
  let c1_i32_445 : BitVec 32 := 1#32
  let v375 : BitVec 32 := Scalar.muli v3 c1_i32_445
  let v376 : BitVec 32 := Scalar.addi c0_i32_446 v375
  v376.toNat
def k0_dev23 (v4 : BitVec 32) : Nat :=
  let c0_i32_497 : BitVec 32 := 0#32
  let c1_i32_496 : BitVec 32 := 1#32
  let v408 : BitVec 32 := Scalar.muli v4 c1_i32_496
  let v409 : BitVec 32 := Scalar.addi c0_i32_497 v408
  v409.toNat
def k0_dev24 (v5 : BitVec 32) : Nat :=
  let c0_i32_548 : BitVec 32 := 0#32
  let c1_i32_547 : BitVec 32 := 1#32
  let v441 : BitVec 32 := Scalar.muli v5 c1_i32_547
  let v442 : BitVec 32 := Scalar.addi c0_i32_548 v441
  v442.toNat
def k0_dev25 (v6 : BitVec 32) : Nat :=
  let c0_i32_590 : BitVec 32 := 0#32
  let c1_i32_589 : BitVec 32 := 1#32
  let v474 : BitVec 32 := Scalar.muli v6 c1_i32_589
  let v475 : BitVec 32 := Scalar.addi c0_i32_590 v474
  v475.toNat
def k0_dev26 (v3 : BitVec 32) : Nat :=
  let c0_i32_600 : BitVec 32 := 0#32
  let c1_i32_599 : BitVec 32 := 1#32
  let v476 : BitVec 32 := Scalar.muli v3 c1_i32_599
  let v477 : BitVec 32 := Scalar.addi c0_i32_600 v476
  v477.toNat
def k0_dev27 (v7 : BitVec 32) : Nat :=
  let c0_i32_642 : BitVec 32 := 0#32
  let c1_i32_641 : BitVec 32 := 1#32
  let v509 : BitVec 32 := Scalar.muli v7 c1_i32_641
  let v510 : BitVec 32 := Scalar.addi c0_i32_642 v509
  v510.toNat
def k0_dev28 (v4 : BitVec 32) : Nat :=
  let c0_i32_652 : BitVec 32 := 0#32
  let c1_i32_651 : BitVec 32 := 1#32
  let v511 : BitVec 32 := Scalar.muli v4 c1_i32_651
  let v512 : BitVec 32 := Scalar.addi c0_i32_652 v511
  v512.toNat
def k0_dev29 (v8 : BitVec 32) : Nat :=
  let c0_i32_694 : BitVec 32 := 0#32
  let c1_i32_693 : BitVec 32 := 1#32
  let v544 : BitVec 32 := Scalar.muli v8 c1_i32_693
  let v545 : BitVec 32 := Scalar.addi c0_i32_694 v544
  v545.toNat
def k0_dev30 (v5 : BitVec 32) : Nat :=
  let c0_i32_704 : BitVec 32 := 0#32
  let c1_i32_703 : BitVec 32 := 1#32
  let v546 : BitVec 32 := Scalar.muli v5 c1_i32_703
  let v547 : BitVec 32 := Scalar.addi c0_i32_704 v546
  v547.toNat
def k0_off10 (v556 : BitVec 32) : Fin 2 → Nat :=
  let c128_i32_710 : BitVec 32 := 128#32
  let v557 : BitVec 32 := Scalar.muli v556 c128_i32_710
  let v558 : Index := Scalar.indexCast v557
  let c0_711 : Index := 0#32
  ![v558.toNat, 0]

def k0_chk16 (v556 : BitVec 32) : Prop :=
  (∀ a, (k0_off10 v556) a + S128x128.size a ≤ S4096x128.size a)
theorem k0_off10_inb : ∀ (v556 : BitVec 32) (k0_hw16 : k0_chk16 v556), ∀ a, (k0_off10 v556) a + S128x128.size a ≤ S4096x128.size a := fun v556 k0_hw16 => k0_hw16

def k0_off11 (v564 : BitVec 32) : Fin 2 → Nat :=
  let c128_i32_716 : BitVec 32 := 128#32
  let v565 : BitVec 32 := Scalar.muli v564 c128_i32_716
  let v566 : Index := Scalar.indexCast v565
  let c0_717 : Index := 0#32
  ![v566.toNat, 0]

def k0_chk17 (v564 : BitVec 32) : Prop :=
  (∀ a, (k0_off11 v564) a + S128x128.size a ≤ S4096x128.size a)
theorem k0_off11_inb : ∀ (v564 : BitVec 32) (k0_hw17 : k0_chk17 v564), ∀ a, (k0_off11 v564) a + S128x128.size a ≤ S4096x128.size a := fun v564 k0_hw17 => k0_hw17

def k0_off12 (v572 : BitVec 32) : Fin 2 → Nat :=
  let c128_i32_722 : BitVec 32 := 128#32
  let v573 : BitVec 32 := Scalar.muli v572 c128_i32_722
  let v574 : Index := Scalar.indexCast v573
  let c0_723 : Index := 0#32
  ![v574.toNat, 0]

def k0_chk18 (v572 : BitVec 32) : Prop :=
  (∀ a, (k0_off12 v572) a + S128x128.size a ≤ S4096x128.size a)
theorem k0_off12_inb : ∀ (v572 : BitVec 32) (k0_hw18 : k0_chk18 v572), ∀ a, (k0_off12 v572) a + S128x128.size a ≤ S4096x128.size a := fun v572 k0_hw18 => k0_hw18

def k0_dev31 (v3 : BitVec 32) : Nat :=
  let c0_i32_773 : BitVec 32 := 0#32
  let c1_i32_772 : BitVec 32 := 1#32
  let v603 : BitVec 32 := Scalar.muli v3 c1_i32_772
  let v604 : BitVec 32 := Scalar.addi c0_i32_773 v603
  v604.toNat
def k0_dev32 (v4 : BitVec 32) : Nat :=
  let c0_i32_824 : BitVec 32 := 0#32
  let c1_i32_823 : BitVec 32 := 1#32
  let v636 : BitVec 32 := Scalar.muli v4 c1_i32_823
  let v637 : BitVec 32 := Scalar.addi c0_i32_824 v636
  v637.toNat
def k0_dev33 (v5 : BitVec 32) : Nat :=
  let c0_i32_875 : BitVec 32 := 0#32
  let c1_i32_874 : BitVec 32 := 1#32
  let v669 : BitVec 32 := Scalar.muli v5 c1_i32_874
  let v670 : BitVec 32 := Scalar.addi c0_i32_875 v669
  v670.toNat
def k0_dev34 (v6 : BitVec 32) : Nat :=
  let c0_i32_917 : BitVec 32 := 0#32
  let c1_i32_916 : BitVec 32 := 1#32
  let v702 : BitVec 32 := Scalar.muli v6 c1_i32_916
  let v703 : BitVec 32 := Scalar.addi c0_i32_917 v702
  v703.toNat
def k0_dev35 (v3 : BitVec 32) : Nat :=
  let c0_i32_927 : BitVec 32 := 0#32
  let c1_i32_926 : BitVec 32 := 1#32
  let v704 : BitVec 32 := Scalar.muli v3 c1_i32_926
  let v705 : BitVec 32 := Scalar.addi c0_i32_927 v704
  v705.toNat
def k0_dev36 (v7 : BitVec 32) : Nat :=
  let c0_i32_969 : BitVec 32 := 0#32
  let c1_i32_968 : BitVec 32 := 1#32
  let v737 : BitVec 32 := Scalar.muli v7 c1_i32_968
  let v738 : BitVec 32 := Scalar.addi c0_i32_969 v737
  v738.toNat
def k0_dev37 (v4 : BitVec 32) : Nat :=
  let c0_i32_979 : BitVec 32 := 0#32
  let c1_i32_978 : BitVec 32 := 1#32
  let v739 : BitVec 32 := Scalar.muli v4 c1_i32_978
  let v740 : BitVec 32 := Scalar.addi c0_i32_979 v739
  v740.toNat
def k0_dev38 (v8 : BitVec 32) : Nat :=
  let c0_i32_1021 : BitVec 32 := 0#32
  let c1_i32_1020 : BitVec 32 := 1#32
  let v772 : BitVec 32 := Scalar.muli v8 c1_i32_1020
  let v773 : BitVec 32 := Scalar.addi c0_i32_1021 v772
  v773.toNat
def k0_dev39 (v5 : BitVec 32) : Nat :=
  let c0_i32_1031 : BitVec 32 := 0#32
  let c1_i32_1030 : BitVec 32 := 1#32
  let v774 : BitVec 32 := Scalar.muli v5 c1_i32_1030
  let v775 : BitVec 32 := Scalar.addi c0_i32_1031 v774
  v775.toNat
def k0_off13 (v784 : BitVec 32) : Fin 2 → Nat :=
  let c128_i32_1037 : BitVec 32 := 128#32
  let v785 : BitVec 32 := Scalar.muli v784 c128_i32_1037
  let v786 : Index := Scalar.indexCast v785
  let c0_1038 : Index := 0#32
  ![v786.toNat, 0]

def k0_chk19 (v784 : BitVec 32) : Prop :=
  (∀ a, (k0_off13 v784) a + S128x128.size a ≤ S4096x128.size a)
theorem k0_off13_inb : ∀ (v784 : BitVec 32) (k0_hw19 : k0_chk19 v784), ∀ a, (k0_off13 v784) a + S128x128.size a ≤ S4096x128.size a := fun v784 k0_hw19 => k0_hw19

def k0_off14 (v792 : BitVec 32) : Fin 2 → Nat :=
  let c128_i32_1043 : BitVec 32 := 128#32
  let v793 : BitVec 32 := Scalar.muli v792 c128_i32_1043
  let v794 : Index := Scalar.indexCast v793
  let c0_1044 : Index := 0#32
  ![v794.toNat, 0]

def k0_chk20 (v792 : BitVec 32) : Prop :=
  (∀ a, (k0_off14 v792) a + S128x128.size a ≤ S4096x128.size a)
theorem k0_off14_inb : ∀ (v792 : BitVec 32) (k0_hw20 : k0_chk20 v792), ∀ a, (k0_off14 v792) a + S128x128.size a ≤ S4096x128.size a := fun v792 k0_hw20 => k0_hw20

def k0_off15 (v800 : BitVec 32) : Fin 2 → Nat :=
  let c128_i32_1049 : BitVec 32 := 128#32
  let v801 : BitVec 32 := Scalar.muli v800 c128_i32_1049
  let v802 : Index := Scalar.indexCast v801
  let c0_1050 : Index := 0#32
  ![v802.toNat, 0]

def k0_chk21 (v800 : BitVec 32) : Prop :=
  (∀ a, (k0_off15 v800) a + S128x128.size a ≤ S4096x128.size a)
theorem k0_off15_inb : ∀ (v800 : BitVec 32) (k0_hw21 : k0_chk21 v800), ∀ a, (k0_off15 v800) a + S128x128.size a ≤ S4096x128.size a := fun v800 k0_hw21 => k0_hw21

def k0_dev40 (v3 : BitVec 32) : Nat :=
  let c0_i32_1100 : BitVec 32 := 0#32
  let c1_i32_1099 : BitVec 32 := 1#32
  let v831 : BitVec 32 := Scalar.muli v3 c1_i32_1099
  let v832 : BitVec 32 := Scalar.addi c0_i32_1100 v831
  v832.toNat
def k0_dev41 (v4 : BitVec 32) : Nat :=
  let c0_i32_1151 : BitVec 32 := 0#32
  let c1_i32_1150 : BitVec 32 := 1#32
  let v864 : BitVec 32 := Scalar.muli v4 c1_i32_1150
  let v865 : BitVec 32 := Scalar.addi c0_i32_1151 v864
  v865.toNat
def k0_dev42 (v5 : BitVec 32) : Nat :=
  let c0_i32_1202 : BitVec 32 := 0#32
  let c1_i32_1201 : BitVec 32 := 1#32
  let v897 : BitVec 32 := Scalar.muli v5 c1_i32_1201
  let v898 : BitVec 32 := Scalar.addi c0_i32_1202 v897
  v898.toNat
def k0_dev43 (v6 : BitVec 32) : Nat :=
  let c0_i32_1244 : BitVec 32 := 0#32
  let c1_i32_1243 : BitVec 32 := 1#32
  let v930 : BitVec 32 := Scalar.muli v6 c1_i32_1243
  let v931 : BitVec 32 := Scalar.addi c0_i32_1244 v930
  v931.toNat
def k0_dev44 (v3 : BitVec 32) : Nat :=
  let c0_i32_1254 : BitVec 32 := 0#32
  let c1_i32_1253 : BitVec 32 := 1#32
  let v932 : BitVec 32 := Scalar.muli v3 c1_i32_1253
  let v933 : BitVec 32 := Scalar.addi c0_i32_1254 v932
  v933.toNat
def k0_dev45 (v7 : BitVec 32) : Nat :=
  let c0_i32_1296 : BitVec 32 := 0#32
  let c1_i32_1295 : BitVec 32 := 1#32
  let v965 : BitVec 32 := Scalar.muli v7 c1_i32_1295
  let v966 : BitVec 32 := Scalar.addi c0_i32_1296 v965
  v966.toNat
def k0_dev46 (v4 : BitVec 32) : Nat :=
  let c0_i32_1306 : BitVec 32 := 0#32
  let c1_i32_1305 : BitVec 32 := 1#32
  let v967 : BitVec 32 := Scalar.muli v4 c1_i32_1305
  let v968 : BitVec 32 := Scalar.addi c0_i32_1306 v967
  v968.toNat
def k0_dev47 (v8 : BitVec 32) : Nat :=
  let c0_i32_1348 : BitVec 32 := 0#32
  let c1_i32_1347 : BitVec 32 := 1#32
  let v1000 : BitVec 32 := Scalar.muli v8 c1_i32_1347
  let v1001 : BitVec 32 := Scalar.addi c0_i32_1348 v1000
  v1001.toNat
def k0_dev48 (v5 : BitVec 32) : Nat :=
  let c0_i32_1358 : BitVec 32 := 0#32
  let c1_i32_1357 : BitVec 32 := 1#32
  let v1002 : BitVec 32 := Scalar.muli v5 c1_i32_1357
  let v1003 : BitVec 32 := Scalar.addi c0_i32_1358 v1002
  v1003.toNat
def k0_off16 (v1012 : BitVec 32) : Fin 2 → Nat :=
  let c128_i32_1364 : BitVec 32 := 128#32
  let v1013 : BitVec 32 := Scalar.muli v1012 c128_i32_1364
  let v1014 : Index := Scalar.indexCast v1013
  let c0_1365 : Index := 0#32
  ![v1014.toNat, 0]

def k0_chk22 (v1012 : BitVec 32) : Prop :=
  (∀ a, (k0_off16 v1012) a + S128x128.size a ≤ S4096x128.size a)
theorem k0_off16_inb : ∀ (v1012 : BitVec 32) (k0_hw22 : k0_chk22 v1012), ∀ a, (k0_off16 v1012) a + S128x128.size a ≤ S4096x128.size a := fun v1012 k0_hw22 => k0_hw22

def k0_off17 (v1020 : BitVec 32) : Fin 2 → Nat :=
  let c128_i32_1370 : BitVec 32 := 128#32
  let v1021 : BitVec 32 := Scalar.muli v1020 c128_i32_1370
  let v1022 : Index := Scalar.indexCast v1021
  let c0_1371 : Index := 0#32
  ![v1022.toNat, 0]

def k0_chk23 (v1020 : BitVec 32) : Prop :=
  (∀ a, (k0_off17 v1020) a + S128x128.size a ≤ S4096x128.size a)
theorem k0_off17_inb : ∀ (v1020 : BitVec 32) (k0_hw23 : k0_chk23 v1020), ∀ a, (k0_off17 v1020) a + S128x128.size a ≤ S4096x128.size a := fun v1020 k0_hw23 => k0_hw23

def k0_off18 (v1028 : BitVec 32) : Fin 2 → Nat :=
  let c128_i32_1376 : BitVec 32 := 128#32
  let v1029 : BitVec 32 := Scalar.muli v1028 c128_i32_1376
  let v1030 : Index := Scalar.indexCast v1029
  let c0_1377 : Index := 0#32
  ![v1030.toNat, 0]

def k0_chk24 (v1028 : BitVec 32) : Prop :=
  (∀ a, (k0_off18 v1028) a + S128x128.size a ≤ S4096x128.size a)
theorem k0_off18_inb : ∀ (v1028 : BitVec 32) (k0_hw24 : k0_chk24 v1028), ∀ a, (k0_off18 v1028) a + S128x128.size a ≤ S4096x128.size a := fun v1028 k0_hw24 => k0_hw24

def k0_dev49 (v3 : BitVec 32) : Nat :=
  let c0_i32_1427 : BitVec 32 := 0#32
  let c1_i32_1426 : BitVec 32 := 1#32
  let v1059 : BitVec 32 := Scalar.muli v3 c1_i32_1426
  let v1060 : BitVec 32 := Scalar.addi c0_i32_1427 v1059
  v1060.toNat
def k0_dev50 (v4 : BitVec 32) : Nat :=
  let c0_i32_1478 : BitVec 32 := 0#32
  let c1_i32_1477 : BitVec 32 := 1#32
  let v1092 : BitVec 32 := Scalar.muli v4 c1_i32_1477
  let v1093 : BitVec 32 := Scalar.addi c0_i32_1478 v1092
  v1093.toNat
def k0_dev51 (v5 : BitVec 32) : Nat :=
  let c0_i32_1529 : BitVec 32 := 0#32
  let c1_i32_1528 : BitVec 32 := 1#32
  let v1125 : BitVec 32 := Scalar.muli v5 c1_i32_1528
  let v1126 : BitVec 32 := Scalar.addi c0_i32_1529 v1125
  v1126.toNat
def k0_dev52 (v6 : BitVec 32) : Nat :=
  let c0_i32_1571 : BitVec 32 := 0#32
  let c1_i32_1570 : BitVec 32 := 1#32
  let v1158 : BitVec 32 := Scalar.muli v6 c1_i32_1570
  let v1159 : BitVec 32 := Scalar.addi c0_i32_1571 v1158
  v1159.toNat
def k0_dev53 (v3 : BitVec 32) : Nat :=
  let c0_i32_1581 : BitVec 32 := 0#32
  let c1_i32_1580 : BitVec 32 := 1#32
  let v1160 : BitVec 32 := Scalar.muli v3 c1_i32_1580
  let v1161 : BitVec 32 := Scalar.addi c0_i32_1581 v1160
  v1161.toNat
def k0_dev54 (v7 : BitVec 32) : Nat :=
  let c0_i32_1623 : BitVec 32 := 0#32
  let c1_i32_1622 : BitVec 32 := 1#32
  let v1193 : BitVec 32 := Scalar.muli v7 c1_i32_1622
  let v1194 : BitVec 32 := Scalar.addi c0_i32_1623 v1193
  v1194.toNat
def k0_dev55 (v4 : BitVec 32) : Nat :=
  let c0_i32_1633 : BitVec 32 := 0#32
  let c1_i32_1632 : BitVec 32 := 1#32
  let v1195 : BitVec 32 := Scalar.muli v4 c1_i32_1632
  let v1196 : BitVec 32 := Scalar.addi c0_i32_1633 v1195
  v1196.toNat
def k0_dev56 (v8 : BitVec 32) : Nat :=
  let c0_i32_1675 : BitVec 32 := 0#32
  let c1_i32_1674 : BitVec 32 := 1#32
  let v1228 : BitVec 32 := Scalar.muli v8 c1_i32_1674
  let v1229 : BitVec 32 := Scalar.addi c0_i32_1675 v1228
  v1229.toNat
def k0_dev57 (v5 : BitVec 32) : Nat :=
  let c0_i32_1685 : BitVec 32 := 0#32
  let c1_i32_1684 : BitVec 32 := 1#32
  let v1230 : BitVec 32 := Scalar.muli v5 c1_i32_1684
  let v1231 : BitVec 32 := Scalar.addi c0_i32_1685 v1230
  v1231.toNat
def k0_off19 (v1240 : BitVec 32) : Fin 2 → Nat :=
  let c128_i32_1690 : BitVec 32 := 128#32
  let v1241 : BitVec 32 := Scalar.muli v1240 c128_i32_1690
  let v1242 : Index := Scalar.indexCast v1241
  let c0_1691 : Index := 0#32
  ![v1242.toNat, 0]

def k0_chk25 (v1240 : BitVec 32) : Prop :=
  (∀ a, (k0_off19 v1240) a + S128x128.size a ≤ S4096x128.size a)
theorem k0_off19_inb : ∀ (v1240 : BitVec 32) (k0_hw25 : k0_chk25 v1240), ∀ a, (k0_off19 v1240) a + S128x128.size a ≤ S4096x128.size a := fun v1240 k0_hw25 => k0_hw25

def k0_off20 (v1248 : BitVec 32) : Fin 2 → Nat :=
  let c128_i32_1696 : BitVec 32 := 128#32
  let v1249 : BitVec 32 := Scalar.muli v1248 c128_i32_1696
  let v1250 : Index := Scalar.indexCast v1249
  let c0_1697 : Index := 0#32
  ![v1250.toNat, 0]

def k0_chk26 (v1248 : BitVec 32) : Prop :=
  (∀ a, (k0_off20 v1248) a + S128x128.size a ≤ S4096x128.size a)
theorem k0_off20_inb : ∀ (v1248 : BitVec 32) (k0_hw26 : k0_chk26 v1248), ∀ a, (k0_off20 v1248) a + S128x128.size a ≤ S4096x128.size a := fun v1248 k0_hw26 => k0_hw26

def k0_off21 (v1256 : BitVec 32) : Fin 2 → Nat :=
  let c128_i32_1702 : BitVec 32 := 128#32
  let v1257 : BitVec 32 := Scalar.muli v1256 c128_i32_1702
  let v1258 : Index := Scalar.indexCast v1257
  let c0_1703 : Index := 0#32
  ![v1258.toNat, 0]

def k0_chk27 (v1256 : BitVec 32) : Prop :=
  (∀ a, (k0_off21 v1256) a + S128x128.size a ≤ S4096x128.size a)
theorem k0_off21_inb : ∀ (v1256 : BitVec 32) (k0_hw27 : k0_chk27 v1256), ∀ a, (k0_off21 v1256) a + S128x128.size a ≤ S4096x128.size a := fun v1256 k0_hw27 => k0_hw27

def k0_dev58 (v3 : BitVec 32) : Nat :=
  let c0_i32_1753 : BitVec 32 := 0#32
  let c1_i32_1752 : BitVec 32 := 1#32
  let v1287 : BitVec 32 := Scalar.muli v3 c1_i32_1752
  let v1288 : BitVec 32 := Scalar.addi c0_i32_1753 v1287
  v1288.toNat
def k0_dev59 (v4 : BitVec 32) : Nat :=
  let c0_i32_1804 : BitVec 32 := 0#32
  let c1_i32_1803 : BitVec 32 := 1#32
  let v1320 : BitVec 32 := Scalar.muli v4 c1_i32_1803
  let v1321 : BitVec 32 := Scalar.addi c0_i32_1804 v1320
  v1321.toNat
def k0_dev60 (v5 : BitVec 32) : Nat :=
  let c0_i32_1855 : BitVec 32 := 0#32
  let c1_i32_1854 : BitVec 32 := 1#32
  let v1353 : BitVec 32 := Scalar.muli v5 c1_i32_1854
  let v1354 : BitVec 32 := Scalar.addi c0_i32_1855 v1353
  v1354.toNat
def k0_dev61 (v6 : BitVec 32) : Nat :=
  let c0_i32_1897 : BitVec 32 := 0#32
  let c1_i32_1896 : BitVec 32 := 1#32
  let v1386 : BitVec 32 := Scalar.muli v6 c1_i32_1896
  let v1387 : BitVec 32 := Scalar.addi c0_i32_1897 v1386
  v1387.toNat
def k0_dev62 (v3 : BitVec 32) : Nat :=
  let c0_i32_1907 : BitVec 32 := 0#32
  let c1_i32_1906 : BitVec 32 := 1#32
  let v1388 : BitVec 32 := Scalar.muli v3 c1_i32_1906
  let v1389 : BitVec 32 := Scalar.addi c0_i32_1907 v1388
  v1389.toNat
def k0_dev63 (v7 : BitVec 32) : Nat :=
  let c0_i32_1949 : BitVec 32 := 0#32
  let c1_i32_1948 : BitVec 32 := 1#32
  let v1421 : BitVec 32 := Scalar.muli v7 c1_i32_1948
  let v1422 : BitVec 32 := Scalar.addi c0_i32_1949 v1421
  v1422.toNat
def k0_dev64 (v4 : BitVec 32) : Nat :=
  let c0_i32_1959 : BitVec 32 := 0#32
  let c1_i32_1958 : BitVec 32 := 1#32
  let v1423 : BitVec 32 := Scalar.muli v4 c1_i32_1958
  let v1424 : BitVec 32 := Scalar.addi c0_i32_1959 v1423
  v1424.toNat
def k0_dev65 (v8 : BitVec 32) : Nat :=
  let c0_i32_2001 : BitVec 32 := 0#32
  let c1_i32_2000 : BitVec 32 := 1#32
  let v1456 : BitVec 32 := Scalar.muli v8 c1_i32_2000
  let v1457 : BitVec 32 := Scalar.addi c0_i32_2001 v1456
  v1457.toNat
def k0_dev66 (v5 : BitVec 32) : Nat :=
  let c0_i32_2011 : BitVec 32 := 0#32
  let c1_i32_2010 : BitVec 32 := 1#32
  let v1458 : BitVec 32 := Scalar.muli v5 c1_i32_2010
  let v1459 : BitVec 32 := Scalar.addi c0_i32_2011 v1458
  v1459.toNat
def k0_off22 (v1468 : BitVec 32) : Fin 2 → Nat :=
  let c128_i32_2016 : BitVec 32 := 128#32
  let v1469 : BitVec 32 := Scalar.muli v1468 c128_i32_2016
  let v1470 : Index := Scalar.indexCast v1469
  let c0_2017 : Index := 0#32
  ![v1470.toNat, 0]

def k0_chk28 (v1468 : BitVec 32) : Prop :=
  (∀ a, (k0_off22 v1468) a + S128x128.size a ≤ S4096x128.size a)
theorem k0_off22_inb : ∀ (v1468 : BitVec 32) (k0_hw28 : k0_chk28 v1468), ∀ a, (k0_off22 v1468) a + S128x128.size a ≤ S4096x128.size a := fun v1468 k0_hw28 => k0_hw28

def k0_off23 (v1476 : BitVec 32) : Fin 2 → Nat :=
  let c128_i32_2022 : BitVec 32 := 128#32
  let v1477 : BitVec 32 := Scalar.muli v1476 c128_i32_2022
  let v1478 : Index := Scalar.indexCast v1477
  let c0_2023 : Index := 0#32
  ![v1478.toNat, 0]

def k0_chk29 (v1476 : BitVec 32) : Prop :=
  (∀ a, (k0_off23 v1476) a + S128x128.size a ≤ S4096x128.size a)
theorem k0_off23_inb : ∀ (v1476 : BitVec 32) (k0_hw29 : k0_chk29 v1476), ∀ a, (k0_off23 v1476) a + S128x128.size a ≤ S4096x128.size a := fun v1476 k0_hw29 => k0_hw29

def k0_off24 (v1484 : BitVec 32) : Fin 2 → Nat :=
  let c128_i32_2028 : BitVec 32 := 128#32
  let v1485 : BitVec 32 := Scalar.muli v1484 c128_i32_2028
  let v1486 : Index := Scalar.indexCast v1485
  let c0_2029 : Index := 0#32
  ![v1486.toNat, 0]

def k0_chk30 (v1484 : BitVec 32) : Prop :=
  (∀ a, (k0_off24 v1484) a + S128x128.size a ≤ S4096x128.size a)
theorem k0_off24_inb : ∀ (v1484 : BitVec 32) (k0_hw30 : k0_chk30 v1484), ∀ a, (k0_off24 v1484) a + S128x128.size a ≤ S4096x128.size a := fun v1484 k0_hw30 => k0_hw30

def k0_dev67 (v3 : BitVec 32) : Nat :=
  let c0_i32_2079 : BitVec 32 := 0#32
  let c1_i32_2078 : BitVec 32 := 1#32
  let v1515 : BitVec 32 := Scalar.muli v3 c1_i32_2078
  let v1516 : BitVec 32 := Scalar.addi c0_i32_2079 v1515
  v1516.toNat
def k0_dev68 (v4 : BitVec 32) : Nat :=
  let c0_i32_2130 : BitVec 32 := 0#32
  let c1_i32_2129 : BitVec 32 := 1#32
  let v1548 : BitVec 32 := Scalar.muli v4 c1_i32_2129
  let v1549 : BitVec 32 := Scalar.addi c0_i32_2130 v1548
  v1549.toNat
def k0_dev69 (v5 : BitVec 32) : Nat :=
  let c0_i32_2181 : BitVec 32 := 0#32
  let c1_i32_2180 : BitVec 32 := 1#32
  let v1581 : BitVec 32 := Scalar.muli v5 c1_i32_2180
  let v1582 : BitVec 32 := Scalar.addi c0_i32_2181 v1581
  v1582.toNat
def k0_dev70 (v6 : BitVec 32) : Nat :=
  let c0_i32_2223 : BitVec 32 := 0#32
  let c1_i32_2222 : BitVec 32 := 1#32
  let v1614 : BitVec 32 := Scalar.muli v6 c1_i32_2222
  let v1615 : BitVec 32 := Scalar.addi c0_i32_2223 v1614
  v1615.toNat
def k0_dev71 (v3 : BitVec 32) : Nat :=
  let c0_i32_2233 : BitVec 32 := 0#32
  let c1_i32_2232 : BitVec 32 := 1#32
  let v1616 : BitVec 32 := Scalar.muli v3 c1_i32_2232
  let v1617 : BitVec 32 := Scalar.addi c0_i32_2233 v1616
  v1617.toNat
def k0_dev72 (v7 : BitVec 32) : Nat :=
  let c0_i32_2275 : BitVec 32 := 0#32
  let c1_i32_2274 : BitVec 32 := 1#32
  let v1649 : BitVec 32 := Scalar.muli v7 c1_i32_2274
  let v1650 : BitVec 32 := Scalar.addi c0_i32_2275 v1649
  v1650.toNat
def k0_dev73 (v4 : BitVec 32) : Nat :=
  let c0_i32_2285 : BitVec 32 := 0#32
  let c1_i32_2284 : BitVec 32 := 1#32
  let v1651 : BitVec 32 := Scalar.muli v4 c1_i32_2284
  let v1652 : BitVec 32 := Scalar.addi c0_i32_2285 v1651
  v1652.toNat
def k0_dev74 (v8 : BitVec 32) : Nat :=
  let c0_i32_2327 : BitVec 32 := 0#32
  let c1_i32_2326 : BitVec 32 := 1#32
  let v1684 : BitVec 32 := Scalar.muli v8 c1_i32_2326
  let v1685 : BitVec 32 := Scalar.addi c0_i32_2327 v1684
  v1685.toNat
def k0_dev75 (v5 : BitVec 32) : Nat :=
  let c0_i32_2337 : BitVec 32 := 0#32
  let c1_i32_2336 : BitVec 32 := 1#32
  let v1686 : BitVec 32 := Scalar.muli v5 c1_i32_2336
  let v1687 : BitVec 32 := Scalar.addi c0_i32_2337 v1686
  v1687.toNat
def k0_off25 (v1696 : BitVec 32) : Fin 2 → Nat :=
  let c128_i32_2342 : BitVec 32 := 128#32
  let v1697 : BitVec 32 := Scalar.muli v1696 c128_i32_2342
  let v1698 : Index := Scalar.indexCast v1697
  let c0_2343 : Index := 0#32
  ![v1698.toNat, 0]

def k0_chk31 (v1696 : BitVec 32) : Prop :=
  (∀ a, (k0_off25 v1696) a + S128x128.size a ≤ S4096x128.size a)
theorem k0_off25_inb : ∀ (v1696 : BitVec 32) (k0_hw31 : k0_chk31 v1696), ∀ a, (k0_off25 v1696) a + S128x128.size a ≤ S4096x128.size a := fun v1696 k0_hw31 => k0_hw31

def k0_off26 (v1704 : BitVec 32) : Fin 2 → Nat :=
  let c128_i32_2348 : BitVec 32 := 128#32
  let v1705 : BitVec 32 := Scalar.muli v1704 c128_i32_2348
  let v1706 : Index := Scalar.indexCast v1705
  let c0_2349 : Index := 0#32
  ![v1706.toNat, 0]

def k0_chk32 (v1704 : BitVec 32) : Prop :=
  (∀ a, (k0_off26 v1704) a + S128x128.size a ≤ S4096x128.size a)
theorem k0_off26_inb : ∀ (v1704 : BitVec 32) (k0_hw32 : k0_chk32 v1704), ∀ a, (k0_off26 v1704) a + S128x128.size a ≤ S4096x128.size a := fun v1704 k0_hw32 => k0_hw32

def k0_off27 (v1712 : BitVec 32) : Fin 2 → Nat :=
  let c128_i32_2354 : BitVec 32 := 128#32
  let v1713 : BitVec 32 := Scalar.muli v1712 c128_i32_2354
  let v1714 : Index := Scalar.indexCast v1713
  let c0_2355 : Index := 0#32
  ![v1714.toNat, 0]

def k0_chk33 (v1712 : BitVec 32) : Prop :=
  (∀ a, (k0_off27 v1712) a + S128x128.size a ≤ S4096x128.size a)
theorem k0_off27_inb : ∀ (v1712 : BitVec 32) (k0_hw33 : k0_chk33 v1712), ∀ a, (k0_off27 v1712) a + S128x128.size a ≤ S4096x128.size a := fun v1712 k0_hw33 => k0_hw33

def k0_dev76 (v3 : BitVec 32) : Nat :=
  let c0_i32_2405 : BitVec 32 := 0#32
  let c1_i32_2404 : BitVec 32 := 1#32
  let v1743 : BitVec 32 := Scalar.muli v3 c1_i32_2404
  let v1744 : BitVec 32 := Scalar.addi c0_i32_2405 v1743
  v1744.toNat
def k0_dev77 (v4 : BitVec 32) : Nat :=
  let c0_i32_2456 : BitVec 32 := 0#32
  let c1_i32_2455 : BitVec 32 := 1#32
  let v1776 : BitVec 32 := Scalar.muli v4 c1_i32_2455
  let v1777 : BitVec 32 := Scalar.addi c0_i32_2456 v1776
  v1777.toNat
def k0_dev78 (v5 : BitVec 32) : Nat :=
  let c0_i32_2507 : BitVec 32 := 0#32
  let c1_i32_2506 : BitVec 32 := 1#32
  let v1809 : BitVec 32 := Scalar.muli v5 c1_i32_2506
  let v1810 : BitVec 32 := Scalar.addi c0_i32_2507 v1809
  v1810.toNat
def k0_dev79 (v6 : BitVec 32) : Nat :=
  let c0_i32_2549 : BitVec 32 := 0#32
  let c1_i32_2548 : BitVec 32 := 1#32
  let v1842 : BitVec 32 := Scalar.muli v6 c1_i32_2548
  let v1843 : BitVec 32 := Scalar.addi c0_i32_2549 v1842
  v1843.toNat
def k0_dev80 (v3 : BitVec 32) : Nat :=
  let c0_i32_2559 : BitVec 32 := 0#32
  let c1_i32_2558 : BitVec 32 := 1#32
  let v1844 : BitVec 32 := Scalar.muli v3 c1_i32_2558
  let v1845 : BitVec 32 := Scalar.addi c0_i32_2559 v1844
  v1845.toNat
def k0_dev81 (v7 : BitVec 32) : Nat :=
  let c0_i32_2601 : BitVec 32 := 0#32
  let c1_i32_2600 : BitVec 32 := 1#32
  let v1877 : BitVec 32 := Scalar.muli v7 c1_i32_2600
  let v1878 : BitVec 32 := Scalar.addi c0_i32_2601 v1877
  v1878.toNat
def k0_dev82 (v4 : BitVec 32) : Nat :=
  let c0_i32_2611 : BitVec 32 := 0#32
  let c1_i32_2610 : BitVec 32 := 1#32
  let v1879 : BitVec 32 := Scalar.muli v4 c1_i32_2610
  let v1880 : BitVec 32 := Scalar.addi c0_i32_2611 v1879
  v1880.toNat
def k0_dev83 (v8 : BitVec 32) : Nat :=
  let c0_i32_2653 : BitVec 32 := 0#32
  let c1_i32_2652 : BitVec 32 := 1#32
  let v1912 : BitVec 32 := Scalar.muli v8 c1_i32_2652
  let v1913 : BitVec 32 := Scalar.addi c0_i32_2653 v1912
  v1913.toNat
def k0_dev84 (v5 : BitVec 32) : Nat :=
  let c0_i32_2663 : BitVec 32 := 0#32
  let c1_i32_2662 : BitVec 32 := 1#32
  let v1914 : BitVec 32 := Scalar.muli v5 c1_i32_2662
  let v1915 : BitVec 32 := Scalar.addi c0_i32_2663 v1914
  v1915.toNat
def k0_off28 (v1924 : BitVec 32) : Fin 2 → Nat :=
  let c128_i32_2668 : BitVec 32 := 128#32
  let v1925 : BitVec 32 := Scalar.muli v1924 c128_i32_2668
  let v1926 : Index := Scalar.indexCast v1925
  let c0_2669 : Index := 0#32
  ![v1926.toNat, 0]

def k0_chk34 (v1924 : BitVec 32) : Prop :=
  (∀ a, (k0_off28 v1924) a + S128x128.size a ≤ S4096x128.size a)
theorem k0_off28_inb : ∀ (v1924 : BitVec 32) (k0_hw34 : k0_chk34 v1924), ∀ a, (k0_off28 v1924) a + S128x128.size a ≤ S4096x128.size a := fun v1924 k0_hw34 => k0_hw34

def k0_off29 (v1932 : BitVec 32) : Fin 2 → Nat :=
  let c128_i32_2674 : BitVec 32 := 128#32
  let v1933 : BitVec 32 := Scalar.muli v1932 c128_i32_2674
  let v1934 : Index := Scalar.indexCast v1933
  let c0_2675 : Index := 0#32
  ![v1934.toNat, 0]

def k0_chk35 (v1932 : BitVec 32) : Prop :=
  (∀ a, (k0_off29 v1932) a + S128x128.size a ≤ S4096x128.size a)
theorem k0_off29_inb : ∀ (v1932 : BitVec 32) (k0_hw35 : k0_chk35 v1932), ∀ a, (k0_off29 v1932) a + S128x128.size a ≤ S4096x128.size a := fun v1932 k0_hw35 => k0_hw35

def k0_off30 (v1940 : BitVec 32) : Fin 2 → Nat :=
  let c128_i32_2680 : BitVec 32 := 128#32
  let v1941 : BitVec 32 := Scalar.muli v1940 c128_i32_2680
  let v1942 : Index := Scalar.indexCast v1941
  let c0_2681 : Index := 0#32
  ![v1942.toNat, 0]

def k0_chk36 (v1940 : BitVec 32) : Prop :=
  (∀ a, (k0_off30 v1940) a + S128x128.size a ≤ S4096x128.size a)
theorem k0_off30_inb : ∀ (v1940 : BitVec 32) (k0_hw36 : k0_chk36 v1940), ∀ a, (k0_off30 v1940) a + S128x128.size a ≤ S4096x128.size a := fun v1940 k0_hw36 => k0_hw36

def k0_dev85 (v3 : BitVec 32) : Nat :=
  let c0_i32_2731 : BitVec 32 := 0#32
  let c1_i32_2730 : BitVec 32 := 1#32
  let v1971 : BitVec 32 := Scalar.muli v3 c1_i32_2730
  let v1972 : BitVec 32 := Scalar.addi c0_i32_2731 v1971
  v1972.toNat
def k0_dev86 (v4 : BitVec 32) : Nat :=
  let c0_i32_2782 : BitVec 32 := 0#32
  let c1_i32_2781 : BitVec 32 := 1#32
  let v2004 : BitVec 32 := Scalar.muli v4 c1_i32_2781
  let v2005 : BitVec 32 := Scalar.addi c0_i32_2782 v2004
  v2005.toNat
def k0_dev87 (v5 : BitVec 32) : Nat :=
  let c0_i32_2833 : BitVec 32 := 0#32
  let c1_i32_2832 : BitVec 32 := 1#32
  let v2037 : BitVec 32 := Scalar.muli v5 c1_i32_2832
  let v2038 : BitVec 32 := Scalar.addi c0_i32_2833 v2037
  v2038.toNat
def k0_dev88 (v6 : BitVec 32) : Nat :=
  let c0_i32_2875 : BitVec 32 := 0#32
  let c1_i32_2874 : BitVec 32 := 1#32
  let v2070 : BitVec 32 := Scalar.muli v6 c1_i32_2874
  let v2071 : BitVec 32 := Scalar.addi c0_i32_2875 v2070
  v2071.toNat
def k0_dev89 (v3 : BitVec 32) : Nat :=
  let c0_i32_2885 : BitVec 32 := 0#32
  let c1_i32_2884 : BitVec 32 := 1#32
  let v2072 : BitVec 32 := Scalar.muli v3 c1_i32_2884
  let v2073 : BitVec 32 := Scalar.addi c0_i32_2885 v2072
  v2073.toNat
def k0_dev90 (v7 : BitVec 32) : Nat :=
  let c0_i32_2927 : BitVec 32 := 0#32
  let c1_i32_2926 : BitVec 32 := 1#32
  let v2105 : BitVec 32 := Scalar.muli v7 c1_i32_2926
  let v2106 : BitVec 32 := Scalar.addi c0_i32_2927 v2105
  v2106.toNat
def k0_dev91 (v4 : BitVec 32) : Nat :=
  let c0_i32_2937 : BitVec 32 := 0#32
  let c1_i32_2936 : BitVec 32 := 1#32
  let v2107 : BitVec 32 := Scalar.muli v4 c1_i32_2936
  let v2108 : BitVec 32 := Scalar.addi c0_i32_2937 v2107
  v2108.toNat
def k0_dev92 (v8 : BitVec 32) : Nat :=
  let c0_i32_2979 : BitVec 32 := 0#32
  let c1_i32_2978 : BitVec 32 := 1#32
  let v2140 : BitVec 32 := Scalar.muli v8 c1_i32_2978
  let v2141 : BitVec 32 := Scalar.addi c0_i32_2979 v2140
  v2141.toNat
def k0_dev93 (v5 : BitVec 32) : Nat :=
  let c0_i32_2989 : BitVec 32 := 0#32
  let c1_i32_2988 : BitVec 32 := 1#32
  let v2142 : BitVec 32 := Scalar.muli v5 c1_i32_2988
  let v2143 : BitVec 32 := Scalar.addi c0_i32_2989 v2142
  v2143.toNat
def k0_off31 (v2152 : BitVec 32) : Fin 2 → Nat :=
  let c128_i32_2994 : BitVec 32 := 128#32
  let v2153 : BitVec 32 := Scalar.muli v2152 c128_i32_2994
  let v2154 : Index := Scalar.indexCast v2153
  let c0_2995 : Index := 0#32
  ![v2154.toNat, 0]

def k0_chk37 (v2152 : BitVec 32) : Prop :=
  (∀ a, (k0_off31 v2152) a + S128x128.size a ≤ S4096x128.size a)
theorem k0_off31_inb : ∀ (v2152 : BitVec 32) (k0_hw37 : k0_chk37 v2152), ∀ a, (k0_off31 v2152) a + S128x128.size a ≤ S4096x128.size a := fun v2152 k0_hw37 => k0_hw37

def k0_off32 (v2160 : BitVec 32) : Fin 2 → Nat :=
  let c128_i32_3000 : BitVec 32 := 128#32
  let v2161 : BitVec 32 := Scalar.muli v2160 c128_i32_3000
  let v2162 : Index := Scalar.indexCast v2161
  let c0_3001 : Index := 0#32
  ![v2162.toNat, 0]

def k0_chk38 (v2160 : BitVec 32) : Prop :=
  (∀ a, (k0_off32 v2160) a + S128x128.size a ≤ S4096x128.size a)
theorem k0_off32_inb : ∀ (v2160 : BitVec 32) (k0_hw38 : k0_chk38 v2160), ∀ a, (k0_off32 v2160) a + S128x128.size a ≤ S4096x128.size a := fun v2160 k0_hw38 => k0_hw38

def k0_off33 (v2168 : BitVec 32) : Fin 2 → Nat :=
  let c128_i32_3006 : BitVec 32 := 128#32
  let v2169 : BitVec 32 := Scalar.muli v2168 c128_i32_3006
  let v2170 : Index := Scalar.indexCast v2169
  let c0_3007 : Index := 0#32
  ![v2170.toNat, 0]

def k0_chk39 (v2168 : BitVec 32) : Prop :=
  (∀ a, (k0_off33 v2168) a + S128x128.size a ≤ S4096x128.size a)
theorem k0_off33_inb : ∀ (v2168 : BitVec 32) (k0_hw39 : k0_chk39 v2168), ∀ a, (k0_off33 v2168) a + S128x128.size a ≤ S4096x128.size a := fun v2168 k0_hw39 => k0_hw39

def k0_dev94 (v3 : BitVec 32) : Nat :=
  let c0_i32_3057 : BitVec 32 := 0#32
  let c1_i32_3056 : BitVec 32 := 1#32
  let v2199 : BitVec 32 := Scalar.muli v3 c1_i32_3056
  let v2200 : BitVec 32 := Scalar.addi c0_i32_3057 v2199
  v2200.toNat
def k0_dev95 (v4 : BitVec 32) : Nat :=
  let c0_i32_3108 : BitVec 32 := 0#32
  let c1_i32_3107 : BitVec 32 := 1#32
  let v2232 : BitVec 32 := Scalar.muli v4 c1_i32_3107
  let v2233 : BitVec 32 := Scalar.addi c0_i32_3108 v2232
  v2233.toNat
def k0_dev96 (v5 : BitVec 32) : Nat :=
  let c0_i32_3159 : BitVec 32 := 0#32
  let c1_i32_3158 : BitVec 32 := 1#32
  let v2265 : BitVec 32 := Scalar.muli v5 c1_i32_3158
  let v2266 : BitVec 32 := Scalar.addi c0_i32_3159 v2265
  v2266.toNat
def k0_dev97 (v6 : BitVec 32) : Nat :=
  let c0_i32_3201 : BitVec 32 := 0#32
  let c1_i32_3200 : BitVec 32 := 1#32
  let v2298 : BitVec 32 := Scalar.muli v6 c1_i32_3200
  let v2299 : BitVec 32 := Scalar.addi c0_i32_3201 v2298
  v2299.toNat
def k0_dev98 (v3 : BitVec 32) : Nat :=
  let c0_i32_3211 : BitVec 32 := 0#32
  let c1_i32_3210 : BitVec 32 := 1#32
  let v2300 : BitVec 32 := Scalar.muli v3 c1_i32_3210
  let v2301 : BitVec 32 := Scalar.addi c0_i32_3211 v2300
  v2301.toNat
def k0_dev99 (v7 : BitVec 32) : Nat :=
  let c0_i32_3253 : BitVec 32 := 0#32
  let c1_i32_3252 : BitVec 32 := 1#32
  let v2333 : BitVec 32 := Scalar.muli v7 c1_i32_3252
  let v2334 : BitVec 32 := Scalar.addi c0_i32_3253 v2333
  v2334.toNat
def k0_dev100 (v4 : BitVec 32) : Nat :=
  let c0_i32_3263 : BitVec 32 := 0#32
  let c1_i32_3262 : BitVec 32 := 1#32
  let v2335 : BitVec 32 := Scalar.muli v4 c1_i32_3262
  let v2336 : BitVec 32 := Scalar.addi c0_i32_3263 v2335
  v2336.toNat
def k0_dev101 (v8 : BitVec 32) : Nat :=
  let c0_i32_3305 : BitVec 32 := 0#32
  let c1_i32_3304 : BitVec 32 := 1#32
  let v2368 : BitVec 32 := Scalar.muli v8 c1_i32_3304
  let v2369 : BitVec 32 := Scalar.addi c0_i32_3305 v2368
  v2369.toNat
def k0_dev102 (v5 : BitVec 32) : Nat :=
  let c0_i32_3315 : BitVec 32 := 0#32
  let c1_i32_3314 : BitVec 32 := 1#32
  let v2370 : BitVec 32 := Scalar.muli v5 c1_i32_3314
  let v2371 : BitVec 32 := Scalar.addi c0_i32_3315 v2370
  v2371.toNat
def k0_off34 (v2380 : BitVec 32) : Fin 2 → Nat :=
  let c128_i32_3320 : BitVec 32 := 128#32
  let v2381 : BitVec 32 := Scalar.muli v2380 c128_i32_3320
  let v2382 : Index := Scalar.indexCast v2381
  let c0_3321 : Index := 0#32
  ![v2382.toNat, 0]

def k0_chk40 (v2380 : BitVec 32) : Prop :=
  (∀ a, (k0_off34 v2380) a + S128x128.size a ≤ S4096x128.size a)
theorem k0_off34_inb : ∀ (v2380 : BitVec 32) (k0_hw40 : k0_chk40 v2380), ∀ a, (k0_off34 v2380) a + S128x128.size a ≤ S4096x128.size a := fun v2380 k0_hw40 => k0_hw40

def k0_off35 (v2388 : BitVec 32) : Fin 2 → Nat :=
  let c128_i32_3326 : BitVec 32 := 128#32
  let v2389 : BitVec 32 := Scalar.muli v2388 c128_i32_3326
  let v2390 : Index := Scalar.indexCast v2389
  let c0_3327 : Index := 0#32
  ![v2390.toNat, 0]

def k0_chk41 (v2388 : BitVec 32) : Prop :=
  (∀ a, (k0_off35 v2388) a + S128x128.size a ≤ S4096x128.size a)
theorem k0_off35_inb : ∀ (v2388 : BitVec 32) (k0_hw41 : k0_chk41 v2388), ∀ a, (k0_off35 v2388) a + S128x128.size a ≤ S4096x128.size a := fun v2388 k0_hw41 => k0_hw41

def k0_off36 (v2396 : BitVec 32) : Fin 2 → Nat :=
  let c128_i32_3332 : BitVec 32 := 128#32
  let v2397 : BitVec 32 := Scalar.muli v2396 c128_i32_3332
  let v2398 : Index := Scalar.indexCast v2397
  let c0_3333 : Index := 0#32
  ![v2398.toNat, 0]

def k0_chk42 (v2396 : BitVec 32) : Prop :=
  (∀ a, (k0_off36 v2396) a + S128x128.size a ≤ S4096x128.size a)
theorem k0_off36_inb : ∀ (v2396 : BitVec 32) (k0_hw42 : k0_chk42 v2396), ∀ a, (k0_off36 v2396) a + S128x128.size a ≤ S4096x128.size a := fun v2396 k0_hw42 => k0_hw42

def k0_dev103 (v3 : BitVec 32) : Nat :=
  let c0_i32_3383 : BitVec 32 := 0#32
  let c1_i32_3382 : BitVec 32 := 1#32
  let v2427 : BitVec 32 := Scalar.muli v3 c1_i32_3382
  let v2428 : BitVec 32 := Scalar.addi c0_i32_3383 v2427
  v2428.toNat
def k0_dev104 (v4 : BitVec 32) : Nat :=
  let c0_i32_3434 : BitVec 32 := 0#32
  let c1_i32_3433 : BitVec 32 := 1#32
  let v2460 : BitVec 32 := Scalar.muli v4 c1_i32_3433
  let v2461 : BitVec 32 := Scalar.addi c0_i32_3434 v2460
  v2461.toNat
def k0_dev105 (v5 : BitVec 32) : Nat :=
  let c0_i32_3485 : BitVec 32 := 0#32
  let c1_i32_3484 : BitVec 32 := 1#32
  let v2493 : BitVec 32 := Scalar.muli v5 c1_i32_3484
  let v2494 : BitVec 32 := Scalar.addi c0_i32_3485 v2493
  v2494.toNat
def k0_dev106 (v6 : BitVec 32) : Nat :=
  let c0_i32_3527 : BitVec 32 := 0#32
  let c1_i32_3526 : BitVec 32 := 1#32
  let v2526 : BitVec 32 := Scalar.muli v6 c1_i32_3526
  let v2527 : BitVec 32 := Scalar.addi c0_i32_3527 v2526
  v2527.toNat
def k0_dev107 (v3 : BitVec 32) : Nat :=
  let c0_i32_3537 : BitVec 32 := 0#32
  let c1_i32_3536 : BitVec 32 := 1#32
  let v2528 : BitVec 32 := Scalar.muli v3 c1_i32_3536
  let v2529 : BitVec 32 := Scalar.addi c0_i32_3537 v2528
  v2529.toNat
def k0_dev108 (v7 : BitVec 32) : Nat :=
  let c0_i32_3579 : BitVec 32 := 0#32
  let c1_i32_3578 : BitVec 32 := 1#32
  let v2561 : BitVec 32 := Scalar.muli v7 c1_i32_3578
  let v2562 : BitVec 32 := Scalar.addi c0_i32_3579 v2561
  v2562.toNat
def k0_dev109 (v4 : BitVec 32) : Nat :=
  let c0_i32_3589 : BitVec 32 := 0#32
  let c1_i32_3588 : BitVec 32 := 1#32
  let v2563 : BitVec 32 := Scalar.muli v4 c1_i32_3588
  let v2564 : BitVec 32 := Scalar.addi c0_i32_3589 v2563
  v2564.toNat
def k0_dev110 (v8 : BitVec 32) : Nat :=
  let c0_i32_3631 : BitVec 32 := 0#32
  let c1_i32_3630 : BitVec 32 := 1#32
  let v2596 : BitVec 32 := Scalar.muli v8 c1_i32_3630
  let v2597 : BitVec 32 := Scalar.addi c0_i32_3631 v2596
  v2597.toNat
def k0_dev111 (v5 : BitVec 32) : Nat :=
  let c0_i32_3641 : BitVec 32 := 0#32
  let c1_i32_3640 : BitVec 32 := 1#32
  let v2598 : BitVec 32 := Scalar.muli v5 c1_i32_3640
  let v2599 : BitVec 32 := Scalar.addi c0_i32_3641 v2598
  v2599.toNat
def k0_off37 (v2608 : BitVec 32) : Fin 2 → Nat :=
  let c128_i32_3646 : BitVec 32 := 128#32
  let v2609 : BitVec 32 := Scalar.muli v2608 c128_i32_3646
  let v2610 : Index := Scalar.indexCast v2609
  let c0_3647 : Index := 0#32
  ![v2610.toNat, 0]

def k0_chk43 (v2608 : BitVec 32) : Prop :=
  (∀ a, (k0_off37 v2608) a + S128x128.size a ≤ S4096x128.size a)
theorem k0_off37_inb : ∀ (v2608 : BitVec 32) (k0_hw43 : k0_chk43 v2608), ∀ a, (k0_off37 v2608) a + S128x128.size a ≤ S4096x128.size a := fun v2608 k0_hw43 => k0_hw43

def k0_off38 (v2616 : BitVec 32) : Fin 2 → Nat :=
  let c128_i32_3652 : BitVec 32 := 128#32
  let v2617 : BitVec 32 := Scalar.muli v2616 c128_i32_3652
  let v2618 : Index := Scalar.indexCast v2617
  let c0_3653 : Index := 0#32
  ![v2618.toNat, 0]

def k0_chk44 (v2616 : BitVec 32) : Prop :=
  (∀ a, (k0_off38 v2616) a + S128x128.size a ≤ S4096x128.size a)
theorem k0_off38_inb : ∀ (v2616 : BitVec 32) (k0_hw44 : k0_chk44 v2616), ∀ a, (k0_off38 v2616) a + S128x128.size a ≤ S4096x128.size a := fun v2616 k0_hw44 => k0_hw44

def k0_off39 (v2624 : BitVec 32) : Fin 2 → Nat :=
  let c128_i32_3658 : BitVec 32 := 128#32
  let v2625 : BitVec 32 := Scalar.muli v2624 c128_i32_3658
  let v2626 : Index := Scalar.indexCast v2625
  let c0_3659 : Index := 0#32
  ![v2626.toNat, 0]

def k0_chk45 (v2624 : BitVec 32) : Prop :=
  (∀ a, (k0_off39 v2624) a + S128x128.size a ≤ S4096x128.size a)
theorem k0_off39_inb : ∀ (v2624 : BitVec 32) (k0_hw45 : k0_chk45 v2624), ∀ a, (k0_off39 v2624) a + S128x128.size a ≤ S4096x128.size a := fun v2624 k0_hw45 => k0_hw45

def k0_dev112 (v3 : BitVec 32) : Nat :=
  let c0_i32_3709 : BitVec 32 := 0#32
  let c1_i32_3708 : BitVec 32 := 1#32
  let v2655 : BitVec 32 := Scalar.muli v3 c1_i32_3708
  let v2656 : BitVec 32 := Scalar.addi c0_i32_3709 v2655
  v2656.toNat
def k0_dev113 (v4 : BitVec 32) : Nat :=
  let c0_i32_3760 : BitVec 32 := 0#32
  let c1_i32_3759 : BitVec 32 := 1#32
  let v2688 : BitVec 32 := Scalar.muli v4 c1_i32_3759
  let v2689 : BitVec 32 := Scalar.addi c0_i32_3760 v2688
  v2689.toNat
def k0_dev114 (v5 : BitVec 32) : Nat :=
  let c0_i32_3811 : BitVec 32 := 0#32
  let c1_i32_3810 : BitVec 32 := 1#32
  let v2721 : BitVec 32 := Scalar.muli v5 c1_i32_3810
  let v2722 : BitVec 32 := Scalar.addi c0_i32_3811 v2721
  v2722.toNat
def k0_dev115 (v6 : BitVec 32) : Nat :=
  let c0_i32_3853 : BitVec 32 := 0#32
  let c1_i32_3852 : BitVec 32 := 1#32
  let v2754 : BitVec 32 := Scalar.muli v6 c1_i32_3852
  let v2755 : BitVec 32 := Scalar.addi c0_i32_3853 v2754
  v2755.toNat
def k0_dev116 (v3 : BitVec 32) : Nat :=
  let c0_i32_3863 : BitVec 32 := 0#32
  let c1_i32_3862 : BitVec 32 := 1#32
  let v2756 : BitVec 32 := Scalar.muli v3 c1_i32_3862
  let v2757 : BitVec 32 := Scalar.addi c0_i32_3863 v2756
  v2757.toNat
def k0_dev117 (v7 : BitVec 32) : Nat :=
  let c0_i32_3905 : BitVec 32 := 0#32
  let c1_i32_3904 : BitVec 32 := 1#32
  let v2789 : BitVec 32 := Scalar.muli v7 c1_i32_3904
  let v2790 : BitVec 32 := Scalar.addi c0_i32_3905 v2789
  v2790.toNat
def k0_dev118 (v4 : BitVec 32) : Nat :=
  let c0_i32_3915 : BitVec 32 := 0#32
  let c1_i32_3914 : BitVec 32 := 1#32
  let v2791 : BitVec 32 := Scalar.muli v4 c1_i32_3914
  let v2792 : BitVec 32 := Scalar.addi c0_i32_3915 v2791
  v2792.toNat
def k0_dev119 (v8 : BitVec 32) : Nat :=
  let c0_i32_3957 : BitVec 32 := 0#32
  let c1_i32_3956 : BitVec 32 := 1#32
  let v2824 : BitVec 32 := Scalar.muli v8 c1_i32_3956
  let v2825 : BitVec 32 := Scalar.addi c0_i32_3957 v2824
  v2825.toNat
def k0_dev120 (v5 : BitVec 32) : Nat :=
  let c0_i32_3967 : BitVec 32 := 0#32
  let c1_i32_3966 : BitVec 32 := 1#32
  let v2826 : BitVec 32 := Scalar.muli v5 c1_i32_3966
  let v2827 : BitVec 32 := Scalar.addi c0_i32_3967 v2826
  v2827.toNat
def k0_off40 (v2836 : BitVec 32) : Fin 2 → Nat :=
  let c128_i32_3972 : BitVec 32 := 128#32
  let v2837 : BitVec 32 := Scalar.muli v2836 c128_i32_3972
  let v2838 : Index := Scalar.indexCast v2837
  let c0_3973 : Index := 0#32
  ![v2838.toNat, 0]

def k0_chk46 (v2836 : BitVec 32) : Prop :=
  (∀ a, (k0_off40 v2836) a + S128x128.size a ≤ S4096x128.size a)
theorem k0_off40_inb : ∀ (v2836 : BitVec 32) (k0_hw46 : k0_chk46 v2836), ∀ a, (k0_off40 v2836) a + S128x128.size a ≤ S4096x128.size a := fun v2836 k0_hw46 => k0_hw46

def k0_off41 (v2844 : BitVec 32) : Fin 2 → Nat :=
  let c128_i32_3978 : BitVec 32 := 128#32
  let v2845 : BitVec 32 := Scalar.muli v2844 c128_i32_3978
  let v2846 : Index := Scalar.indexCast v2845
  let c0_3979 : Index := 0#32
  ![v2846.toNat, 0]

def k0_chk47 (v2844 : BitVec 32) : Prop :=
  (∀ a, (k0_off41 v2844) a + S128x128.size a ≤ S4096x128.size a)
theorem k0_off41_inb : ∀ (v2844 : BitVec 32) (k0_hw47 : k0_chk47 v2844), ∀ a, (k0_off41 v2844) a + S128x128.size a ≤ S4096x128.size a := fun v2844 k0_hw47 => k0_hw47

def k0_off42 (v2852 : BitVec 32) : Fin 2 → Nat :=
  let c128_i32_3984 : BitVec 32 := 128#32
  let v2853 : BitVec 32 := Scalar.muli v2852 c128_i32_3984
  let v2854 : Index := Scalar.indexCast v2853
  let c0_3985 : Index := 0#32
  ![v2854.toNat, 0]

def k0_chk48 (v2852 : BitVec 32) : Prop :=
  (∀ a, (k0_off42 v2852) a + S128x128.size a ≤ S4096x128.size a)
theorem k0_off42_inb : ∀ (v2852 : BitVec 32) (k0_hw48 : k0_chk48 v2852), ∀ a, (k0_off42 v2852) a + S128x128.size a ≤ S4096x128.size a := fun v2852 k0_hw48 => k0_hw48

def k0_dev121 (v3 : BitVec 32) : Nat :=
  let c0_i32_4035 : BitVec 32 := 0#32
  let c1_i32_4034 : BitVec 32 := 1#32
  let v2883 : BitVec 32 := Scalar.muli v3 c1_i32_4034
  let v2884 : BitVec 32 := Scalar.addi c0_i32_4035 v2883
  v2884.toNat
def k0_dev122 (v4 : BitVec 32) : Nat :=
  let c0_i32_4086 : BitVec 32 := 0#32
  let c1_i32_4085 : BitVec 32 := 1#32
  let v2916 : BitVec 32 := Scalar.muli v4 c1_i32_4085
  let v2917 : BitVec 32 := Scalar.addi c0_i32_4086 v2916
  v2917.toNat
def k0_dev123 (v5 : BitVec 32) : Nat :=
  let c0_i32_4137 : BitVec 32 := 0#32
  let c1_i32_4136 : BitVec 32 := 1#32
  let v2949 : BitVec 32 := Scalar.muli v5 c1_i32_4136
  let v2950 : BitVec 32 := Scalar.addi c0_i32_4137 v2949
  v2950.toNat
def k0_dev124 (v6 : BitVec 32) : Nat :=
  let c0_i32_4179 : BitVec 32 := 0#32
  let c1_i32_4178 : BitVec 32 := 1#32
  let v2982 : BitVec 32 := Scalar.muli v6 c1_i32_4178
  let v2983 : BitVec 32 := Scalar.addi c0_i32_4179 v2982
  v2983.toNat
def k0_dev125 (v3 : BitVec 32) : Nat :=
  let c0_i32_4189 : BitVec 32 := 0#32
  let c1_i32_4188 : BitVec 32 := 1#32
  let v2984 : BitVec 32 := Scalar.muli v3 c1_i32_4188
  let v2985 : BitVec 32 := Scalar.addi c0_i32_4189 v2984
  v2985.toNat
def k0_dev126 (v7 : BitVec 32) : Nat :=
  let c0_i32_4231 : BitVec 32 := 0#32
  let c1_i32_4230 : BitVec 32 := 1#32
  let v3017 : BitVec 32 := Scalar.muli v7 c1_i32_4230
  let v3018 : BitVec 32 := Scalar.addi c0_i32_4231 v3017
  v3018.toNat
def k0_dev127 (v4 : BitVec 32) : Nat :=
  let c0_i32_4241 : BitVec 32 := 0#32
  let c1_i32_4240 : BitVec 32 := 1#32
  let v3019 : BitVec 32 := Scalar.muli v4 c1_i32_4240
  let v3020 : BitVec 32 := Scalar.addi c0_i32_4241 v3019
  v3020.toNat
def k0_dev128 (v8 : BitVec 32) : Nat :=
  let c0_i32_4283 : BitVec 32 := 0#32
  let c1_i32_4282 : BitVec 32 := 1#32
  let v3052 : BitVec 32 := Scalar.muli v8 c1_i32_4282
  let v3053 : BitVec 32 := Scalar.addi c0_i32_4283 v3052
  v3053.toNat
def k0_dev129 (v5 : BitVec 32) : Nat :=
  let c0_i32_4293 : BitVec 32 := 0#32
  let c1_i32_4292 : BitVec 32 := 1#32
  let v3054 : BitVec 32 := Scalar.muli v5 c1_i32_4292
  let v3055 : BitVec 32 := Scalar.addi c0_i32_4293 v3054
  v3055.toNat
def k0_off43 (v3064 : BitVec 32) : Fin 2 → Nat :=
  let c128_i32_4298 : BitVec 32 := 128#32
  let v3065 : BitVec 32 := Scalar.muli v3064 c128_i32_4298
  let v3066 : Index := Scalar.indexCast v3065
  let c0_4299 : Index := 0#32
  ![v3066.toNat, 0]

def k0_chk49 (v3064 : BitVec 32) : Prop :=
  (∀ a, (k0_off43 v3064) a + S128x128.size a ≤ S4096x128.size a)
theorem k0_off43_inb : ∀ (v3064 : BitVec 32) (k0_hw49 : k0_chk49 v3064), ∀ a, (k0_off43 v3064) a + S128x128.size a ≤ S4096x128.size a := fun v3064 k0_hw49 => k0_hw49

def k0_off44 (v3072 : BitVec 32) : Fin 2 → Nat :=
  let c128_i32_4304 : BitVec 32 := 128#32
  let v3073 : BitVec 32 := Scalar.muli v3072 c128_i32_4304
  let v3074 : Index := Scalar.indexCast v3073
  let c0_4305 : Index := 0#32
  ![v3074.toNat, 0]

def k0_chk50 (v3072 : BitVec 32) : Prop :=
  (∀ a, (k0_off44 v3072) a + S128x128.size a ≤ S4096x128.size a)
theorem k0_off44_inb : ∀ (v3072 : BitVec 32) (k0_hw50 : k0_chk50 v3072), ∀ a, (k0_off44 v3072) a + S128x128.size a ≤ S4096x128.size a := fun v3072 k0_hw50 => k0_hw50

def k0_off45 (v3080 : BitVec 32) : Fin 2 → Nat :=
  let c128_i32_4310 : BitVec 32 := 128#32
  let v3081 : BitVec 32 := Scalar.muli v3080 c128_i32_4310
  let v3082 : Index := Scalar.indexCast v3081
  let c0_4311 : Index := 0#32
  ![v3082.toNat, 0]

def k0_chk51 (v3080 : BitVec 32) : Prop :=
  (∀ a, (k0_off45 v3080) a + S128x128.size a ≤ S4096x128.size a)
theorem k0_off45_inb : ∀ (v3080 : BitVec 32) (k0_hw51 : k0_chk51 v3080), ∀ a, (k0_off45 v3080) a + S128x128.size a ≤ S4096x128.size a := fun v3080 k0_hw51 => k0_hw51

def k0_dev130 (v3 : BitVec 32) : Nat :=
  let c0_i32_4361 : BitVec 32 := 0#32
  let c1_i32_4360 : BitVec 32 := 1#32
  let v3111 : BitVec 32 := Scalar.muli v3 c1_i32_4360
  let v3112 : BitVec 32 := Scalar.addi c0_i32_4361 v3111
  v3112.toNat
def k0_dev131 (v4 : BitVec 32) : Nat :=
  let c0_i32_4412 : BitVec 32 := 0#32
  let c1_i32_4411 : BitVec 32 := 1#32
  let v3144 : BitVec 32 := Scalar.muli v4 c1_i32_4411
  let v3145 : BitVec 32 := Scalar.addi c0_i32_4412 v3144
  v3145.toNat
def k0_dev132 (v5 : BitVec 32) : Nat :=
  let c0_i32_4463 : BitVec 32 := 0#32
  let c1_i32_4462 : BitVec 32 := 1#32
  let v3177 : BitVec 32 := Scalar.muli v5 c1_i32_4462
  let v3178 : BitVec 32 := Scalar.addi c0_i32_4463 v3177
  v3178.toNat
def k0_dev133 (v6 : BitVec 32) : Nat :=
  let c0_i32_4505 : BitVec 32 := 0#32
  let c1_i32_4504 : BitVec 32 := 1#32
  let v3210 : BitVec 32 := Scalar.muli v6 c1_i32_4504
  let v3211 : BitVec 32 := Scalar.addi c0_i32_4505 v3210
  v3211.toNat
def k0_dev134 (v3 : BitVec 32) : Nat :=
  let c0_i32_4515 : BitVec 32 := 0#32
  let c1_i32_4514 : BitVec 32 := 1#32
  let v3212 : BitVec 32 := Scalar.muli v3 c1_i32_4514
  let v3213 : BitVec 32 := Scalar.addi c0_i32_4515 v3212
  v3213.toNat
def k0_dev135 (v7 : BitVec 32) : Nat :=
  let c0_i32_4557 : BitVec 32 := 0#32
  let c1_i32_4556 : BitVec 32 := 1#32
  let v3245 : BitVec 32 := Scalar.muli v7 c1_i32_4556
  let v3246 : BitVec 32 := Scalar.addi c0_i32_4557 v3245
  v3246.toNat
def k0_dev136 (v4 : BitVec 32) : Nat :=
  let c0_i32_4567 : BitVec 32 := 0#32
  let c1_i32_4566 : BitVec 32 := 1#32
  let v3247 : BitVec 32 := Scalar.muli v4 c1_i32_4566
  let v3248 : BitVec 32 := Scalar.addi c0_i32_4567 v3247
  v3248.toNat
def k0_dev137 (v8 : BitVec 32) : Nat :=
  let c0_i32_4609 : BitVec 32 := 0#32
  let c1_i32_4608 : BitVec 32 := 1#32
  let v3280 : BitVec 32 := Scalar.muli v8 c1_i32_4608
  let v3281 : BitVec 32 := Scalar.addi c0_i32_4609 v3280
  v3281.toNat
def k0_dev138 (v5 : BitVec 32) : Nat :=
  let c0_i32_4619 : BitVec 32 := 0#32
  let c1_i32_4618 : BitVec 32 := 1#32
  let v3282 : BitVec 32 := Scalar.muli v5 c1_i32_4618
  let v3283 : BitVec 32 := Scalar.addi c0_i32_4619 v3282
  v3283.toNat
def k0_off46 (v3292 : BitVec 32) : Fin 2 → Nat :=
  let c128_i32_4624 : BitVec 32 := 128#32
  let v3293 : BitVec 32 := Scalar.muli v3292 c128_i32_4624
  let v3294 : Index := Scalar.indexCast v3293
  let c0_4625 : Index := 0#32
  ![v3294.toNat, 0]

def k0_chk52 (v3292 : BitVec 32) : Prop :=
  (∀ a, (k0_off46 v3292) a + S128x128.size a ≤ S4096x128.size a)
theorem k0_off46_inb : ∀ (v3292 : BitVec 32) (k0_hw52 : k0_chk52 v3292), ∀ a, (k0_off46 v3292) a + S128x128.size a ≤ S4096x128.size a := fun v3292 k0_hw52 => k0_hw52

def k0_off47 (v3300 : BitVec 32) : Fin 2 → Nat :=
  let c128_i32_4630 : BitVec 32 := 128#32
  let v3301 : BitVec 32 := Scalar.muli v3300 c128_i32_4630
  let v3302 : Index := Scalar.indexCast v3301
  let c0_4631 : Index := 0#32
  ![v3302.toNat, 0]

def k0_chk53 (v3300 : BitVec 32) : Prop :=
  (∀ a, (k0_off47 v3300) a + S128x128.size a ≤ S4096x128.size a)
theorem k0_off47_inb : ∀ (v3300 : BitVec 32) (k0_hw53 : k0_chk53 v3300), ∀ a, (k0_off47 v3300) a + S128x128.size a ≤ S4096x128.size a := fun v3300 k0_hw53 => k0_hw53

def k0_off48 (v3308 : BitVec 32) : Fin 2 → Nat :=
  let c128_i32_4636 : BitVec 32 := 128#32
  let v3309 : BitVec 32 := Scalar.muli v3308 c128_i32_4636
  let v3310 : Index := Scalar.indexCast v3309
  let c0_4637 : Index := 0#32
  ![v3310.toNat, 0]

def k0_chk54 (v3308 : BitVec 32) : Prop :=
  (∀ a, (k0_off48 v3308) a + S128x128.size a ≤ S4096x128.size a)
theorem k0_off48_inb : ∀ (v3308 : BitVec 32) (k0_hw54 : k0_chk54 v3308), ∀ a, (k0_off48 v3308) a + S128x128.size a ≤ S4096x128.size a := fun v3308 k0_hw54 => k0_hw54

def k0_dev139 (v3 : BitVec 32) : Nat :=
  let c0_i32_4687 : BitVec 32 := 0#32
  let c1_i32_4686 : BitVec 32 := 1#32
  let v3339 : BitVec 32 := Scalar.muli v3 c1_i32_4686
  let v3340 : BitVec 32 := Scalar.addi c0_i32_4687 v3339
  v3340.toNat
def k0_dev140 (v4 : BitVec 32) : Nat :=
  let c0_i32_4738 : BitVec 32 := 0#32
  let c1_i32_4737 : BitVec 32 := 1#32
  let v3372 : BitVec 32 := Scalar.muli v4 c1_i32_4737
  let v3373 : BitVec 32 := Scalar.addi c0_i32_4738 v3372
  v3373.toNat
def k0_dev141 (v5 : BitVec 32) : Nat :=
  let c0_i32_4789 : BitVec 32 := 0#32
  let c1_i32_4788 : BitVec 32 := 1#32
  let v3405 : BitVec 32 := Scalar.muli v5 c1_i32_4788
  let v3406 : BitVec 32 := Scalar.addi c0_i32_4789 v3405
  v3406.toNat
def k0_dev142 (v6 : BitVec 32) : Nat :=
  let c0_i32_4831 : BitVec 32 := 0#32
  let c1_i32_4830 : BitVec 32 := 1#32
  let v3438 : BitVec 32 := Scalar.muli v6 c1_i32_4830
  let v3439 : BitVec 32 := Scalar.addi c0_i32_4831 v3438
  v3439.toNat
def k0_dev143 (v3 : BitVec 32) : Nat :=
  let c0_i32_4841 : BitVec 32 := 0#32
  let c1_i32_4840 : BitVec 32 := 1#32
  let v3440 : BitVec 32 := Scalar.muli v3 c1_i32_4840
  let v3441 : BitVec 32 := Scalar.addi c0_i32_4841 v3440
  v3441.toNat
def k0_dev144 (v7 : BitVec 32) : Nat :=
  let c0_i32_4883 : BitVec 32 := 0#32
  let c1_i32_4882 : BitVec 32 := 1#32
  let v3473 : BitVec 32 := Scalar.muli v7 c1_i32_4882
  let v3474 : BitVec 32 := Scalar.addi c0_i32_4883 v3473
  v3474.toNat
def k0_dev145 (v4 : BitVec 32) : Nat :=
  let c0_i32_4893 : BitVec 32 := 0#32
  let c1_i32_4892 : BitVec 32 := 1#32
  let v3475 : BitVec 32 := Scalar.muli v4 c1_i32_4892
  let v3476 : BitVec 32 := Scalar.addi c0_i32_4893 v3475
  v3476.toNat
def k0_dev146 (v8 : BitVec 32) : Nat :=
  let c0_i32_4935 : BitVec 32 := 0#32
  let c1_i32_4934 : BitVec 32 := 1#32
  let v3508 : BitVec 32 := Scalar.muli v8 c1_i32_4934
  let v3509 : BitVec 32 := Scalar.addi c0_i32_4935 v3508
  v3509.toNat
def k0_dev147 (v5 : BitVec 32) : Nat :=
  let c0_i32_4945 : BitVec 32 := 0#32
  let c1_i32_4944 : BitVec 32 := 1#32
  let v3510 : BitVec 32 := Scalar.muli v5 c1_i32_4944
  let v3511 : BitVec 32 := Scalar.addi c0_i32_4945 v3510
  v3511.toNat
def k0_off49 (v3520 : BitVec 32) : Fin 2 → Nat :=
  let c128_i32_4950 : BitVec 32 := 128#32
  let v3521 : BitVec 32 := Scalar.muli v3520 c128_i32_4950
  let v3522 : Index := Scalar.indexCast v3521
  let c0_4951 : Index := 0#32
  ![v3522.toNat, 0]

def k0_chk55 (v3520 : BitVec 32) : Prop :=
  (∀ a, (k0_off49 v3520) a + S128x128.size a ≤ S4096x128.size a)
theorem k0_off49_inb : ∀ (v3520 : BitVec 32) (k0_hw55 : k0_chk55 v3520), ∀ a, (k0_off49 v3520) a + S128x128.size a ≤ S4096x128.size a := fun v3520 k0_hw55 => k0_hw55

def k0_off50 (v3528 : BitVec 32) : Fin 2 → Nat :=
  let c128_i32_4956 : BitVec 32 := 128#32
  let v3529 : BitVec 32 := Scalar.muli v3528 c128_i32_4956
  let v3530 : Index := Scalar.indexCast v3529
  let c0_4957 : Index := 0#32
  ![v3530.toNat, 0]

def k0_chk56 (v3528 : BitVec 32) : Prop :=
  (∀ a, (k0_off50 v3528) a + S128x128.size a ≤ S4096x128.size a)
theorem k0_off50_inb : ∀ (v3528 : BitVec 32) (k0_hw56 : k0_chk56 v3528), ∀ a, (k0_off50 v3528) a + S128x128.size a ≤ S4096x128.size a := fun v3528 k0_hw56 => k0_hw56

def k0_off51 (v3536 : BitVec 32) : Fin 2 → Nat :=
  let c128_i32_4962 : BitVec 32 := 128#32
  let v3537 : BitVec 32 := Scalar.muli v3536 c128_i32_4962
  let v3538 : Index := Scalar.indexCast v3537
  let c0_4963 : Index := 0#32
  ![v3538.toNat, 0]

def k0_chk57 (v3536 : BitVec 32) : Prop :=
  (∀ a, (k0_off51 v3536) a + S128x128.size a ≤ S4096x128.size a)
theorem k0_off51_inb : ∀ (v3536 : BitVec 32) (k0_hw57 : k0_chk57 v3536), ∀ a, (k0_off51 v3536) a + S128x128.size a ≤ S4096x128.size a := fun v3536 k0_hw57 => k0_hw57

def k0_dev148 (v3 : BitVec 32) : Nat :=
  let c0_i32_5013 : BitVec 32 := 0#32
  let c1_i32_5012 : BitVec 32 := 1#32
  let v3567 : BitVec 32 := Scalar.muli v3 c1_i32_5012
  let v3568 : BitVec 32 := Scalar.addi c0_i32_5013 v3567
  v3568.toNat
def k0_dev149 (v4 : BitVec 32) : Nat :=
  let c0_i32_5064 : BitVec 32 := 0#32
  let c1_i32_5063 : BitVec 32 := 1#32
  let v3600 : BitVec 32 := Scalar.muli v4 c1_i32_5063
  let v3601 : BitVec 32 := Scalar.addi c0_i32_5064 v3600
  v3601.toNat
def k0_dev150 (v5 : BitVec 32) : Nat :=
  let c0_i32_5115 : BitVec 32 := 0#32
  let c1_i32_5114 : BitVec 32 := 1#32
  let v3633 : BitVec 32 := Scalar.muli v5 c1_i32_5114
  let v3634 : BitVec 32 := Scalar.addi c0_i32_5115 v3633
  v3634.toNat
def k0_dev151 (v6 : BitVec 32) : Nat :=
  let c0_i32_5157 : BitVec 32 := 0#32
  let c1_i32_5156 : BitVec 32 := 1#32
  let v3666 : BitVec 32 := Scalar.muli v6 c1_i32_5156
  let v3667 : BitVec 32 := Scalar.addi c0_i32_5157 v3666
  v3667.toNat
def k0_dev152 (v3 : BitVec 32) : Nat :=
  let c0_i32_5167 : BitVec 32 := 0#32
  let c1_i32_5166 : BitVec 32 := 1#32
  let v3668 : BitVec 32 := Scalar.muli v3 c1_i32_5166
  let v3669 : BitVec 32 := Scalar.addi c0_i32_5167 v3668
  v3669.toNat
def k0_dev153 (v7 : BitVec 32) : Nat :=
  let c0_i32_5209 : BitVec 32 := 0#32
  let c1_i32_5208 : BitVec 32 := 1#32
  let v3701 : BitVec 32 := Scalar.muli v7 c1_i32_5208
  let v3702 : BitVec 32 := Scalar.addi c0_i32_5209 v3701
  v3702.toNat
def k0_dev154 (v4 : BitVec 32) : Nat :=
  let c0_i32_5219 : BitVec 32 := 0#32
  let c1_i32_5218 : BitVec 32 := 1#32
  let v3703 : BitVec 32 := Scalar.muli v4 c1_i32_5218
  let v3704 : BitVec 32 := Scalar.addi c0_i32_5219 v3703
  v3704.toNat
def k0_dev155 (v8 : BitVec 32) : Nat :=
  let c0_i32_5261 : BitVec 32 := 0#32
  let c1_i32_5260 : BitVec 32 := 1#32
  let v3736 : BitVec 32 := Scalar.muli v8 c1_i32_5260
  let v3737 : BitVec 32 := Scalar.addi c0_i32_5261 v3736
  v3737.toNat
def k0_dev156 (v5 : BitVec 32) : Nat :=
  let c0_i32_5271 : BitVec 32 := 0#32
  let c1_i32_5270 : BitVec 32 := 1#32
  let v3738 : BitVec 32 := Scalar.muli v5 c1_i32_5270
  let v3739 : BitVec 32 := Scalar.addi c0_i32_5271 v3738
  v3739.toNat
def k0_off52 (v3748 : BitVec 32) : Fin 2 → Nat :=
  let c128_i32_5276 : BitVec 32 := 128#32
  let v3749 : BitVec 32 := Scalar.muli v3748 c128_i32_5276
  let v3750 : Index := Scalar.indexCast v3749
  let c0_5277 : Index := 0#32
  ![v3750.toNat, 0]

def k0_chk58 (v3748 : BitVec 32) : Prop :=
  (∀ a, (k0_off52 v3748) a + S128x128.size a ≤ S4096x128.size a)
theorem k0_off52_inb : ∀ (v3748 : BitVec 32) (k0_hw58 : k0_chk58 v3748), ∀ a, (k0_off52 v3748) a + S128x128.size a ≤ S4096x128.size a := fun v3748 k0_hw58 => k0_hw58

def k0_off53 (v3756 : BitVec 32) : Fin 2 → Nat :=
  let c128_i32_5282 : BitVec 32 := 128#32
  let v3757 : BitVec 32 := Scalar.muli v3756 c128_i32_5282
  let v3758 : Index := Scalar.indexCast v3757
  let c0_5283 : Index := 0#32
  ![v3758.toNat, 0]

def k0_chk59 (v3756 : BitVec 32) : Prop :=
  (∀ a, (k0_off53 v3756) a + S128x128.size a ≤ S4096x128.size a)
theorem k0_off53_inb : ∀ (v3756 : BitVec 32) (k0_hw59 : k0_chk59 v3756), ∀ a, (k0_off53 v3756) a + S128x128.size a ≤ S4096x128.size a := fun v3756 k0_hw59 => k0_hw59

def k0_off54 (v3764 : BitVec 32) : Fin 2 → Nat :=
  let c128_i32_5288 : BitVec 32 := 128#32
  let v3765 : BitVec 32 := Scalar.muli v3764 c128_i32_5288
  let v3766 : Index := Scalar.indexCast v3765
  let c0_5289 : Index := 0#32
  ![v3766.toNat, 0]

def k0_chk60 (v3764 : BitVec 32) : Prop :=
  (∀ a, (k0_off54 v3764) a + S128x128.size a ≤ S4096x128.size a)
theorem k0_off54_inb : ∀ (v3764 : BitVec 32) (k0_hw60 : k0_chk60 v3764), ∀ a, (k0_off54 v3764) a + S128x128.size a ≤ S4096x128.size a := fun v3764 k0_hw60 => k0_hw60

def k0_dev157 (v3 : BitVec 32) : Nat :=
  let c0_i32_5339 : BitVec 32 := 0#32
  let c1_i32_5338 : BitVec 32 := 1#32
  let v3795 : BitVec 32 := Scalar.muli v3 c1_i32_5338
  let v3796 : BitVec 32 := Scalar.addi c0_i32_5339 v3795
  v3796.toNat
def k0_dev158 (v4 : BitVec 32) : Nat :=
  let c0_i32_5390 : BitVec 32 := 0#32
  let c1_i32_5389 : BitVec 32 := 1#32
  let v3828 : BitVec 32 := Scalar.muli v4 c1_i32_5389
  let v3829 : BitVec 32 := Scalar.addi c0_i32_5390 v3828
  v3829.toNat
def k0_dev159 (v5 : BitVec 32) : Nat :=
  let c0_i32_5441 : BitVec 32 := 0#32
  let c1_i32_5440 : BitVec 32 := 1#32
  let v3861 : BitVec 32 := Scalar.muli v5 c1_i32_5440
  let v3862 : BitVec 32 := Scalar.addi c0_i32_5441 v3861
  v3862.toNat
def k0_dev160 (v6 : BitVec 32) : Nat :=
  let c0_i32_5483 : BitVec 32 := 0#32
  let c1_i32_5482 : BitVec 32 := 1#32
  let v3894 : BitVec 32 := Scalar.muli v6 c1_i32_5482
  let v3895 : BitVec 32 := Scalar.addi c0_i32_5483 v3894
  v3895.toNat
def k0_dev161 (v3 : BitVec 32) : Nat :=
  let c0_i32_5493 : BitVec 32 := 0#32
  let c1_i32_5492 : BitVec 32 := 1#32
  let v3896 : BitVec 32 := Scalar.muli v3 c1_i32_5492
  let v3897 : BitVec 32 := Scalar.addi c0_i32_5493 v3896
  v3897.toNat
def k0_dev162 (v7 : BitVec 32) : Nat :=
  let c0_i32_5535 : BitVec 32 := 0#32
  let c1_i32_5534 : BitVec 32 := 1#32
  let v3929 : BitVec 32 := Scalar.muli v7 c1_i32_5534
  let v3930 : BitVec 32 := Scalar.addi c0_i32_5535 v3929
  v3930.toNat
def k0_dev163 (v4 : BitVec 32) : Nat :=
  let c0_i32_5545 : BitVec 32 := 0#32
  let c1_i32_5544 : BitVec 32 := 1#32
  let v3931 : BitVec 32 := Scalar.muli v4 c1_i32_5544
  let v3932 : BitVec 32 := Scalar.addi c0_i32_5545 v3931
  v3932.toNat
def k0_dev164 (v8 : BitVec 32) : Nat :=
  let c0_i32_5587 : BitVec 32 := 0#32
  let c1_i32_5586 : BitVec 32 := 1#32
  let v3964 : BitVec 32 := Scalar.muli v8 c1_i32_5586
  let v3965 : BitVec 32 := Scalar.addi c0_i32_5587 v3964
  v3965.toNat
def k0_dev165 (v5 : BitVec 32) : Nat :=
  let c0_i32_5597 : BitVec 32 := 0#32
  let c1_i32_5596 : BitVec 32 := 1#32
  let v3966 : BitVec 32 := Scalar.muli v5 c1_i32_5596
  let v3967 : BitVec 32 := Scalar.addi c0_i32_5597 v3966
  v3967.toNat
def k0_off55 (v3976 : BitVec 32) : Fin 2 → Nat :=
  let c128_i32_5602 : BitVec 32 := 128#32
  let v3977 : BitVec 32 := Scalar.muli v3976 c128_i32_5602
  let v3978 : Index := Scalar.indexCast v3977
  let c0_5603 : Index := 0#32
  ![v3978.toNat, 0]

def k0_chk61 (v3976 : BitVec 32) : Prop :=
  (∀ a, (k0_off55 v3976) a + S128x128.size a ≤ S4096x128.size a)
theorem k0_off55_inb : ∀ (v3976 : BitVec 32) (k0_hw61 : k0_chk61 v3976), ∀ a, (k0_off55 v3976) a + S128x128.size a ≤ S4096x128.size a := fun v3976 k0_hw61 => k0_hw61

def k0_off56 (v3984 : BitVec 32) : Fin 2 → Nat :=
  let c128_i32_5608 : BitVec 32 := 128#32
  let v3985 : BitVec 32 := Scalar.muli v3984 c128_i32_5608
  let v3986 : Index := Scalar.indexCast v3985
  let c0_5609 : Index := 0#32
  ![v3986.toNat, 0]

def k0_chk62 (v3984 : BitVec 32) : Prop :=
  (∀ a, (k0_off56 v3984) a + S128x128.size a ≤ S4096x128.size a)
theorem k0_off56_inb : ∀ (v3984 : BitVec 32) (k0_hw62 : k0_chk62 v3984), ∀ a, (k0_off56 v3984) a + S128x128.size a ≤ S4096x128.size a := fun v3984 k0_hw62 => k0_hw62

def k0_off57 (v3992 : BitVec 32) : Fin 2 → Nat :=
  let c128_i32_5614 : BitVec 32 := 128#32
  let v3993 : BitVec 32 := Scalar.muli v3992 c128_i32_5614
  let v3994 : Index := Scalar.indexCast v3993
  let c0_5615 : Index := 0#32
  ![v3994.toNat, 0]

def k0_chk63 (v3992 : BitVec 32) : Prop :=
  (∀ a, (k0_off57 v3992) a + S128x128.size a ≤ S4096x128.size a)
theorem k0_off57_inb : ∀ (v3992 : BitVec 32) (k0_hw63 : k0_chk63 v3992), ∀ a, (k0_off57 v3992) a + S128x128.size a ≤ S4096x128.size a := fun v3992 k0_hw63 => k0_hw63

def k0_dev166 (v3 : BitVec 32) : Nat :=
  let c0_i32_5665 : BitVec 32 := 0#32
  let c1_i32_5664 : BitVec 32 := 1#32
  let v4023 : BitVec 32 := Scalar.muli v3 c1_i32_5664
  let v4024 : BitVec 32 := Scalar.addi c0_i32_5665 v4023
  v4024.toNat
def k0_dev167 (v4 : BitVec 32) : Nat :=
  let c0_i32_5716 : BitVec 32 := 0#32
  let c1_i32_5715 : BitVec 32 := 1#32
  let v4056 : BitVec 32 := Scalar.muli v4 c1_i32_5715
  let v4057 : BitVec 32 := Scalar.addi c0_i32_5716 v4056
  v4057.toNat
def k0_dev168 (v5 : BitVec 32) : Nat :=
  let c0_i32_5767 : BitVec 32 := 0#32
  let c1_i32_5766 : BitVec 32 := 1#32
  let v4089 : BitVec 32 := Scalar.muli v5 c1_i32_5766
  let v4090 : BitVec 32 := Scalar.addi c0_i32_5767 v4089
  v4090.toNat
def k0_dev169 (v6 : BitVec 32) : Nat :=
  let c0_i32_5809 : BitVec 32 := 0#32
  let c1_i32_5808 : BitVec 32 := 1#32
  let v4122 : BitVec 32 := Scalar.muli v6 c1_i32_5808
  let v4123 : BitVec 32 := Scalar.addi c0_i32_5809 v4122
  v4123.toNat
def k0_dev170 (v3 : BitVec 32) : Nat :=
  let c0_i32_5819 : BitVec 32 := 0#32
  let c1_i32_5818 : BitVec 32 := 1#32
  let v4124 : BitVec 32 := Scalar.muli v3 c1_i32_5818
  let v4125 : BitVec 32 := Scalar.addi c0_i32_5819 v4124
  v4125.toNat
def k0_dev171 (v7 : BitVec 32) : Nat :=
  let c0_i32_5861 : BitVec 32 := 0#32
  let c1_i32_5860 : BitVec 32 := 1#32
  let v4157 : BitVec 32 := Scalar.muli v7 c1_i32_5860
  let v4158 : BitVec 32 := Scalar.addi c0_i32_5861 v4157
  v4158.toNat
def k0_dev172 (v4 : BitVec 32) : Nat :=
  let c0_i32_5871 : BitVec 32 := 0#32
  let c1_i32_5870 : BitVec 32 := 1#32
  let v4159 : BitVec 32 := Scalar.muli v4 c1_i32_5870
  let v4160 : BitVec 32 := Scalar.addi c0_i32_5871 v4159
  v4160.toNat
def k0_dev173 (v8 : BitVec 32) : Nat :=
  let c0_i32_5913 : BitVec 32 := 0#32
  let c1_i32_5912 : BitVec 32 := 1#32
  let v4192 : BitVec 32 := Scalar.muli v8 c1_i32_5912
  let v4193 : BitVec 32 := Scalar.addi c0_i32_5913 v4192
  v4193.toNat
def k0_dev174 (v5 : BitVec 32) : Nat :=
  let c0_i32_5923 : BitVec 32 := 0#32
  let c1_i32_5922 : BitVec 32 := 1#32
  let v4194 : BitVec 32 := Scalar.muli v5 c1_i32_5922
  let v4195 : BitVec 32 := Scalar.addi c0_i32_5923 v4194
  v4195.toNat
def k0_off58 (v4204 : BitVec 32) : Fin 2 → Nat :=
  let c128_i32_5928 : BitVec 32 := 128#32
  let v4205 : BitVec 32 := Scalar.muli v4204 c128_i32_5928
  let v4206 : Index := Scalar.indexCast v4205
  let c0_5929 : Index := 0#32
  ![v4206.toNat, 0]

def k0_chk64 (v4204 : BitVec 32) : Prop :=
  (∀ a, (k0_off58 v4204) a + S128x128.size a ≤ S4096x128.size a)
theorem k0_off58_inb : ∀ (v4204 : BitVec 32) (k0_hw64 : k0_chk64 v4204), ∀ a, (k0_off58 v4204) a + S128x128.size a ≤ S4096x128.size a := fun v4204 k0_hw64 => k0_hw64

def k0_off59 (v4212 : BitVec 32) : Fin 2 → Nat :=
  let c128_i32_5934 : BitVec 32 := 128#32
  let v4213 : BitVec 32 := Scalar.muli v4212 c128_i32_5934
  let v4214 : Index := Scalar.indexCast v4213
  let c0_5935 : Index := 0#32
  ![v4214.toNat, 0]

def k0_chk65 (v4212 : BitVec 32) : Prop :=
  (∀ a, (k0_off59 v4212) a + S128x128.size a ≤ S4096x128.size a)
theorem k0_off59_inb : ∀ (v4212 : BitVec 32) (k0_hw65 : k0_chk65 v4212), ∀ a, (k0_off59 v4212) a + S128x128.size a ≤ S4096x128.size a := fun v4212 k0_hw65 => k0_hw65

def k0_off60 (v4220 : BitVec 32) : Fin 2 → Nat :=
  let c128_i32_5940 : BitVec 32 := 128#32
  let v4221 : BitVec 32 := Scalar.muli v4220 c128_i32_5940
  let v4222 : Index := Scalar.indexCast v4221
  let c0_5941 : Index := 0#32
  ![v4222.toNat, 0]

def k0_chk66 (v4220 : BitVec 32) : Prop :=
  (∀ a, (k0_off60 v4220) a + S128x128.size a ≤ S4096x128.size a)
theorem k0_off60_inb : ∀ (v4220 : BitVec 32) (k0_hw66 : k0_chk66 v4220), ∀ a, (k0_off60 v4220) a + S128x128.size a ≤ S4096x128.size a := fun v4220 k0_hw66 => k0_hw66

def k0_dev175 (v3 : BitVec 32) : Nat :=
  let c0_i32_5991 : BitVec 32 := 0#32
  let c1_i32_5990 : BitVec 32 := 1#32
  let v4251 : BitVec 32 := Scalar.muli v3 c1_i32_5990
  let v4252 : BitVec 32 := Scalar.addi c0_i32_5991 v4251
  v4252.toNat
def k0_dev176 (v4 : BitVec 32) : Nat :=
  let c0_i32_6042 : BitVec 32 := 0#32
  let c1_i32_6041 : BitVec 32 := 1#32
  let v4284 : BitVec 32 := Scalar.muli v4 c1_i32_6041
  let v4285 : BitVec 32 := Scalar.addi c0_i32_6042 v4284
  v4285.toNat
def k0_dev177 (v5 : BitVec 32) : Nat :=
  let c0_i32_6093 : BitVec 32 := 0#32
  let c1_i32_6092 : BitVec 32 := 1#32
  let v4317 : BitVec 32 := Scalar.muli v5 c1_i32_6092
  let v4318 : BitVec 32 := Scalar.addi c0_i32_6093 v4317
  v4318.toNat
def k0_dev178 (v6 : BitVec 32) : Nat :=
  let c0_i32_6135 : BitVec 32 := 0#32
  let c1_i32_6134 : BitVec 32 := 1#32
  let v4350 : BitVec 32 := Scalar.muli v6 c1_i32_6134
  let v4351 : BitVec 32 := Scalar.addi c0_i32_6135 v4350
  v4351.toNat
def k0_dev179 (v3 : BitVec 32) : Nat :=
  let c0_i32_6145 : BitVec 32 := 0#32
  let c1_i32_6144 : BitVec 32 := 1#32
  let v4352 : BitVec 32 := Scalar.muli v3 c1_i32_6144
  let v4353 : BitVec 32 := Scalar.addi c0_i32_6145 v4352
  v4353.toNat
def k0_dev180 (v7 : BitVec 32) : Nat :=
  let c0_i32_6187 : BitVec 32 := 0#32
  let c1_i32_6186 : BitVec 32 := 1#32
  let v4385 : BitVec 32 := Scalar.muli v7 c1_i32_6186
  let v4386 : BitVec 32 := Scalar.addi c0_i32_6187 v4385
  v4386.toNat
def k0_dev181 (v4 : BitVec 32) : Nat :=
  let c0_i32_6197 : BitVec 32 := 0#32
  let c1_i32_6196 : BitVec 32 := 1#32
  let v4387 : BitVec 32 := Scalar.muli v4 c1_i32_6196
  let v4388 : BitVec 32 := Scalar.addi c0_i32_6197 v4387
  v4388.toNat
def k0_dev182 (v8 : BitVec 32) : Nat :=
  let c0_i32_6239 : BitVec 32 := 0#32
  let c1_i32_6238 : BitVec 32 := 1#32
  let v4420 : BitVec 32 := Scalar.muli v8 c1_i32_6238
  let v4421 : BitVec 32 := Scalar.addi c0_i32_6239 v4420
  v4421.toNat
def k0_dev183 (v5 : BitVec 32) : Nat :=
  let c0_i32_6249 : BitVec 32 := 0#32
  let c1_i32_6248 : BitVec 32 := 1#32
  let v4422 : BitVec 32 := Scalar.muli v5 c1_i32_6248
  let v4423 : BitVec 32 := Scalar.addi c0_i32_6249 v4422
  v4423.toNat
def k0_off61 (v4432 : BitVec 32) : Fin 2 → Nat :=
  let c128_i32_6254 : BitVec 32 := 128#32
  let v4433 : BitVec 32 := Scalar.muli v4432 c128_i32_6254
  let v4434 : Index := Scalar.indexCast v4433
  let c0_6255 : Index := 0#32
  ![v4434.toNat, 0]

def k0_chk67 (v4432 : BitVec 32) : Prop :=
  (∀ a, (k0_off61 v4432) a + S128x128.size a ≤ S4096x128.size a)
theorem k0_off61_inb : ∀ (v4432 : BitVec 32) (k0_hw67 : k0_chk67 v4432), ∀ a, (k0_off61 v4432) a + S128x128.size a ≤ S4096x128.size a := fun v4432 k0_hw67 => k0_hw67

def k0_off62 (v4440 : BitVec 32) : Fin 2 → Nat :=
  let c128_i32_6260 : BitVec 32 := 128#32
  let v4441 : BitVec 32 := Scalar.muli v4440 c128_i32_6260
  let v4442 : Index := Scalar.indexCast v4441
  let c0_6261 : Index := 0#32
  ![v4442.toNat, 0]

def k0_chk68 (v4440 : BitVec 32) : Prop :=
  (∀ a, (k0_off62 v4440) a + S128x128.size a ≤ S4096x128.size a)
theorem k0_off62_inb : ∀ (v4440 : BitVec 32) (k0_hw68 : k0_chk68 v4440), ∀ a, (k0_off62 v4440) a + S128x128.size a ≤ S4096x128.size a := fun v4440 k0_hw68 => k0_hw68

def k0_off63 (v4448 : BitVec 32) : Fin 2 → Nat :=
  let c128_i32_6266 : BitVec 32 := 128#32
  let v4449 : BitVec 32 := Scalar.muli v4448 c128_i32_6266
  let v4450 : Index := Scalar.indexCast v4449
  let c0_6267 : Index := 0#32
  ![v4450.toNat, 0]

def k0_chk69 (v4448 : BitVec 32) : Prop :=
  (∀ a, (k0_off63 v4448) a + S128x128.size a ≤ S4096x128.size a)
theorem k0_off63_inb : ∀ (v4448 : BitVec 32) (k0_hw69 : k0_chk69 v4448), ∀ a, (k0_off63 v4448) a + S128x128.size a ≤ S4096x128.size a := fun v4448 k0_hw69 => k0_hw69

def k0_dev184 (v3 : BitVec 32) : Nat :=
  let c0_i32_6317 : BitVec 32 := 0#32
  let c1_i32_6316 : BitVec 32 := 1#32
  let v4479 : BitVec 32 := Scalar.muli v3 c1_i32_6316
  let v4480 : BitVec 32 := Scalar.addi c0_i32_6317 v4479
  v4480.toNat
def k0_dev185 (v4 : BitVec 32) : Nat :=
  let c0_i32_6368 : BitVec 32 := 0#32
  let c1_i32_6367 : BitVec 32 := 1#32
  let v4512 : BitVec 32 := Scalar.muli v4 c1_i32_6367
  let v4513 : BitVec 32 := Scalar.addi c0_i32_6368 v4512
  v4513.toNat
def k0_dev186 (v5 : BitVec 32) : Nat :=
  let c0_i32_6419 : BitVec 32 := 0#32
  let c1_i32_6418 : BitVec 32 := 1#32
  let v4545 : BitVec 32 := Scalar.muli v5 c1_i32_6418
  let v4546 : BitVec 32 := Scalar.addi c0_i32_6419 v4545
  v4546.toNat
def k0_dev187 (v6 : BitVec 32) : Nat :=
  let c0_i32_6461 : BitVec 32 := 0#32
  let c1_i32_6460 : BitVec 32 := 1#32
  let v4578 : BitVec 32 := Scalar.muli v6 c1_i32_6460
  let v4579 : BitVec 32 := Scalar.addi c0_i32_6461 v4578
  v4579.toNat
def k0_dev188 (v3 : BitVec 32) : Nat :=
  let c0_i32_6471 : BitVec 32 := 0#32
  let c1_i32_6470 : BitVec 32 := 1#32
  let v4580 : BitVec 32 := Scalar.muli v3 c1_i32_6470
  let v4581 : BitVec 32 := Scalar.addi c0_i32_6471 v4580
  v4581.toNat
def k0_dev189 (v7 : BitVec 32) : Nat :=
  let c0_i32_6513 : BitVec 32 := 0#32
  let c1_i32_6512 : BitVec 32 := 1#32
  let v4613 : BitVec 32 := Scalar.muli v7 c1_i32_6512
  let v4614 : BitVec 32 := Scalar.addi c0_i32_6513 v4613
  v4614.toNat
def k0_dev190 (v4 : BitVec 32) : Nat :=
  let c0_i32_6523 : BitVec 32 := 0#32
  let c1_i32_6522 : BitVec 32 := 1#32
  let v4615 : BitVec 32 := Scalar.muli v4 c1_i32_6522
  let v4616 : BitVec 32 := Scalar.addi c0_i32_6523 v4615
  v4616.toNat
def k0_dev191 (v8 : BitVec 32) : Nat :=
  let c0_i32_6565 : BitVec 32 := 0#32
  let c1_i32_6564 : BitVec 32 := 1#32
  let v4648 : BitVec 32 := Scalar.muli v8 c1_i32_6564
  let v4649 : BitVec 32 := Scalar.addi c0_i32_6565 v4648
  v4649.toNat
def k0_dev192 (v5 : BitVec 32) : Nat :=
  let c0_i32_6575 : BitVec 32 := 0#32
  let c1_i32_6574 : BitVec 32 := 1#32
  let v4650 : BitVec 32 := Scalar.muli v5 c1_i32_6574
  let v4651 : BitVec 32 := Scalar.addi c0_i32_6575 v4650
  v4651.toNat
def k0_off64 (v4660 : BitVec 32) : Fin 2 → Nat :=
  let c128_i32_6580 : BitVec 32 := 128#32
  let v4661 : BitVec 32 := Scalar.muli v4660 c128_i32_6580
  let v4662 : Index := Scalar.indexCast v4661
  let c0_6581 : Index := 0#32
  ![v4662.toNat, 0]

def k0_chk70 (v4660 : BitVec 32) : Prop :=
  (∀ a, (k0_off64 v4660) a + S128x128.size a ≤ S4096x128.size a)
theorem k0_off64_inb : ∀ (v4660 : BitVec 32) (k0_hw70 : k0_chk70 v4660), ∀ a, (k0_off64 v4660) a + S128x128.size a ≤ S4096x128.size a := fun v4660 k0_hw70 => k0_hw70

def k0_off65 (v4668 : BitVec 32) : Fin 2 → Nat :=
  let c128_i32_6586 : BitVec 32 := 128#32
  let v4669 : BitVec 32 := Scalar.muli v4668 c128_i32_6586
  let v4670 : Index := Scalar.indexCast v4669
  let c0_6587 : Index := 0#32
  ![v4670.toNat, 0]

def k0_chk71 (v4668 : BitVec 32) : Prop :=
  (∀ a, (k0_off65 v4668) a + S128x128.size a ≤ S4096x128.size a)
theorem k0_off65_inb : ∀ (v4668 : BitVec 32) (k0_hw71 : k0_chk71 v4668), ∀ a, (k0_off65 v4668) a + S128x128.size a ≤ S4096x128.size a := fun v4668 k0_hw71 => k0_hw71

def k0_off66 (v4676 : BitVec 32) : Fin 2 → Nat :=
  let c128_i32_6592 : BitVec 32 := 128#32
  let v4677 : BitVec 32 := Scalar.muli v4676 c128_i32_6592
  let v4678 : Index := Scalar.indexCast v4677
  let c0_6593 : Index := 0#32
  ![v4678.toNat, 0]

def k0_chk72 (v4676 : BitVec 32) : Prop :=
  (∀ a, (k0_off66 v4676) a + S128x128.size a ≤ S4096x128.size a)
theorem k0_off66_inb : ∀ (v4676 : BitVec 32) (k0_hw72 : k0_chk72 v4676), ∀ a, (k0_off66 v4676) a + S128x128.size a ≤ S4096x128.size a := fun v4676 k0_hw72 => k0_hw72

def k0_dev193 (v3 : BitVec 32) : Nat :=
  let c0_i32_6643 : BitVec 32 := 0#32
  let c1_i32_6642 : BitVec 32 := 1#32
  let v4707 : BitVec 32 := Scalar.muli v3 c1_i32_6642
  let v4708 : BitVec 32 := Scalar.addi c0_i32_6643 v4707
  v4708.toNat
def k0_dev194 (v4 : BitVec 32) : Nat :=
  let c0_i32_6694 : BitVec 32 := 0#32
  let c1_i32_6693 : BitVec 32 := 1#32
  let v4740 : BitVec 32 := Scalar.muli v4 c1_i32_6693
  let v4741 : BitVec 32 := Scalar.addi c0_i32_6694 v4740
  v4741.toNat
def k0_dev195 (v5 : BitVec 32) : Nat :=
  let c0_i32_6745 : BitVec 32 := 0#32
  let c1_i32_6744 : BitVec 32 := 1#32
  let v4773 : BitVec 32 := Scalar.muli v5 c1_i32_6744
  let v4774 : BitVec 32 := Scalar.addi c0_i32_6745 v4773
  v4774.toNat
def k0_dev196 (v6 : BitVec 32) : Nat :=
  let c0_i32_6787 : BitVec 32 := 0#32
  let c1_i32_6786 : BitVec 32 := 1#32
  let v4806 : BitVec 32 := Scalar.muli v6 c1_i32_6786
  let v4807 : BitVec 32 := Scalar.addi c0_i32_6787 v4806
  v4807.toNat
def k0_dev197 (v3 : BitVec 32) : Nat :=
  let c0_i32_6797 : BitVec 32 := 0#32
  let c1_i32_6796 : BitVec 32 := 1#32
  let v4808 : BitVec 32 := Scalar.muli v3 c1_i32_6796
  let v4809 : BitVec 32 := Scalar.addi c0_i32_6797 v4808
  v4809.toNat
def k0_dev198 (v7 : BitVec 32) : Nat :=
  let c0_i32_6839 : BitVec 32 := 0#32
  let c1_i32_6838 : BitVec 32 := 1#32
  let v4841 : BitVec 32 := Scalar.muli v7 c1_i32_6838
  let v4842 : BitVec 32 := Scalar.addi c0_i32_6839 v4841
  v4842.toNat
def k0_dev199 (v4 : BitVec 32) : Nat :=
  let c0_i32_6849 : BitVec 32 := 0#32
  let c1_i32_6848 : BitVec 32 := 1#32
  let v4843 : BitVec 32 := Scalar.muli v4 c1_i32_6848
  let v4844 : BitVec 32 := Scalar.addi c0_i32_6849 v4843
  v4844.toNat
def k0_dev200 (v8 : BitVec 32) : Nat :=
  let c0_i32_6891 : BitVec 32 := 0#32
  let c1_i32_6890 : BitVec 32 := 1#32
  let v4876 : BitVec 32 := Scalar.muli v8 c1_i32_6890
  let v4877 : BitVec 32 := Scalar.addi c0_i32_6891 v4876
  v4877.toNat
def k0_dev201 (v5 : BitVec 32) : Nat :=
  let c0_i32_6901 : BitVec 32 := 0#32
  let c1_i32_6900 : BitVec 32 := 1#32
  let v4878 : BitVec 32 := Scalar.muli v5 c1_i32_6900
  let v4879 : BitVec 32 := Scalar.addi c0_i32_6901 v4878
  v4879.toNat
def k0_off67 (v4888 : BitVec 32) : Fin 2 → Nat :=
  let c128_i32_6906 : BitVec 32 := 128#32
  let v4889 : BitVec 32 := Scalar.muli v4888 c128_i32_6906
  let v4890 : Index := Scalar.indexCast v4889
  let c0_6907 : Index := 0#32
  ![v4890.toNat, 0]

def k0_chk73 (v4888 : BitVec 32) : Prop :=
  (∀ a, (k0_off67 v4888) a + S128x128.size a ≤ S4096x128.size a)
theorem k0_off67_inb : ∀ (v4888 : BitVec 32) (k0_hw73 : k0_chk73 v4888), ∀ a, (k0_off67 v4888) a + S128x128.size a ≤ S4096x128.size a := fun v4888 k0_hw73 => k0_hw73

def k0_off68 (v4896 : BitVec 32) : Fin 2 → Nat :=
  let c128_i32_6912 : BitVec 32 := 128#32
  let v4897 : BitVec 32 := Scalar.muli v4896 c128_i32_6912
  let v4898 : Index := Scalar.indexCast v4897
  let c0_6913 : Index := 0#32
  ![v4898.toNat, 0]

def k0_chk74 (v4896 : BitVec 32) : Prop :=
  (∀ a, (k0_off68 v4896) a + S128x128.size a ≤ S4096x128.size a)
theorem k0_off68_inb : ∀ (v4896 : BitVec 32) (k0_hw74 : k0_chk74 v4896), ∀ a, (k0_off68 v4896) a + S128x128.size a ≤ S4096x128.size a := fun v4896 k0_hw74 => k0_hw74

def k0_off69 (v4904 : BitVec 32) : Fin 2 → Nat :=
  let c128_i32_6918 : BitVec 32 := 128#32
  let v4905 : BitVec 32 := Scalar.muli v4904 c128_i32_6918
  let v4906 : Index := Scalar.indexCast v4905
  let c0_6919 : Index := 0#32
  ![v4906.toNat, 0]

def k0_chk75 (v4904 : BitVec 32) : Prop :=
  (∀ a, (k0_off69 v4904) a + S128x128.size a ≤ S4096x128.size a)
theorem k0_off69_inb : ∀ (v4904 : BitVec 32) (k0_hw75 : k0_chk75 v4904), ∀ a, (k0_off69 v4904) a + S128x128.size a ≤ S4096x128.size a := fun v4904 k0_hw75 => k0_hw75

def k0_dev202 (v3 : BitVec 32) : Nat :=
  let c0_i32_6969 : BitVec 32 := 0#32
  let c1_i32_6968 : BitVec 32 := 1#32
  let v4935 : BitVec 32 := Scalar.muli v3 c1_i32_6968
  let v4936 : BitVec 32 := Scalar.addi c0_i32_6969 v4935
  v4936.toNat
def k0_dev203 (v4 : BitVec 32) : Nat :=
  let c0_i32_7020 : BitVec 32 := 0#32
  let c1_i32_7019 : BitVec 32 := 1#32
  let v4968 : BitVec 32 := Scalar.muli v4 c1_i32_7019
  let v4969 : BitVec 32 := Scalar.addi c0_i32_7020 v4968
  v4969.toNat
def k0_dev204 (v5 : BitVec 32) : Nat :=
  let c0_i32_7071 : BitVec 32 := 0#32
  let c1_i32_7070 : BitVec 32 := 1#32
  let v5001 : BitVec 32 := Scalar.muli v5 c1_i32_7070
  let v5002 : BitVec 32 := Scalar.addi c0_i32_7071 v5001
  v5002.toNat
def k0_dev205 (v6 : BitVec 32) : Nat :=
  let c0_i32_7113 : BitVec 32 := 0#32
  let c1_i32_7112 : BitVec 32 := 1#32
  let v5034 : BitVec 32 := Scalar.muli v6 c1_i32_7112
  let v5035 : BitVec 32 := Scalar.addi c0_i32_7113 v5034
  v5035.toNat
def k0_dev206 (v3 : BitVec 32) : Nat :=
  let c0_i32_7123 : BitVec 32 := 0#32
  let c1_i32_7122 : BitVec 32 := 1#32
  let v5036 : BitVec 32 := Scalar.muli v3 c1_i32_7122
  let v5037 : BitVec 32 := Scalar.addi c0_i32_7123 v5036
  v5037.toNat
def k0_dev207 (v7 : BitVec 32) : Nat :=
  let c0_i32_7165 : BitVec 32 := 0#32
  let c1_i32_7164 : BitVec 32 := 1#32
  let v5069 : BitVec 32 := Scalar.muli v7 c1_i32_7164
  let v5070 : BitVec 32 := Scalar.addi c0_i32_7165 v5069
  v5070.toNat
def k0_dev208 (v4 : BitVec 32) : Nat :=
  let c0_i32_7175 : BitVec 32 := 0#32
  let c1_i32_7174 : BitVec 32 := 1#32
  let v5071 : BitVec 32 := Scalar.muli v4 c1_i32_7174
  let v5072 : BitVec 32 := Scalar.addi c0_i32_7175 v5071
  v5072.toNat
def k0_dev209 (v8 : BitVec 32) : Nat :=
  let c0_i32_7217 : BitVec 32 := 0#32
  let c1_i32_7216 : BitVec 32 := 1#32
  let v5104 : BitVec 32 := Scalar.muli v8 c1_i32_7216
  let v5105 : BitVec 32 := Scalar.addi c0_i32_7217 v5104
  v5105.toNat
def k0_dev210 (v5 : BitVec 32) : Nat :=
  let c0_i32_7227 : BitVec 32 := 0#32
  let c1_i32_7226 : BitVec 32 := 1#32
  let v5106 : BitVec 32 := Scalar.muli v5 c1_i32_7226
  let v5107 : BitVec 32 := Scalar.addi c0_i32_7227 v5106
  v5107.toNat
def k0_off70 (v5116 : BitVec 32) : Fin 2 → Nat :=
  let c128_i32_7232 : BitVec 32 := 128#32
  let v5117 : BitVec 32 := Scalar.muli v5116 c128_i32_7232
  let v5118 : Index := Scalar.indexCast v5117
  let c0_7233 : Index := 0#32
  ![v5118.toNat, 0]

def k0_chk76 (v5116 : BitVec 32) : Prop :=
  (∀ a, (k0_off70 v5116) a + S128x128.size a ≤ S4096x128.size a)
theorem k0_off70_inb : ∀ (v5116 : BitVec 32) (k0_hw76 : k0_chk76 v5116), ∀ a, (k0_off70 v5116) a + S128x128.size a ≤ S4096x128.size a := fun v5116 k0_hw76 => k0_hw76

def k0_off71 (v5124 : BitVec 32) : Fin 2 → Nat :=
  let c128_i32_7238 : BitVec 32 := 128#32
  let v5125 : BitVec 32 := Scalar.muli v5124 c128_i32_7238
  let v5126 : Index := Scalar.indexCast v5125
  let c0_7239 : Index := 0#32
  ![v5126.toNat, 0]

def k0_chk77 (v5124 : BitVec 32) : Prop :=
  (∀ a, (k0_off71 v5124) a + S128x128.size a ≤ S4096x128.size a)
theorem k0_off71_inb : ∀ (v5124 : BitVec 32) (k0_hw77 : k0_chk77 v5124), ∀ a, (k0_off71 v5124) a + S128x128.size a ≤ S4096x128.size a := fun v5124 k0_hw77 => k0_hw77

def k0_off72 (v5132 : BitVec 32) : Fin 2 → Nat :=
  let c128_i32_7244 : BitVec 32 := 128#32
  let v5133 : BitVec 32 := Scalar.muli v5132 c128_i32_7244
  let v5134 : Index := Scalar.indexCast v5133
  let c0_7245 : Index := 0#32
  ![v5134.toNat, 0]

def k0_chk78 (v5132 : BitVec 32) : Prop :=
  (∀ a, (k0_off72 v5132) a + S128x128.size a ≤ S4096x128.size a)
theorem k0_off72_inb : ∀ (v5132 : BitVec 32) (k0_hw78 : k0_chk78 v5132), ∀ a, (k0_off72 v5132) a + S128x128.size a ≤ S4096x128.size a := fun v5132 k0_hw78 => k0_hw78

def k0_dev211 (v3 : BitVec 32) : Nat :=
  let c0_i32_7295 : BitVec 32 := 0#32
  let c1_i32_7294 : BitVec 32 := 1#32
  let v5163 : BitVec 32 := Scalar.muli v3 c1_i32_7294
  let v5164 : BitVec 32 := Scalar.addi c0_i32_7295 v5163
  v5164.toNat
def k0_dev212 (v4 : BitVec 32) : Nat :=
  let c0_i32_7346 : BitVec 32 := 0#32
  let c1_i32_7345 : BitVec 32 := 1#32
  let v5196 : BitVec 32 := Scalar.muli v4 c1_i32_7345
  let v5197 : BitVec 32 := Scalar.addi c0_i32_7346 v5196
  v5197.toNat
def k0_dev213 (v5 : BitVec 32) : Nat :=
  let c0_i32_7397 : BitVec 32 := 0#32
  let c1_i32_7396 : BitVec 32 := 1#32
  let v5229 : BitVec 32 := Scalar.muli v5 c1_i32_7396
  let v5230 : BitVec 32 := Scalar.addi c0_i32_7397 v5229
  v5230.toNat
def k0_dev214 (v6 : BitVec 32) : Nat :=
  let c0_i32_7439 : BitVec 32 := 0#32
  let c1_i32_7438 : BitVec 32 := 1#32
  let v5262 : BitVec 32 := Scalar.muli v6 c1_i32_7438
  let v5263 : BitVec 32 := Scalar.addi c0_i32_7439 v5262
  v5263.toNat
def k0_dev215 (v3 : BitVec 32) : Nat :=
  let c0_i32_7449 : BitVec 32 := 0#32
  let c1_i32_7448 : BitVec 32 := 1#32
  let v5264 : BitVec 32 := Scalar.muli v3 c1_i32_7448
  let v5265 : BitVec 32 := Scalar.addi c0_i32_7449 v5264
  v5265.toNat
def k0_dev216 (v7 : BitVec 32) : Nat :=
  let c0_i32_7491 : BitVec 32 := 0#32
  let c1_i32_7490 : BitVec 32 := 1#32
  let v5297 : BitVec 32 := Scalar.muli v7 c1_i32_7490
  let v5298 : BitVec 32 := Scalar.addi c0_i32_7491 v5297
  v5298.toNat
def k0_dev217 (v4 : BitVec 32) : Nat :=
  let c0_i32_7501 : BitVec 32 := 0#32
  let c1_i32_7500 : BitVec 32 := 1#32
  let v5299 : BitVec 32 := Scalar.muli v4 c1_i32_7500
  let v5300 : BitVec 32 := Scalar.addi c0_i32_7501 v5299
  v5300.toNat
def k0_dev218 (v8 : BitVec 32) : Nat :=
  let c0_i32_7543 : BitVec 32 := 0#32
  let c1_i32_7542 : BitVec 32 := 1#32
  let v5332 : BitVec 32 := Scalar.muli v8 c1_i32_7542
  let v5333 : BitVec 32 := Scalar.addi c0_i32_7543 v5332
  v5333.toNat
def k0_dev219 (v5 : BitVec 32) : Nat :=
  let c0_i32_7553 : BitVec 32 := 0#32
  let c1_i32_7552 : BitVec 32 := 1#32
  let v5334 : BitVec 32 := Scalar.muli v5 c1_i32_7552
  let v5335 : BitVec 32 := Scalar.addi c0_i32_7553 v5334
  v5335.toNat
def k0_off73 (v5344 : BitVec 32) : Fin 2 → Nat :=
  let c128_i32_7558 : BitVec 32 := 128#32
  let v5345 : BitVec 32 := Scalar.muli v5344 c128_i32_7558
  let v5346 : Index := Scalar.indexCast v5345
  let c0_7559 : Index := 0#32
  ![v5346.toNat, 0]

def k0_chk79 (v5344 : BitVec 32) : Prop :=
  (∀ a, (k0_off73 v5344) a + S128x128.size a ≤ S4096x128.size a)
theorem k0_off73_inb : ∀ (v5344 : BitVec 32) (k0_hw79 : k0_chk79 v5344), ∀ a, (k0_off73 v5344) a + S128x128.size a ≤ S4096x128.size a := fun v5344 k0_hw79 => k0_hw79

def k0_off74 (v5352 : BitVec 32) : Fin 2 → Nat :=
  let c128_i32_7564 : BitVec 32 := 128#32
  let v5353 : BitVec 32 := Scalar.muli v5352 c128_i32_7564
  let v5354 : Index := Scalar.indexCast v5353
  let c0_7565 : Index := 0#32
  ![v5354.toNat, 0]

def k0_chk80 (v5352 : BitVec 32) : Prop :=
  (∀ a, (k0_off74 v5352) a + S128x128.size a ≤ S4096x128.size a)
theorem k0_off74_inb : ∀ (v5352 : BitVec 32) (k0_hw80 : k0_chk80 v5352), ∀ a, (k0_off74 v5352) a + S128x128.size a ≤ S4096x128.size a := fun v5352 k0_hw80 => k0_hw80

def k0_off75 (v5360 : BitVec 32) : Fin 2 → Nat :=
  let c128_i32_7570 : BitVec 32 := 128#32
  let v5361 : BitVec 32 := Scalar.muli v5360 c128_i32_7570
  let v5362 : Index := Scalar.indexCast v5361
  let c0_7571 : Index := 0#32
  ![v5362.toNat, 0]

def k0_chk81 (v5360 : BitVec 32) : Prop :=
  (∀ a, (k0_off75 v5360) a + S128x128.size a ≤ S4096x128.size a)
theorem k0_off75_inb : ∀ (v5360 : BitVec 32) (k0_hw81 : k0_chk81 v5360), ∀ a, (k0_off75 v5360) a + S128x128.size a ≤ S4096x128.size a := fun v5360 k0_hw81 => k0_hw81

def k0_dev220 (v3 : BitVec 32) : Nat :=
  let c0_i32_7621 : BitVec 32 := 0#32
  let c1_i32_7620 : BitVec 32 := 1#32
  let v5391 : BitVec 32 := Scalar.muli v3 c1_i32_7620
  let v5392 : BitVec 32 := Scalar.addi c0_i32_7621 v5391
  v5392.toNat
def k0_dev221 (v4 : BitVec 32) : Nat :=
  let c0_i32_7672 : BitVec 32 := 0#32
  let c1_i32_7671 : BitVec 32 := 1#32
  let v5424 : BitVec 32 := Scalar.muli v4 c1_i32_7671
  let v5425 : BitVec 32 := Scalar.addi c0_i32_7672 v5424
  v5425.toNat
def k0_dev222 (v5 : BitVec 32) : Nat :=
  let c0_i32_7723 : BitVec 32 := 0#32
  let c1_i32_7722 : BitVec 32 := 1#32
  let v5457 : BitVec 32 := Scalar.muli v5 c1_i32_7722
  let v5458 : BitVec 32 := Scalar.addi c0_i32_7723 v5457
  v5458.toNat
def k0_dev223 (v6 : BitVec 32) : Nat :=
  let c0_i32_7765 : BitVec 32 := 0#32
  let c1_i32_7764 : BitVec 32 := 1#32
  let v5490 : BitVec 32 := Scalar.muli v6 c1_i32_7764
  let v5491 : BitVec 32 := Scalar.addi c0_i32_7765 v5490
  v5491.toNat
def k0_dev224 (v3 : BitVec 32) : Nat :=
  let c0_i32_7775 : BitVec 32 := 0#32
  let c1_i32_7774 : BitVec 32 := 1#32
  let v5492 : BitVec 32 := Scalar.muli v3 c1_i32_7774
  let v5493 : BitVec 32 := Scalar.addi c0_i32_7775 v5492
  v5493.toNat
def k0_dev225 (v7 : BitVec 32) : Nat :=
  let c0_i32_7817 : BitVec 32 := 0#32
  let c1_i32_7816 : BitVec 32 := 1#32
  let v5525 : BitVec 32 := Scalar.muli v7 c1_i32_7816
  let v5526 : BitVec 32 := Scalar.addi c0_i32_7817 v5525
  v5526.toNat
def k0_dev226 (v4 : BitVec 32) : Nat :=
  let c0_i32_7827 : BitVec 32 := 0#32
  let c1_i32_7826 : BitVec 32 := 1#32
  let v5527 : BitVec 32 := Scalar.muli v4 c1_i32_7826
  let v5528 : BitVec 32 := Scalar.addi c0_i32_7827 v5527
  v5528.toNat
def k0_dev227 (v8 : BitVec 32) : Nat :=
  let c0_i32_7869 : BitVec 32 := 0#32
  let c1_i32_7868 : BitVec 32 := 1#32
  let v5560 : BitVec 32 := Scalar.muli v8 c1_i32_7868
  let v5561 : BitVec 32 := Scalar.addi c0_i32_7869 v5560
  v5561.toNat
def k0_dev228 (v5 : BitVec 32) : Nat :=
  let c0_i32_7879 : BitVec 32 := 0#32
  let c1_i32_7878 : BitVec 32 := 1#32
  let v5562 : BitVec 32 := Scalar.muli v5 c1_i32_7878
  let v5563 : BitVec 32 := Scalar.addi c0_i32_7879 v5562
  v5563.toNat
def k0_off76 (v5572 : BitVec 32) : Fin 2 → Nat :=
  let c128_i32_7884 : BitVec 32 := 128#32
  let v5573 : BitVec 32 := Scalar.muli v5572 c128_i32_7884
  let v5574 : Index := Scalar.indexCast v5573
  let c0_7885 : Index := 0#32
  ![v5574.toNat, 0]

def k0_chk82 (v5572 : BitVec 32) : Prop :=
  (∀ a, (k0_off76 v5572) a + S128x128.size a ≤ S4096x128.size a)
theorem k0_off76_inb : ∀ (v5572 : BitVec 32) (k0_hw82 : k0_chk82 v5572), ∀ a, (k0_off76 v5572) a + S128x128.size a ≤ S4096x128.size a := fun v5572 k0_hw82 => k0_hw82

def k0_off77 (v5580 : BitVec 32) : Fin 2 → Nat :=
  let c128_i32_7890 : BitVec 32 := 128#32
  let v5581 : BitVec 32 := Scalar.muli v5580 c128_i32_7890
  let v5582 : Index := Scalar.indexCast v5581
  let c0_7891 : Index := 0#32
  ![v5582.toNat, 0]

def k0_chk83 (v5580 : BitVec 32) : Prop :=
  (∀ a, (k0_off77 v5580) a + S128x128.size a ≤ S4096x128.size a)
theorem k0_off77_inb : ∀ (v5580 : BitVec 32) (k0_hw83 : k0_chk83 v5580), ∀ a, (k0_off77 v5580) a + S128x128.size a ≤ S4096x128.size a := fun v5580 k0_hw83 => k0_hw83

def k0_off78 (v5588 : BitVec 32) : Fin 2 → Nat :=
  let c128_i32_7896 : BitVec 32 := 128#32
  let v5589 : BitVec 32 := Scalar.muli v5588 c128_i32_7896
  let v5590 : Index := Scalar.indexCast v5589
  let c0_7897 : Index := 0#32
  ![v5590.toNat, 0]

def k0_chk84 (v5588 : BitVec 32) : Prop :=
  (∀ a, (k0_off78 v5588) a + S128x128.size a ≤ S4096x128.size a)
theorem k0_off78_inb : ∀ (v5588 : BitVec 32) (k0_hw84 : k0_chk84 v5588), ∀ a, (k0_off78 v5588) a + S128x128.size a ≤ S4096x128.size a := fun v5588 k0_hw84 => k0_hw84

def k0_dev229 (v3 : BitVec 32) : Nat :=
  let c0_i32_7947 : BitVec 32 := 0#32
  let c1_i32_7946 : BitVec 32 := 1#32
  let v5619 : BitVec 32 := Scalar.muli v3 c1_i32_7946
  let v5620 : BitVec 32 := Scalar.addi c0_i32_7947 v5619
  v5620.toNat
def k0_dev230 (v4 : BitVec 32) : Nat :=
  let c0_i32_7998 : BitVec 32 := 0#32
  let c1_i32_7997 : BitVec 32 := 1#32
  let v5652 : BitVec 32 := Scalar.muli v4 c1_i32_7997
  let v5653 : BitVec 32 := Scalar.addi c0_i32_7998 v5652
  v5653.toNat
def k0_dev231 (v5 : BitVec 32) : Nat :=
  let c0_i32_8049 : BitVec 32 := 0#32
  let c1_i32_8048 : BitVec 32 := 1#32
  let v5685 : BitVec 32 := Scalar.muli v5 c1_i32_8048
  let v5686 : BitVec 32 := Scalar.addi c0_i32_8049 v5685
  v5686.toNat
def k0_dev232 (v6 : BitVec 32) : Nat :=
  let c0_i32_8091 : BitVec 32 := 0#32
  let c1_i32_8090 : BitVec 32 := 1#32
  let v5718 : BitVec 32 := Scalar.muli v6 c1_i32_8090
  let v5719 : BitVec 32 := Scalar.addi c0_i32_8091 v5718
  v5719.toNat
def k0_dev233 (v3 : BitVec 32) : Nat :=
  let c0_i32_8101 : BitVec 32 := 0#32
  let c1_i32_8100 : BitVec 32 := 1#32
  let v5720 : BitVec 32 := Scalar.muli v3 c1_i32_8100
  let v5721 : BitVec 32 := Scalar.addi c0_i32_8101 v5720
  v5721.toNat
def k0_dev234 (v7 : BitVec 32) : Nat :=
  let c0_i32_8143 : BitVec 32 := 0#32
  let c1_i32_8142 : BitVec 32 := 1#32
  let v5753 : BitVec 32 := Scalar.muli v7 c1_i32_8142
  let v5754 : BitVec 32 := Scalar.addi c0_i32_8143 v5753
  v5754.toNat
def k0_dev235 (v4 : BitVec 32) : Nat :=
  let c0_i32_8153 : BitVec 32 := 0#32
  let c1_i32_8152 : BitVec 32 := 1#32
  let v5755 : BitVec 32 := Scalar.muli v4 c1_i32_8152
  let v5756 : BitVec 32 := Scalar.addi c0_i32_8153 v5755
  v5756.toNat
def k0_dev236 (v8 : BitVec 32) : Nat :=
  let c0_i32_8195 : BitVec 32 := 0#32
  let c1_i32_8194 : BitVec 32 := 1#32
  let v5788 : BitVec 32 := Scalar.muli v8 c1_i32_8194
  let v5789 : BitVec 32 := Scalar.addi c0_i32_8195 v5788
  v5789.toNat
def k0_dev237 (v5 : BitVec 32) : Nat :=
  let c0_i32_8205 : BitVec 32 := 0#32
  let c1_i32_8204 : BitVec 32 := 1#32
  let v5790 : BitVec 32 := Scalar.muli v5 c1_i32_8204
  let v5791 : BitVec 32 := Scalar.addi c0_i32_8205 v5790
  v5791.toNat
def k0_off79 (v5800 : BitVec 32) : Fin 2 → Nat :=
  let c128_i32_8210 : BitVec 32 := 128#32
  let v5801 : BitVec 32 := Scalar.muli v5800 c128_i32_8210
  let v5802 : Index := Scalar.indexCast v5801
  let c0_8211 : Index := 0#32
  ![v5802.toNat, 0]

def k0_chk85 (v5800 : BitVec 32) : Prop :=
  (∀ a, (k0_off79 v5800) a + S128x128.size a ≤ S4096x128.size a)
theorem k0_off79_inb : ∀ (v5800 : BitVec 32) (k0_hw85 : k0_chk85 v5800), ∀ a, (k0_off79 v5800) a + S128x128.size a ≤ S4096x128.size a := fun v5800 k0_hw85 => k0_hw85

def k0_off80 (v5808 : BitVec 32) : Fin 2 → Nat :=
  let c128_i32_8216 : BitVec 32 := 128#32
  let v5809 : BitVec 32 := Scalar.muli v5808 c128_i32_8216
  let v5810 : Index := Scalar.indexCast v5809
  let c0_8217 : Index := 0#32
  ![v5810.toNat, 0]

def k0_chk86 (v5808 : BitVec 32) : Prop :=
  (∀ a, (k0_off80 v5808) a + S128x128.size a ≤ S4096x128.size a)
theorem k0_off80_inb : ∀ (v5808 : BitVec 32) (k0_hw86 : k0_chk86 v5808), ∀ a, (k0_off80 v5808) a + S128x128.size a ≤ S4096x128.size a := fun v5808 k0_hw86 => k0_hw86

def k0_off81 (v5816 : BitVec 32) : Fin 2 → Nat :=
  let c128_i32_8222 : BitVec 32 := 128#32
  let v5817 : BitVec 32 := Scalar.muli v5816 c128_i32_8222
  let v5818 : Index := Scalar.indexCast v5817
  let c0_8223 : Index := 0#32
  ![v5818.toNat, 0]

def k0_chk87 (v5816 : BitVec 32) : Prop :=
  (∀ a, (k0_off81 v5816) a + S128x128.size a ≤ S4096x128.size a)
theorem k0_off81_inb : ∀ (v5816 : BitVec 32) (k0_hw87 : k0_chk87 v5816), ∀ a, (k0_off81 v5816) a + S128x128.size a ≤ S4096x128.size a := fun v5816 k0_hw87 => k0_hw87

def k0_dev238 (v3 : BitVec 32) : Nat :=
  let c0_i32_8273 : BitVec 32 := 0#32
  let c1_i32_8272 : BitVec 32 := 1#32
  let v5847 : BitVec 32 := Scalar.muli v3 c1_i32_8272
  let v5848 : BitVec 32 := Scalar.addi c0_i32_8273 v5847
  v5848.toNat
def k0_dev239 (v4 : BitVec 32) : Nat :=
  let c0_i32_8324 : BitVec 32 := 0#32
  let c1_i32_8323 : BitVec 32 := 1#32
  let v5880 : BitVec 32 := Scalar.muli v4 c1_i32_8323
  let v5881 : BitVec 32 := Scalar.addi c0_i32_8324 v5880
  v5881.toNat
def k0_dev240 (v5 : BitVec 32) : Nat :=
  let c0_i32_8375 : BitVec 32 := 0#32
  let c1_i32_8374 : BitVec 32 := 1#32
  let v5913 : BitVec 32 := Scalar.muli v5 c1_i32_8374
  let v5914 : BitVec 32 := Scalar.addi c0_i32_8375 v5913
  v5914.toNat
def k0_dev241 (v6 : BitVec 32) : Nat :=
  let c0_i32_8417 : BitVec 32 := 0#32
  let c1_i32_8416 : BitVec 32 := 1#32
  let v5946 : BitVec 32 := Scalar.muli v6 c1_i32_8416
  let v5947 : BitVec 32 := Scalar.addi c0_i32_8417 v5946
  v5947.toNat
def k0_dev242 (v3 : BitVec 32) : Nat :=
  let c0_i32_8427 : BitVec 32 := 0#32
  let c1_i32_8426 : BitVec 32 := 1#32
  let v5948 : BitVec 32 := Scalar.muli v3 c1_i32_8426
  let v5949 : BitVec 32 := Scalar.addi c0_i32_8427 v5948
  v5949.toNat
def k0_dev243 (v7 : BitVec 32) : Nat :=
  let c0_i32_8469 : BitVec 32 := 0#32
  let c1_i32_8468 : BitVec 32 := 1#32
  let v5981 : BitVec 32 := Scalar.muli v7 c1_i32_8468
  let v5982 : BitVec 32 := Scalar.addi c0_i32_8469 v5981
  v5982.toNat
def k0_dev244 (v4 : BitVec 32) : Nat :=
  let c0_i32_8479 : BitVec 32 := 0#32
  let c1_i32_8478 : BitVec 32 := 1#32
  let v5983 : BitVec 32 := Scalar.muli v4 c1_i32_8478
  let v5984 : BitVec 32 := Scalar.addi c0_i32_8479 v5983
  v5984.toNat
def k0_dev245 (v8 : BitVec 32) : Nat :=
  let c0_i32_8521 : BitVec 32 := 0#32
  let c1_i32_8520 : BitVec 32 := 1#32
  let v6016 : BitVec 32 := Scalar.muli v8 c1_i32_8520
  let v6017 : BitVec 32 := Scalar.addi c0_i32_8521 v6016
  v6017.toNat
def k0_dev246 (v5 : BitVec 32) : Nat :=
  let c0_i32_8531 : BitVec 32 := 0#32
  let c1_i32_8530 : BitVec 32 := 1#32
  let v6018 : BitVec 32 := Scalar.muli v5 c1_i32_8530
  let v6019 : BitVec 32 := Scalar.addi c0_i32_8531 v6018
  v6019.toNat
def k0_off82 (v6028 : BitVec 32) : Fin 2 → Nat :=
  let c128_i32_8536 : BitVec 32 := 128#32
  let v6029 : BitVec 32 := Scalar.muli v6028 c128_i32_8536
  let v6030 : Index := Scalar.indexCast v6029
  let c0_8537 : Index := 0#32
  ![v6030.toNat, 0]

def k0_chk88 (v6028 : BitVec 32) : Prop :=
  (∀ a, (k0_off82 v6028) a + S128x128.size a ≤ S4096x128.size a)
theorem k0_off82_inb : ∀ (v6028 : BitVec 32) (k0_hw88 : k0_chk88 v6028), ∀ a, (k0_off82 v6028) a + S128x128.size a ≤ S4096x128.size a := fun v6028 k0_hw88 => k0_hw88

def k0_off83 (v6036 : BitVec 32) : Fin 2 → Nat :=
  let c128_i32_8542 : BitVec 32 := 128#32
  let v6037 : BitVec 32 := Scalar.muli v6036 c128_i32_8542
  let v6038 : Index := Scalar.indexCast v6037
  let c0_8543 : Index := 0#32
  ![v6038.toNat, 0]

def k0_chk89 (v6036 : BitVec 32) : Prop :=
  (∀ a, (k0_off83 v6036) a + S128x128.size a ≤ S4096x128.size a)
theorem k0_off83_inb : ∀ (v6036 : BitVec 32) (k0_hw89 : k0_chk89 v6036), ∀ a, (k0_off83 v6036) a + S128x128.size a ≤ S4096x128.size a := fun v6036 k0_hw89 => k0_hw89

def k0_off84 (v6044 : BitVec 32) : Fin 2 → Nat :=
  let c128_i32_8548 : BitVec 32 := 128#32
  let v6045 : BitVec 32 := Scalar.muli v6044 c128_i32_8548
  let v6046 : Index := Scalar.indexCast v6045
  let c0_8549 : Index := 0#32
  ![v6046.toNat, 0]

def k0_chk90 (v6044 : BitVec 32) : Prop :=
  (∀ a, (k0_off84 v6044) a + S128x128.size a ≤ S4096x128.size a)
theorem k0_off84_inb : ∀ (v6044 : BitVec 32) (k0_hw90 : k0_chk90 v6044), ∀ a, (k0_off84 v6044) a + S128x128.size a ≤ S4096x128.size a := fun v6044 k0_hw90 => k0_hw90

def k0_dev247 (v3 : BitVec 32) : Nat :=
  let c0_i32_8599 : BitVec 32 := 0#32
  let c1_i32_8598 : BitVec 32 := 1#32
  let v6075 : BitVec 32 := Scalar.muli v3 c1_i32_8598
  let v6076 : BitVec 32 := Scalar.addi c0_i32_8599 v6075
  v6076.toNat
def k0_dev248 (v4 : BitVec 32) : Nat :=
  let c0_i32_8650 : BitVec 32 := 0#32
  let c1_i32_8649 : BitVec 32 := 1#32
  let v6108 : BitVec 32 := Scalar.muli v4 c1_i32_8649
  let v6109 : BitVec 32 := Scalar.addi c0_i32_8650 v6108
  v6109.toNat
def k0_dev249 (v5 : BitVec 32) : Nat :=
  let c0_i32_8701 : BitVec 32 := 0#32
  let c1_i32_8700 : BitVec 32 := 1#32
  let v6141 : BitVec 32 := Scalar.muli v5 c1_i32_8700
  let v6142 : BitVec 32 := Scalar.addi c0_i32_8701 v6141
  v6142.toNat
def k0_dev250 (v6 : BitVec 32) : Nat :=
  let c0_i32_8743 : BitVec 32 := 0#32
  let c1_i32_8742 : BitVec 32 := 1#32
  let v6174 : BitVec 32 := Scalar.muli v6 c1_i32_8742
  let v6175 : BitVec 32 := Scalar.addi c0_i32_8743 v6174
  v6175.toNat
def k0_dev251 (v3 : BitVec 32) : Nat :=
  let c0_i32_8753 : BitVec 32 := 0#32
  let c1_i32_8752 : BitVec 32 := 1#32
  let v6176 : BitVec 32 := Scalar.muli v3 c1_i32_8752
  let v6177 : BitVec 32 := Scalar.addi c0_i32_8753 v6176
  v6177.toNat
def k0_dev252 (v7 : BitVec 32) : Nat :=
  let c0_i32_8795 : BitVec 32 := 0#32
  let c1_i32_8794 : BitVec 32 := 1#32
  let v6209 : BitVec 32 := Scalar.muli v7 c1_i32_8794
  let v6210 : BitVec 32 := Scalar.addi c0_i32_8795 v6209
  v6210.toNat
def k0_dev253 (v4 : BitVec 32) : Nat :=
  let c0_i32_8805 : BitVec 32 := 0#32
  let c1_i32_8804 : BitVec 32 := 1#32
  let v6211 : BitVec 32 := Scalar.muli v4 c1_i32_8804
  let v6212 : BitVec 32 := Scalar.addi c0_i32_8805 v6211
  v6212.toNat
def k0_dev254 (v8 : BitVec 32) : Nat :=
  let c0_i32_8847 : BitVec 32 := 0#32
  let c1_i32_8846 : BitVec 32 := 1#32
  let v6244 : BitVec 32 := Scalar.muli v8 c1_i32_8846
  let v6245 : BitVec 32 := Scalar.addi c0_i32_8847 v6244
  v6245.toNat
def k0_dev255 (v5 : BitVec 32) : Nat :=
  let c0_i32_8857 : BitVec 32 := 0#32
  let c1_i32_8856 : BitVec 32 := 1#32
  let v6246 : BitVec 32 := Scalar.muli v5 c1_i32_8856
  let v6247 : BitVec 32 := Scalar.addi c0_i32_8857 v6246
  v6247.toNat
def k0_off85 (v6256 : BitVec 32) : Fin 2 → Nat :=
  let c128_i32_8862 : BitVec 32 := 128#32
  let v6257 : BitVec 32 := Scalar.muli v6256 c128_i32_8862
  let v6258 : Index := Scalar.indexCast v6257
  let c0_8863 : Index := 0#32
  ![v6258.toNat, 0]

def k0_chk91 (v6256 : BitVec 32) : Prop :=
  (∀ a, (k0_off85 v6256) a + S128x128.size a ≤ S4096x128.size a)
theorem k0_off85_inb : ∀ (v6256 : BitVec 32) (k0_hw91 : k0_chk91 v6256), ∀ a, (k0_off85 v6256) a + S128x128.size a ≤ S4096x128.size a := fun v6256 k0_hw91 => k0_hw91

def k0_off86 (v6264 : BitVec 32) : Fin 2 → Nat :=
  let c128_i32_8868 : BitVec 32 := 128#32
  let v6265 : BitVec 32 := Scalar.muli v6264 c128_i32_8868
  let v6266 : Index := Scalar.indexCast v6265
  let c0_8869 : Index := 0#32
  ![v6266.toNat, 0]

def k0_chk92 (v6264 : BitVec 32) : Prop :=
  (∀ a, (k0_off86 v6264) a + S128x128.size a ≤ S4096x128.size a)
theorem k0_off86_inb : ∀ (v6264 : BitVec 32) (k0_hw92 : k0_chk92 v6264), ∀ a, (k0_off86 v6264) a + S128x128.size a ≤ S4096x128.size a := fun v6264 k0_hw92 => k0_hw92

def k0_off87 (v6272 : BitVec 32) : Fin 2 → Nat :=
  let c128_i32_8874 : BitVec 32 := 128#32
  let v6273 : BitVec 32 := Scalar.muli v6272 c128_i32_8874
  let v6274 : Index := Scalar.indexCast v6273
  let c0_8875 : Index := 0#32
  ![v6274.toNat, 0]

def k0_chk93 (v6272 : BitVec 32) : Prop :=
  (∀ a, (k0_off87 v6272) a + S128x128.size a ≤ S4096x128.size a)
theorem k0_off87_inb : ∀ (v6272 : BitVec 32) (k0_hw93 : k0_chk93 v6272), ∀ a, (k0_off87 v6272) a + S128x128.size a ≤ S4096x128.size a := fun v6272 k0_hw93 => k0_hw93

def k0_dev256 (v3 : BitVec 32) : Nat :=
  let c0_i32_8925 : BitVec 32 := 0#32
  let c1_i32_8924 : BitVec 32 := 1#32
  let v6303 : BitVec 32 := Scalar.muli v3 c1_i32_8924
  let v6304 : BitVec 32 := Scalar.addi c0_i32_8925 v6303
  v6304.toNat
def k0_dev257 (v4 : BitVec 32) : Nat :=
  let c0_i32_8976 : BitVec 32 := 0#32
  let c1_i32_8975 : BitVec 32 := 1#32
  let v6336 : BitVec 32 := Scalar.muli v4 c1_i32_8975
  let v6337 : BitVec 32 := Scalar.addi c0_i32_8976 v6336
  v6337.toNat
def k0_dev258 (v5 : BitVec 32) : Nat :=
  let c0_i32_9027 : BitVec 32 := 0#32
  let c1_i32_9026 : BitVec 32 := 1#32
  let v6369 : BitVec 32 := Scalar.muli v5 c1_i32_9026
  let v6370 : BitVec 32 := Scalar.addi c0_i32_9027 v6369
  v6370.toNat
def k0_dev259 (v6 : BitVec 32) : Nat :=
  let c0_i32_9069 : BitVec 32 := 0#32
  let c1_i32_9068 : BitVec 32 := 1#32
  let v6402 : BitVec 32 := Scalar.muli v6 c1_i32_9068
  let v6403 : BitVec 32 := Scalar.addi c0_i32_9069 v6402
  v6403.toNat
def k0_dev260 (v3 : BitVec 32) : Nat :=
  let c0_i32_9079 : BitVec 32 := 0#32
  let c1_i32_9078 : BitVec 32 := 1#32
  let v6404 : BitVec 32 := Scalar.muli v3 c1_i32_9078
  let v6405 : BitVec 32 := Scalar.addi c0_i32_9079 v6404
  v6405.toNat
def k0_dev261 (v7 : BitVec 32) : Nat :=
  let c0_i32_9121 : BitVec 32 := 0#32
  let c1_i32_9120 : BitVec 32 := 1#32
  let v6437 : BitVec 32 := Scalar.muli v7 c1_i32_9120
  let v6438 : BitVec 32 := Scalar.addi c0_i32_9121 v6437
  v6438.toNat
def k0_dev262 (v4 : BitVec 32) : Nat :=
  let c0_i32_9131 : BitVec 32 := 0#32
  let c1_i32_9130 : BitVec 32 := 1#32
  let v6439 : BitVec 32 := Scalar.muli v4 c1_i32_9130
  let v6440 : BitVec 32 := Scalar.addi c0_i32_9131 v6439
  v6440.toNat
def k0_dev263 (v8 : BitVec 32) : Nat :=
  let c0_i32_9173 : BitVec 32 := 0#32
  let c1_i32_9172 : BitVec 32 := 1#32
  let v6472 : BitVec 32 := Scalar.muli v8 c1_i32_9172
  let v6473 : BitVec 32 := Scalar.addi c0_i32_9173 v6472
  v6473.toNat
def k0_dev264 (v5 : BitVec 32) : Nat :=
  let c0_i32_9183 : BitVec 32 := 0#32
  let c1_i32_9182 : BitVec 32 := 1#32
  let v6474 : BitVec 32 := Scalar.muli v5 c1_i32_9182
  let v6475 : BitVec 32 := Scalar.addi c0_i32_9183 v6474
  v6475.toNat
def k0_off88 (v6484 : BitVec 32) : Fin 2 → Nat :=
  let c128_i32_9188 : BitVec 32 := 128#32
  let v6485 : BitVec 32 := Scalar.muli v6484 c128_i32_9188
  let v6486 : Index := Scalar.indexCast v6485
  let c0_9189 : Index := 0#32
  ![v6486.toNat, 0]

def k0_chk94 (v6484 : BitVec 32) : Prop :=
  (∀ a, (k0_off88 v6484) a + S128x128.size a ≤ S4096x128.size a)
theorem k0_off88_inb : ∀ (v6484 : BitVec 32) (k0_hw94 : k0_chk94 v6484), ∀ a, (k0_off88 v6484) a + S128x128.size a ≤ S4096x128.size a := fun v6484 k0_hw94 => k0_hw94

def k0_off89 (v6492 : BitVec 32) : Fin 2 → Nat :=
  let c128_i32_9194 : BitVec 32 := 128#32
  let v6493 : BitVec 32 := Scalar.muli v6492 c128_i32_9194
  let v6494 : Index := Scalar.indexCast v6493
  let c0_9195 : Index := 0#32
  ![v6494.toNat, 0]

def k0_chk95 (v6492 : BitVec 32) : Prop :=
  (∀ a, (k0_off89 v6492) a + S128x128.size a ≤ S4096x128.size a)
theorem k0_off89_inb : ∀ (v6492 : BitVec 32) (k0_hw95 : k0_chk95 v6492), ∀ a, (k0_off89 v6492) a + S128x128.size a ≤ S4096x128.size a := fun v6492 k0_hw95 => k0_hw95

def k0_off90 (v6500 : BitVec 32) : Fin 2 → Nat :=
  let c128_i32_9200 : BitVec 32 := 128#32
  let v6501 : BitVec 32 := Scalar.muli v6500 c128_i32_9200
  let v6502 : Index := Scalar.indexCast v6501
  let c0_9201 : Index := 0#32
  ![v6502.toNat, 0]

def k0_chk96 (v6500 : BitVec 32) : Prop :=
  (∀ a, (k0_off90 v6500) a + S128x128.size a ≤ S4096x128.size a)
theorem k0_off90_inb : ∀ (v6500 : BitVec 32) (k0_hw96 : k0_chk96 v6500), ∀ a, (k0_off90 v6500) a + S128x128.size a ≤ S4096x128.size a := fun v6500 k0_hw96 => k0_hw96

def k0_dev265 (v3 : BitVec 32) : Nat :=
  let c0_i32_9251 : BitVec 32 := 0#32
  let c1_i32_9250 : BitVec 32 := 1#32
  let v6531 : BitVec 32 := Scalar.muli v3 c1_i32_9250
  let v6532 : BitVec 32 := Scalar.addi c0_i32_9251 v6531
  v6532.toNat
def k0_dev266 (v4 : BitVec 32) : Nat :=
  let c0_i32_9302 : BitVec 32 := 0#32
  let c1_i32_9301 : BitVec 32 := 1#32
  let v6564 : BitVec 32 := Scalar.muli v4 c1_i32_9301
  let v6565 : BitVec 32 := Scalar.addi c0_i32_9302 v6564
  v6565.toNat
def k0_dev267 (v5 : BitVec 32) : Nat :=
  let c0_i32_9353 : BitVec 32 := 0#32
  let c1_i32_9352 : BitVec 32 := 1#32
  let v6597 : BitVec 32 := Scalar.muli v5 c1_i32_9352
  let v6598 : BitVec 32 := Scalar.addi c0_i32_9353 v6597
  v6598.toNat
def k0_dev268 (v6 : BitVec 32) : Nat :=
  let c0_i32_9395 : BitVec 32 := 0#32
  let c1_i32_9394 : BitVec 32 := 1#32
  let v6630 : BitVec 32 := Scalar.muli v6 c1_i32_9394
  let v6631 : BitVec 32 := Scalar.addi c0_i32_9395 v6630
  v6631.toNat

def k0_chk4 (v6 : BitVec 32) : Prop :=
  ((k0_dev4 v6) < nD) ∧
  ((k0_dev16 v6) < nD) ∧
  ((k0_dev25 v6) < nD) ∧
  ((k0_dev34 v6) < nD) ∧
  ((k0_dev43 v6) < nD) ∧
  ((k0_dev52 v6) < nD) ∧
  ((k0_dev61 v6) < nD) ∧
  ((k0_dev70 v6) < nD) ∧
  ((k0_dev79 v6) < nD) ∧
  ((k0_dev88 v6) < nD) ∧
  ((k0_dev97 v6) < nD) ∧
  ((k0_dev106 v6) < nD) ∧
  ((k0_dev115 v6) < nD) ∧
  ((k0_dev124 v6) < nD) ∧
  ((k0_dev133 v6) < nD) ∧
  ((k0_dev142 v6) < nD) ∧
  ((k0_dev151 v6) < nD) ∧
  ((k0_dev160 v6) < nD) ∧
  ((k0_dev169 v6) < nD) ∧
  ((k0_dev178 v6) < nD) ∧
  ((k0_dev187 v6) < nD) ∧
  ((k0_dev196 v6) < nD) ∧
  ((k0_dev205 v6) < nD) ∧
  ((k0_dev214 v6) < nD) ∧
  ((k0_dev223 v6) < nD) ∧
  ((k0_dev232 v6) < nD) ∧
  ((k0_dev241 v6) < nD) ∧
  ((k0_dev250 v6) < nD) ∧
  ((k0_dev259 v6) < nD) ∧
  ((k0_dev268 v6) < nD)
theorem k0_dev4_lt : ∀ (v6 : BitVec 32) (k0_hw4 : k0_chk4 v6), (k0_dev4 v6) < nD := fun v6 k0_hw4 => k0_hw4.1
theorem k0_dev16_lt : ∀ (v6 : BitVec 32) (k0_hw4 : k0_chk4 v6), (k0_dev16 v6) < nD := fun v6 k0_hw4 => k0_hw4.2.1
theorem k0_dev25_lt : ∀ (v6 : BitVec 32) (k0_hw4 : k0_chk4 v6), (k0_dev25 v6) < nD := fun v6 k0_hw4 => k0_hw4.2.2.1
theorem k0_dev34_lt : ∀ (v6 : BitVec 32) (k0_hw4 : k0_chk4 v6), (k0_dev34 v6) < nD := fun v6 k0_hw4 => k0_hw4.2.2.2.1
theorem k0_dev43_lt : ∀ (v6 : BitVec 32) (k0_hw4 : k0_chk4 v6), (k0_dev43 v6) < nD := fun v6 k0_hw4 => k0_hw4.2.2.2.2.1
theorem k0_dev52_lt : ∀ (v6 : BitVec 32) (k0_hw4 : k0_chk4 v6), (k0_dev52 v6) < nD := fun v6 k0_hw4 => k0_hw4.2.2.2.2.2.1
theorem k0_dev61_lt : ∀ (v6 : BitVec 32) (k0_hw4 : k0_chk4 v6), (k0_dev61 v6) < nD := fun v6 k0_hw4 => k0_hw4.2.2.2.2.2.2.1
theorem k0_dev70_lt : ∀ (v6 : BitVec 32) (k0_hw4 : k0_chk4 v6), (k0_dev70 v6) < nD := fun v6 k0_hw4 => k0_hw4.2.2.2.2.2.2.2.1
theorem k0_dev79_lt : ∀ (v6 : BitVec 32) (k0_hw4 : k0_chk4 v6), (k0_dev79 v6) < nD := fun v6 k0_hw4 => k0_hw4.2.2.2.2.2.2.2.2.1
theorem k0_dev88_lt : ∀ (v6 : BitVec 32) (k0_hw4 : k0_chk4 v6), (k0_dev88 v6) < nD := fun v6 k0_hw4 => k0_hw4.2.2.2.2.2.2.2.2.2.1
theorem k0_dev97_lt : ∀ (v6 : BitVec 32) (k0_hw4 : k0_chk4 v6), (k0_dev97 v6) < nD := fun v6 k0_hw4 => k0_hw4.2.2.2.2.2.2.2.2.2.2.1
theorem k0_dev106_lt : ∀ (v6 : BitVec 32) (k0_hw4 : k0_chk4 v6), (k0_dev106 v6) < nD := fun v6 k0_hw4 => k0_hw4.2.2.2.2.2.2.2.2.2.2.2.1
theorem k0_dev115_lt : ∀ (v6 : BitVec 32) (k0_hw4 : k0_chk4 v6), (k0_dev115 v6) < nD := fun v6 k0_hw4 => k0_hw4.2.2.2.2.2.2.2.2.2.2.2.2.1
theorem k0_dev124_lt : ∀ (v6 : BitVec 32) (k0_hw4 : k0_chk4 v6), (k0_dev124 v6) < nD := fun v6 k0_hw4 => k0_hw4.2.2.2.2.2.2.2.2.2.2.2.2.2.1
theorem k0_dev133_lt : ∀ (v6 : BitVec 32) (k0_hw4 : k0_chk4 v6), (k0_dev133 v6) < nD := fun v6 k0_hw4 => k0_hw4.2.2.2.2.2.2.2.2.2.2.2.2.2.2.1
theorem k0_dev142_lt : ∀ (v6 : BitVec 32) (k0_hw4 : k0_chk4 v6), (k0_dev142 v6) < nD := fun v6 k0_hw4 => k0_hw4.2.2.2.2.2.2.2.2.2.2.2.2.2.2.2.1
theorem k0_dev151_lt : ∀ (v6 : BitVec 32) (k0_hw4 : k0_chk4 v6), (k0_dev151 v6) < nD := fun v6 k0_hw4 => k0_hw4.2.2.2.2.2.2.2.2.2.2.2.2.2.2.2.2.1
theorem k0_dev160_lt : ∀ (v6 : BitVec 32) (k0_hw4 : k0_chk4 v6), (k0_dev160 v6) < nD := fun v6 k0_hw4 => k0_hw4.2.2.2.2.2.2.2.2.2.2.2.2.2.2.2.2.2.1
theorem k0_dev169_lt : ∀ (v6 : BitVec 32) (k0_hw4 : k0_chk4 v6), (k0_dev169 v6) < nD := fun v6 k0_hw4 => k0_hw4.2.2.2.2.2.2.2.2.2.2.2.2.2.2.2.2.2.2.1
theorem k0_dev178_lt : ∀ (v6 : BitVec 32) (k0_hw4 : k0_chk4 v6), (k0_dev178 v6) < nD := fun v6 k0_hw4 => k0_hw4.2.2.2.2.2.2.2.2.2.2.2.2.2.2.2.2.2.2.2.1
theorem k0_dev187_lt : ∀ (v6 : BitVec 32) (k0_hw4 : k0_chk4 v6), (k0_dev187 v6) < nD := fun v6 k0_hw4 => k0_hw4.2.2.2.2.2.2.2.2.2.2.2.2.2.2.2.2.2.2.2.2.1
theorem k0_dev196_lt : ∀ (v6 : BitVec 32) (k0_hw4 : k0_chk4 v6), (k0_dev196 v6) < nD := fun v6 k0_hw4 => k0_hw4.2.2.2.2.2.2.2.2.2.2.2.2.2.2.2.2.2.2.2.2.2.1
theorem k0_dev205_lt : ∀ (v6 : BitVec 32) (k0_hw4 : k0_chk4 v6), (k0_dev205 v6) < nD := fun v6 k0_hw4 => k0_hw4.2.2.2.2.2.2.2.2.2.2.2.2.2.2.2.2.2.2.2.2.2.2.1
theorem k0_dev214_lt : ∀ (v6 : BitVec 32) (k0_hw4 : k0_chk4 v6), (k0_dev214 v6) < nD := fun v6 k0_hw4 => k0_hw4.2.2.2.2.2.2.2.2.2.2.2.2.2.2.2.2.2.2.2.2.2.2.2.1
theorem k0_dev223_lt : ∀ (v6 : BitVec 32) (k0_hw4 : k0_chk4 v6), (k0_dev223 v6) < nD := fun v6 k0_hw4 => k0_hw4.2.2.2.2.2.2.2.2.2.2.2.2.2.2.2.2.2.2.2.2.2.2.2.2.1
theorem k0_dev232_lt : ∀ (v6 : BitVec 32) (k0_hw4 : k0_chk4 v6), (k0_dev232 v6) < nD := fun v6 k0_hw4 => k0_hw4.2.2.2.2.2.2.2.2.2.2.2.2.2.2.2.2.2.2.2.2.2.2.2.2.2.1
theorem k0_dev241_lt : ∀ (v6 : BitVec 32) (k0_hw4 : k0_chk4 v6), (k0_dev241 v6) < nD := fun v6 k0_hw4 => k0_hw4.2.2.2.2.2.2.2.2.2.2.2.2.2.2.2.2.2.2.2.2.2.2.2.2.2.2.1
theorem k0_dev250_lt : ∀ (v6 : BitVec 32) (k0_hw4 : k0_chk4 v6), (k0_dev250 v6) < nD := fun v6 k0_hw4 => k0_hw4.2.2.2.2.2.2.2.2.2.2.2.2.2.2.2.2.2.2.2.2.2.2.2.2.2.2.2.1
theorem k0_dev259_lt : ∀ (v6 : BitVec 32) (k0_hw4 : k0_chk4 v6), (k0_dev259 v6) < nD := fun v6 k0_hw4 => k0_hw4.2.2.2.2.2.2.2.2.2.2.2.2.2.2.2.2.2.2.2.2.2.2.2.2.2.2.2.2.1
theorem k0_dev268_lt : ∀ (v6 : BitVec 32) (k0_hw4 : k0_chk4 v6), (k0_dev268 v6) < nD := fun v6 k0_hw4 => k0_hw4.2.2.2.2.2.2.2.2.2.2.2.2.2.2.2.2.2.2.2.2.2.2.2.2.2.2.2.2.2

def k0_dev269 (v3 : BitVec 32) : Nat :=
  let c0_i32_9405 : BitVec 32 := 0#32
  let c1_i32_9404 : BitVec 32 := 1#32
  let v6632 : BitVec 32 := Scalar.muli v3 c1_i32_9404
  let v6633 : BitVec 32 := Scalar.addi c0_i32_9405 v6632
  v6633.toNat
def k0_dev270 (v7 : BitVec 32) : Nat :=
  let c0_i32_9447 : BitVec 32 := 0#32
  let c1_i32_9446 : BitVec 32 := 1#32
  let v6665 : BitVec 32 := Scalar.muli v7 c1_i32_9446
  let v6666 : BitVec 32 := Scalar.addi c0_i32_9447 v6665
  v6666.toNat

def k0_chk5 (v7 : BitVec 32) : Prop :=
  ((k0_dev5 v7) < nD) ∧
  ((k0_dev18 v7) < nD) ∧
  ((k0_dev27 v7) < nD) ∧
  ((k0_dev36 v7) < nD) ∧
  ((k0_dev45 v7) < nD) ∧
  ((k0_dev54 v7) < nD) ∧
  ((k0_dev63 v7) < nD) ∧
  ((k0_dev72 v7) < nD) ∧
  ((k0_dev81 v7) < nD) ∧
  ((k0_dev90 v7) < nD) ∧
  ((k0_dev99 v7) < nD) ∧
  ((k0_dev108 v7) < nD) ∧
  ((k0_dev117 v7) < nD) ∧
  ((k0_dev126 v7) < nD) ∧
  ((k0_dev135 v7) < nD) ∧
  ((k0_dev144 v7) < nD) ∧
  ((k0_dev153 v7) < nD) ∧
  ((k0_dev162 v7) < nD) ∧
  ((k0_dev171 v7) < nD) ∧
  ((k0_dev180 v7) < nD) ∧
  ((k0_dev189 v7) < nD) ∧
  ((k0_dev198 v7) < nD) ∧
  ((k0_dev207 v7) < nD) ∧
  ((k0_dev216 v7) < nD) ∧
  ((k0_dev225 v7) < nD) ∧
  ((k0_dev234 v7) < nD) ∧
  ((k0_dev243 v7) < nD) ∧
  ((k0_dev252 v7) < nD) ∧
  ((k0_dev261 v7) < nD) ∧
  ((k0_dev270 v7) < nD)
theorem k0_dev5_lt : ∀ (v7 : BitVec 32) (k0_hw5 : k0_chk5 v7), (k0_dev5 v7) < nD := fun v7 k0_hw5 => k0_hw5.1
theorem k0_dev18_lt : ∀ (v7 : BitVec 32) (k0_hw5 : k0_chk5 v7), (k0_dev18 v7) < nD := fun v7 k0_hw5 => k0_hw5.2.1
theorem k0_dev27_lt : ∀ (v7 : BitVec 32) (k0_hw5 : k0_chk5 v7), (k0_dev27 v7) < nD := fun v7 k0_hw5 => k0_hw5.2.2.1
theorem k0_dev36_lt : ∀ (v7 : BitVec 32) (k0_hw5 : k0_chk5 v7), (k0_dev36 v7) < nD := fun v7 k0_hw5 => k0_hw5.2.2.2.1
theorem k0_dev45_lt : ∀ (v7 : BitVec 32) (k0_hw5 : k0_chk5 v7), (k0_dev45 v7) < nD := fun v7 k0_hw5 => k0_hw5.2.2.2.2.1
theorem k0_dev54_lt : ∀ (v7 : BitVec 32) (k0_hw5 : k0_chk5 v7), (k0_dev54 v7) < nD := fun v7 k0_hw5 => k0_hw5.2.2.2.2.2.1
theorem k0_dev63_lt : ∀ (v7 : BitVec 32) (k0_hw5 : k0_chk5 v7), (k0_dev63 v7) < nD := fun v7 k0_hw5 => k0_hw5.2.2.2.2.2.2.1
theorem k0_dev72_lt : ∀ (v7 : BitVec 32) (k0_hw5 : k0_chk5 v7), (k0_dev72 v7) < nD := fun v7 k0_hw5 => k0_hw5.2.2.2.2.2.2.2.1
theorem k0_dev81_lt : ∀ (v7 : BitVec 32) (k0_hw5 : k0_chk5 v7), (k0_dev81 v7) < nD := fun v7 k0_hw5 => k0_hw5.2.2.2.2.2.2.2.2.1
theorem k0_dev90_lt : ∀ (v7 : BitVec 32) (k0_hw5 : k0_chk5 v7), (k0_dev90 v7) < nD := fun v7 k0_hw5 => k0_hw5.2.2.2.2.2.2.2.2.2.1
theorem k0_dev99_lt : ∀ (v7 : BitVec 32) (k0_hw5 : k0_chk5 v7), (k0_dev99 v7) < nD := fun v7 k0_hw5 => k0_hw5.2.2.2.2.2.2.2.2.2.2.1
theorem k0_dev108_lt : ∀ (v7 : BitVec 32) (k0_hw5 : k0_chk5 v7), (k0_dev108 v7) < nD := fun v7 k0_hw5 => k0_hw5.2.2.2.2.2.2.2.2.2.2.2.1
theorem k0_dev117_lt : ∀ (v7 : BitVec 32) (k0_hw5 : k0_chk5 v7), (k0_dev117 v7) < nD := fun v7 k0_hw5 => k0_hw5.2.2.2.2.2.2.2.2.2.2.2.2.1
theorem k0_dev126_lt : ∀ (v7 : BitVec 32) (k0_hw5 : k0_chk5 v7), (k0_dev126 v7) < nD := fun v7 k0_hw5 => k0_hw5.2.2.2.2.2.2.2.2.2.2.2.2.2.1
theorem k0_dev135_lt : ∀ (v7 : BitVec 32) (k0_hw5 : k0_chk5 v7), (k0_dev135 v7) < nD := fun v7 k0_hw5 => k0_hw5.2.2.2.2.2.2.2.2.2.2.2.2.2.2.1
theorem k0_dev144_lt : ∀ (v7 : BitVec 32) (k0_hw5 : k0_chk5 v7), (k0_dev144 v7) < nD := fun v7 k0_hw5 => k0_hw5.2.2.2.2.2.2.2.2.2.2.2.2.2.2.2.1
theorem k0_dev153_lt : ∀ (v7 : BitVec 32) (k0_hw5 : k0_chk5 v7), (k0_dev153 v7) < nD := fun v7 k0_hw5 => k0_hw5.2.2.2.2.2.2.2.2.2.2.2.2.2.2.2.2.1
theorem k0_dev162_lt : ∀ (v7 : BitVec 32) (k0_hw5 : k0_chk5 v7), (k0_dev162 v7) < nD := fun v7 k0_hw5 => k0_hw5.2.2.2.2.2.2.2.2.2.2.2.2.2.2.2.2.2.1
theorem k0_dev171_lt : ∀ (v7 : BitVec 32) (k0_hw5 : k0_chk5 v7), (k0_dev171 v7) < nD := fun v7 k0_hw5 => k0_hw5.2.2.2.2.2.2.2.2.2.2.2.2.2.2.2.2.2.2.1
theorem k0_dev180_lt : ∀ (v7 : BitVec 32) (k0_hw5 : k0_chk5 v7), (k0_dev180 v7) < nD := fun v7 k0_hw5 => k0_hw5.2.2.2.2.2.2.2.2.2.2.2.2.2.2.2.2.2.2.2.1
theorem k0_dev189_lt : ∀ (v7 : BitVec 32) (k0_hw5 : k0_chk5 v7), (k0_dev189 v7) < nD := fun v7 k0_hw5 => k0_hw5.2.2.2.2.2.2.2.2.2.2.2.2.2.2.2.2.2.2.2.2.1
theorem k0_dev198_lt : ∀ (v7 : BitVec 32) (k0_hw5 : k0_chk5 v7), (k0_dev198 v7) < nD := fun v7 k0_hw5 => k0_hw5.2.2.2.2.2.2.2.2.2.2.2.2.2.2.2.2.2.2.2.2.2.1
theorem k0_dev207_lt : ∀ (v7 : BitVec 32) (k0_hw5 : k0_chk5 v7), (k0_dev207 v7) < nD := fun v7 k0_hw5 => k0_hw5.2.2.2.2.2.2.2.2.2.2.2.2.2.2.2.2.2.2.2.2.2.2.1
theorem k0_dev216_lt : ∀ (v7 : BitVec 32) (k0_hw5 : k0_chk5 v7), (k0_dev216 v7) < nD := fun v7 k0_hw5 => k0_hw5.2.2.2.2.2.2.2.2.2.2.2.2.2.2.2.2.2.2.2.2.2.2.2.1
theorem k0_dev225_lt : ∀ (v7 : BitVec 32) (k0_hw5 : k0_chk5 v7), (k0_dev225 v7) < nD := fun v7 k0_hw5 => k0_hw5.2.2.2.2.2.2.2.2.2.2.2.2.2.2.2.2.2.2.2.2.2.2.2.2.1
theorem k0_dev234_lt : ∀ (v7 : BitVec 32) (k0_hw5 : k0_chk5 v7), (k0_dev234 v7) < nD := fun v7 k0_hw5 => k0_hw5.2.2.2.2.2.2.2.2.2.2.2.2.2.2.2.2.2.2.2.2.2.2.2.2.2.1
theorem k0_dev243_lt : ∀ (v7 : BitVec 32) (k0_hw5 : k0_chk5 v7), (k0_dev243 v7) < nD := fun v7 k0_hw5 => k0_hw5.2.2.2.2.2.2.2.2.2.2.2.2.2.2.2.2.2.2.2.2.2.2.2.2.2.2.1
theorem k0_dev252_lt : ∀ (v7 : BitVec 32) (k0_hw5 : k0_chk5 v7), (k0_dev252 v7) < nD := fun v7 k0_hw5 => k0_hw5.2.2.2.2.2.2.2.2.2.2.2.2.2.2.2.2.2.2.2.2.2.2.2.2.2.2.2.1
theorem k0_dev261_lt : ∀ (v7 : BitVec 32) (k0_hw5 : k0_chk5 v7), (k0_dev261 v7) < nD := fun v7 k0_hw5 => k0_hw5.2.2.2.2.2.2.2.2.2.2.2.2.2.2.2.2.2.2.2.2.2.2.2.2.2.2.2.2.1
theorem k0_dev270_lt : ∀ (v7 : BitVec 32) (k0_hw5 : k0_chk5 v7), (k0_dev270 v7) < nD := fun v7 k0_hw5 => k0_hw5.2.2.2.2.2.2.2.2.2.2.2.2.2.2.2.2.2.2.2.2.2.2.2.2.2.2.2.2.2

def k0_dev271 (v4 : BitVec 32) : Nat :=
  let c0_i32_9457 : BitVec 32 := 0#32
  let c1_i32_9456 : BitVec 32 := 1#32
  let v6667 : BitVec 32 := Scalar.muli v4 c1_i32_9456
  let v6668 : BitVec 32 := Scalar.addi c0_i32_9457 v6667
  v6668.toNat
def k0_dev272 (v8 : BitVec 32) : Nat :=
  let c0_i32_9499 : BitVec 32 := 0#32
  let c1_i32_9498 : BitVec 32 := 1#32
  let v6700 : BitVec 32 := Scalar.muli v8 c1_i32_9498
  let v6701 : BitVec 32 := Scalar.addi c0_i32_9499 v6700
  v6701.toNat

def k0_chk6 (v8 : BitVec 32) : Prop :=
  ((k0_dev6 v8) < nD) ∧
  ((k0_dev20 v8) < nD) ∧
  ((k0_dev29 v8) < nD) ∧
  ((k0_dev38 v8) < nD) ∧
  ((k0_dev47 v8) < nD) ∧
  ((k0_dev56 v8) < nD) ∧
  ((k0_dev65 v8) < nD) ∧
  ((k0_dev74 v8) < nD) ∧
  ((k0_dev83 v8) < nD) ∧
  ((k0_dev92 v8) < nD) ∧
  ((k0_dev101 v8) < nD) ∧
  ((k0_dev110 v8) < nD) ∧
  ((k0_dev119 v8) < nD) ∧
  ((k0_dev128 v8) < nD) ∧
  ((k0_dev137 v8) < nD) ∧
  ((k0_dev146 v8) < nD) ∧
  ((k0_dev155 v8) < nD) ∧
  ((k0_dev164 v8) < nD) ∧
  ((k0_dev173 v8) < nD) ∧
  ((k0_dev182 v8) < nD) ∧
  ((k0_dev191 v8) < nD) ∧
  ((k0_dev200 v8) < nD) ∧
  ((k0_dev209 v8) < nD) ∧
  ((k0_dev218 v8) < nD) ∧
  ((k0_dev227 v8) < nD) ∧
  ((k0_dev236 v8) < nD) ∧
  ((k0_dev245 v8) < nD) ∧
  ((k0_dev254 v8) < nD) ∧
  ((k0_dev263 v8) < nD) ∧
  ((k0_dev272 v8) < nD)
theorem k0_dev6_lt : ∀ (v8 : BitVec 32) (k0_hw6 : k0_chk6 v8), (k0_dev6 v8) < nD := fun v8 k0_hw6 => k0_hw6.1
theorem k0_dev20_lt : ∀ (v8 : BitVec 32) (k0_hw6 : k0_chk6 v8), (k0_dev20 v8) < nD := fun v8 k0_hw6 => k0_hw6.2.1
theorem k0_dev29_lt : ∀ (v8 : BitVec 32) (k0_hw6 : k0_chk6 v8), (k0_dev29 v8) < nD := fun v8 k0_hw6 => k0_hw6.2.2.1
theorem k0_dev38_lt : ∀ (v8 : BitVec 32) (k0_hw6 : k0_chk6 v8), (k0_dev38 v8) < nD := fun v8 k0_hw6 => k0_hw6.2.2.2.1
theorem k0_dev47_lt : ∀ (v8 : BitVec 32) (k0_hw6 : k0_chk6 v8), (k0_dev47 v8) < nD := fun v8 k0_hw6 => k0_hw6.2.2.2.2.1
theorem k0_dev56_lt : ∀ (v8 : BitVec 32) (k0_hw6 : k0_chk6 v8), (k0_dev56 v8) < nD := fun v8 k0_hw6 => k0_hw6.2.2.2.2.2.1
theorem k0_dev65_lt : ∀ (v8 : BitVec 32) (k0_hw6 : k0_chk6 v8), (k0_dev65 v8) < nD := fun v8 k0_hw6 => k0_hw6.2.2.2.2.2.2.1
theorem k0_dev74_lt : ∀ (v8 : BitVec 32) (k0_hw6 : k0_chk6 v8), (k0_dev74 v8) < nD := fun v8 k0_hw6 => k0_hw6.2.2.2.2.2.2.2.1
theorem k0_dev83_lt : ∀ (v8 : BitVec 32) (k0_hw6 : k0_chk6 v8), (k0_dev83 v8) < nD := fun v8 k0_hw6 => k0_hw6.2.2.2.2.2.2.2.2.1
theorem k0_dev92_lt : ∀ (v8 : BitVec 32) (k0_hw6 : k0_chk6 v8), (k0_dev92 v8) < nD := fun v8 k0_hw6 => k0_hw6.2.2.2.2.2.2.2.2.2.1
theorem k0_dev101_lt : ∀ (v8 : BitVec 32) (k0_hw6 : k0_chk6 v8), (k0_dev101 v8) < nD := fun v8 k0_hw6 => k0_hw6.2.2.2.2.2.2.2.2.2.2.1
theorem k0_dev110_lt : ∀ (v8 : BitVec 32) (k0_hw6 : k0_chk6 v8), (k0_dev110 v8) < nD := fun v8 k0_hw6 => k0_hw6.2.2.2.2.2.2.2.2.2.2.2.1
theorem k0_dev119_lt : ∀ (v8 : BitVec 32) (k0_hw6 : k0_chk6 v8), (k0_dev119 v8) < nD := fun v8 k0_hw6 => k0_hw6.2.2.2.2.2.2.2.2.2.2.2.2.1
theorem k0_dev128_lt : ∀ (v8 : BitVec 32) (k0_hw6 : k0_chk6 v8), (k0_dev128 v8) < nD := fun v8 k0_hw6 => k0_hw6.2.2.2.2.2.2.2.2.2.2.2.2.2.1
theorem k0_dev137_lt : ∀ (v8 : BitVec 32) (k0_hw6 : k0_chk6 v8), (k0_dev137 v8) < nD := fun v8 k0_hw6 => k0_hw6.2.2.2.2.2.2.2.2.2.2.2.2.2.2.1
theorem k0_dev146_lt : ∀ (v8 : BitVec 32) (k0_hw6 : k0_chk6 v8), (k0_dev146 v8) < nD := fun v8 k0_hw6 => k0_hw6.2.2.2.2.2.2.2.2.2.2.2.2.2.2.2.1
theorem k0_dev155_lt : ∀ (v8 : BitVec 32) (k0_hw6 : k0_chk6 v8), (k0_dev155 v8) < nD := fun v8 k0_hw6 => k0_hw6.2.2.2.2.2.2.2.2.2.2.2.2.2.2.2.2.1
theorem k0_dev164_lt : ∀ (v8 : BitVec 32) (k0_hw6 : k0_chk6 v8), (k0_dev164 v8) < nD := fun v8 k0_hw6 => k0_hw6.2.2.2.2.2.2.2.2.2.2.2.2.2.2.2.2.2.1
theorem k0_dev173_lt : ∀ (v8 : BitVec 32) (k0_hw6 : k0_chk6 v8), (k0_dev173 v8) < nD := fun v8 k0_hw6 => k0_hw6.2.2.2.2.2.2.2.2.2.2.2.2.2.2.2.2.2.2.1
theorem k0_dev182_lt : ∀ (v8 : BitVec 32) (k0_hw6 : k0_chk6 v8), (k0_dev182 v8) < nD := fun v8 k0_hw6 => k0_hw6.2.2.2.2.2.2.2.2.2.2.2.2.2.2.2.2.2.2.2.1
theorem k0_dev191_lt : ∀ (v8 : BitVec 32) (k0_hw6 : k0_chk6 v8), (k0_dev191 v8) < nD := fun v8 k0_hw6 => k0_hw6.2.2.2.2.2.2.2.2.2.2.2.2.2.2.2.2.2.2.2.2.1
theorem k0_dev200_lt : ∀ (v8 : BitVec 32) (k0_hw6 : k0_chk6 v8), (k0_dev200 v8) < nD := fun v8 k0_hw6 => k0_hw6.2.2.2.2.2.2.2.2.2.2.2.2.2.2.2.2.2.2.2.2.2.1
theorem k0_dev209_lt : ∀ (v8 : BitVec 32) (k0_hw6 : k0_chk6 v8), (k0_dev209 v8) < nD := fun v8 k0_hw6 => k0_hw6.2.2.2.2.2.2.2.2.2.2.2.2.2.2.2.2.2.2.2.2.2.2.1
theorem k0_dev218_lt : ∀ (v8 : BitVec 32) (k0_hw6 : k0_chk6 v8), (k0_dev218 v8) < nD := fun v8 k0_hw6 => k0_hw6.2.2.2.2.2.2.2.2.2.2.2.2.2.2.2.2.2.2.2.2.2.2.2.1
theorem k0_dev227_lt : ∀ (v8 : BitVec 32) (k0_hw6 : k0_chk6 v8), (k0_dev227 v8) < nD := fun v8 k0_hw6 => k0_hw6.2.2.2.2.2.2.2.2.2.2.2.2.2.2.2.2.2.2.2.2.2.2.2.2.1
theorem k0_dev236_lt : ∀ (v8 : BitVec 32) (k0_hw6 : k0_chk6 v8), (k0_dev236 v8) < nD := fun v8 k0_hw6 => k0_hw6.2.2.2.2.2.2.2.2.2.2.2.2.2.2.2.2.2.2.2.2.2.2.2.2.2.1
theorem k0_dev245_lt : ∀ (v8 : BitVec 32) (k0_hw6 : k0_chk6 v8), (k0_dev245 v8) < nD := fun v8 k0_hw6 => k0_hw6.2.2.2.2.2.2.2.2.2.2.2.2.2.2.2.2.2.2.2.2.2.2.2.2.2.2.1
theorem k0_dev254_lt : ∀ (v8 : BitVec 32) (k0_hw6 : k0_chk6 v8), (k0_dev254 v8) < nD := fun v8 k0_hw6 => k0_hw6.2.2.2.2.2.2.2.2.2.2.2.2.2.2.2.2.2.2.2.2.2.2.2.2.2.2.2.1
theorem k0_dev263_lt : ∀ (v8 : BitVec 32) (k0_hw6 : k0_chk6 v8), (k0_dev263 v8) < nD := fun v8 k0_hw6 => k0_hw6.2.2.2.2.2.2.2.2.2.2.2.2.2.2.2.2.2.2.2.2.2.2.2.2.2.2.2.2.1
theorem k0_dev272_lt : ∀ (v8 : BitVec 32) (k0_hw6 : k0_chk6 v8), (k0_dev272 v8) < nD := fun v8 k0_hw6 => k0_hw6.2.2.2.2.2.2.2.2.2.2.2.2.2.2.2.2.2.2.2.2.2.2.2.2.2.2.2.2.2

def k0_dev273 (v5 : BitVec 32) : Nat :=
  let c0_i32_9509 : BitVec 32 := 0#32
  let c1_i32_9508 : BitVec 32 := 1#32
  let v6702 : BitVec 32 := Scalar.muli v5 c1_i32_9508
  let v6703 : BitVec 32 := Scalar.addi c0_i32_9509 v6702
  v6703.toNat
def k0_off91 (v6712 : BitVec 32) : Fin 2 → Nat :=
  let c128_i32_9514 : BitVec 32 := 128#32
  let v6713 : BitVec 32 := Scalar.muli v6712 c128_i32_9514
  let v6714 : Index := Scalar.indexCast v6713
  let c0_9515 : Index := 0#32
  ![v6714.toNat, 0]

def k0_chk97 (v6712 : BitVec 32) : Prop :=
  (∀ a, (k0_off91 v6712) a + S128x128.size a ≤ S4096x128.size a)
theorem k0_off91_inb : ∀ (v6712 : BitVec 32) (k0_hw97 : k0_chk97 v6712), ∀ a, (k0_off91 v6712) a + S128x128.size a ≤ S4096x128.size a := fun v6712 k0_hw97 => k0_hw97

def k0_off92 (v6720 : BitVec 32) : Fin 2 → Nat :=
  let c128_i32_9520 : BitVec 32 := 128#32
  let v6721 : BitVec 32 := Scalar.muli v6720 c128_i32_9520
  let v6722 : Index := Scalar.indexCast v6721
  let c0_9521 : Index := 0#32
  ![v6722.toNat, 0]

def k0_chk98 (v6720 : BitVec 32) : Prop :=
  (∀ a, (k0_off92 v6720) a + S128x128.size a ≤ S4096x128.size a)
theorem k0_off92_inb : ∀ (v6720 : BitVec 32) (k0_hw98 : k0_chk98 v6720), ∀ a, (k0_off92 v6720) a + S128x128.size a ≤ S4096x128.size a := fun v6720 k0_hw98 => k0_hw98

def k0_off93 (v6728 : BitVec 32) : Fin 2 → Nat :=
  let c128_i32_9526 : BitVec 32 := 128#32
  let v6729 : BitVec 32 := Scalar.muli v6728 c128_i32_9526
  let v6730 : Index := Scalar.indexCast v6729
  let c0_9527 : Index := 0#32
  ![v6730.toNat, 0]

def k0_chk99 (v6728 : BitVec 32) : Prop :=
  (∀ a, (k0_off93 v6728) a + S128x128.size a ≤ S4096x128.size a)
theorem k0_off93_inb : ∀ (v6728 : BitVec 32) (k0_hw99 : k0_chk99 v6728), ∀ a, (k0_off93 v6728) a + S128x128.size a ≤ S4096x128.size a := fun v6728 k0_hw99 => k0_hw99

def k0_dev274 (v3 : BitVec 32) : Nat :=
  let c0_i32_9577 : BitVec 32 := 0#32
  let c1_i32_9576 : BitVec 32 := 1#32
  let v6759 : BitVec 32 := Scalar.muli v3 c1_i32_9576
  let v6760 : BitVec 32 := Scalar.addi c0_i32_9577 v6759
  v6760.toNat
def k0_dev275 (v4 : BitVec 32) : Nat :=
  let c0_i32_9628 : BitVec 32 := 0#32
  let c1_i32_9627 : BitVec 32 := 1#32
  let v6792 : BitVec 32 := Scalar.muli v4 c1_i32_9627
  let v6793 : BitVec 32 := Scalar.addi c0_i32_9628 v6792
  v6793.toNat
def k0_dev276 (v5 : BitVec 32) : Nat :=
  let c0_i32_9679 : BitVec 32 := 0#32
  let c1_i32_9678 : BitVec 32 := 1#32
  let v6825 : BitVec 32 := Scalar.muli v5 c1_i32_9678
  let v6826 : BitVec 32 := Scalar.addi c0_i32_9679 v6825
  v6826.toNat
def k0_dev277 (v3 : BitVec 32) : Nat :=
  let c0_i32_9728 : BitVec 32 := 0#32
  let c1_i32_9727 : BitVec 32 := 1#32
  let v6858 : BitVec 32 := Scalar.muli v3 c1_i32_9727
  let v6859 : BitVec 32 := Scalar.addi c0_i32_9728 v6858
  v6859.toNat

def k0_chk1_0 (v3 : BitVec 32) : Prop :=
  ((k0_dev1 v3) < nD) ∧
  ((k0_dev7 v3) < nD) ∧
  ((k0_dev10 v3) < nD) ∧
  ((k0_dev13 v3) < nD) ∧
  ((k0_dev17 v3) < nD) ∧
  ((k0_dev22 v3) < nD) ∧
  ((k0_dev26 v3) < nD) ∧
  ((k0_dev31 v3) < nD) ∧
  ((k0_dev35 v3) < nD) ∧
  ((k0_dev40 v3) < nD) ∧
  ((k0_dev44 v3) < nD) ∧
  ((k0_dev49 v3) < nD) ∧
  ((k0_dev53 v3) < nD) ∧
  ((k0_dev58 v3) < nD) ∧
  ((k0_dev62 v3) < nD) ∧
  ((k0_dev67 v3) < nD) ∧
  ((k0_dev71 v3) < nD) ∧
  ((k0_dev76 v3) < nD) ∧
  ((k0_dev80 v3) < nD) ∧
  ((k0_dev85 v3) < nD) ∧
  ((k0_dev89 v3) < nD) ∧
  ((k0_dev94 v3) < nD) ∧
  ((k0_dev98 v3) < nD) ∧
  ((k0_dev103 v3) < nD) ∧
  ((k0_dev107 v3) < nD) ∧
  ((k0_dev112 v3) < nD) ∧
  ((k0_dev116 v3) < nD) ∧
  ((k0_dev121 v3) < nD) ∧
  ((k0_dev125 v3) < nD) ∧
  ((k0_dev130 v3) < nD) ∧
  ((k0_dev134 v3) < nD) ∧
  ((k0_dev139 v3) < nD)
def k0_chk1_1 (v3 : BitVec 32) : Prop :=
  ((k0_dev143 v3) < nD) ∧
  ((k0_dev148 v3) < nD) ∧
  ((k0_dev152 v3) < nD) ∧
  ((k0_dev157 v3) < nD) ∧
  ((k0_dev161 v3) < nD) ∧
  ((k0_dev166 v3) < nD) ∧
  ((k0_dev170 v3) < nD) ∧
  ((k0_dev175 v3) < nD) ∧
  ((k0_dev179 v3) < nD) ∧
  ((k0_dev184 v3) < nD) ∧
  ((k0_dev188 v3) < nD) ∧
  ((k0_dev193 v3) < nD) ∧
  ((k0_dev197 v3) < nD) ∧
  ((k0_dev202 v3) < nD) ∧
  ((k0_dev206 v3) < nD) ∧
  ((k0_dev211 v3) < nD) ∧
  ((k0_dev215 v3) < nD) ∧
  ((k0_dev220 v3) < nD) ∧
  ((k0_dev224 v3) < nD) ∧
  ((k0_dev229 v3) < nD) ∧
  ((k0_dev233 v3) < nD) ∧
  ((k0_dev238 v3) < nD) ∧
  ((k0_dev242 v3) < nD) ∧
  ((k0_dev247 v3) < nD) ∧
  ((k0_dev251 v3) < nD) ∧
  ((k0_dev256 v3) < nD) ∧
  ((k0_dev260 v3) < nD) ∧
  ((k0_dev265 v3) < nD) ∧
  ((k0_dev269 v3) < nD) ∧
  ((k0_dev274 v3) < nD) ∧
  ((k0_dev277 v3) < nD)
def k0_chk1 (v3 : BitVec 32) : Prop :=
  k0_chk1_0 v3 ∧
  k0_chk1_1 v3
theorem k0_dev1_lt : ∀ (v3 : BitVec 32) (k0_hw1 : k0_chk1 v3), (k0_dev1 v3) < nD := fun v3 k0_hw1 => k0_hw1.1.1
theorem k0_dev7_lt : ∀ (v3 : BitVec 32) (k0_hw1 : k0_chk1 v3), (k0_dev7 v3) < nD := fun v3 k0_hw1 => k0_hw1.1.2.1
theorem k0_dev10_lt : ∀ (v3 : BitVec 32) (k0_hw1 : k0_chk1 v3), (k0_dev10 v3) < nD := fun v3 k0_hw1 => k0_hw1.1.2.2.1
theorem k0_dev13_lt : ∀ (v3 : BitVec 32) (k0_hw1 : k0_chk1 v3), (k0_dev13 v3) < nD := fun v3 k0_hw1 => k0_hw1.1.2.2.2.1
theorem k0_dev17_lt : ∀ (v3 : BitVec 32) (k0_hw1 : k0_chk1 v3), (k0_dev17 v3) < nD := fun v3 k0_hw1 => k0_hw1.1.2.2.2.2.1
theorem k0_dev22_lt : ∀ (v3 : BitVec 32) (k0_hw1 : k0_chk1 v3), (k0_dev22 v3) < nD := fun v3 k0_hw1 => k0_hw1.1.2.2.2.2.2.1
theorem k0_dev26_lt : ∀ (v3 : BitVec 32) (k0_hw1 : k0_chk1 v3), (k0_dev26 v3) < nD := fun v3 k0_hw1 => k0_hw1.1.2.2.2.2.2.2.1
theorem k0_dev31_lt : ∀ (v3 : BitVec 32) (k0_hw1 : k0_chk1 v3), (k0_dev31 v3) < nD := fun v3 k0_hw1 => k0_hw1.1.2.2.2.2.2.2.2.1
theorem k0_dev35_lt : ∀ (v3 : BitVec 32) (k0_hw1 : k0_chk1 v3), (k0_dev35 v3) < nD := fun v3 k0_hw1 => k0_hw1.1.2.2.2.2.2.2.2.2.1
theorem k0_dev40_lt : ∀ (v3 : BitVec 32) (k0_hw1 : k0_chk1 v3), (k0_dev40 v3) < nD := fun v3 k0_hw1 => k0_hw1.1.2.2.2.2.2.2.2.2.2.1
theorem k0_dev44_lt : ∀ (v3 : BitVec 32) (k0_hw1 : k0_chk1 v3), (k0_dev44 v3) < nD := fun v3 k0_hw1 => k0_hw1.1.2.2.2.2.2.2.2.2.2.2.1
theorem k0_dev49_lt : ∀ (v3 : BitVec 32) (k0_hw1 : k0_chk1 v3), (k0_dev49 v3) < nD := fun v3 k0_hw1 => k0_hw1.1.2.2.2.2.2.2.2.2.2.2.2.1
theorem k0_dev53_lt : ∀ (v3 : BitVec 32) (k0_hw1 : k0_chk1 v3), (k0_dev53 v3) < nD := fun v3 k0_hw1 => k0_hw1.1.2.2.2.2.2.2.2.2.2.2.2.2.1
theorem k0_dev58_lt : ∀ (v3 : BitVec 32) (k0_hw1 : k0_chk1 v3), (k0_dev58 v3) < nD := fun v3 k0_hw1 => k0_hw1.1.2.2.2.2.2.2.2.2.2.2.2.2.2.1
theorem k0_dev62_lt : ∀ (v3 : BitVec 32) (k0_hw1 : k0_chk1 v3), (k0_dev62 v3) < nD := fun v3 k0_hw1 => k0_hw1.1.2.2.2.2.2.2.2.2.2.2.2.2.2.2.1
theorem k0_dev67_lt : ∀ (v3 : BitVec 32) (k0_hw1 : k0_chk1 v3), (k0_dev67 v3) < nD := fun v3 k0_hw1 => k0_hw1.1.2.2.2.2.2.2.2.2.2.2.2.2.2.2.2.1
theorem k0_dev71_lt : ∀ (v3 : BitVec 32) (k0_hw1 : k0_chk1 v3), (k0_dev71 v3) < nD := fun v3 k0_hw1 => k0_hw1.1.2.2.2.2.2.2.2.2.2.2.2.2.2.2.2.2.1
theorem k0_dev76_lt : ∀ (v3 : BitVec 32) (k0_hw1 : k0_chk1 v3), (k0_dev76 v3) < nD := fun v3 k0_hw1 => k0_hw1.1.2.2.2.2.2.2.2.2.2.2.2.2.2.2.2.2.2.1
theorem k0_dev80_lt : ∀ (v3 : BitVec 32) (k0_hw1 : k0_chk1 v3), (k0_dev80 v3) < nD := fun v3 k0_hw1 => k0_hw1.1.2.2.2.2.2.2.2.2.2.2.2.2.2.2.2.2.2.2.1
theorem k0_dev85_lt : ∀ (v3 : BitVec 32) (k0_hw1 : k0_chk1 v3), (k0_dev85 v3) < nD := fun v3 k0_hw1 => k0_hw1.1.2.2.2.2.2.2.2.2.2.2.2.2.2.2.2.2.2.2.2.1
theorem k0_dev89_lt : ∀ (v3 : BitVec 32) (k0_hw1 : k0_chk1 v3), (k0_dev89 v3) < nD := fun v3 k0_hw1 => k0_hw1.1.2.2.2.2.2.2.2.2.2.2.2.2.2.2.2.2.2.2.2.2.1
theorem k0_dev94_lt : ∀ (v3 : BitVec 32) (k0_hw1 : k0_chk1 v3), (k0_dev94 v3) < nD := fun v3 k0_hw1 => k0_hw1.1.2.2.2.2.2.2.2.2.2.2.2.2.2.2.2.2.2.2.2.2.2.1
theorem k0_dev98_lt : ∀ (v3 : BitVec 32) (k0_hw1 : k0_chk1 v3), (k0_dev98 v3) < nD := fun v3 k0_hw1 => k0_hw1.1.2.2.2.2.2.2.2.2.2.2.2.2.2.2.2.2.2.2.2.2.2.2.1
theorem k0_dev103_lt : ∀ (v3 : BitVec 32) (k0_hw1 : k0_chk1 v3), (k0_dev103 v3) < nD := fun v3 k0_hw1 => k0_hw1.1.2.2.2.2.2.2.2.2.2.2.2.2.2.2.2.2.2.2.2.2.2.2.2.1
theorem k0_dev107_lt : ∀ (v3 : BitVec 32) (k0_hw1 : k0_chk1 v3), (k0_dev107 v3) < nD := fun v3 k0_hw1 => k0_hw1.1.2.2.2.2.2.2.2.2.2.2.2.2.2.2.2.2.2.2.2.2.2.2.2.2.1
theorem k0_dev112_lt : ∀ (v3 : BitVec 32) (k0_hw1 : k0_chk1 v3), (k0_dev112 v3) < nD := fun v3 k0_hw1 => k0_hw1.1.2.2.2.2.2.2.2.2.2.2.2.2.2.2.2.2.2.2.2.2.2.2.2.2.2.1
theorem k0_dev116_lt : ∀ (v3 : BitVec 32) (k0_hw1 : k0_chk1 v3), (k0_dev116 v3) < nD := fun v3 k0_hw1 => k0_hw1.1.2.2.2.2.2.2.2.2.2.2.2.2.2.2.2.2.2.2.2.2.2.2.2.2.2.2.1
theorem k0_dev121_lt : ∀ (v3 : BitVec 32) (k0_hw1 : k0_chk1 v3), (k0_dev121 v3) < nD := fun v3 k0_hw1 => k0_hw1.1.2.2.2.2.2.2.2.2.2.2.2.2.2.2.2.2.2.2.2.2.2.2.2.2.2.2.2.1
theorem k0_dev125_lt : ∀ (v3 : BitVec 32) (k0_hw1 : k0_chk1 v3), (k0_dev125 v3) < nD := fun v3 k0_hw1 => k0_hw1.1.2.2.2.2.2.2.2.2.2.2.2.2.2.2.2.2.2.2.2.2.2.2.2.2.2.2.2.2.1
theorem k0_dev130_lt : ∀ (v3 : BitVec 32) (k0_hw1 : k0_chk1 v3), (k0_dev130 v3) < nD := fun v3 k0_hw1 => k0_hw1.1.2.2.2.2.2.2.2.2.2.2.2.2.2.2.2.2.2.2.2.2.2.2.2.2.2.2.2.2.2.1
theorem k0_dev134_lt : ∀ (v3 : BitVec 32) (k0_hw1 : k0_chk1 v3), (k0_dev134 v3) < nD := fun v3 k0_hw1 => k0_hw1.1.2.2.2.2.2.2.2.2.2.2.2.2.2.2.2.2.2.2.2.2.2.2.2.2.2.2.2.2.2.2.1
theorem k0_dev139_lt : ∀ (v3 : BitVec 32) (k0_hw1 : k0_chk1 v3), (k0_dev139 v3) < nD := fun v3 k0_hw1 => k0_hw1.1.2.2.2.2.2.2.2.2.2.2.2.2.2.2.2.2.2.2.2.2.2.2.2.2.2.2.2.2.2.2.2
theorem k0_dev143_lt : ∀ (v3 : BitVec 32) (k0_hw1 : k0_chk1 v3), (k0_dev143 v3) < nD := fun v3 k0_hw1 => k0_hw1.2.1
theorem k0_dev148_lt : ∀ (v3 : BitVec 32) (k0_hw1 : k0_chk1 v3), (k0_dev148 v3) < nD := fun v3 k0_hw1 => k0_hw1.2.2.1
theorem k0_dev152_lt : ∀ (v3 : BitVec 32) (k0_hw1 : k0_chk1 v3), (k0_dev152 v3) < nD := fun v3 k0_hw1 => k0_hw1.2.2.2.1
theorem k0_dev157_lt : ∀ (v3 : BitVec 32) (k0_hw1 : k0_chk1 v3), (k0_dev157 v3) < nD := fun v3 k0_hw1 => k0_hw1.2.2.2.2.1
theorem k0_dev161_lt : ∀ (v3 : BitVec 32) (k0_hw1 : k0_chk1 v3), (k0_dev161 v3) < nD := fun v3 k0_hw1 => k0_hw1.2.2.2.2.2.1
theorem k0_dev166_lt : ∀ (v3 : BitVec 32) (k0_hw1 : k0_chk1 v3), (k0_dev166 v3) < nD := fun v3 k0_hw1 => k0_hw1.2.2.2.2.2.2.1
theorem k0_dev170_lt : ∀ (v3 : BitVec 32) (k0_hw1 : k0_chk1 v3), (k0_dev170 v3) < nD := fun v3 k0_hw1 => k0_hw1.2.2.2.2.2.2.2.1
theorem k0_dev175_lt : ∀ (v3 : BitVec 32) (k0_hw1 : k0_chk1 v3), (k0_dev175 v3) < nD := fun v3 k0_hw1 => k0_hw1.2.2.2.2.2.2.2.2.1
theorem k0_dev179_lt : ∀ (v3 : BitVec 32) (k0_hw1 : k0_chk1 v3), (k0_dev179 v3) < nD := fun v3 k0_hw1 => k0_hw1.2.2.2.2.2.2.2.2.2.1
theorem k0_dev184_lt : ∀ (v3 : BitVec 32) (k0_hw1 : k0_chk1 v3), (k0_dev184 v3) < nD := fun v3 k0_hw1 => k0_hw1.2.2.2.2.2.2.2.2.2.2.1
theorem k0_dev188_lt : ∀ (v3 : BitVec 32) (k0_hw1 : k0_chk1 v3), (k0_dev188 v3) < nD := fun v3 k0_hw1 => k0_hw1.2.2.2.2.2.2.2.2.2.2.2.1
theorem k0_dev193_lt : ∀ (v3 : BitVec 32) (k0_hw1 : k0_chk1 v3), (k0_dev193 v3) < nD := fun v3 k0_hw1 => k0_hw1.2.2.2.2.2.2.2.2.2.2.2.2.1
theorem k0_dev197_lt : ∀ (v3 : BitVec 32) (k0_hw1 : k0_chk1 v3), (k0_dev197 v3) < nD := fun v3 k0_hw1 => k0_hw1.2.2.2.2.2.2.2.2.2.2.2.2.2.1
theorem k0_dev202_lt : ∀ (v3 : BitVec 32) (k0_hw1 : k0_chk1 v3), (k0_dev202 v3) < nD := fun v3 k0_hw1 => k0_hw1.2.2.2.2.2.2.2.2.2.2.2.2.2.2.1
theorem k0_dev206_lt : ∀ (v3 : BitVec 32) (k0_hw1 : k0_chk1 v3), (k0_dev206 v3) < nD := fun v3 k0_hw1 => k0_hw1.2.2.2.2.2.2.2.2.2.2.2.2.2.2.2.1
theorem k0_dev211_lt : ∀ (v3 : BitVec 32) (k0_hw1 : k0_chk1 v3), (k0_dev211 v3) < nD := fun v3 k0_hw1 => k0_hw1.2.2.2.2.2.2.2.2.2.2.2.2.2.2.2.2.1
theorem k0_dev215_lt : ∀ (v3 : BitVec 32) (k0_hw1 : k0_chk1 v3), (k0_dev215 v3) < nD := fun v3 k0_hw1 => k0_hw1.2.2.2.2.2.2.2.2.2.2.2.2.2.2.2.2.2.1
theorem k0_dev220_lt : ∀ (v3 : BitVec 32) (k0_hw1 : k0_chk1 v3), (k0_dev220 v3) < nD := fun v3 k0_hw1 => k0_hw1.2.2.2.2.2.2.2.2.2.2.2.2.2.2.2.2.2.2.1
theorem k0_dev224_lt : ∀ (v3 : BitVec 32) (k0_hw1 : k0_chk1 v3), (k0_dev224 v3) < nD := fun v3 k0_hw1 => k0_hw1.2.2.2.2.2.2.2.2.2.2.2.2.2.2.2.2.2.2.2.1
theorem k0_dev229_lt : ∀ (v3 : BitVec 32) (k0_hw1 : k0_chk1 v3), (k0_dev229 v3) < nD := fun v3 k0_hw1 => k0_hw1.2.2.2.2.2.2.2.2.2.2.2.2.2.2.2.2.2.2.2.2.1
theorem k0_dev233_lt : ∀ (v3 : BitVec 32) (k0_hw1 : k0_chk1 v3), (k0_dev233 v3) < nD := fun v3 k0_hw1 => k0_hw1.2.2.2.2.2.2.2.2.2.2.2.2.2.2.2.2.2.2.2.2.2.1
theorem k0_dev238_lt : ∀ (v3 : BitVec 32) (k0_hw1 : k0_chk1 v3), (k0_dev238 v3) < nD := fun v3 k0_hw1 => k0_hw1.2.2.2.2.2.2.2.2.2.2.2.2.2.2.2.2.2.2.2.2.2.2.1
theorem k0_dev242_lt : ∀ (v3 : BitVec 32) (k0_hw1 : k0_chk1 v3), (k0_dev242 v3) < nD := fun v3 k0_hw1 => k0_hw1.2.2.2.2.2.2.2.2.2.2.2.2.2.2.2.2.2.2.2.2.2.2.2.1
theorem k0_dev247_lt : ∀ (v3 : BitVec 32) (k0_hw1 : k0_chk1 v3), (k0_dev247 v3) < nD := fun v3 k0_hw1 => k0_hw1.2.2.2.2.2.2.2.2.2.2.2.2.2.2.2.2.2.2.2.2.2.2.2.2.1
theorem k0_dev251_lt : ∀ (v3 : BitVec 32) (k0_hw1 : k0_chk1 v3), (k0_dev251 v3) < nD := fun v3 k0_hw1 => k0_hw1.2.2.2.2.2.2.2.2.2.2.2.2.2.2.2.2.2.2.2.2.2.2.2.2.2.1
theorem k0_dev256_lt : ∀ (v3 : BitVec 32) (k0_hw1 : k0_chk1 v3), (k0_dev256 v3) < nD := fun v3 k0_hw1 => k0_hw1.2.2.2.2.2.2.2.2.2.2.2.2.2.2.2.2.2.2.2.2.2.2.2.2.2.2.1
theorem k0_dev260_lt : ∀ (v3 : BitVec 32) (k0_hw1 : k0_chk1 v3), (k0_dev260 v3) < nD := fun v3 k0_hw1 => k0_hw1.2.2.2.2.2.2.2.2.2.2.2.2.2.2.2.2.2.2.2.2.2.2.2.2.2.2.2.1
theorem k0_dev265_lt : ∀ (v3 : BitVec 32) (k0_hw1 : k0_chk1 v3), (k0_dev265 v3) < nD := fun v3 k0_hw1 => k0_hw1.2.2.2.2.2.2.2.2.2.2.2.2.2.2.2.2.2.2.2.2.2.2.2.2.2.2.2.2.1
theorem k0_dev269_lt : ∀ (v3 : BitVec 32) (k0_hw1 : k0_chk1 v3), (k0_dev269 v3) < nD := fun v3 k0_hw1 => k0_hw1.2.2.2.2.2.2.2.2.2.2.2.2.2.2.2.2.2.2.2.2.2.2.2.2.2.2.2.2.2.1
theorem k0_dev274_lt : ∀ (v3 : BitVec 32) (k0_hw1 : k0_chk1 v3), (k0_dev274 v3) < nD := fun v3 k0_hw1 => k0_hw1.2.2.2.2.2.2.2.2.2.2.2.2.2.2.2.2.2.2.2.2.2.2.2.2.2.2.2.2.2.2.1
theorem k0_dev277_lt : ∀ (v3 : BitVec 32) (k0_hw1 : k0_chk1 v3), (k0_dev277 v3) < nD := fun v3 k0_hw1 => k0_hw1.2.2.2.2.2.2.2.2.2.2.2.2.2.2.2.2.2.2.2.2.2.2.2.2.2.2.2.2.2.2.2

def k0_dev278 (v4 : BitVec 32) : Nat :=
  let c0_i32_9777 : BitVec 32 := 0#32
  let c1_i32_9776 : BitVec 32 := 1#32
  let v6891 : BitVec 32 := Scalar.muli v4 c1_i32_9776
  let v6892 : BitVec 32 := Scalar.addi c0_i32_9777 v6891
  v6892.toNat

def k0_chk2_0 (v4 : BitVec 32) : Prop :=
  ((k0_dev2 v4) < nD) ∧
  ((k0_dev8 v4) < nD) ∧
  ((k0_dev11 v4) < nD) ∧
  ((k0_dev14 v4) < nD) ∧
  ((k0_dev19 v4) < nD) ∧
  ((k0_dev23 v4) < nD) ∧
  ((k0_dev28 v4) < nD) ∧
  ((k0_dev32 v4) < nD) ∧
  ((k0_dev37 v4) < nD) ∧
  ((k0_dev41 v4) < nD) ∧
  ((k0_dev46 v4) < nD) ∧
  ((k0_dev50 v4) < nD) ∧
  ((k0_dev55 v4) < nD) ∧
  ((k0_dev59 v4) < nD) ∧
  ((k0_dev64 v4) < nD) ∧
  ((k0_dev68 v4) < nD) ∧
  ((k0_dev73 v4) < nD) ∧
  ((k0_dev77 v4) < nD) ∧
  ((k0_dev82 v4) < nD) ∧
  ((k0_dev86 v4) < nD) ∧
  ((k0_dev91 v4) < nD) ∧
  ((k0_dev95 v4) < nD) ∧
  ((k0_dev100 v4) < nD) ∧
  ((k0_dev104 v4) < nD) ∧
  ((k0_dev109 v4) < nD) ∧
  ((k0_dev113 v4) < nD) ∧
  ((k0_dev118 v4) < nD) ∧
  ((k0_dev122 v4) < nD) ∧
  ((k0_dev127 v4) < nD) ∧
  ((k0_dev131 v4) < nD) ∧
  ((k0_dev136 v4) < nD) ∧
  ((k0_dev140 v4) < nD)
def k0_chk2_1 (v4 : BitVec 32) : Prop :=
  ((k0_dev145 v4) < nD) ∧
  ((k0_dev149 v4) < nD) ∧
  ((k0_dev154 v4) < nD) ∧
  ((k0_dev158 v4) < nD) ∧
  ((k0_dev163 v4) < nD) ∧
  ((k0_dev167 v4) < nD) ∧
  ((k0_dev172 v4) < nD) ∧
  ((k0_dev176 v4) < nD) ∧
  ((k0_dev181 v4) < nD) ∧
  ((k0_dev185 v4) < nD) ∧
  ((k0_dev190 v4) < nD) ∧
  ((k0_dev194 v4) < nD) ∧
  ((k0_dev199 v4) < nD) ∧
  ((k0_dev203 v4) < nD) ∧
  ((k0_dev208 v4) < nD) ∧
  ((k0_dev212 v4) < nD) ∧
  ((k0_dev217 v4) < nD) ∧
  ((k0_dev221 v4) < nD) ∧
  ((k0_dev226 v4) < nD) ∧
  ((k0_dev230 v4) < nD) ∧
  ((k0_dev235 v4) < nD) ∧
  ((k0_dev239 v4) < nD) ∧
  ((k0_dev244 v4) < nD) ∧
  ((k0_dev248 v4) < nD) ∧
  ((k0_dev253 v4) < nD) ∧
  ((k0_dev257 v4) < nD) ∧
  ((k0_dev262 v4) < nD) ∧
  ((k0_dev266 v4) < nD) ∧
  ((k0_dev271 v4) < nD) ∧
  ((k0_dev275 v4) < nD) ∧
  ((k0_dev278 v4) < nD)
def k0_chk2 (v4 : BitVec 32) : Prop :=
  k0_chk2_0 v4 ∧
  k0_chk2_1 v4
theorem k0_dev2_lt : ∀ (v4 : BitVec 32) (k0_hw2 : k0_chk2 v4), (k0_dev2 v4) < nD := fun v4 k0_hw2 => k0_hw2.1.1
theorem k0_dev8_lt : ∀ (v4 : BitVec 32) (k0_hw2 : k0_chk2 v4), (k0_dev8 v4) < nD := fun v4 k0_hw2 => k0_hw2.1.2.1
theorem k0_dev11_lt : ∀ (v4 : BitVec 32) (k0_hw2 : k0_chk2 v4), (k0_dev11 v4) < nD := fun v4 k0_hw2 => k0_hw2.1.2.2.1
theorem k0_dev14_lt : ∀ (v4 : BitVec 32) (k0_hw2 : k0_chk2 v4), (k0_dev14 v4) < nD := fun v4 k0_hw2 => k0_hw2.1.2.2.2.1
theorem k0_dev19_lt : ∀ (v4 : BitVec 32) (k0_hw2 : k0_chk2 v4), (k0_dev19 v4) < nD := fun v4 k0_hw2 => k0_hw2.1.2.2.2.2.1
theorem k0_dev23_lt : ∀ (v4 : BitVec 32) (k0_hw2 : k0_chk2 v4), (k0_dev23 v4) < nD := fun v4 k0_hw2 => k0_hw2.1.2.2.2.2.2.1
theorem k0_dev28_lt : ∀ (v4 : BitVec 32) (k0_hw2 : k0_chk2 v4), (k0_dev28 v4) < nD := fun v4 k0_hw2 => k0_hw2.1.2.2.2.2.2.2.1
theorem k0_dev32_lt : ∀ (v4 : BitVec 32) (k0_hw2 : k0_chk2 v4), (k0_dev32 v4) < nD := fun v4 k0_hw2 => k0_hw2.1.2.2.2.2.2.2.2.1
theorem k0_dev37_lt : ∀ (v4 : BitVec 32) (k0_hw2 : k0_chk2 v4), (k0_dev37 v4) < nD := fun v4 k0_hw2 => k0_hw2.1.2.2.2.2.2.2.2.2.1
theorem k0_dev41_lt : ∀ (v4 : BitVec 32) (k0_hw2 : k0_chk2 v4), (k0_dev41 v4) < nD := fun v4 k0_hw2 => k0_hw2.1.2.2.2.2.2.2.2.2.2.1
theorem k0_dev46_lt : ∀ (v4 : BitVec 32) (k0_hw2 : k0_chk2 v4), (k0_dev46 v4) < nD := fun v4 k0_hw2 => k0_hw2.1.2.2.2.2.2.2.2.2.2.2.1
theorem k0_dev50_lt : ∀ (v4 : BitVec 32) (k0_hw2 : k0_chk2 v4), (k0_dev50 v4) < nD := fun v4 k0_hw2 => k0_hw2.1.2.2.2.2.2.2.2.2.2.2.2.1
theorem k0_dev55_lt : ∀ (v4 : BitVec 32) (k0_hw2 : k0_chk2 v4), (k0_dev55 v4) < nD := fun v4 k0_hw2 => k0_hw2.1.2.2.2.2.2.2.2.2.2.2.2.2.1
theorem k0_dev59_lt : ∀ (v4 : BitVec 32) (k0_hw2 : k0_chk2 v4), (k0_dev59 v4) < nD := fun v4 k0_hw2 => k0_hw2.1.2.2.2.2.2.2.2.2.2.2.2.2.2.1
theorem k0_dev64_lt : ∀ (v4 : BitVec 32) (k0_hw2 : k0_chk2 v4), (k0_dev64 v4) < nD := fun v4 k0_hw2 => k0_hw2.1.2.2.2.2.2.2.2.2.2.2.2.2.2.2.1
theorem k0_dev68_lt : ∀ (v4 : BitVec 32) (k0_hw2 : k0_chk2 v4), (k0_dev68 v4) < nD := fun v4 k0_hw2 => k0_hw2.1.2.2.2.2.2.2.2.2.2.2.2.2.2.2.2.1
theorem k0_dev73_lt : ∀ (v4 : BitVec 32) (k0_hw2 : k0_chk2 v4), (k0_dev73 v4) < nD := fun v4 k0_hw2 => k0_hw2.1.2.2.2.2.2.2.2.2.2.2.2.2.2.2.2.2.1
theorem k0_dev77_lt : ∀ (v4 : BitVec 32) (k0_hw2 : k0_chk2 v4), (k0_dev77 v4) < nD := fun v4 k0_hw2 => k0_hw2.1.2.2.2.2.2.2.2.2.2.2.2.2.2.2.2.2.2.1
theorem k0_dev82_lt : ∀ (v4 : BitVec 32) (k0_hw2 : k0_chk2 v4), (k0_dev82 v4) < nD := fun v4 k0_hw2 => k0_hw2.1.2.2.2.2.2.2.2.2.2.2.2.2.2.2.2.2.2.2.1
theorem k0_dev86_lt : ∀ (v4 : BitVec 32) (k0_hw2 : k0_chk2 v4), (k0_dev86 v4) < nD := fun v4 k0_hw2 => k0_hw2.1.2.2.2.2.2.2.2.2.2.2.2.2.2.2.2.2.2.2.2.1
theorem k0_dev91_lt : ∀ (v4 : BitVec 32) (k0_hw2 : k0_chk2 v4), (k0_dev91 v4) < nD := fun v4 k0_hw2 => k0_hw2.1.2.2.2.2.2.2.2.2.2.2.2.2.2.2.2.2.2.2.2.2.1
theorem k0_dev95_lt : ∀ (v4 : BitVec 32) (k0_hw2 : k0_chk2 v4), (k0_dev95 v4) < nD := fun v4 k0_hw2 => k0_hw2.1.2.2.2.2.2.2.2.2.2.2.2.2.2.2.2.2.2.2.2.2.2.1
theorem k0_dev100_lt : ∀ (v4 : BitVec 32) (k0_hw2 : k0_chk2 v4), (k0_dev100 v4) < nD := fun v4 k0_hw2 => k0_hw2.1.2.2.2.2.2.2.2.2.2.2.2.2.2.2.2.2.2.2.2.2.2.2.1
theorem k0_dev104_lt : ∀ (v4 : BitVec 32) (k0_hw2 : k0_chk2 v4), (k0_dev104 v4) < nD := fun v4 k0_hw2 => k0_hw2.1.2.2.2.2.2.2.2.2.2.2.2.2.2.2.2.2.2.2.2.2.2.2.2.1
theorem k0_dev109_lt : ∀ (v4 : BitVec 32) (k0_hw2 : k0_chk2 v4), (k0_dev109 v4) < nD := fun v4 k0_hw2 => k0_hw2.1.2.2.2.2.2.2.2.2.2.2.2.2.2.2.2.2.2.2.2.2.2.2.2.2.1
theorem k0_dev113_lt : ∀ (v4 : BitVec 32) (k0_hw2 : k0_chk2 v4), (k0_dev113 v4) < nD := fun v4 k0_hw2 => k0_hw2.1.2.2.2.2.2.2.2.2.2.2.2.2.2.2.2.2.2.2.2.2.2.2.2.2.2.1
theorem k0_dev118_lt : ∀ (v4 : BitVec 32) (k0_hw2 : k0_chk2 v4), (k0_dev118 v4) < nD := fun v4 k0_hw2 => k0_hw2.1.2.2.2.2.2.2.2.2.2.2.2.2.2.2.2.2.2.2.2.2.2.2.2.2.2.2.1
theorem k0_dev122_lt : ∀ (v4 : BitVec 32) (k0_hw2 : k0_chk2 v4), (k0_dev122 v4) < nD := fun v4 k0_hw2 => k0_hw2.1.2.2.2.2.2.2.2.2.2.2.2.2.2.2.2.2.2.2.2.2.2.2.2.2.2.2.2.1
theorem k0_dev127_lt : ∀ (v4 : BitVec 32) (k0_hw2 : k0_chk2 v4), (k0_dev127 v4) < nD := fun v4 k0_hw2 => k0_hw2.1.2.2.2.2.2.2.2.2.2.2.2.2.2.2.2.2.2.2.2.2.2.2.2.2.2.2.2.2.1
theorem k0_dev131_lt : ∀ (v4 : BitVec 32) (k0_hw2 : k0_chk2 v4), (k0_dev131 v4) < nD := fun v4 k0_hw2 => k0_hw2.1.2.2.2.2.2.2.2.2.2.2.2.2.2.2.2.2.2.2.2.2.2.2.2.2.2.2.2.2.2.1
theorem k0_dev136_lt : ∀ (v4 : BitVec 32) (k0_hw2 : k0_chk2 v4), (k0_dev136 v4) < nD := fun v4 k0_hw2 => k0_hw2.1.2.2.2.2.2.2.2.2.2.2.2.2.2.2.2.2.2.2.2.2.2.2.2.2.2.2.2.2.2.2.1
theorem k0_dev140_lt : ∀ (v4 : BitVec 32) (k0_hw2 : k0_chk2 v4), (k0_dev140 v4) < nD := fun v4 k0_hw2 => k0_hw2.1.2.2.2.2.2.2.2.2.2.2.2.2.2.2.2.2.2.2.2.2.2.2.2.2.2.2.2.2.2.2.2
theorem k0_dev145_lt : ∀ (v4 : BitVec 32) (k0_hw2 : k0_chk2 v4), (k0_dev145 v4) < nD := fun v4 k0_hw2 => k0_hw2.2.1
theorem k0_dev149_lt : ∀ (v4 : BitVec 32) (k0_hw2 : k0_chk2 v4), (k0_dev149 v4) < nD := fun v4 k0_hw2 => k0_hw2.2.2.1
theorem k0_dev154_lt : ∀ (v4 : BitVec 32) (k0_hw2 : k0_chk2 v4), (k0_dev154 v4) < nD := fun v4 k0_hw2 => k0_hw2.2.2.2.1
theorem k0_dev158_lt : ∀ (v4 : BitVec 32) (k0_hw2 : k0_chk2 v4), (k0_dev158 v4) < nD := fun v4 k0_hw2 => k0_hw2.2.2.2.2.1
theorem k0_dev163_lt : ∀ (v4 : BitVec 32) (k0_hw2 : k0_chk2 v4), (k0_dev163 v4) < nD := fun v4 k0_hw2 => k0_hw2.2.2.2.2.2.1
theorem k0_dev167_lt : ∀ (v4 : BitVec 32) (k0_hw2 : k0_chk2 v4), (k0_dev167 v4) < nD := fun v4 k0_hw2 => k0_hw2.2.2.2.2.2.2.1
theorem k0_dev172_lt : ∀ (v4 : BitVec 32) (k0_hw2 : k0_chk2 v4), (k0_dev172 v4) < nD := fun v4 k0_hw2 => k0_hw2.2.2.2.2.2.2.2.1
theorem k0_dev176_lt : ∀ (v4 : BitVec 32) (k0_hw2 : k0_chk2 v4), (k0_dev176 v4) < nD := fun v4 k0_hw2 => k0_hw2.2.2.2.2.2.2.2.2.1
theorem k0_dev181_lt : ∀ (v4 : BitVec 32) (k0_hw2 : k0_chk2 v4), (k0_dev181 v4) < nD := fun v4 k0_hw2 => k0_hw2.2.2.2.2.2.2.2.2.2.1
theorem k0_dev185_lt : ∀ (v4 : BitVec 32) (k0_hw2 : k0_chk2 v4), (k0_dev185 v4) < nD := fun v4 k0_hw2 => k0_hw2.2.2.2.2.2.2.2.2.2.2.1
theorem k0_dev190_lt : ∀ (v4 : BitVec 32) (k0_hw2 : k0_chk2 v4), (k0_dev190 v4) < nD := fun v4 k0_hw2 => k0_hw2.2.2.2.2.2.2.2.2.2.2.2.1
theorem k0_dev194_lt : ∀ (v4 : BitVec 32) (k0_hw2 : k0_chk2 v4), (k0_dev194 v4) < nD := fun v4 k0_hw2 => k0_hw2.2.2.2.2.2.2.2.2.2.2.2.2.1
theorem k0_dev199_lt : ∀ (v4 : BitVec 32) (k0_hw2 : k0_chk2 v4), (k0_dev199 v4) < nD := fun v4 k0_hw2 => k0_hw2.2.2.2.2.2.2.2.2.2.2.2.2.2.1
theorem k0_dev203_lt : ∀ (v4 : BitVec 32) (k0_hw2 : k0_chk2 v4), (k0_dev203 v4) < nD := fun v4 k0_hw2 => k0_hw2.2.2.2.2.2.2.2.2.2.2.2.2.2.2.1
theorem k0_dev208_lt : ∀ (v4 : BitVec 32) (k0_hw2 : k0_chk2 v4), (k0_dev208 v4) < nD := fun v4 k0_hw2 => k0_hw2.2.2.2.2.2.2.2.2.2.2.2.2.2.2.2.1
theorem k0_dev212_lt : ∀ (v4 : BitVec 32) (k0_hw2 : k0_chk2 v4), (k0_dev212 v4) < nD := fun v4 k0_hw2 => k0_hw2.2.2.2.2.2.2.2.2.2.2.2.2.2.2.2.2.1
theorem k0_dev217_lt : ∀ (v4 : BitVec 32) (k0_hw2 : k0_chk2 v4), (k0_dev217 v4) < nD := fun v4 k0_hw2 => k0_hw2.2.2.2.2.2.2.2.2.2.2.2.2.2.2.2.2.2.1
theorem k0_dev221_lt : ∀ (v4 : BitVec 32) (k0_hw2 : k0_chk2 v4), (k0_dev221 v4) < nD := fun v4 k0_hw2 => k0_hw2.2.2.2.2.2.2.2.2.2.2.2.2.2.2.2.2.2.2.1
theorem k0_dev226_lt : ∀ (v4 : BitVec 32) (k0_hw2 : k0_chk2 v4), (k0_dev226 v4) < nD := fun v4 k0_hw2 => k0_hw2.2.2.2.2.2.2.2.2.2.2.2.2.2.2.2.2.2.2.2.1
theorem k0_dev230_lt : ∀ (v4 : BitVec 32) (k0_hw2 : k0_chk2 v4), (k0_dev230 v4) < nD := fun v4 k0_hw2 => k0_hw2.2.2.2.2.2.2.2.2.2.2.2.2.2.2.2.2.2.2.2.2.1
theorem k0_dev235_lt : ∀ (v4 : BitVec 32) (k0_hw2 : k0_chk2 v4), (k0_dev235 v4) < nD := fun v4 k0_hw2 => k0_hw2.2.2.2.2.2.2.2.2.2.2.2.2.2.2.2.2.2.2.2.2.2.1
theorem k0_dev239_lt : ∀ (v4 : BitVec 32) (k0_hw2 : k0_chk2 v4), (k0_dev239 v4) < nD := fun v4 k0_hw2 => k0_hw2.2.2.2.2.2.2.2.2.2.2.2.2.2.2.2.2.2.2.2.2.2.2.1
theorem k0_dev244_lt : ∀ (v4 : BitVec 32) (k0_hw2 : k0_chk2 v4), (k0_dev244 v4) < nD := fun v4 k0_hw2 => k0_hw2.2.2.2.2.2.2.2.2.2.2.2.2.2.2.2.2.2.2.2.2.2.2.2.1
theorem k0_dev248_lt : ∀ (v4 : BitVec 32) (k0_hw2 : k0_chk2 v4), (k0_dev248 v4) < nD := fun v4 k0_hw2 => k0_hw2.2.2.2.2.2.2.2.2.2.2.2.2.2.2.2.2.2.2.2.2.2.2.2.2.1
theorem k0_dev253_lt : ∀ (v4 : BitVec 32) (k0_hw2 : k0_chk2 v4), (k0_dev253 v4) < nD := fun v4 k0_hw2 => k0_hw2.2.2.2.2.2.2.2.2.2.2.2.2.2.2.2.2.2.2.2.2.2.2.2.2.2.1
theorem k0_dev257_lt : ∀ (v4 : BitVec 32) (k0_hw2 : k0_chk2 v4), (k0_dev257 v4) < nD := fun v4 k0_hw2 => k0_hw2.2.2.2.2.2.2.2.2.2.2.2.2.2.2.2.2.2.2.2.2.2.2.2.2.2.2.1
theorem k0_dev262_lt : ∀ (v4 : BitVec 32) (k0_hw2 : k0_chk2 v4), (k0_dev262 v4) < nD := fun v4 k0_hw2 => k0_hw2.2.2.2.2.2.2.2.2.2.2.2.2.2.2.2.2.2.2.2.2.2.2.2.2.2.2.2.1
theorem k0_dev266_lt : ∀ (v4 : BitVec 32) (k0_hw2 : k0_chk2 v4), (k0_dev266 v4) < nD := fun v4 k0_hw2 => k0_hw2.2.2.2.2.2.2.2.2.2.2.2.2.2.2.2.2.2.2.2.2.2.2.2.2.2.2.2.2.1
theorem k0_dev271_lt : ∀ (v4 : BitVec 32) (k0_hw2 : k0_chk2 v4), (k0_dev271 v4) < nD := fun v4 k0_hw2 => k0_hw2.2.2.2.2.2.2.2.2.2.2.2.2.2.2.2.2.2.2.2.2.2.2.2.2.2.2.2.2.2.1
theorem k0_dev275_lt : ∀ (v4 : BitVec 32) (k0_hw2 : k0_chk2 v4), (k0_dev275 v4) < nD := fun v4 k0_hw2 => k0_hw2.2.2.2.2.2.2.2.2.2.2.2.2.2.2.2.2.2.2.2.2.2.2.2.2.2.2.2.2.2.2.1
theorem k0_dev278_lt : ∀ (v4 : BitVec 32) (k0_hw2 : k0_chk2 v4), (k0_dev278 v4) < nD := fun v4 k0_hw2 => k0_hw2.2.2.2.2.2.2.2.2.2.2.2.2.2.2.2.2.2.2.2.2.2.2.2.2.2.2.2.2.2.2.2

def k0_dev279 (v5 : BitVec 32) : Nat :=
  let c0_i32_9826 : BitVec 32 := 0#32
  let c1_i32_9825 : BitVec 32 := 1#32
  let v6924 : BitVec 32 := Scalar.muli v5 c1_i32_9825
  let v6925 : BitVec 32 := Scalar.addi c0_i32_9826 v6924
  v6925.toNat

def k0_chk3_0 (v5 : BitVec 32) : Prop :=
  ((k0_dev3 v5) < nD) ∧
  ((k0_dev9 v5) < nD) ∧
  ((k0_dev12 v5) < nD) ∧
  ((k0_dev15 v5) < nD) ∧
  ((k0_dev21 v5) < nD) ∧
  ((k0_dev24 v5) < nD) ∧
  ((k0_dev30 v5) < nD) ∧
  ((k0_dev33 v5) < nD) ∧
  ((k0_dev39 v5) < nD) ∧
  ((k0_dev42 v5) < nD) ∧
  ((k0_dev48 v5) < nD) ∧
  ((k0_dev51 v5) < nD) ∧
  ((k0_dev57 v5) < nD) ∧
  ((k0_dev60 v5) < nD) ∧
  ((k0_dev66 v5) < nD) ∧
  ((k0_dev69 v5) < nD) ∧
  ((k0_dev75 v5) < nD) ∧
  ((k0_dev78 v5) < nD) ∧
  ((k0_dev84 v5) < nD) ∧
  ((k0_dev87 v5) < nD) ∧
  ((k0_dev93 v5) < nD) ∧
  ((k0_dev96 v5) < nD) ∧
  ((k0_dev102 v5) < nD) ∧
  ((k0_dev105 v5) < nD) ∧
  ((k0_dev111 v5) < nD) ∧
  ((k0_dev114 v5) < nD) ∧
  ((k0_dev120 v5) < nD) ∧
  ((k0_dev123 v5) < nD) ∧
  ((k0_dev129 v5) < nD) ∧
  ((k0_dev132 v5) < nD) ∧
  ((k0_dev138 v5) < nD) ∧
  ((k0_dev141 v5) < nD)
def k0_chk3_1 (v5 : BitVec 32) : Prop :=
  ((k0_dev147 v5) < nD) ∧
  ((k0_dev150 v5) < nD) ∧
  ((k0_dev156 v5) < nD) ∧
  ((k0_dev159 v5) < nD) ∧
  ((k0_dev165 v5) < nD) ∧
  ((k0_dev168 v5) < nD) ∧
  ((k0_dev174 v5) < nD) ∧
  ((k0_dev177 v5) < nD) ∧
  ((k0_dev183 v5) < nD) ∧
  ((k0_dev186 v5) < nD) ∧
  ((k0_dev192 v5) < nD) ∧
  ((k0_dev195 v5) < nD) ∧
  ((k0_dev201 v5) < nD) ∧
  ((k0_dev204 v5) < nD) ∧
  ((k0_dev210 v5) < nD) ∧
  ((k0_dev213 v5) < nD) ∧
  ((k0_dev219 v5) < nD) ∧
  ((k0_dev222 v5) < nD) ∧
  ((k0_dev228 v5) < nD) ∧
  ((k0_dev231 v5) < nD) ∧
  ((k0_dev237 v5) < nD) ∧
  ((k0_dev240 v5) < nD) ∧
  ((k0_dev246 v5) < nD) ∧
  ((k0_dev249 v5) < nD) ∧
  ((k0_dev255 v5) < nD) ∧
  ((k0_dev258 v5) < nD) ∧
  ((k0_dev264 v5) < nD) ∧
  ((k0_dev267 v5) < nD) ∧
  ((k0_dev273 v5) < nD) ∧
  ((k0_dev276 v5) < nD) ∧
  ((k0_dev279 v5) < nD)
def k0_chk3 (v5 : BitVec 32) : Prop :=
  k0_chk3_0 v5 ∧
  k0_chk3_1 v5
theorem k0_dev3_lt : ∀ (v5 : BitVec 32) (k0_hw3 : k0_chk3 v5), (k0_dev3 v5) < nD := fun v5 k0_hw3 => k0_hw3.1.1
theorem k0_dev9_lt : ∀ (v5 : BitVec 32) (k0_hw3 : k0_chk3 v5), (k0_dev9 v5) < nD := fun v5 k0_hw3 => k0_hw3.1.2.1
theorem k0_dev12_lt : ∀ (v5 : BitVec 32) (k0_hw3 : k0_chk3 v5), (k0_dev12 v5) < nD := fun v5 k0_hw3 => k0_hw3.1.2.2.1
theorem k0_dev15_lt : ∀ (v5 : BitVec 32) (k0_hw3 : k0_chk3 v5), (k0_dev15 v5) < nD := fun v5 k0_hw3 => k0_hw3.1.2.2.2.1
theorem k0_dev21_lt : ∀ (v5 : BitVec 32) (k0_hw3 : k0_chk3 v5), (k0_dev21 v5) < nD := fun v5 k0_hw3 => k0_hw3.1.2.2.2.2.1
theorem k0_dev24_lt : ∀ (v5 : BitVec 32) (k0_hw3 : k0_chk3 v5), (k0_dev24 v5) < nD := fun v5 k0_hw3 => k0_hw3.1.2.2.2.2.2.1
theorem k0_dev30_lt : ∀ (v5 : BitVec 32) (k0_hw3 : k0_chk3 v5), (k0_dev30 v5) < nD := fun v5 k0_hw3 => k0_hw3.1.2.2.2.2.2.2.1
theorem k0_dev33_lt : ∀ (v5 : BitVec 32) (k0_hw3 : k0_chk3 v5), (k0_dev33 v5) < nD := fun v5 k0_hw3 => k0_hw3.1.2.2.2.2.2.2.2.1
theorem k0_dev39_lt : ∀ (v5 : BitVec 32) (k0_hw3 : k0_chk3 v5), (k0_dev39 v5) < nD := fun v5 k0_hw3 => k0_hw3.1.2.2.2.2.2.2.2.2.1
theorem k0_dev42_lt : ∀ (v5 : BitVec 32) (k0_hw3 : k0_chk3 v5), (k0_dev42 v5) < nD := fun v5 k0_hw3 => k0_hw3.1.2.2.2.2.2.2.2.2.2.1
theorem k0_dev48_lt : ∀ (v5 : BitVec 32) (k0_hw3 : k0_chk3 v5), (k0_dev48 v5) < nD := fun v5 k0_hw3 => k0_hw3.1.2.2.2.2.2.2.2.2.2.2.1
theorem k0_dev51_lt : ∀ (v5 : BitVec 32) (k0_hw3 : k0_chk3 v5), (k0_dev51 v5) < nD := fun v5 k0_hw3 => k0_hw3.1.2.2.2.2.2.2.2.2.2.2.2.1
theorem k0_dev57_lt : ∀ (v5 : BitVec 32) (k0_hw3 : k0_chk3 v5), (k0_dev57 v5) < nD := fun v5 k0_hw3 => k0_hw3.1.2.2.2.2.2.2.2.2.2.2.2.2.1
theorem k0_dev60_lt : ∀ (v5 : BitVec 32) (k0_hw3 : k0_chk3 v5), (k0_dev60 v5) < nD := fun v5 k0_hw3 => k0_hw3.1.2.2.2.2.2.2.2.2.2.2.2.2.2.1
theorem k0_dev66_lt : ∀ (v5 : BitVec 32) (k0_hw3 : k0_chk3 v5), (k0_dev66 v5) < nD := fun v5 k0_hw3 => k0_hw3.1.2.2.2.2.2.2.2.2.2.2.2.2.2.2.1
theorem k0_dev69_lt : ∀ (v5 : BitVec 32) (k0_hw3 : k0_chk3 v5), (k0_dev69 v5) < nD := fun v5 k0_hw3 => k0_hw3.1.2.2.2.2.2.2.2.2.2.2.2.2.2.2.2.1
theorem k0_dev75_lt : ∀ (v5 : BitVec 32) (k0_hw3 : k0_chk3 v5), (k0_dev75 v5) < nD := fun v5 k0_hw3 => k0_hw3.1.2.2.2.2.2.2.2.2.2.2.2.2.2.2.2.2.1
theorem k0_dev78_lt : ∀ (v5 : BitVec 32) (k0_hw3 : k0_chk3 v5), (k0_dev78 v5) < nD := fun v5 k0_hw3 => k0_hw3.1.2.2.2.2.2.2.2.2.2.2.2.2.2.2.2.2.2.1
theorem k0_dev84_lt : ∀ (v5 : BitVec 32) (k0_hw3 : k0_chk3 v5), (k0_dev84 v5) < nD := fun v5 k0_hw3 => k0_hw3.1.2.2.2.2.2.2.2.2.2.2.2.2.2.2.2.2.2.2.1
theorem k0_dev87_lt : ∀ (v5 : BitVec 32) (k0_hw3 : k0_chk3 v5), (k0_dev87 v5) < nD := fun v5 k0_hw3 => k0_hw3.1.2.2.2.2.2.2.2.2.2.2.2.2.2.2.2.2.2.2.2.1
theorem k0_dev93_lt : ∀ (v5 : BitVec 32) (k0_hw3 : k0_chk3 v5), (k0_dev93 v5) < nD := fun v5 k0_hw3 => k0_hw3.1.2.2.2.2.2.2.2.2.2.2.2.2.2.2.2.2.2.2.2.2.1
theorem k0_dev96_lt : ∀ (v5 : BitVec 32) (k0_hw3 : k0_chk3 v5), (k0_dev96 v5) < nD := fun v5 k0_hw3 => k0_hw3.1.2.2.2.2.2.2.2.2.2.2.2.2.2.2.2.2.2.2.2.2.2.1
theorem k0_dev102_lt : ∀ (v5 : BitVec 32) (k0_hw3 : k0_chk3 v5), (k0_dev102 v5) < nD := fun v5 k0_hw3 => k0_hw3.1.2.2.2.2.2.2.2.2.2.2.2.2.2.2.2.2.2.2.2.2.2.2.1
theorem k0_dev105_lt : ∀ (v5 : BitVec 32) (k0_hw3 : k0_chk3 v5), (k0_dev105 v5) < nD := fun v5 k0_hw3 => k0_hw3.1.2.2.2.2.2.2.2.2.2.2.2.2.2.2.2.2.2.2.2.2.2.2.2.1
theorem k0_dev111_lt : ∀ (v5 : BitVec 32) (k0_hw3 : k0_chk3 v5), (k0_dev111 v5) < nD := fun v5 k0_hw3 => k0_hw3.1.2.2.2.2.2.2.2.2.2.2.2.2.2.2.2.2.2.2.2.2.2.2.2.2.1
theorem k0_dev114_lt : ∀ (v5 : BitVec 32) (k0_hw3 : k0_chk3 v5), (k0_dev114 v5) < nD := fun v5 k0_hw3 => k0_hw3.1.2.2.2.2.2.2.2.2.2.2.2.2.2.2.2.2.2.2.2.2.2.2.2.2.2.1
theorem k0_dev120_lt : ∀ (v5 : BitVec 32) (k0_hw3 : k0_chk3 v5), (k0_dev120 v5) < nD := fun v5 k0_hw3 => k0_hw3.1.2.2.2.2.2.2.2.2.2.2.2.2.2.2.2.2.2.2.2.2.2.2.2.2.2.2.1
theorem k0_dev123_lt : ∀ (v5 : BitVec 32) (k0_hw3 : k0_chk3 v5), (k0_dev123 v5) < nD := fun v5 k0_hw3 => k0_hw3.1.2.2.2.2.2.2.2.2.2.2.2.2.2.2.2.2.2.2.2.2.2.2.2.2.2.2.2.1
theorem k0_dev129_lt : ∀ (v5 : BitVec 32) (k0_hw3 : k0_chk3 v5), (k0_dev129 v5) < nD := fun v5 k0_hw3 => k0_hw3.1.2.2.2.2.2.2.2.2.2.2.2.2.2.2.2.2.2.2.2.2.2.2.2.2.2.2.2.2.1
theorem k0_dev132_lt : ∀ (v5 : BitVec 32) (k0_hw3 : k0_chk3 v5), (k0_dev132 v5) < nD := fun v5 k0_hw3 => k0_hw3.1.2.2.2.2.2.2.2.2.2.2.2.2.2.2.2.2.2.2.2.2.2.2.2.2.2.2.2.2.2.1
theorem k0_dev138_lt : ∀ (v5 : BitVec 32) (k0_hw3 : k0_chk3 v5), (k0_dev138 v5) < nD := fun v5 k0_hw3 => k0_hw3.1.2.2.2.2.2.2.2.2.2.2.2.2.2.2.2.2.2.2.2.2.2.2.2.2.2.2.2.2.2.2.1
theorem k0_dev141_lt : ∀ (v5 : BitVec 32) (k0_hw3 : k0_chk3 v5), (k0_dev141 v5) < nD := fun v5 k0_hw3 => k0_hw3.1.2.2.2.2.2.2.2.2.2.2.2.2.2.2.2.2.2.2.2.2.2.2.2.2.2.2.2.2.2.2.2
theorem k0_dev147_lt : ∀ (v5 : BitVec 32) (k0_hw3 : k0_chk3 v5), (k0_dev147 v5) < nD := fun v5 k0_hw3 => k0_hw3.2.1
theorem k0_dev150_lt : ∀ (v5 : BitVec 32) (k0_hw3 : k0_chk3 v5), (k0_dev150 v5) < nD := fun v5 k0_hw3 => k0_hw3.2.2.1
theorem k0_dev156_lt : ∀ (v5 : BitVec 32) (k0_hw3 : k0_chk3 v5), (k0_dev156 v5) < nD := fun v5 k0_hw3 => k0_hw3.2.2.2.1
theorem k0_dev159_lt : ∀ (v5 : BitVec 32) (k0_hw3 : k0_chk3 v5), (k0_dev159 v5) < nD := fun v5 k0_hw3 => k0_hw3.2.2.2.2.1
theorem k0_dev165_lt : ∀ (v5 : BitVec 32) (k0_hw3 : k0_chk3 v5), (k0_dev165 v5) < nD := fun v5 k0_hw3 => k0_hw3.2.2.2.2.2.1
theorem k0_dev168_lt : ∀ (v5 : BitVec 32) (k0_hw3 : k0_chk3 v5), (k0_dev168 v5) < nD := fun v5 k0_hw3 => k0_hw3.2.2.2.2.2.2.1
theorem k0_dev174_lt : ∀ (v5 : BitVec 32) (k0_hw3 : k0_chk3 v5), (k0_dev174 v5) < nD := fun v5 k0_hw3 => k0_hw3.2.2.2.2.2.2.2.1
theorem k0_dev177_lt : ∀ (v5 : BitVec 32) (k0_hw3 : k0_chk3 v5), (k0_dev177 v5) < nD := fun v5 k0_hw3 => k0_hw3.2.2.2.2.2.2.2.2.1
theorem k0_dev183_lt : ∀ (v5 : BitVec 32) (k0_hw3 : k0_chk3 v5), (k0_dev183 v5) < nD := fun v5 k0_hw3 => k0_hw3.2.2.2.2.2.2.2.2.2.1
theorem k0_dev186_lt : ∀ (v5 : BitVec 32) (k0_hw3 : k0_chk3 v5), (k0_dev186 v5) < nD := fun v5 k0_hw3 => k0_hw3.2.2.2.2.2.2.2.2.2.2.1
theorem k0_dev192_lt : ∀ (v5 : BitVec 32) (k0_hw3 : k0_chk3 v5), (k0_dev192 v5) < nD := fun v5 k0_hw3 => k0_hw3.2.2.2.2.2.2.2.2.2.2.2.1
theorem k0_dev195_lt : ∀ (v5 : BitVec 32) (k0_hw3 : k0_chk3 v5), (k0_dev195 v5) < nD := fun v5 k0_hw3 => k0_hw3.2.2.2.2.2.2.2.2.2.2.2.2.1
theorem k0_dev201_lt : ∀ (v5 : BitVec 32) (k0_hw3 : k0_chk3 v5), (k0_dev201 v5) < nD := fun v5 k0_hw3 => k0_hw3.2.2.2.2.2.2.2.2.2.2.2.2.2.1
theorem k0_dev204_lt : ∀ (v5 : BitVec 32) (k0_hw3 : k0_chk3 v5), (k0_dev204 v5) < nD := fun v5 k0_hw3 => k0_hw3.2.2.2.2.2.2.2.2.2.2.2.2.2.2.1
theorem k0_dev210_lt : ∀ (v5 : BitVec 32) (k0_hw3 : k0_chk3 v5), (k0_dev210 v5) < nD := fun v5 k0_hw3 => k0_hw3.2.2.2.2.2.2.2.2.2.2.2.2.2.2.2.1
theorem k0_dev213_lt : ∀ (v5 : BitVec 32) (k0_hw3 : k0_chk3 v5), (k0_dev213 v5) < nD := fun v5 k0_hw3 => k0_hw3.2.2.2.2.2.2.2.2.2.2.2.2.2.2.2.2.1
theorem k0_dev219_lt : ∀ (v5 : BitVec 32) (k0_hw3 : k0_chk3 v5), (k0_dev219 v5) < nD := fun v5 k0_hw3 => k0_hw3.2.2.2.2.2.2.2.2.2.2.2.2.2.2.2.2.2.1
theorem k0_dev222_lt : ∀ (v5 : BitVec 32) (k0_hw3 : k0_chk3 v5), (k0_dev222 v5) < nD := fun v5 k0_hw3 => k0_hw3.2.2.2.2.2.2.2.2.2.2.2.2.2.2.2.2.2.2.1
theorem k0_dev228_lt : ∀ (v5 : BitVec 32) (k0_hw3 : k0_chk3 v5), (k0_dev228 v5) < nD := fun v5 k0_hw3 => k0_hw3.2.2.2.2.2.2.2.2.2.2.2.2.2.2.2.2.2.2.2.1
theorem k0_dev231_lt : ∀ (v5 : BitVec 32) (k0_hw3 : k0_chk3 v5), (k0_dev231 v5) < nD := fun v5 k0_hw3 => k0_hw3.2.2.2.2.2.2.2.2.2.2.2.2.2.2.2.2.2.2.2.2.1
theorem k0_dev237_lt : ∀ (v5 : BitVec 32) (k0_hw3 : k0_chk3 v5), (k0_dev237 v5) < nD := fun v5 k0_hw3 => k0_hw3.2.2.2.2.2.2.2.2.2.2.2.2.2.2.2.2.2.2.2.2.2.1
theorem k0_dev240_lt : ∀ (v5 : BitVec 32) (k0_hw3 : k0_chk3 v5), (k0_dev240 v5) < nD := fun v5 k0_hw3 => k0_hw3.2.2.2.2.2.2.2.2.2.2.2.2.2.2.2.2.2.2.2.2.2.2.1
theorem k0_dev246_lt : ∀ (v5 : BitVec 32) (k0_hw3 : k0_chk3 v5), (k0_dev246 v5) < nD := fun v5 k0_hw3 => k0_hw3.2.2.2.2.2.2.2.2.2.2.2.2.2.2.2.2.2.2.2.2.2.2.2.1
theorem k0_dev249_lt : ∀ (v5 : BitVec 32) (k0_hw3 : k0_chk3 v5), (k0_dev249 v5) < nD := fun v5 k0_hw3 => k0_hw3.2.2.2.2.2.2.2.2.2.2.2.2.2.2.2.2.2.2.2.2.2.2.2.2.1
theorem k0_dev255_lt : ∀ (v5 : BitVec 32) (k0_hw3 : k0_chk3 v5), (k0_dev255 v5) < nD := fun v5 k0_hw3 => k0_hw3.2.2.2.2.2.2.2.2.2.2.2.2.2.2.2.2.2.2.2.2.2.2.2.2.2.1
theorem k0_dev258_lt : ∀ (v5 : BitVec 32) (k0_hw3 : k0_chk3 v5), (k0_dev258 v5) < nD := fun v5 k0_hw3 => k0_hw3.2.2.2.2.2.2.2.2.2.2.2.2.2.2.2.2.2.2.2.2.2.2.2.2.2.2.1
theorem k0_dev264_lt : ∀ (v5 : BitVec 32) (k0_hw3 : k0_chk3 v5), (k0_dev264 v5) < nD := fun v5 k0_hw3 => k0_hw3.2.2.2.2.2.2.2.2.2.2.2.2.2.2.2.2.2.2.2.2.2.2.2.2.2.2.2.1
theorem k0_dev267_lt : ∀ (v5 : BitVec 32) (k0_hw3 : k0_chk3 v5), (k0_dev267 v5) < nD := fun v5 k0_hw3 => k0_hw3.2.2.2.2.2.2.2.2.2.2.2.2.2.2.2.2.2.2.2.2.2.2.2.2.2.2.2.2.1
theorem k0_dev273_lt : ∀ (v5 : BitVec 32) (k0_hw3 : k0_chk3 v5), (k0_dev273 v5) < nD := fun v5 k0_hw3 => k0_hw3.2.2.2.2.2.2.2.2.2.2.2.2.2.2.2.2.2.2.2.2.2.2.2.2.2.2.2.2.2.1
theorem k0_dev276_lt : ∀ (v5 : BitVec 32) (k0_hw3 : k0_chk3 v5), (k0_dev276 v5) < nD := fun v5 k0_hw3 => k0_hw3.2.2.2.2.2.2.2.2.2.2.2.2.2.2.2.2.2.2.2.2.2.2.2.2.2.2.2.2.2.2.1
theorem k0_dev279_lt : ∀ (v5 : BitVec 32) (k0_hw3 : k0_chk3 v5), (k0_dev279 v5) < nD := fun v5 k0_hw3 => k0_hw3.2.2.2.2.2.2.2.2.2.2.2.2.2.2.2.2.2.2.2.2.2.2.2.2.2.2.2.2.2.2.2

def k0_off94 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_9869 : BitVec 32 := 128#32
  let v6958 : BitVec 32 := Scalar.muli v2 c128_i32_9869
  let v6959 : Index := Scalar.indexCast v6958
  let c0_9870 : Index := 0#32
  ![v6959.toNat, 0]
abbrev stage0_0 : Fin 1 → Memref sig .tc .vmem S4096x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S31 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S31 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S31 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S6 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e4m3⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Prog.lean ====
/- The kernel's body read as a program of three rings: a prologue that meets the neighbours at the barrier, thirty-one
   hops of six steps, and an epilogue that adds the device's own product to what arrived last. Each step is written once,
   over a ring's data. -/
module

public import proofs.«01_k».proof.KernelIdeal

@[expose] public section

noncomputable section

namespace Cert.KernelIdeal.Rings

open Cert.KernelIdeal
open Idealize.ShloMosaic Idealize.SL.Sem

/-- `128 × W` values. -/
abbrev S2w (W : Nat) : Shape := ⟨2, ![128, W]⟩
/-- Two parities of two halves of `128 × W` values. -/
abbrev S4w (W : Nat) : Shape := ⟨4, ![2, 2, 128, W]⟩
/-- One half's `128 × W` values inside such a buffer. -/
abbrev S1w (W : Nat) : Shape := ⟨4, ![1, 1, 128, W]⟩

/-- The half `j` of parity `p` lies in the buffer. -/
theorem inb4 (W : Nat) (p j : Fin 2) : ∀ a, (![p.val, j.val, 0, 0] : Fin 4 → Nat) a + (S1w W).size a ≤ (S4w W).size a := by
  intro a
  have hp := p.isLt
  have hj := j.isLt
  fin_cases a <;> simp <;> omega

/-- Semaphore `(p, j)` lies in the two by two array. -/
theorem inb22 (p j : Fin 2) : ∀ a, (![p.val, j.val] : Fin 2 → Nat) a + S1x1.size a ≤ S2x2.size a := by
  intro a
  have hp := p.isLt
  have hj := j.isLt
  fin_cases a <;> simp <;> omega

/-- Entry `h` lies in the table of the hops. -/
theorem inb31 (h : Fin 31) : ∀ a, (![h.val] : Fin 1 → Nat) a + S1.size a ≤ S31.size a := by
  intro a
  have hh := h.isLt
  fin_cases a; simp; omega

/-- Entry `i` lies in the table of the neighbours. -/
theorem inb6 (i : Fin 6) : ∀ a, (![i.val] : Fin 1 → Nat) a + S1.size a ≤ S6.size a := by
  intro a
  have hh := i.isLt
  fin_cases a; simp; omega

/-- What a ring's widths and product must satisfy for its memory operations to be in bounds and whole words. -/
structure Wide (W WW lo : Nat) : Prop where
  inbW : ∀ a, (![0, lo] : Fin 2 → Nat) a + (S2w WW).size a ≤ S128x8192.size a
  posWW : 0 < (S2w WW).numel
  castWW : (S2w WW).ShapeCasts (S2w WW)
  pos1 : 0 < (S1w W).numel
  cast12 : (S1w W).ShapeCasts (S2w W)
  cast21 : (S2w W).ShapeCasts (S1w W)
  sq : (S1w W).Squeezes (S2w W)
  sl : ∀ j : Fin 2, (S2w WW).Slices ![0, j.val * W] (S2w W)
  cat : Shape.Concatenates [S2w W, S2w W] (S2w WW) 1
  packed : ∀ p j : Fin 2, (Rect.unit (s := S4w W) ![p.val, j.val, 0, 0] (S1w W).size (inb4 W p j)).PackedRows (EltTy.packing .bf16)
  words : ∀ p j : Fin 2, (Rect.unit (s := S4w W) ![p.val, j.val, 0, 0] (S1w W).size (inb4 W p j)).WholeWords (EltTy.packing .bf16)

/-- A ring's data: the width of a half, of a whole chunk and its first column; the table of its hops; its two buffers; its
    semaphores; its product. -/
structure Ring where
  W : Nat
  WW : Nat
  lo : Nat
  wide : Wide W WW lo
  tab : Memref sig .tc .smem S31 .i32
  recv : Memref sig .tc .vmem (S4w W) .bf16
  hrecv : recv.IsWhole
  send : Memref sig .tc .vmem (S4w W) .bf16
  hsend : send.IsWhole
  ssem : DmaSems sig S2x2
  rsem : DmaSems sig S2x2
  credit : Sems sig S_
  dot : DotDims S128x128 (S2w WW) (S2w WW)

variable {F : FTy → Type} [FloatOps F] [Facts]
open Facts₀ Facts

/-- The parity of a hop. -/
abbrev par (h : Nat) : Fin 2 := ⟨h % 2, Nat.mod_lt _ (by decide)⟩

namespace Ring

variable (R : Ring)

/-- The rectangle of half `j` of parity `p`. -/
abbrev rect (p j : Fin 2) : Rect (S4w R.W) := Rect.unit (s := S4w R.W) ![p.val, j.val, 0, 0] (S1w R.W).size (inb4 R.W p j)

/-- Half `j` of parity `p` of the receive buffer. -/
abbrev recvSlot (p j : Fin 2) : Memref sig .tc .vmem (S2w R.W) .bf16 :=
  (R.recv.slice (R.rect p j) (fun _ => rfl)).squeeze (S2w R.W) R.wide.sq

/-- Half `j` of parity `p` of the send buffer. -/
abbrev sendSlot (p j : Fin 2) : Memref sig .tc .vmem (S2w R.W) .bf16 :=
  (R.send.slice (R.rect p j) (fun _ => rfl)).squeeze (S2w R.W) R.wide.sq

/-- The departure semaphore of half `j` of parity `p`. -/
abbrev sS (p j : Fin 2) : DmaSem sig :=
  ((R.ssem.slice (Rect.unit (s := S2x2) ![p.val, j.val] S1x1.size (inb22 p j))).squeeze S_ squeezes_S1x1_S_).sem

/-- The arrival semaphore of half `j` of parity `p`. -/
abbrev rS (p j : Fin 2) : DmaSem sig :=
  ((R.rsem.slice (Rect.unit (s := S2x2) ![p.val, j.val] S1x1.size (inb22 p j))).squeeze S_ squeezes_S1x1_S_).sem

theorem recvWord (p j : Fin 2) : (R.recvSlot p j).view.WordExact := (R.hrecv.wordExact_slice rfl _ (R.wide.words p j)).reshape _ _
theorem sendWord (p j : Fin 2) : (R.sendSlot p j).view.WordExact := (R.hsend.wordExact_slice rfl _ (R.wide.words p j)).reshape _ _

/-- The product of a block of 128 rows of the left operand with the ring's columns of the right one. -/
def prod (a : Vec F S128x128 .fp8e4m3) (b : Vec F (S2w R.WW) .fp8e4m3) : FVec F (S2w R.WW) .f32 :=
  matmul R.dot none (shapeCast S128x128 a shapeCasts_S128x128_S128x128 : FVec F S128x128 .fp8e4m3)
    (shapeCast (S2w R.WW) b R.wide.castWW : FVec F (S2w R.WW) .fp8e4m3) (constant (S2w R.WW) .f32 0x00000000#32)

/-- Read the block at `off` and the ring's columns, and multiply. -/
def chunkAt (x : Memref sig .tc .vmem S4096x128 .fp8e4m3) (w : Memref sig .tc .vmem S128x8192 .fp8e4m3)
    (off : Fin 2 → Nat) (hoff : ∀ a, off a + S128x128.size a ≤ S4096x128.size a) :
    Prog (TpuEff nD τ sig (Elt F) Λ₀ .tc) (FVec F (S2w R.WW) .f32) := do
  let a : Vec F S128x128 .fp8e4m3 ← Prog.lift (.load x (Rect.unit (s := S4096x128) off S128x128.size hoff).toLoadRect (View.loadsAt_vmem h_S128x128))
  let b : Vec F (S2w R.WW) .fp8e4m3 ← Prog.lift (.load w (Rect.unit (s := S128x8192) ![0, R.lo] (S2w R.WW).size R.wide.inbW).toLoadRect (View.loadsAt_vmem R.wide.posWW))
  pure (R.prod a b)

/-- The product of hop `h`: the table names its block. -/
def chunk (x : Memref sig .tc .vmem S4096x128 .fp8e4m3) (w : Memref sig .tc .vmem S128x8192 .fp8e4m3) (h : Fin 31) :
    Prog (TpuEff nD τ sig (Elt F) Λ₀ .tc) (FVec F (S2w R.WW) .f32) := do
  let v : Elt F .i32 ← smemLoad R.tab (Rect.unit (s := S31) ![h.val] S1.size (inb31 h)) numel1_S1 rfl
  have hw : k0_chk7 v := (← Prog.lift (TpuEff.assume (k0_chk7 v) (k0_chk7.dec v))).down
  R.chunkAt x w (k0_off1 v) (k0_off1_inb v hw)

/-- Half `j` of a chunk. -/
abbrev half (j : Fin 2) (q : FVec F (S2w R.WW) .f32) : FVec F (S2w R.W) .f32 :=
  extractStridedSlice (S2w R.W) ![0, j.val * R.W] q (R.wide.sl j)

/-- Wait until half `j` of parity `p` has arrived. -/
def waitRecv (p j : Fin 2) : Prog (TpuEff nD τ sig (Elt F) Λ₀ .tc) PUnit :=
  Prog.lift (.waitDma2 (R.rS p j) (R.sendSlot p j) (R.recvSlot p j) (R.sendWord p j) (R.recvWord p j))

/-- Wait until half `j` of parity `p` has left. -/
def waitSend (p j : Fin 2) : Prog (TpuEff nD τ sig (Elt F) Λ₀ .tc) PUnit :=
  Prog.lift (.waitDma2 (R.sS p j) (R.recvSlot p j) (R.sendSlot p j) (R.recvWord p j) (R.sendWord p j))

/-- Read half `j` of parity `p` of the receive buffer. -/
def readRecv (p j : Fin 2) : Prog (TpuEff nD τ sig (Elt F) Λ₀ .tc) (FVec F (S2w R.W) .bf16) := do
  let v : Vec F (S1w R.W) .bf16 ← Prog.lift (.load R.recv (R.rect p j).toLoadRect (View.loadsAt_vmem R.wide.pos1))
  pure (shapeCast (S2w R.W) v R.wide.cast12)

/-- Put a half into parity `p` of the send buffer. -/
def putSend (p j : Fin 2) (t : FVec F (S2w R.W) .bf16) : Prog (TpuEff nD τ sig (Elt F) Λ₀ .tc) PUnit := do
  let _v : Vec F (S1w R.W) .bf16 ← Prog.lift (.load R.send (R.rect p j).toLoadRect (View.loadsAt_vmem R.wide.pos1))
  Prog.lift (.store R.send (R.rect p j) (shapeCast (S1w R.W) t R.wide.cast21 : FVec F (S1w R.W) .bf16) Finset.univ
    (View.stores_vmem R.wide.pos1 (R.hsend.storeExact_slice rfl _ (R.wide.packed p j)) (fun _ => rfl)) (.inl rfl))

/-- Send half `j` of parity `p` to `succ`. -/
def start (succ : Dev nD) (p j : Fin 2) : Prog (TpuEff nD τ sig (Elt F) Λ₀ .tc) PUnit :=
  Prog.lift (.enqueueDma (R.sendSlot p j) (.remote (Dev.tc succ) (R.recvSlot p j) (.dma (R.sS p j))) (.dma (R.rS p j))
    (R.sendWord p j) (R.recvWord p j) ⟨⟨rfl, Or.inl rfl⟩, trivial⟩)

/-- From hop one on, wait for the half sent one hop before and add it. -/
def addRecv (h : Nat) (j : Fin 2) (q : FVec F (S2w R.W) .f32) : Prog (TpuEff nD τ sig (Elt F) Λ₀ .tc) (FVec F (S2w R.W) .f32) :=
  if 1 ≤ h then do
    R.waitRecv (par (h - 1)) j
    let v : FVec F (S2w R.W) .bf16 ← R.readRecv (par (h - 1)) j
    pure (addf q (extf .f32 v bitsLt_bf16_f32))
  else pure q

/-- From hop two on, wait for the half sent two hops before to have left. -/
def freeSend (h : Nat) (j : Fin 2) : Prog (TpuEff nD τ sig (Elt F) Λ₀ .tc) PUnit :=
  if 2 ≤ h then R.waitSend (par h) j else pure ⟨⟩

/-- After the second half, tell the predecessor that the buffers of the hop before are free. -/
def giveCredit (pred : Dev nD) (h : Nat) (j : Fin 2) : Prog (TpuEff nD τ sig (Elt F) Λ₀ .tc) PUnit :=
  if 1 ≤ h ∧ h ≤ 29 ∧ j = 1 then semSignalWord pred R.credit.sem 1#32 else pure ⟨⟩

/-- From hop two on, wait for the successor's word that its buffers are free. -/
def takeCredit (h : Nat) (j : Fin 2) : Prog (TpuEff nD τ sig (Elt F) Λ₀ .tc) PUnit :=
  if 2 ≤ h ∧ j = 0 then semWaitWord R.credit.sem 1#32 else pure ⟨⟩

/-- One step: half `j` of hop `h`. -/
def step (succ pred : Dev nD) (h : Nat) (j : Fin 2) (q : FVec F (S2w R.WW) .f32) : Prog (TpuEff nD τ sig (Elt F) Λ₀ .tc) PUnit := do
  let t : FVec F (S2w R.W) .f32 ← R.addRecv h j (R.half j q)
  R.freeSend h j
  R.putSend (par h) j (truncf .bf16 t bitsLt_bf16_f32)
  R.giveCredit pred h j
  R.takeCredit h j
  R.start succ (par h) j

/-- The result of the ring's columns: the own product plus what arrived, scaled, no less than zero. -/
def outVal (q : FVec F (S2w R.WW) .f32) (v0 v1 : FVec F (S2w R.W) .bf16) (sc : F .f32) : FVec F (S2w R.WW) .f32 :=
  maximumf (mulf (addf q (extf .f32 (concatenate (S2w R.WW) 1 [⟨S2w R.W, v0⟩, ⟨S2w R.W, v1⟩] R.wide.cat : FVec F (S2w R.WW) .bf16) bitsLt_bf16_f32))
    (broadcast (S2w R.WW) sc)) (broadcast (S2w R.WW) (Scalar.ofBits .f32 0x00000000#32))

/-- The end of a ring: wait for the last hop, add the own product, write the ring's columns, wait for the last two hops'
    transfers to have left. -/
def finish (x : Memref sig .tc .vmem S4096x128 .fp8e4m3) (w : Memref sig .tc .vmem S128x8192 .fp8e4m3)
    (o : Memref sig .tc .vmem S128x8192 .f32) (d0 : Dev nD) (sc : F .f32) : Prog (TpuEff nD τ sig (Elt F) Λ₀ .tc) PUnit := do
  R.waitRecv 0 0
  R.waitRecv 0 1
  let v0 : FVec F (S2w R.W) .bf16 ← R.readRecv 0 0
  let v1 : FVec F (S2w R.W) .bf16 ← R.readRecv 0 1
  let q : FVec F (S2w R.WW) .f32 ← R.chunkAt x w (k0_off94 d0) (k0_off94_inb d0)
  let _o : Vec F (S2w R.WW) .f32 ← Prog.lift (.load o (Rect.unit (s := S128x8192) ![0, R.lo] (S2w R.WW).size R.wide.inbW).toLoadRect (View.loadsAt_vmem R.wide.posWW))
  Prog.lift (.store o (Rect.unit (s := S128x8192) ![0, R.lo] (S2w R.WW).size R.wide.inbW) (R.outVal q v0 v1 sc) Finset.univ
    (View.stores_vmem_bits_univ R.wide.posWW rfl) (.inl rfl))
  R.waitSend 1 0
  R.waitSend 1 1
  R.waitSend 0 0
  R.waitSend 0 1

end Ring

/-- One hop: the three products, then the first halves of the three rings, then the second halves. -/
def hop (R0 R1 R2 : Ring) (x : Memref sig .tc .vmem S4096x128 .fp8e4m3) (w : Memref sig .tc .vmem S128x8192 .fp8e4m3)
    (su pr : Fin 3 → Dev nD) (h : Fin 31) : Prog (TpuEff nD τ sig (Elt F) Λ₀ .tc) PUnit := do
  let q0 : FVec F (S2w R0.WW) .f32 ← R0.chunk x w h
  let q1 : FVec F (S2w R1.WW) .f32 ← R1.chunk x w h
  let q2 : FVec F (S2w R2.WW) .f32 ← R2.chunk x w h
  R0.step (su 0) (pr 0) h.val 0 q0
  R1.step (su 1) (pr 1) h.val 0 q1
  R2.step (su 2) (pr 2) h.val 0 q2
  R0.step (su 0) (pr 0) h.val 1 q0
  R1.step (su 1) (pr 1) h.val 1 q1
  R2.step (su 2) (pr 2) h.val 1 q2

/-- The last `n` hops. -/
def hops (R0 R1 R2 : Ring) (x : Memref sig .tc .vmem S4096x128 .fp8e4m3) (w : Memref sig .tc .vmem S128x8192 .fp8e4m3)
    (su pr : Fin 3 → Dev nD) : (n : Nat) → n ≤ 31 → Prog (TpuEff nD τ sig (Elt F) Λ₀ .tc) PUnit
  | 0, _ => pure ⟨⟩
  | n + 1, hn => do
    hop R0 R1 R2 x w su pr ⟨30 - n, by omega⟩
    hops R0 R1 R2 x w su pr n (by omega)

/-- The end: the scale, then the three rings' ends. -/
def epilogue (R0 R1 R2 : Ring) (x : Memref sig .tc .vmem S4096x128 .fp8e4m3) (w : Memref sig .tc .vmem S128x8192 .fp8e4m3)
    (sx sw : Memref sig .tc .smem S1 .f32) (o : Memref sig .tc .vmem S128x8192 .f32) (d0 : Dev nD) :
    Prog (TpuEff nD τ sig (Elt F) Λ₀ .tc) PUnit := do
  let a : Elt F .f32 ← smemLoad sx (Rect.unit (s := S1) ![0] S1.size inb_S1_S1_0) numel1_S1 rfl
  let b : Elt F .f32 ← smemLoad sw (Rect.unit (s := S1) ![0] S1.size inb_S1_S1_0) numel1_S1 rfl
  let sc : F .f32 := Scalar.mulf (a : F .f32) b
  R0.finish x w o d0 sc
  R1.finish x w o d0 sc
  R2.finish x w o d0 sc

/-- The body after the device's number is read and the six neighbours are known. -/
def main (R0 R1 R2 : Ring) (x : Memref sig .tc .vmem S4096x128 .fp8e4m3) (w : Memref sig .tc .vmem S128x8192 .fp8e4m3)
    (sx sw : Memref sig .tc .smem S1 .f32) (o : Memref sig .tc .vmem S128x8192 .f32) (d0 : Dev nD)
    (su pr : Fin 3 → Dev nD) : Prog (TpuEff nD τ sig (Elt F) Λ₀ .tc) PUnit := do
  semSignalWord (su 0) (sig.barrier 0 rfl) 1#32
  semSignalWord (su 1) (sig.barrier 0 rfl) 1#32
  semSignalWord (su 2) (sig.barrier 0 rfl) 1#32
  semSignalWord (pr 0) (sig.barrier 0 rfl) 1#32
  semSignalWord (pr 1) (sig.barrier 0 rfl) 1#32
  semSignalWord (pr 2) (sig.barrier 0 rfl) 1#32
  semWaitWord (sig.barrier 0 rfl) 6#32
  hops R0 R1 R2 x w su pr 31 (by omega)
  epilogue R0 R1 R2 x w sx sw o d0

/-- The whole body: read the device's number and its six neighbours, then run. -/
def body (R0 R1 R2 : Ring) (x : Memref sig .tc .vmem S4096x128 .fp8e4m3) (w : Memref sig .tc .vmem S128x8192 .fp8e4m3)
    (sx sw : Memref sig .tc .smem S1 .f32) (nb : Memref sig .tc .smem S6 .i32) (o : Memref sig .tc .vmem S128x8192 .f32) :
    Prog (TpuEff nD τ sig (Elt F) Λ₀ .tc) PUnit := do
  let d0 : Dev nD ← Prog.lift .deviceId
  let v3 : Elt F .i32 ← smemLoad nb (Rect.unit (s := S6) ![0] S1.size inb_S6_S1_0) numel1_S1 rfl
  have h1 : k0_chk1 v3 := (← Prog.lift (TpuEff.assume (k0_chk1 v3) (k0_chk1.dec v3))).down
  let v4 : Elt F .i32 ← smemLoad nb (Rect.unit (s := S6) ![1] S1.size inb_S6_S1_1) numel1_S1 rfl
  have h2 : k0_chk2 v4 := (← Prog.lift (TpuEff.assume (k0_chk2 v4) (k0_chk2.dec v4))).down
  let v5 : Elt F .i32 ← smemLoad nb (Rect.unit (s := S6) ![2] S1.size inb_S6_S1_2) numel1_S1 rfl
  have h3 : k0_chk3 v5 := (← Prog.lift (TpuEff.assume (k0_chk3 v5) (k0_chk3.dec v5))).down
  let v6 : Elt F .i32 ← smemLoad nb (Rect.unit (s := S6) ![3] S1.size inb_S6_S1_3) numel1_S1 rfl
  have h4 : k0_chk4 v6 := (← Prog.lift (TpuEff.assume (k0_chk4 v6) (k0_chk4.dec v6))).down
  let v7 : Elt F .i32 ← smemLoad nb (Rect.unit (s := S6) ![4] S1.size inb_S6_S1_4) numel1_S1 rfl
  have h5 : k0_chk5 v7 := (← Prog.lift (TpuEff.assume (k0_chk5 v7) (k0_chk5.dec v7))).down
  let v8 : Elt F .i32 ← smemLoad nb (Rect.unit (s := S6) ![5] S1.size inb_S6_S1_5) numel1_S1 rfl
  have h6 : k0_chk6 v8 := (← Prog.lift (TpuEff.assume (k0_chk6 v8) (k0_chk6.dec v8))).down
  main R0 R1 R2 x w sx sw o d0
    ![⟨k0_dev1 v3, k0_dev1_lt v3 h1⟩, ⟨k0_dev2 v4, k0_dev2_lt v4 h2⟩, ⟨k0_dev3 v5, k0_dev3_lt v5 h3⟩]
    ![⟨k0_dev4 v6, k0_dev4_lt v6 h4⟩, ⟨k0_dev5 v7, k0_dev5_lt v7 h5⟩, ⟨k0_dev6 v8, k0_dev6_lt v8 h6⟩]

/-- Two programs that begin with the same operation and go on the same way are the same. -/
theorem op_congr {E : Type → Type} {α β : Type} {e : E α} {k k' : α → Prog E β} (h : ∀ x, k x = k' x) :
    Prog.op e k = Prog.op e k' := congrArg _ (funext h)

end Cert.KernelIdeal.Rings
-- ==== Proof.BodyEq.lean ====
/- The printed body is the body of three rings, operation by operation. -/
module

public import proofs.«01_k».proof.Proof.Prog

@[expose] public section

noncomputable section

namespace Cert.KernelIdeal.Rings

open Cert.KernelIdeal
open Idealize.ShloMosaic Idealize.SL.Sem

theorem wide1408 {lo : Nat} (h : lo + 2816 ≤ 8192) : Wide 1408 2816 lo where
  inbW := by intro a; fin_cases a <;> simp <;> omega
  posWW := by decide
  castWW := by decide +kernel
  pos1 := by decide
  cast12 := by decide +kernel
  cast21 := by decide +kernel
  sq := by decide +kernel
  sl := by decide +kernel
  cat := by decide +kernel
  packed := by decide +kernel
  words := by decide +kernel

theorem wide1280 {lo : Nat} (h : lo + 2560 ≤ 8192) : Wide 1280 2560 lo where
  inbW := by intro a; fin_cases a <;> simp <;> omega
  posWW := by decide
  castWW := by decide +kernel
  pos1 := by decide
  cast12 := by decide +kernel
  cast21 := by decide +kernel
  sq := by decide +kernel
  sl := by decide +kernel
  cat := by decide +kernel
  packed := by decide +kernel
  words := by decide +kernel

variable {F : FTy → Type} [FloatOps F] [Facts]

/-- A ring of width 2816. -/
abbrev ringA (lo : Nat) (hlo : lo + 2816 ≤ 8192) (tab : Memref sig .tc .smem S31 .i32) (recv : Memref sig .tc .vmem S2x2x128x1408 .bf16) (hrecv : recv.IsWhole)
    (send : Memref sig .tc .vmem S2x2x128x1408 .bf16) (hsend : send.IsWhole) (ssem rsem : DmaSems sig S2x2) (credit : Sems sig S_) : Ring :=
  ⟨1408, 2816, lo, wide1408 hlo, tab, recv, hrecv, send, hsend, ssem, rsem, credit, dot_S128x128_S128x2816_S128x2816_1_0_0_1_n_n⟩

/-- The ring of width 2560. -/
abbrev ringB (lo : Nat) (hlo : lo + 2560 ≤ 8192) (tab : Memref sig .tc .smem S31 .i32) (recv : Memref sig .tc .vmem S2x2x128x1280 .bf16) (hrecv : recv.IsWhole)
    (send : Memref sig .tc .vmem S2x2x128x1280 .bf16) (hsend : send.IsWhole) (ssem rsem : DmaSems sig S2x2) (credit : Sems sig S_) : Ring :=
  ⟨1280, 2560, lo, wide1280 hlo, tab, recv, hrecv, send, hsend, ssem, rsem, credit, dot_S128x128_S128x2560_S128x2560_1_0_0_1_n_n⟩

set_option maxRecDepth 100000 in
set_option maxHeartbeats 40000000 in
/-- The printed body is the body of three rings. -/
theorem body_eq (arg0 : Memref sig .tc .vmem S4096x128 .fp8e4m3) (harg0 : arg0.IsWhole) (arg1 : Memref sig .tc .vmem S128x8192 .fp8e4m3) (harg1 : arg1.IsWhole) (arg2 : Memref sig .tc .smem S1 .f32) (harg2 : arg2.IsWhole) (arg3 : Memref sig .tc .smem S1 .f32) (harg3 : arg3.IsWhole) (arg4 : Memref sig .tc .smem S31 .i32) (harg4 : arg4.IsWhole) (arg5 : Memref sig .tc .smem S31 .i32) (harg5 : arg5.IsWhole) (arg6 : Memref sig .tc .smem S31 .i32) (harg6 : arg6.IsWhole) (arg7 : Memref sig .tc .smem S6 .i32) (harg7 : arg7.IsWhole) (arg8 : Memref sig .tc .vmem S128x8192 .f32) (harg8 : arg8.IsWhole) (arg9 : Memref sig .tc .vmem S2x2x128x1408 .bf16) (harg9 : arg9.IsWhole) (arg10 : Memref sig .tc .vmem S2x2x128x1408 .bf16) (harg10 : arg10.IsWhole) (arg11 : Memref sig .tc .vmem S2x2x128x1408 .bf16) (harg11 : arg11.IsWhole) (arg12 : Memref sig .tc .vmem S2x2x128x1408 .bf16) (harg12 : arg12.IsWhole) (arg13 : Memref sig .tc .vmem S2x2x128x1280 .bf16) (harg13 : arg13.IsWhole) (arg14 : Memref sig .tc .vmem S2x2x128x1280 .bf16) (harg14 : arg14.IsWhole) (arg15 : DmaSems sig S2x2) (arg16 : DmaSems sig S2x2) (arg17 : DmaSems sig S2x2) (arg18 : DmaSems sig S2x2) (arg19 : DmaSems sig S2x2) (arg20 : DmaSems sig S2x2) (arg21 : Sems sig S_) (arg22 : Sems sig S_) (arg23 : Sems sig S_) :
    cc0_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 arg21 arg22 arg23 =
      body (ringA 0 (by decide) arg4 arg9 harg9 arg10 harg10 arg15 arg16 arg21)
        (ringA 2816 (by decide) arg5 arg11 harg11 arg12 harg12 arg17 arg18 arg22)
        (ringB 5632 (by decide) arg6 arg13 harg13 arg14 harg14 arg19 arg20 arg23) arg0 arg1 arg2 arg3 arg7 arg8 := by
  repeat (refine op_congr ?_; intro x)
  rfl

end Cert.KernelIdeal.Rings
-- ==== Proof.Sched.lean ====
/- The protocol of the three rings: who signals whom, in which order, how much, and what each signal hands over.

   Each device `c` has, on ring `g`, a successor `su g c` and a predecessor `pr g c`. Its semaphores are: the barrier, signalled once
   by each of its six neighbours; for each parity `p` and half `j` a departure semaphore and an arrival semaphore; and a credit
   semaphore.

   * Arrival `(g, p, j)`, round `r`: the predecessor's transfer of hop `2 r + p`. It hands over the half of the receive buffer at the
     named contents.
   * Departure `(g, p, j)`, round `r`: the own transfer of that hop. It hands back the half of the send buffer.
   * Credit `g`: one round of twenty-nine units, one for each of the hops one to twenty-nine of the successor. Unit `i` hands over the
     knowledge of how often both parities of the successor's receive buffer have been released.
   * Barrier: six units. The one of a predecessor's signal hands over the knowledge that the predecessor's credit semaphore is in use;
     the one of a successor's signal hands over the knowledge that its receive buffer is free.

   Ownership of a parity of a receive buffer passes from its reader to the writer through a shared invariant; the number of the
   release that the writer has heard of tells it that the buffer is there. -/
module

public import proofs.«01_k».proof.Proof.BodyEq
public import proofs.«01_k».proof.Proof.Gen.KernelIdeal.Points
public import proofs.«01_k».proof.Proof.Gen.KernelIdeal.Launch
public import Idealize.ShloMosaic.Lib.Release
public import Idealize.ShloMosaic.Lib.Rounds
public import Idealize.ShloMosaic.Lib.Tactic
public import Idealize.ShloMosaic.Harness.Basic

@[expose] public section

noncomputable section

namespace Cert.KernelIdeal.Rings

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The rings -/

/-- The devices in the order of ring `g`. -/
def ringAt : Fin 3 → Fin 32 → Dev nD
  | 0 => ![0, 1, 9, 8, 16, 17, 25, 24, 27, 26, 29, 28, 31, 30, 22, 23, 20, 19, 18, 21, 13, 10, 2, 5, 6, 14, 15, 7, 4, 12, 11, 3]
  | 1 => ![0, 8, 11, 10, 9, 17, 18, 19, 16, 24, 25, 26, 27, 28, 20, 21, 29, 30, 31, 23, 22, 14, 6, 7, 15, 12, 13, 5, 4, 3, 2, 1]
  | 2 => ![0, 3, 4, 7, 6, 5, 13, 14, 22, 30, 29, 21, 18, 26, 25, 17, 9, 1, 2, 10, 11, 19, 20, 12, 15, 23, 31, 28, 27, 24, 16, 8]

/-- The place of a device on ring `g`. -/
def placeOf : Fin 3 → Dev nD → Fin 32
  | 0 => ![0, 1, 22, 31, 28, 23, 24, 27, 3, 2, 21, 30, 29, 20, 25, 26, 4, 5, 18, 17, 16, 19, 14, 15, 7, 6, 9, 8, 11, 10, 13, 12]
  | 1 => ![0, 31, 30, 29, 28, 27, 22, 23, 1, 4, 3, 2, 25, 26, 21, 24, 8, 5, 6, 7, 14, 15, 20, 19, 9, 10, 11, 12, 13, 16, 17, 18]
  | 2 => ![0, 17, 18, 1, 2, 5, 4, 3, 31, 16, 19, 20, 23, 6, 7, 24, 30, 15, 12, 21, 22, 11, 8, 25, 29, 14, 13, 28, 27, 10, 9, 26]

theorem ringAt_placeOf : ∀ (g : Fin 3) (c : Dev nD), ringAt g (placeOf g c) = c := by decide +kernel
theorem placeOf_ringAt : ∀ (g : Fin 3) (i : Fin 32), placeOf g (ringAt g i) = i := by decide +kernel

/-- The next device on ring `g`. -/
def su (g : Fin 3) (c : Dev nD) : Dev nD := ringAt g (placeOf g c + 1)
/-- The device before on ring `g`. -/
def pr (g : Fin 3) (c : Dev nD) : Dev nD := ringAt g (placeOf g c - 1)

@[simp] theorem su_pr (g : Fin 3) (c : Dev nD) : su g (pr g c) = c := by
  unfold su pr; rw [placeOf_ringAt, sub_add_cancel, ringAt_placeOf]
@[simp] theorem pr_su (g : Fin 3) (c : Dev nD) : pr g (su g c) = c := by
  unfold su pr; rw [placeOf_ringAt, add_sub_cancel_right, ringAt_placeOf]

/-- Going on along ring `g`, as a permutation of the devices. -/
def around (g : Fin 3) : Dev nD ≃ Dev nD := ⟨su g, pr g, pr_su g, su_pr g⟩

/-- Ring `g`'s data. -/
def Rg : Fin 3 → Ring
  | 0 => ringA 0 (by decide) (stage0_4 0) (Memref.whole cc0_scratch0) (Memref.isWhole_whole _) (Memref.whole cc0_scratch1) (Memref.isWhole_whole _)
      cc0_scratch6 cc0_scratch7 cc0_scratch12
  | 1 => ringA 2816 (by decide) (stage0_5 0) (Memref.whole cc0_scratch2) (Memref.isWhole_whole _) (Memref.whole cc0_scratch3) (Memref.isWhole_whole _)
      cc0_scratch8 cc0_scratch9 cc0_scratch13
  | 2 => ringB 5632 (by decide) (stage0_6 0) (Memref.whole cc0_scratch4) (Memref.isWhole_whole _) (Memref.whole cc0_scratch5) (Memref.isWhole_whole _)
      cc0_scratch10 cc0_scratch11 cc0_scratch14

/-- The units one half's transfer adds to a semaphore. -/
def N (g : Fin 3) : ℕ := ((Rg g).recvSlot 0 0).view.dmaCredit

theorem credit_recv (g : Fin 3) (p j : Fin 2) : ((Rg g).recvSlot p j).view.dmaCredit = N g := by
  unfold N; revert g p j; decide +kernel
theorem credit_send (g : Fin 3) (p j : Fin 2) : ((Rg g).sendSlot p j).view.dmaCredit = N g := by
  unfold N; revert g p j; decide +kernel
theorem N_pos (g : Fin 3) : 0 < N g := View.dmaCredit_pos _ (by revert g; decide +kernel)

/-! ## The semaphores -/

/-- The kinds of semaphore of the protocol. -/
inductive Kind where
  | bar
  | send (g : Fin 3) (p j : Fin 2)
  | recv (g : Fin 3) (p j : Fin 2)
  | cred (g : Fin 3)
  deriving DecidableEq

/-- The kinds but the barrier, as a sum. -/
abbrev Own : Type := Fin 3 ⊕ (Fin 3 × Fin 2 × Fin 2) ⊕ (Fin 3 × Fin 2 × Fin 2)
/-- The kinds as a sum. -/
def kindEquiv : Unit ⊕ Own ≃ Kind where
  toFun
    | .inl _ => .bar
    | .inr (.inl g) => .cred g
    | .inr (.inr (.inl x)) => .send x.1 x.2.1 x.2.2
    | .inr (.inr (.inr x)) => .recv x.1 x.2.1 x.2.2
  invFun
    | .bar => .inl ()
    | .cred g => .inr (.inl g)
    | .send g p j => .inr (.inr (.inl (g, p, j)))
    | .recv g p j => .inr (.inr (.inr (g, p, j)))
  left_inv x := by rcases x with _ | _ | _ | _ <;> rfl
  right_inv x := by cases x <;> rfl
instance : Fintype Kind := Fintype.ofEquiv _ kindEquiv

/-- Which semaphore it is. -/
def Kind.sem : Kind → SemLoc sig
  | .bar => .reg (sig.barrier 0 rfl)
  | .send g p j => .dma ((Rg g).sS p j)
  | .recv g p j => .dma ((Rg g).rS p j)
  | .cred g => .reg (Rg g).credit.sem

/-- What kind a semaphore is, by its number. -/
def kindOf : SemLoc sig → Option Kind
  | .reg s => if h : s.val < 3 then some (.cred ⟨s.val, h⟩) else some .bar
  | .dma s => if h : 9 ≤ s.val ∧ s.val < 33 then
      let g : Fin 3 := ⟨(s.val - 9) / 8, by omega⟩
      let p : Fin 2 := ⟨(s.val - 9) / 2 % 2, by omega⟩
      let j : Fin 2 := ⟨(s.val - 9) % 2, by omega⟩
      if (s.val - 9) / 4 % 2 = 0 then some (.send g p j) else some (.recv g p j)
    else none

theorem kindOf_send : ∀ (g : Fin 3) (p j : Fin 2), kindOf (.dma ((Rg g).sS p j)) = some (.send g p j) := by decide +kernel
theorem kindOf_recv : ∀ (g : Fin 3) (p j : Fin 2), kindOf (.dma ((Rg g).rS p j)) = some (.recv g p j) := by decide +kernel
theorem kindOf_cred : ∀ (g : Fin 3), kindOf (.reg (Rg g).credit.sem) = some (.cred g) := by decide +kernel
theorem kindOf_bar : kindOf (.reg (sig.barrier 0 rfl)) = some .bar := by decide +kernel

@[simp] theorem kindOf_sem (k : Kind) : kindOf k.sem = some k := by
  cases k with
  | bar => exact kindOf_bar
  | send g p j => exact kindOf_send g p j
  | recv g p j => exact kindOf_recv g p j
  | cred g => exact kindOf_cred g

theorem sem_inj : Function.Injective Kind.sem := fun a b h => by
  have := congrArg kindOf h
  rw [kindOf_sem, kindOf_sem] at this
  exact Option.some.inj this

/-- Device `c`'s semaphore of kind `k`. -/
abbrev cell (c : Dev nD) (k : Kind) : GSem nD τ sig := ((c : Thread nD τ), k.sem)

theorem cell_inj {c d : Dev nD} {k l : Kind} (h : cell c k = cell d l) : c = d ∧ k = l :=
  ⟨congrArg (fun g : GSem nD τ sig => g.1.1) h, sem_inj (congrArg Prod.snd h)⟩

/-! ## The resource algebra: the pipeline library's, the protocol's, and the releases' -/

/-- A parity of ring `g`'s receive buffer on a device. -/
abbrev Key : Type := Dev nD × Fin 3 × Fin 2

abbrev UU : Type := UR sig nD τ × (URounds (GSem nD τ sig) ℕ × Release.USlots Key)

variable {F : FTy → Type} [FloatOps F]

abbrev 𝕄 (F : FTy → Type) : Type := MT nD τ sig ℕ (Elt F) ℕ UU ℕ

abbrev EP : Emb (UR sig nD τ) (𝕄 F) := embL
def ER : Emb (URounds (GSem nD τ sig) ℕ) (𝕄 F) := (Emb.inl : Emb (URounds (GSem nD τ sig) ℕ) _).trans embR
def ES : Emb (Release.USlots Key) (𝕄 F) := (Emb.inr : Emb (Release.USlots Key) _).trans embR

instance ER_landsIn : (ER (F := F)).LandsIn (upEmb : UEmb _ (𝕄 F)) := by unfold ER; infer_instance
instance ES_landsIn : (ES (F := F)).LandsIn (upEmb : UEmb _ (𝕄 F)) := by unfold ES; infer_instance

/-! ## Contents -/

/-- Half `j` of parity `p` of device `c`'s receive buffer on ring `g`, at any contents. -/
def recvAny (c : Dev nD) (g : Fin 3) (p j : Fin 2) : sProp (𝕄 F) :=
  Release.slot (((Rg g).recvSlot p j).view.loc (c : Thread nD τ)) ((Rg g).recvSlot p j).view.set
/-- The same half at contents that read as `X`. -/
def recvAt (c : Dev nD) (g : Fin 3) (p j : Fin 2) (X : FVec F (S2w (Rg g).W) .bf16) : sProp (𝕄 F) :=
  iprop(∃ f, ⌜((Rg g).recvSlot p j).view.read (Elt F) f = X⌝
    ∗ (((Rg g).recvSlot p j).view.loc (c : Thread nD τ) ↦[((Rg g).recvSlot p j).view.set]{fullShare} f))
/-- Half `j` of parity `p` of device `c`'s send buffer on ring `g`, at any contents. -/
def sendAny (c : Dev nD) (g : Fin 3) (p j : Fin 2) : sProp (𝕄 F) :=
  Release.slot (((Rg g).sendSlot p j).view.loc (c : Thread nD τ)) ((Rg g).sendSlot p j).view.set

instance recvAny_storable (c : Dev nD) (g : Fin 3) (p j : Fin 2) : Storable (upEmb : UEmb _ (𝕄 F)) (recvAny c g p j) := by
  unfold recvAny; infer_instance
instance recvAt_storable (c : Dev nD) (g : Fin 3) (p j : Fin 2) (X : FVec F (S2w (Rg g).W) .bf16) :
    Storable (upEmb : UEmb _ (𝕄 F)) (recvAt c g p j X) := by
  unfold recvAt; infer_instance
instance sendAny_storable (c : Dev nD) (g : Fin 3) (p j : Fin 2) : Storable (upEmb : UEmb _ (𝕄 F)) (sendAny c g p j) := by
  unfold sendAny; infer_instance

theorem recvAt_any (c : Dev nD) (g : Fin 3) (p j : Fin 2) (X : FVec F (S2w (Rg g).W) .bf16) :
    recvAt c g p j X ⊢ (recvAny c g p j : sProp (𝕄 F)) := by
  unfold recvAt recvAny Release.slot
  iintro ⟨%f, -, H⟩; iexists f; iexact H

theorem recv_set_nonempty (c : Dev nD) (g : Fin 3) (p j : Fin 2) :
    (((Rg g).recvSlot p j).view.set : Finset (Idx (((Rg g).recvSlot p j).view.loc (c : Thread nD τ)))).Nonempty := by
  refine Finset.card_pos.mp ?_
  rw [View.card_set]
  revert g; intro g; fin_cases g <;> decide

/-- A parity of a receive buffer: what its reader releases and its writer takes. -/
def parAny (k : Key) : sProp (𝕄 F) := iprop(recvAny k.1 k.2.1 k.2.2 0 ∗ recvAny k.1 k.2.1 k.2.2 1)

instance parAny_storable (k : Key) : Storable (upEmb : UEmb _ (𝕄 F)) (parAny k) := by unfold parAny; infer_instance

theorem parAny_false (k : Key) : iprop(parAny k ∗ parAny k) ⊢ (False : sProp (𝕄 F)) := by
  unfold parAny recvAny
  iintro ⟨⟨H, -⟩, ⟨H', -⟩⟩
  iapply (Release.slot_slot_false (ℓ := ((Rg k.2.1).recvSlot k.2.2 0).view.loc (k.1 : Thread nD τ)) (recv_set_nonempty k.1 k.2.1 k.2.2 0))
  isplitl [H] <;> iassumption

/-- Device `d` has released parity `p` of its receive buffer at least `n` times, and its arrival semaphores are at round `n - 1`
    or later. -/
def slotFact (d : Dev nD) (g : Fin 3) (p : Fin 2) (n : ℕ) : sProp (𝕄 F) :=
  iprop(Release.released ES ((d, g, p) : Key) n ∗ reached ER (cell d (.recv g p 0)) (n - 1) ∗ reached ER (cell d (.recv g p 1)) (n - 1))

instance slotFact_storable (d : Dev nD) (g : Fin 3) (p : Fin 2) (n : ℕ) : Storable (upEmb : UEmb _ (𝕄 F)) (slotFact d g p n) := by
  unfold slotFact; infer_instance
instance slotFact_persistent (d : Dev nD) (g : Fin 3) (p : Fin 2) (n : ℕ) : BI.Persistent (slotFact d g p n : sProp (𝕄 F)) := by
  unfold slotFact; infer_instance

theorem slotFact_mono (d : Dev nD) (g : Fin 3) (p : Fin 2) {n n' : ℕ} (h : n' ≤ n) : slotFact d g p n ⊢ (slotFact d g p n' : sProp (𝕄 F)) :=
  BI.sep_mono (Release.released_mono ES h) (BI.sep_mono (reached_mono ER (by omega)) (reached_mono ER (by omega)))

/-! ## The schedule -/

variable (sv : (g : Fin 3) → Fin 2 → Dev nD → ℕ → FVec F (S2w (Rg g).W) .bf16)

/-- The rounds of the transfers of a parity: sixteen hops are even, fifteen odd. -/
def nRounds (p : Fin 2) : ℕ := 16 - p.val

def dutyOf : Kind → ℕ → Finset ℕ
  | .bar, r => if r = 0 then Finset.range 6 else ∅
  | .send _ p _, r => if r < nRounds p then {0} else ∅
  | .recv _ p _, r => if r < nRounds p then {0} else ∅
  | .cred _, r => if r = 0 then Finset.range 29 else ∅

def amtOf : Kind → ℕ
  | .bar => 1
  | .send g _ _ => N g
  | .recv g _ _ => N g
  | .cred _ => 1

theorem amtOf_pos (k : Kind) : 0 < amtOf k := by cases k <;> simp [amtOf, N_pos]

/-- What a neighbour's barrier signal hands over. -/
def barPay (c : Dev nD) (d : ℕ) : sProp (𝕄 F) :=
  if h : d < 3 then reached ER (cell (pr ⟨d, h⟩ c) (.cred ⟨d, h⟩)) 0
  else if h : d - 3 < 3 then iprop(slotFact (su ⟨d - 3, h⟩ c) ⟨d - 3, h⟩ 0 1 ∗ slotFact (su ⟨d - 3, h⟩ c) ⟨d - 3, h⟩ 1 1)
  else iprop(emp)

/-- What the `i`-th credit hands over. -/
def credPay (c : Dev nD) (g : Fin 3) (i : ℕ) : sProp (𝕄 F) :=
  iprop(slotFact (su g c) g (par i) (i / 2 + 2) ∗ slotFact (su g c) g (par (i + 1)) ((i + 1) / 2 + 1))

instance credPay_persistent (c : Dev nD) (g : Fin 3) (i : ℕ) : BI.Persistent (credPay c g i : sProp (𝕄 F)) := by unfold credPay; infer_instance

def payOf (c : Dev nD) : Kind → ℕ → ℕ → sProp (𝕄 F)
  | .bar, _, d => barPay c d
  | .send g p j, _, _ => sendAny c g p j
  | .recv g p j, r, _ => recvAt c g p j (sv g j (pr g c) (2 * r + p.val))
  | .cred g, _, i => credPay c g i

/-- The protocol's schedule. -/
def Rd : Rounds.Schedule (GSem nD τ sig) ℕ (𝕄 F) where
  duties g r := if g.1.2 = .tc then (match kindOf g.2 with | some k => dutyOf k r | none => ∅) else ∅
  amount g _ _ := match kindOf g.2 with | some k => amtOf k | none => 1
  payload g r d := match kindOf g.2 with | some k => payOf sv g.1.1 k r d | none => iprop(emp)
  amount_pos g _ _ _ := by
    cases kindOf g.2 with
    | none => exact Nat.one_pos
    | some k => exact amtOf_pos k

instance Rd_storable (g : GSem nD τ sig) (r : ℕ) (d : ℕ) : BI.Storable (upEmb : UEmb _ (𝕄 F)) ((Rd sv).payload g r d) := by
  show BI.Storable upEmb (match kindOf g.2 with | some k => payOf sv g.1.1 k r d | none => iprop(emp))
  cases kindOf g.2 with
  | none => infer_instance
  | some k =>
    cases k with
    | bar =>
      show BI.Storable upEmb (barPay g.1.1 d)
      unfold barPay
      (repeat' split) <;> infer_instance
    | send g' p j => exact sendAny_storable _ _ _ _
    | recv g' p j => exact recvAt_storable _ _ _ _ _
    | cred g' =>
      show BI.Storable upEmb (credPay g.1.1 g' d)
      unfold credPay
      infer_instance

theorem Rd_duties (c : Dev nD) (k : Kind) (r : ℕ) : (Rd sv).duties (cell c k) r = dutyOf k r := by
  show (if ((c : Thread nD τ)).2 = .tc then (match kindOf k.sem with | some k => dutyOf k r | none => ∅) else ∅) = _
  rw [kindOf_sem, if_pos rfl]
theorem Rd_amount (c : Dev nD) (k : Kind) (r d : ℕ) : (Rd sv).amount (cell c k) r d = amtOf k := by
  show (match kindOf k.sem with | some k => amtOf k | none => 1) = _
  rw [kindOf_sem]
theorem Rd_payload (c : Dev nD) (k : Kind) (r d : ℕ) : (Rd sv).payload (cell c k) r d = payOf sv c k r d := by
  show (match kindOf k.sem with | some k => payOf sv c k r d | none => iprop(emp)) = _
  rw [kindOf_sem]
theorem Rd_expect (c : Dev nD) (k : Kind) (r : ℕ) : (Rd sv).expect (cell c k) r = (dutyOf k r).card * amtOf k := by
  unfold Schedule.expect Schedule.amountOf
  rw [Rd_duties, Finset.sum_congr rfl (fun d _ => Rd_amount sv c k r d), Finset.sum_const, smul_eq_mul]

/-- The last round of a kind, plus one. -/
def endOf : Kind → ℕ
  | .bar => 1
  | .send _ p _ => nRounds p
  | .recv _ p _ => nRounds p
  | .cred _ => 1

theorem Rd_later (c : Dev nD) (k : Kind) (r : ℕ) (h : endOf k ≤ r) : (Rd sv).duties (cell c k) r = ∅ := by
  rw [Rd_duties]
  cases k <;> simp only [endOf] at h <;> exact if_neg (by omega)

/-! ## The levels -/

/-- Every wait of a hop is below everything still owed: an arrival of hop `i` is at `i + 2`, the `i`-th credit at `i + 3`, the barrier at
    one. -/
def lvOf : Option Kind → ℕ → ℕ
  | some (.recv _ _ _), i => i + 2
  | some (.cred _), i => i + 3
  | some .bar, _ => 1
  | _, _ => 0

def L (g : GSem nD τ sig) : Finset ℕ := if g.1.2 = .tc then Finset.range 31 else ∅
def lv (g : GSem nD τ sig) (i : ℕ) : ℕ := lvOf (kindOf g.2) i

theorem L_of_ne (g : GSem nD τ sig) (h : g.1.2 ≠ .tc) : L g = ∅ := if_neg h
theorem L_tc (c : Dev nD) (sm : SemLoc sig) : L ((c : Thread nD τ), sm) = Finset.range 31 := if_pos rfl

/-- Everything in `O` is above level `b + 1`. -/
def Above (b : ℕ) (O : CellTallies nD τ sig ℕ) : Prop := ∀ g i, 0 < O g i → i ∈ L g ∧ b + 1 < lv g i

theorem Above.zero (b : ℕ) : Above b 0 := fun g i h => absurd h (Nat.lt_irrefl 0)
theorem Above.mono {b b' : ℕ} {O : CellTallies nD τ sig ℕ} (h : b' ≤ b) (hO : Above b O) : Above b' O :=
  fun g i hi => ⟨(hO g i hi).1, lt_of_le_of_lt (Nat.succ_le_succ h) (hO g i hi).2⟩
theorem Above.add {b : ℕ} {O O' : CellTallies nD τ sig ℕ} (h : Above b O) (h' : Above b O') : Above b (O + O') := fun g i hi => by
  rw [Pi.add_apply, Finsupp.add_apply] at hi
  rcases Nat.eq_zero_or_pos (O g i) with h0 | h0
  · exact h' g i (by omega)
  · exact h g i h0
theorem Above.recv (c : Dev nD) (g : Fin 3) (p j : Fin 2) (h n : ℕ) (hh : h < 31) {b : ℕ} (hb : b ≤ h) : Above b (tallyAt (cell c (.recv g p j)) h n) := fun g' i hi => by
  obtain ⟨rfl, rfl⟩ := Pipeline.tallyAt_pos hi
  refine ⟨by rw [L_tc]; exact Finset.mem_range.mpr hh, ?_⟩
  show b + 1 < lvOf (kindOf (Kind.recv g p j).sem) i
  rw [kindOf_sem]; exact Nat.lt_succ_of_le (Nat.succ_le_succ hb)
theorem Above.cred (c : Dev nD) (g : Fin 3) (h n : ℕ) (hh : h < 31) {b : ℕ} (hb : b ≤ h + 1) : Above b (tallyAt (cell c (.cred g)) h n) := fun g' i hi => by
  obtain ⟨rfl, rfl⟩ := Pipeline.tallyAt_pos hi
  refine ⟨by rw [L_tc]; exact Finset.mem_range.mpr hh, ?_⟩
  show b + 1 < lvOf (kindOf (Kind.cred g).sem) i
  rw [kindOf_sem]; exact Nat.lt_succ_of_le (Nat.succ_le_succ hb)

/-- The levels, as known to every device. -/
def levs (F : FTy → Type) : sProp (𝕄 F) := levAts L lv
instance levs_persistent (F : FTy → Type) : BI.Persistent (levs F) := by unfold levs; infer_instance

/-- A wait at or below level `b + 1` is allowed while everything owed is above it. -/
theorem mayOwe (c : Dev nD) (k : Kind) (i b : ℕ) (O : CellTallies nD τ sig ℕ) (hi : i < 31) (hl : lvOf (some k) i ≤ b + 1) (hO : Above b O) :
    levs F ⊢ MayOwe (c : Thread nD τ) {(k.sem, i)} O :=
  MayOwe.of_cut (L := L) (lev := lv) (b + 1)
    (fun p hp => by rw [Finset.mem_singleton.mp hp, L_tc]; exact Finset.mem_range.mpr hi)
    (fun g u hg => (hO g u hg).1)
    (fun p hp => by
      rw [Finset.mem_singleton.mp hp]
      show lvOf (kindOf k.sem) i ≤ b + 1
      rw [kindOf_sem]; exact hl)
    (fun g u hg => (hO g u hg).2)

/-! ## What a device owes -/

/-- With the payments of half `j` of hop `h` on ring `g`. -/
def due (c : Dev nD) (h : ℕ) (g : Fin 3) (j : Fin 2) (O : CellTallies nD τ sig ℕ) : CellTallies nD τ sig ℕ :=
  (O + tallyAt (cell (su g c) (.recv g (par h) j)) h (N g)) + (if 1 ≤ h ∧ h ≤ 29 ∧ j = 1 then tallyAt (cell (pr g c) (.cred g)) (h - 1) 1 else 0)

/-- With the payments of hop `h`. -/
def hopDue (c : Dev nD) (h : ℕ) (O : CellTallies nD τ sig ℕ) : CellTallies nD τ sig ℕ :=
  due c h 0 0 (due c h 1 0 (due c h 2 0 (due c h 0 1 (due c h 1 1 (due c h 2 1 O)))))

/-- The payments of the last `n` hops. -/
def oweFrom (c : Dev nD) : ℕ → CellTallies nD τ sig ℕ
  | 0 => 0
  | n + 1 => hopDue c (30 - n) (oweFrom c n)

/-- The six barrier signals. -/
def oweBar (c : Dev nD) : CellTallies nD τ sig ℕ :=
  tallyAt (cell (pr 2 c) .bar) 0 1 + tallyAt (cell (pr 1 c) .bar) 0 1 + tallyAt (cell (pr 0 c) .bar) 0 1
    + tallyAt (cell (su 2 c) .bar) 0 1 + tallyAt (cell (su 1 c) .bar) 0 1 + tallyAt (cell (su 0 c) .bar) 0 1

/-- All that a device owes at launch. -/
def O₀ (c : Dev nD) : CellTallies nD τ sig ℕ := oweFrom c 31 + oweBar c

theorem Above.due {c : Dev nD} {h : ℕ} (g : Fin 3) (j : Fin 2) {O : CellTallies nD τ sig ℕ} {b : ℕ} (hh : h < 31) (hb : b ≤ h) (hO : Above b O) :
    Above b (due c h g j O) := by
  unfold Rings.due
  refine (hO.add (Above.recv _ _ _ _ _ _ hh hb)).add ?_
  split
  · exact Above.cred _ _ _ _ (by omega) (by omega)
  · exact Above.zero b

theorem Above.oweFrom (c : Dev nD) : ∀ n b, n ≤ 31 → b + n ≤ 31 → Above b (oweFrom c n)
  | 0, b, _, _ => Above.zero b
  | n + 1, b, hn, hb => by
    have h := Above.oweFrom c n b (by omega) (by omega)
    unfold Rings.oweFrom hopDue
    have h1 : 30 - n < 31 := by omega
    have h2 : b ≤ 30 - n := by omega
    exact ((((((h.due _ _ h1 h2).due _ _ h1 h2).due _ _ h1 h2).due _ _ h1 h2).due _ _ h1 h2).due _ _ h1 h2)

end Cert.KernelIdeal.Rings
-- ==== Proof.Piece.lean ====
/- The operations of a step, one by one: what each needs of the protocol and what it gives. -/
module

public import proofs.«01_k».proof.Proof.Sched

@[expose] public section

set_option maxRecDepth 20000

noncomputable section

namespace Cert.KernelIdeal.Rings

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (sv : (g : Fin 3) → Fin 2 → Dev nD → ℕ → FVec F (S2w (Rg g).W) .bf16)

abbrev 𝒱₀ : Variants := Variants.none

/-- The program `p` runs on device `c` and ends in `Q`. -/
abbrev WP {α : Type} (c : Dev nD) (p : Prog (TpuEff nD τ sig (Elt F) Λ₀ .tc) α) (Q : α → sProp (𝕄 F)) : sProp (𝕄 F) :=
  wp frame (wpE (defs₀ (F := F)) 𝒱₀ (c : Thread nD τ) none) Set.univ p Q

theorem WP_ret {α : Type} (c : Dev nD) (a : α) (Q : α → sProp (𝕄 F)) : Q a ⊢ WP c (.ret a) Q := by
  unfold WP; rw [wp_ret]; exact fupd_intro
theorem WP_bind {α β : Type} (c : Dev nD) (p : Prog (TpuEff nD τ sig (Elt F) Λ₀ .tc) α) (k : α → Prog (TpuEff nD τ sig (Elt F) Λ₀ .tc) β)
    (Q : β → sProp (𝕄 F)) : WP c p (fun v => WP c (k v) Q) ⊢ WP c (p >>= k) Q :=
  Entails.of_eq (wp_bind _ _ _ p k Q).symm

/-- Device `c` owes `O`. -/
def owe (c : Dev nD) (O : CellTallies nD τ sig ℕ) : sProp (𝕄 F) := iprop(∃ W, owes (c : Thread nD τ) O W)

/-- What every device may consult: the invariants of all the semaphores and of all the parities, that the barriers are in use, and the
    levels. -/
def Ctx (κ : GSem nD τ sig → ℕ) (ιs : Key → ℕ) : sProp (𝕄 F) :=
  iprop((bigSep Finset.univ fun ck : Dev nD × Kind => cellInv ER (Rd sv) (κ (cell ck.1 ck.2)) (cell ck.1 ck.2))
    ∗ (bigSep Finset.univ fun k : Key => Release.slotInv ES (ιs k) k (parAny k))
    ∗ (bigSep Finset.univ fun c : Dev nD => reached ER (cell c .bar) 0)
    ∗ levs F)

instance Ctx_persistent (κ : GSem nD τ sig → ℕ) (ιs : Key → ℕ) : BI.Persistent (Ctx sv κ ιs) := by unfold Ctx; infer_instance

variable (κ : GSem nD τ sig → ℕ) (ιs : Key → ℕ)

theorem inv_at (c : Dev nD) (k : Kind) :
    (bigSep Finset.univ fun ck : Dev nD × Kind => (cellInv ER (Rd sv) (κ (cell ck.1 ck.2)) (cell ck.1 ck.2) : sProp (𝕄 F)))
      ⊢ cellInv ER (Rd sv) (κ (cell c k)) (cell c k) :=
  bigSep_elim (Φ := fun ck : Dev nD × Kind => (cellInv ER (Rd sv) (κ (cell ck.1 ck.2)) (cell ck.1 ck.2) : sProp (𝕄 F))) (Finset.mem_univ (c, k))
theorem slot_at (k : Key) :
    (bigSep Finset.univ fun k : Key => (Release.slotInv ES (ιs k) k (parAny k) : sProp (𝕄 F))) ⊢ Release.slotInv ES (ιs k) k (parAny k) :=
  bigSep_elim (Finset.mem_univ k)
theorem bar_at (c : Dev nD) :
    (bigSep Finset.univ fun c : Dev nD => (reached ER (cell c .bar) 0 : sProp (𝕄 F))) ⊢ reached ER (cell c .bar) 0 :=
  bigSep_elim (Φ := fun c : Dev nD => (reached ER (cell c .bar) 0 : sProp (𝕄 F))) (Finset.mem_univ c)

theorem Ctx_inv (c : Dev nD) (k : Kind) : Ctx sv κ ιs ⊢ cellInv ER (Rd sv) (κ (cell c k)) (cell c k) := by
  unfold Ctx
  iintro ⟨H, -⟩
  iapply (inv_at sv κ c k); iexact H
theorem Ctx_slot (k : Key) : Ctx sv κ ιs ⊢ Release.slotInv ES (ιs k) k (parAny k) := by
  unfold Ctx
  iintro ⟨-, H, -⟩
  iapply (slot_at ιs k); iexact H
theorem Ctx_bar (c : Dev nD) : Ctx sv κ ιs ⊢ reached ER (cell c .bar) 0 := by
  unfold Ctx
  iintro ⟨-, -, H, -⟩
  iapply (bar_at c); iexact H
theorem Ctx_levs : Ctx sv κ ιs ⊢ levs F := by
  unfold Ctx
  iintro ⟨-, -, -, H⟩
  iexact H

/-! ## Waiting for a round of one duty -/

theorem rest_recv (c : Dev nD) (g : Fin 3) (p j : Fin 2) (r : ℕ) (hr : r < nRounds p) :
    bigSep ((Rd sv).duties (cell c (.recv g p j)) r \ ∅) (fun d => (Rd sv).payload (cell c (.recv g p j)) r d)
      = recvAt c g p j (sv g j (pr g c) (2 * r + p.val)) := by
  rw [Finset.sdiff_empty, Rd_duties, show dutyOf (.recv g p j) r = {0} from if_pos hr, bigSep_singleton, Rd_payload]; rfl
theorem rest_send (c : Dev nD) (g : Fin 3) (p j : Fin 2) (r : ℕ) (hr : r < nRounds p) :
    bigSep ((Rd sv).duties (cell c (.send g p j)) r \ ∅) (fun d => (Rd sv).payload (cell c (.send g p j)) r d)
      = sendAny c g p j := by
  rw [Finset.sdiff_empty, Rd_duties, show dutyOf (.send g p j) r = {0} from if_pos hr, bigSep_singleton, Rd_payload]; rfl
theorem expect_recv (c : Dev nD) (g : Fin 3) (p j : Fin 2) (r : ℕ) (hr : r < nRounds p) : (Rd sv).expect (cell c (.recv g p j)) r = N g := by
  rw [Rd_expect, show dutyOf (.recv g p j) r = {0} from if_pos hr, Finset.card_singleton, one_mul]; rfl
theorem expect_send (c : Dev nD) (g : Fin 3) (p j : Fin 2) (r : ℕ) (hr : r < nRounds p) : (Rd sv).expect (cell c (.send g p j)) r = N g := by
  rw [Rd_expect, show dutyOf (.send g p j) r = {0} from if_pos hr, Finset.card_singleton, one_mul]; rfl

/-- A wait is allowed while everything owed is above it. -/
theorem mayOweC (c : Dev nD) (k : Kind) (i b : ℕ) (O : CellTallies nD τ sig ℕ) (hi : i < 31) (hl : lvOf (some k) i ≤ b + 1) (hO : Above b O) :
    Ctx sv κ ιs ⊢ (MayOwe (c : Thread nD τ) {(k.sem, i)} O : sProp (𝕄 F)) := by
  unfold Ctx
  iintro ⟨-, -, -, H⟩
  iapply (mayOwe c k i b O hi hl hO)
  iexact H

/-- Waiting for the arrival of half `j` of hop `2 r + p`. -/
theorem wp_waitRecv (c : Dev nD) (g : Fin 3) (p j : Fin 2) (r i : ℕ) (hr : r < nRounds p) (hi : i = 2 * r + p.val) (hi31 : i < 31)
    (O : CellTallies nD τ sig ℕ) (hO : Above (i + 1) O) (Kt : PUnit → sProp (𝕄 F)) :
    iprop((Ctx sv κ ιs ∗ cred (tallyAt (cell c (.recv g p j)) i (N g)) ∗ owe c O ∗ atPos ER (cell c (.recv g p j)) r ∅ 0)
        ∗ ((owe c O ∗ (atPos ER (cell c (.recv g p j)) (r + 1) ∅ 0 ∗ reached ER (cell c (.recv g p j)) (r + 1))
            ∗ recvAt c g p j (sv g j (pr g c) i)) -∗ Kt ⟨⟩))
      ⊢ WP c ((Rg g).waitRecv p j) Kt := by
  subst hi
  unfold Ring.waitRecv Prog.lift
  iintro ⟨⟨#HC, Hcr, HO, Hat⟩, Hk⟩
  unfold owe
  icases HO with ⟨%W, HO⟩
  iapply (Rounds.wp_wait_rest_token 𝒱₀ ER (Rd sv) (c : Thread nD τ) none (sm := (Kind.recv g p j).sem) (κ := κ (cell c (.recv g p j)))
      (wpE_waitDma2_eq (src := (Rg g).sendSlot p j) (dst := (Rg g).recvSlot p j) 𝒱₀ (c : Thread nD τ) none Set.univ) (Set.mem_univ _) (2 * r + p.val) (O := O) (W := W) (R := r) (m := 0) (T := ∅)
      (by rw [Nat.zero_add, credit_recv]; exact (expect_recv sv c g p j r hr).symm)) $$ [Hcr HO Hat]
  · isplitr; · iapply (Ctx_inv sv κ ιs c (.recv g p j)); iexact HC
    isplitl [Hcr]; · rw [credit_recv]; iexact Hcr
    isplitl [HO]; · iexact HO
    isplitr
    · iapply (mayOweC sv κ ιs c (.recv g p j) (2 * r + p.val) (2 * r + p.val + 1) O hi31 le_rfl hO); iexact HC
    iexact Hat
  iintro ⟨HO, Hat, Hre, Hpay⟩
  ihave Hp := (Entails.of_eq (rest_recv sv c g p j r hr)) $$ Hpay
  rw [wp_ret]; imodintro
  iapply Hk
  isplitl [HO]; · iexists _; iexact HO
  isplitl [Hat Hre]; · isplitl [Hat] <;> iassumption
  iexact Hp

/-- Waiting for half `j` of parity `p` to have left. -/
theorem wp_waitSend (c : Dev nD) (g : Fin 3) (p j : Fin 2) (r : ℕ) (hr : r < nRounds p)
    (O : CellTallies nD τ sig ℕ) (hO : Above 0 O) (Kt : PUnit → sProp (𝕄 F)) :
    iprop((Ctx sv κ ιs ∗ cred (tallyAt (cell c (.send g p j)) 0 (N g)) ∗ owe c O ∗ atPos ER (cell c (.send g p j)) r ∅ 0)
        ∗ ((owe c O ∗ (atPos ER (cell c (.send g p j)) (r + 1) ∅ 0 ∗ reached ER (cell c (.send g p j)) (r + 1)) ∗ sendAny c g p j) -∗ Kt ⟨⟩))
      ⊢ WP c ((Rg g).waitSend p j) Kt := by
  unfold Ring.waitSend Prog.lift
  iintro ⟨⟨#HC, Hcr, HO, Hat⟩, Hk⟩
  unfold owe
  icases HO with ⟨%W, HO⟩
  iapply (Rounds.wp_wait_rest_token 𝒱₀ ER (Rd sv) (c : Thread nD τ) none (sm := (Kind.send g p j).sem) (κ := κ (cell c (.send g p j)))
      (wpE_waitDma2_eq (src := (Rg g).recvSlot p j) (dst := (Rg g).sendSlot p j) 𝒱₀ (c : Thread nD τ) none Set.univ) (Set.mem_univ _) 0 (O := O) (W := W) (R := r) (m := 0) (T := ∅)
      (by rw [Nat.zero_add, credit_send]; exact (expect_send sv c g p j r hr).symm)) $$ [Hcr HO Hat]
  · isplitr; · iapply (Ctx_inv sv κ ιs c (.send g p j)); iexact HC
    isplitl [Hcr]; · rw [credit_send]; iexact Hcr
    isplitl [HO]; · iexact HO
    isplitr
    · iapply (mayOweC sv κ ιs c (.send g p j) 0 0 O (by decide) (Nat.zero_le _) hO); iexact HC
    iexact Hat
  iintro ⟨HO, Hat, Hre, Hpay⟩
  ihave Hp := (Entails.of_eq (rest_send sv c g p j r hr)) $$ Hpay
  rw [wp_ret]; imodintro
  iapply Hk
  isplitl [HO]; · iexists _; iexact HO
  isplitl [Hat Hre]; · isplitl [Hat] <;> iassumption
  iexact Hp

/-! ## Reading and writing a half -/

/-- A half of the send buffer at contents that read as `X`. -/
def sendAt (c : Dev nD) (g : Fin 3) (p j : Fin 2) (X : FVec F (S2w (Rg g).W) .bf16) : sProp (𝕄 F) :=
  iprop(∃ f, ⌜((Rg g).sendSlot p j).view.read (Elt F) f = X⌝
    ∗ (((Rg g).sendSlot p j).view.loc (c : Thread nD τ) ↦[((Rg g).sendSlot p j).view.set]{fullShare} f))

theorem recv_set (g : Fin 3) (p j : Fin 2) : ((Rg g).recv.access ((Rg g).rect p j)).set = ((Rg g).recvSlot p j).view.set :=
  (View.set_reshape (v := (Rg g).recv.view.slice ((Rg g).rect p j)) _).symm
theorem send_set (g : Fin 3) (p j : Fin 2) : ((Rg g).send.access ((Rg g).rect p j)).set = ((Rg g).sendSlot p j).view.set :=
  (View.set_reshape (v := (Rg g).send.view.slice ((Rg g).rect p j)) _).symm

/-- Reading a half. -/
theorem wp_readRecv (c : Dev nD) (g : Fin 3) (p j : Fin 2) (X : FVec F (S2w (Rg g).W) .bf16) (Kt : FVec F (S2w (Rg g).W) .bf16 → sProp (𝕄 F)) :
    iprop(recvAt c g p j X ∗ (recvAt c g p j X -∗ Kt X)) ⊢ WP c ((Rg g).readRecv p j) Kt := by
  unfold recvAt
  show _ ⊢ WP c (.op _ fun v => .ret _) Kt
  iintro ⟨⟨%f, %hf, H⟩, Hk⟩
  iapply (wp_load_rect 𝒱₀ (c : Thread nD τ) none Set.univ (m := (Rg g).recv) (r := (Rg g).rect p j) (recv_set g p j).subset) $$ H
  iintro H
  rw [wp_ret]; imodintro
  have e : (shapeCast (S2w (Rg g).W) (((Rg g).recv.access ((Rg g).rect p j)).read (Elt F) f) (Rg g).wide.cast12 : FVec F (S2w (Rg g).W) .bf16) = X := by
    rw [← hf]; rfl
  rw [e]
  iapply Hk
  iexists f
  isplitr; · ipureintro; exact hf
  iexact H

/-- Writing a half. -/
theorem wp_putSend (c : Dev nD) (g : Fin 3) (p j : Fin 2) (X : FVec F (S2w (Rg g).W) .bf16) (Kt : PUnit → sProp (𝕄 F)) :
    iprop(sendAny c g p j ∗ (sendAt c g p j X -∗ Kt ⟨⟩)) ⊢ WP c ((Rg g).putSend p j X) Kt := by
  unfold sendAny sendAt Release.slot
  show _ ⊢ WP c (.op _ fun v => .op _ .ret) Kt
  iintro ⟨⟨%f, H⟩, Hk⟩
  iapply (wp_load_rect 𝒱₀ (c : Thread nD τ) none Set.univ (m := (Rg g).send) (r := (Rg g).rect p j) (send_set g p j).subset) $$ H
  iintro H
  iapply (wp_store 𝒱₀ (c : Thread nD τ) none Set.univ (m := (Rg g).send) (r := (Rg g).rect p j) (Mk := Finset.univ) (send_set g p j).subset) $$ H
  iintro H
  rw [wp_ret]; imodintro
  iapply Hk
  iexists _
  isplitr [H]; swap; · iexact H
  ipureintro
  funext i
  show ((Rg g).send.access ((Rg g).rect p j)).read (Elt F) (((Rg g).send.access ((Rg g).rect p j)).write (Elt F) f _ Finset.univ) _ = X i
  rw [View.read_write_univ]
  show X _ = X i
  refine congrArg X ?_
  exact (Shape.reshapeEquiv_reshapeEquiv _ _ i).trans (Shape.reshapeEquiv_self _ i)

/-! ## Sending -/

theorem half_par (h : ℕ) : 2 * (h / 2) + (par h).val = h := Nat.div_add_mod h 2
theorem half_lt (h : ℕ) (hh : h < 31) : h / 2 < nRounds (par h) := by
  show h / 2 < 16 - h % 2
  omega

/-- Starting the transfer of half `j` of hop `h` to the successor. -/
theorem wp_start (c : Dev nD) (g : Fin 3) (j : Fin 2) (h : ℕ) (hh : h < 31) (O : CellTallies nD τ sig ℕ) (Kt : PUnit → sProp (𝕄 F)) :
    iprop((Ctx sv κ ιs ∗ sendAt c g (par h) j (sv g j c h) ∗ recvAny (su g c) g (par h) j
          ∗ owe c (O + tallyAt (cell (su g c) (.recv g (par h) j)) h (N g))
          ∗ (dutyTok ER (cell c (.send g (par h) j)) (h / 2) 0 ∗ dutyTok ER (cell (su g c) (.recv g (par h) j)) (h / 2) 0)
          ∗ reached ER (cell c (.send g (par h) j)) (h / 2) ∗ reached ER (cell (su g c) (.recv g (par h) j)) (h / 2))
        ∗ ((owe c O ∗ cred (tallyAt (cell c (.send g (par h) j)) 0 (N g))) -∗ Kt ⟨⟩))
      ⊢ WP c ((Rg g).start (su g c) (par h) j) Kt := by
  unfold Ring.start Prog.lift sendAt recvAny Release.slot
  iintro ⟨⟨#HC, ⟨%fs, %hfs, Hs⟩, ⟨%fd, Hd⟩, HO, ⟨Ht, Ht'⟩, Hr, Hr'⟩, Hk⟩
  unfold owe
  icases HO with ⟨%W, HO⟩
  iapply (Rounds.wp_send_pointsTo 𝒱₀ ER (Rd sv) (c : Thread nD τ) none (c' := (su g c : Thread nD τ)) (src := (Rg g).sendSlot (par h) j) (dst := (Rg g).recvSlot (par h) j)
      (sS := (Kind.send g (par h) j).sem) (sem := (Kind.recv g (par h) j).sem) (q := fullShare) (fs := fs) (κ₁ := κ (cell c (.send g (par h) j)))
      (κ₂ := κ (cell (su g c) (.recv g (par h) j))) (r₁ := h / 2) (r₂ := h / 2) (d₁ := 0) (d₂ := 0) (fd := fd)
      (by rw [Rd_duties, show dutyOf (.send g (par h) j) (h / 2) = {0} from if_pos (half_lt h hh)]; exact Finset.mem_singleton_self _)
      (by rw [Rd_duties, show dutyOf (.recv g (par h) j) (h / 2) = {0} from if_pos (half_lt h hh)]; exact Finset.mem_singleton_self _)
      h 0 (N g) (credit_recv g (par h) j) (Rd_amount sv c (.send g (par h) j) _ _) (Rd_amount sv (su g c) (.recv g (par h) j) _ _) O rfl (W := W)
      (by
        rw [Rd_payload]
        show _ ⊢ sendAny c g (par h) j
        unfold sendAny Release.slot
        iintro H; iexists fs; iexact H)
      (by
        rw [Rd_payload]
        show _ ⊢ recvAt (su g c) g (par h) j (sv g j (pr g (su g c)) (2 * (h / 2) + (par h).val))
        rw [pr_su, half_par]
        unfold recvAt
        iintro H
        iexists _
        isplitr; swap; · iexact H
        ipureintro
        rw [View.read_write_univ]; exact hfs)) $$ [Hs Hd HO Ht Ht' Hr Hr']
  · isplitr; · iapply (Ctx_inv sv κ ιs c (.send g (par h) j)); iexact HC
    isplitr; · iapply (Ctx_inv sv κ ιs (su g c) (.recv g (par h) j)); iexact HC
    isplitl [Hs]; · iexact Hs
    isplitl [Hd]; · iexact Hd
    isplitl [HO]; · iexact HO
    isplitl [Ht]; · iexact Ht
    isplitl [Hr]; · iexact Hr
    isplitl [Ht'] <;> iassumption
  iintro ⟨Hc, HO⟩
  rw [wp_ret]; imodintro
  iapply Hk
  isplitl [HO]; · iexists _; iexact HO
  iexact Hc

/-! ## Signals and waits on the regular semaphores -/

/-- Signalling a semaphore one unit. -/
theorem wp_signalWord (c d : Dev nD) (k : Kind) (s : Sem sig) (hs : k.sem = .reg s) (u i : ℕ) (hk : amtOf k = 1) (hu : u ∈ dutyOf k 0) (O : CellTallies nD τ sig ℕ) (Kt : PUnit → sProp (𝕄 F)) :
    iprop((Ctx sv κ ιs ∗ owe c (O + tallyAt (cell d k) i 1) ∗ dutyTok ER (cell d k) 0 u ∗ reached ER (cell d k) 0 ∗ payOf sv d k 0 u)
        ∗ (owe c O -∗ Kt ⟨⟩))
      ⊢ WP c (semSignalWord d s 1#32) Kt := by
  show _ ⊢ WP c (.op (.semSignal (d : Thread nD τ) s 1) .ret) Kt
  unfold owe
  rw [← Rd_payload]
  unfold cell
  rw [hs]
  iintro ⟨⟨#HC, ⟨%W, HO⟩, Ht, Hr, Hp⟩, Hk⟩
  iapply (Rounds.wp_signal 𝒱₀ ER (Rd sv) (c : Thread nD τ) none (dst := (d : Thread nD τ)) (sem := s) (r := 0) (d := u) (κ := κ (cell d k))
      (by rw [← hs]; rw [Rd_duties]; exact hu) (by rw [← hs]; exact (Rd_amount sv d k 0 u).trans hk) i O rfl) $$ [HO Ht Hr Hp]
  · isplitr; · rw [← hs]; iapply (Ctx_inv sv κ ιs d k); iexact HC
    isplitl [HO]; · iexact HO
    isplitl [Ht]; · iexact Ht
    isplitl [Hp] <;> iassumption
  iintro HO
  rw [wp_ret]; imodintro
  iapply Hk
  iexists _; iexact HO

/-- Waiting for the six units of the barrier. -/
theorem wp_barrier (c : Dev nD) (O : CellTallies nD τ sig ℕ) (hO : Above 0 O) (Kt : PUnit → sProp (𝕄 F)) :
    iprop((Ctx sv κ ιs ∗ owe c O ∗ cred (tallyAt (cell c .bar) 0 6) ∗ atPos ER (cell c .bar) 0 ∅ 0)
        ∗ ((owe c O ∗ atPos ER (cell c .bar) 1 ∅ 0 ∗ bigSep (Finset.range 6) (barPay c)) -∗ Kt ⟨⟩))
      ⊢ WP c (semWaitWord (sig.barrier 0 rfl) 6#32) Kt := by
  show _ ⊢ WP c (.op (.semWait (sig.barrier 0 rfl) 6) .ret) Kt
  unfold owe
  iintro ⟨⟨#HC, ⟨%W, HO⟩, Hcr, Hat⟩, Hk⟩
  iapply (Rounds.wp_wait_rest_token 𝒱₀ ER (Rd sv) (c : Thread nD τ) none (sm := Kind.bar.sem) (κ := κ (cell c .bar))
      (wpE_semWait_eq 𝒱₀ (c : Thread nD τ) none Set.univ) (Set.mem_univ _) 0 (O := O) (W := W) (R := 0) (m := 0) (T := ∅)
      (by rw [Rd_expect]; rfl)) $$ [Hcr HO Hat]
  · isplitr; · iapply (Ctx_inv sv κ ιs c .bar); iexact HC
    isplitl [Hcr]; · iexact Hcr
    isplitl [HO]; · iexact HO
    isplitr
    · iapply (mayOweC sv κ ιs c .bar 0 0 O (by decide) le_rfl hO); iexact HC
    iexact Hat
  iintro ⟨HO, Hat, -, Hpay⟩
  have e : bigSep ((Rd sv).duties (cell c .bar) 0 \ ∅) (fun d => (Rd sv).payload (cell c .bar) 0 d) = bigSep (Finset.range 6) (barPay (F := F) c) := by
    rw [Finset.sdiff_empty, Rd_duties]
    exact bigSep_congr fun d _ => Rd_payload sv c .bar 0 d
  ihave Hp := (Entails.of_eq e) $$ Hpay
  rw [wp_ret]; imodintro
  iapply Hk
  isplitl [HO]; · iexists _; iexact HO
  isplitl [Hat] <;> iassumption

/-- The credits heard of: at least `n` of them. -/
def credAt (c : Dev nD) (g : Fin 3) (n : ℕ) : sProp (𝕄 F) :=
  iprop(∃ T : Finset ℕ, ⌜T ⊆ Finset.range 29 ∧ n ≤ T.card⌝ ∗ atPos ER (cell c (.cred g)) 0 T n ∗ bigSep T (credPay c g))

/-- Waiting for one more credit. -/
theorem wp_takeCredit (c : Dev nD) (g : Fin 3) (n : ℕ) (hn : n < 29) (O : CellTallies nD τ sig ℕ) (hO : Above (n + 2) O) (Kt : PUnit → sProp (𝕄 F)) :
    iprop((Ctx sv κ ιs ∗ owe c O ∗ cred (tallyAt (cell c (.cred g)) n 1) ∗ credAt c g n)
        ∗ ((owe c O ∗ credAt c g (n + 1)) -∗ Kt ⟨⟩))
      ⊢ WP c (semWaitWord (Rg g).credit.sem 1#32) Kt := by
  show _ ⊢ WP c (.op (.semWait (Rg g).credit.sem 1) .ret) Kt
  unfold owe credAt
  iintro ⟨⟨#HC, ⟨%W, HO⟩, Hcr, ⟨%T, %hT, Hat, #HT⟩⟩, Hk⟩
  iapply (Rounds.wp_wait 𝒱₀ ER (Rd sv) (c : Thread nD τ) none (sm := (Kind.cred g).sem) (κ := κ (cell c (.cred g)))
      (wpE_semWait_eq 𝒱₀ (c : Thread nD τ) none Set.univ) (Set.mem_univ _) (cr := Finsupp.single n 1) (O := O) (W := W) {((Kind.cred g).sem, n)} (R := 0) (m := n) (T := T)
      (Util.total_single _ _) (image_single_subset _ _ _)) $$ [Hcr HO Hat]
  · isplitr; · iapply (Ctx_inv sv κ ιs c (.cred g)); iexact HC
    isplitl [Hcr]; · iexact Hcr
    isplitl [HO]; · iexact HO
    isplitr
    · iapply (mayOweC sv κ ιs c (.cred g) n (n + 2) O (by omega) le_rfl hO); iexact HC
    iexact Hat
  iintro %S ⟨%hS, HO, Hat, Hp⟩
  rw [wp_ret]; imodintro
  iapply Hk
  isplitl [HO]; · iexists _; iexact HO
  iexists S
  have hd : (Rd sv).duties (cell c (.cred g)) 0 = Finset.range 29 := Rd_duties sv c (.cred g) 0
  have he : (Rd sv).expect (cell c (.cred g)) 0 = 29 := Rd_expect sv c (.cred g) 0
  obtain ⟨h1, h2, h3⟩ := hS
  rw [hd] at h2; rw [hd, he, Finset.card_sdiff_of_subset h2, Finset.card_range] at h3
  isplitr
  · ipureintro
    have := Finset.card_le_card h2
    rw [Finset.card_range] at this
    exact ⟨h2, by omega⟩
  isplitl [Hat]; · iexact Hat
  have e : bigSep (S \ T) (fun d => (Rd sv).payload (cell c (.cred g)) 0 d) = bigSep (S \ T) (credPay (F := F) c g) :=
    bigSep_congr fun d _ => Rd_payload sv c (.cred g) 0 d
  ihave Hp := (Entails.of_eq e) $$ Hp
  have e2 : bigSep S (credPay (F := F) c g) = iprop(bigSep T (credPay c g) ∗ bigSep (S \ T) (credPay c g)) := by
    rw [← Finset.union_sdiff_of_subset h1, bigSep_union Finset.disjoint_sdiff, Finset.union_sdiff_of_subset h1]; rfl
  iapply (Entails.of_eq e2.symm)
  isplitr; · iexact HT
  iexact Hp

end Cert.KernelIdeal.Rings
-- ==== Proof.Step.lean ====
/- One step of a ring: half `j` of hop `h`, over what the device holds of the ring before and after. -/
module

public import proofs.«01_k».proof.Proof.Piece

@[expose] public section

set_option maxRecDepth 20000

noncomputable section

namespace Cert.KernelIdeal.Rings

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

theorem par_two (m : ℕ) : par (m + 2) = par m := Fin.ext (Nat.add_mod_right m 2)
theorem half_two (m : ℕ) : (m + 2) / 2 = m / 2 + 1 := by omega

/-- The first of a pool of things numbered up to `n`. -/
theorem pool_pop (Φ : ℕ → sProp (𝕄 F)) {h n : ℕ} (hh : h < n) :
    bigSep (Finset.Ico h n) Φ ⊢ iprop(Φ h ∗ bigSep (Finset.Ico (h + 1) n) Φ) := by
  have e : Finset.Ico h n = insert h (Finset.Ico (h + 1) n) := by
    ext x; simp only [Finset.mem_insert, Finset.mem_Ico]; omega
  rw [e, bigSep_insert (by simp)]
  exact .rfl

/-! ## What a device holds of a ring -/

/-- The arrival semaphore of hop `m`'s half `j` is at the round of hop `m`. -/
def recvSt (c : Dev nD) (g : Fin 3) (j : Fin 2) (m : ℕ) : sProp (𝕄 F) :=
  iprop(atPos ER (cell c (.recv g (par m) j)) (m / 2) ∅ 0 ∗ reached ER (cell c (.recv g (par m) j)) (m / 2))
/-- Before hop `h`: the two parities' arrival semaphores, and the credits of the arrivals to come. -/
def recvs (c : Dev nD) (g : Fin 3) (j : Fin 2) (h : ℕ) : sProp (𝕄 F) :=
  iprop(recvSt c g j (h - 1) ∗ recvSt c g j (h - 1 + 1)
    ∗ bigSep (Finset.Ico (h - 1) 31) fun i => cred (tallyAt (cell c (.recv g (par i) j)) i (N g)))

/-- The departure semaphore of hop `m`'s half `j` is at the round of hop `m`, and the send buffer's half is free. -/
def sendFree (c : Dev nD) (g : Fin 3) (j : Fin 2) (m : ℕ) : sProp (𝕄 F) :=
  iprop((atPos ER (cell c (.send g (par m) j)) (m / 2) ∅ 0 ∗ reached ER (cell c (.send g (par m) j)) (m / 2)) ∗ sendAny c g (par m) j)
/-- Before hop `m`: the transfer two hops before is under way, if there was one. -/
def sendSt (c : Dev nD) (g : Fin 3) (j : Fin 2) (m : ℕ) : sProp (𝕄 F) :=
  if 2 ≤ m then iprop(atPos ER (cell c (.send g (par m) j)) (m / 2 - 1) ∅ 0 ∗ cred (tallyAt (cell c (.send g (par m) j)) 0 (N g)))
  else sendFree c g j m
/-- The right to send in hop `k`. -/
def sendTok (c : Dev nD) (g : Fin 3) (j : Fin 2) (k : ℕ) : sProp (𝕄 F) :=
  iprop(dutyTok ER (cell c (.send g (par k) j)) (k / 2) 0 ∗ dutyTok ER (cell (su g c) (.recv g (par k) j)) (k / 2) 0)
/-- Before hop `h`: the two parities' departure semaphores, and the rights to send. -/
def sends (c : Dev nD) (g : Fin 3) (j : Fin 2) (h : ℕ) : sProp (𝕄 F) :=
  iprop(sendSt c g j h ∗ sendSt c g j (h + 1) ∗ bigSep (Finset.Ico h 31) (sendTok c g j))

/-- How often hop `m`'s parity of the receive buffer has been released; the last odd one is kept. -/
def relSt (c : Dev nD) (g : Fin 3) (m : ℕ) : sProp (𝕄 F) :=
  if m ≤ 30 then iprop(Release.readerAt ES ((c, g, par m) : Key) (m / 2 + 1) ∗ Release.released ES ((c, g, par m) : Key) (m / 2 + 1)) else parAny (c, g, par m)
/-- Before hop `h`: the releases, and the rights to tell the predecessor of them. -/
def rels (c : Dev nD) (g : Fin 3) (h : ℕ) : sProp (𝕄 F) :=
  iprop(relSt c g (h - 1) ∗ relSt c g (h - 1 + 1) ∗ reached ER (cell (pr g c) (.cred g)) 0
    ∗ bigSep (Finset.Ico (h - 1) 29) fun i => dutyTok ER (cell (pr g c) (.cred g)) 0 i)

/-- Before hop `h`: the credits heard of, and those to come. -/
def creds (c : Dev nD) (g : Fin 3) (h : ℕ) : sProp (𝕄 F) :=
  iprop((slotFact (su g c) g 0 1 ∗ slotFact (su g c) g 1 1) ∗ credAt c g (h - 2)
    ∗ bigSep (Finset.Ico (h - 2) 29) fun i => cred (tallyAt (cell c (.cred g)) i 1))

/-- Before hop `h`: the rights to take the successor's buffers. -/
def writes (c : Dev nD) (g : Fin 3) (h : ℕ) : sProp (𝕄 F) :=
  bigSep (Finset.Ico h 31) fun k => Release.writeTok ES ((su g c, g, par k) : Key) (k / 2 + 1)

/-- What was read of hop `h - 1` and is not yet released. -/
def got (c : Dev nD) (g : Fin 3) (j : Fin 2) (h : ℕ) : sProp (𝕄 F) :=
  if 1 ≤ h then recvAny c g (par (h - 1)) j else iprop(emp)

variable (sv : (g : Fin 3) → Fin 2 → Dev nD → ℕ → FVec F (S2w (Rg g).W) .bf16)
variable (κ : GSem nD τ sig → ℕ) (ιs : Key → ℕ)

/-! ## The parts of a step -/

/-- The half sum that hop `h` sends. -/
def acc [Facts] (c : Dev nD) (g : Fin 3) (j : Fin 2) (h : ℕ) (q : FVec F (S2w (Rg g).W) .f32) : FVec F (S2w (Rg g).W) .f32 :=
  if 1 ≤ h then addf q (extf .f32 (sv g j (pr g c) (h - 1)) bitsLt_bf16_f32) else q

theorem wp_addRecv (c : Dev nD) (g : Fin 3) (j : Fin 2) (h : ℕ) (hh : h < 31) (q : FVec F (S2w (Rg g).W) .f32)
    (O : CellTallies nD τ sig ℕ) (hO : Above h O) (Kt : FVec F (S2w (Rg g).W) .f32 → sProp (𝕄 F)) :
    iprop((Ctx sv κ ιs ∗ owe c O ∗ recvs c g j h)
        ∗ ((owe c O ∗ recvs c g j (h + 1) ∗ got c g j h) -∗ Kt (acc sv c g j h q)))
      ⊢ WP c ((Rg g).addRecv h j q) Kt := by
  unfold Ring.addRecv acc got
  rcases h with _ | m
  · rw [if_neg (by omega), if_neg (by omega), if_neg (by omega)]
    show _ ⊢ WP c (.ret _) Kt
    iintro ⟨⟨#HC, HO, H⟩, Hk⟩
    iapply (WP_ret c q Kt)
    iapply Hk
    isplitl [HO]; · iexact HO
    isplitl [H]; · iexact H
    iempintro
  · rw [if_pos (by omega), if_pos (by omega), if_pos (by omega)]
    unfold recvs
    rw [show m + 1 + 1 - 1 = m + 1 from rfl, show m + 1 - 1 = m from rfl]
    iintro ⟨⟨#HC, HO, Ha, H1, Hp⟩, Hk⟩
    ihave Ha := (Entails.of_eq (recvSt.eq_1 c g j m)) $$ Ha
    icases Ha with ⟨Ha, -⟩
    ihave Hp := (pool_pop (F := F) (fun i => cred (tallyAt (cell c (.recv g (par i) j)) i (N g))) (show m < 31 by omega)) $$ Hp
    icases Hp with ⟨Hc, Hp⟩
    iapply (WP_bind c)
    iapply (wp_waitRecv sv κ ιs c g (par m) j (m / 2) m (half_lt m (by omega)) (half_par m).symm (by omega) O hO _)
    isplitl [Ha Hc HO]
    · isplitr; · iexact HC
      isplitl [Hc]; · iexact Hc
      isplitl [HO]; · iexact HO
      iexact Ha
    iintro ⟨HO, Ha, Hr⟩
    iapply (WP_bind c)
    iapply (wp_readRecv c g (par m) j (sv g j (pr g c) m) _)
    isplitl [Hr]; · iexact Hr
    iintro Hr
    iapply (WP_ret c _ Kt)
    iapply Hk
    isplitl [HO]; · iexact HO
    isplitr [Hr]
    · isplitl [H1]; · iexact H1
      isplitl [Ha]
      · unfold recvSt
        rw [show m + 1 + 1 = m + 2 from rfl, par_two, half_two]
        iexact Ha
      iexact Hp
    iapply (recvAt_any c g (par m) j _); iexact Hr

theorem wp_freeSend (c : Dev nD) (g : Fin 3) (j : Fin 2) (h : ℕ) (hh : h < 31)
    (O : CellTallies nD τ sig ℕ) (hO : Above 0 O) (Kt : PUnit → sProp (𝕄 F)) :
    iprop((Ctx sv κ ιs ∗ owe c O ∗ sendSt c g j h) ∗ ((owe c O ∗ sendFree c g j h) -∗ Kt ⟨⟩))
      ⊢ WP c ((Rg g).freeSend h j) Kt := by
  unfold Ring.freeSend sendSt
  by_cases h2 : 2 ≤ h
  · rw [if_pos h2, if_pos h2]
    iintro ⟨⟨#HC, HO, Ha, Hc⟩, Hk⟩
    iapply (wp_waitSend sv κ ιs c g (par h) j (h / 2 - 1) (lt_of_le_of_lt (Nat.sub_le _ _) (half_lt h hh)) O hO Kt)
    isplitl [Ha Hc HO]
    · isplitr; · iexact HC
      isplitl [Hc]; · iexact Hc
      isplitl [HO]; · iexact HO
      iexact Ha
    rw [show h / 2 - 1 + 1 = h / 2 by omega]
    iintro ⟨HO, Ha, Hs⟩
    iapply Hk
    unfold sendFree
    isplitl [HO]; · iexact HO
    isplitl [Ha]; · iexact Ha
    iexact Hs
  · rw [if_neg h2, if_neg h2]
    show _ ⊢ WP c (.ret _) Kt
    iintro ⟨⟨#HC, HO, H⟩, Hk⟩
    iapply (WP_ret c _ Kt)
    iapply Hk
    isplitl [HO]; · iexact HO
    iexact H

/-- From hop `h + 1` on: the arrival semaphores have reached these rounds. -/
theorem recvs_fact (c : Dev nD) (g : Fin 3) (j : Fin 2) (h : ℕ) :
    recvs c g j (h + 1) ⊢ (iprop(reached ER (cell c (.recv g (par h) j)) (h / 2) ∗ reached ER (cell c (.recv g (par (h + 1)) j)) ((h + 1) / 2)) : sProp (𝕄 F)) := by
  unfold recvs recvSt
  iintro ⟨⟨-, H⟩, ⟨-, H'⟩, -⟩
  isplitl [H]; · iexact H
  iexact H'

/-- One of the credits heard of. -/
theorem cred_pick (c : Dev nD) (g : Fin 3) {T : Finset ℕ} {i : ℕ} (hi : i ∈ T) : bigSep T (credPay c g) ⊢ (credPay c g i : sProp (𝕄 F)) :=
  bigSep_elim hi

/-- Any credit from the `m`-th on says that the successor's buffers are free for hop `m + 2`. -/
theorem credPay_slot (c : Dev nD) (g : Fin 3) (m i : ℕ) (h : m ≤ i) :
    credPay c g i ⊢ (slotFact (su g c) g (par (m + 2)) ((m + 2) / 2 + 1) : sProp (𝕄 F)) := by
  unfold credPay
  by_cases hp : i % 2 = m % 2
  · rw [show par i = par (m + 2) from Fin.ext (by show i % 2 = (m + 2) % 2; omega)]
    iintro ⟨H, -⟩
    iapply (slotFact_mono (F := F) (su g c) g (par (m + 2)) (show (m + 2) / 2 + 1 ≤ i / 2 + 2 by omega)); iexact H
  · rw [show par (i + 1) = par (m + 2) from Fin.ext (by show (i + 1) % 2 = (m + 2) % 2; omega)]
    iintro ⟨-, H⟩
    iapply (slotFact_mono (F := F) (su g c) g (par (m + 2)) (show (m + 2) / 2 + 1 ≤ (i + 1) / 2 + 1 by omega)); iexact H

theorem wp_giveCredit (c : Dev nD) (g : Fin 3) (h : ℕ) (hh : h < 31) (O : CellTallies nD τ sig ℕ) (Kt : PUnit → sProp (𝕄 F)) :
    iprop((Ctx sv κ ιs ∗ owe c (O + (if 1 ≤ h ∧ h ≤ 29 ∧ (1 : Fin 2) = 1 then tallyAt (cell (pr g c) (.cred g)) (h - 1) 1 else 0))
          ∗ rels c g h ∗ (got c g 0 h ∗ got c g 1 h) ∗ recvs c g 0 (h + 1) ∗ recvs c g 1 (h + 1))
        ∗ ((owe c O ∗ rels c g (h + 1) ∗ recvs c g 0 (h + 1) ∗ recvs c g 1 (h + 1)) -∗ Kt ⟨⟩))
      ⊢ WP c ((Rg g).giveCredit (pr g c) h 1) Kt := by
  unfold Ring.giveCredit rels
  rcases h with _ | m
  · rw [if_neg (by omega), if_neg (by omega), add_zero]
    show _ ⊢ WP c (.ret _) Kt
    iintro ⟨⟨#HC, HO, H, -, H0, H1⟩, Hk⟩
    iapply (WP_ret c _ Kt)
    iapply Hk
    isplitl [HO]; · iexact HO
    isplitl [H]; · iexact H
    isplitl [H0] <;> iassumption
  rw [show m + 1 + 1 - 1 = m + 1 from rfl, show m + 1 - 1 = m from rfl]
  by_cases h29 : m + 1 ≤ 29
  · rw [if_pos ⟨by omega, h29, rfl⟩, if_pos ⟨by omega, h29, rfl⟩]
    unfold relSt got
    rw [if_pos (show m ≤ 30 by omega), if_pos (show m + 1 ≤ 30 by omega), if_pos (show m + 1 + 1 ≤ 30 by omega), if_pos (by omega), if_pos (by omega)]
    rw [show m + 1 + 1 = m + 2 from rfl, par_two, half_two, show m + 1 - 1 = m from rfl]
    iintro ⟨⟨#HC, HO, ⟨⟨HR, -⟩, ⟨HR1, #HL1⟩, #Hcr, Hp⟩, ⟨HG0, HG1⟩, H0, H1⟩, Hk⟩
    ihave #F0 := (recvs_fact c g 0 (m + 1)) $$ H0
    ihave #F1 := (recvs_fact c g 1 (m + 1)) $$ H1
    rw [show m + 1 + 1 = m + 2 from rfl, par_two, half_two]
    icases F0 with ⟨#F00, #F01⟩
    icases F1 with ⟨#F10, #F11⟩
    ihave #HI := (Ctx_slot sv κ ιs (c, g, par m)) $$ HC
    imod (Release.slot_release ES (Set.mem_univ _) (parAny_false (c, g, par m)) (m / 2 + 1)) $$ [HI HR HG0 HG1] with ⟨HR, #Hrel⟩
    · isplitr; · iexact HI
      isplitl [HR]; · iexact HR
      unfold parAny
      isplitl [HG0] <;> iassumption
    ihave Hp := (pool_pop (F := F) (fun i => dutyTok ER (cell (pr g c) (.cred g)) 0 i) (show m < 29 by omega)) $$ Hp
    icases Hp with ⟨Ht, Hp⟩
    iapply (wp_signalWord sv κ ιs c (pr g c) (.cred g) _ rfl m m rfl (by rw [show dutyOf (.cred g) 0 = Finset.range 29 from rfl, Finset.mem_range]; omega) O Kt)
    isplitl [HO Ht]
    · isplitr; · iexact HC
      isplitl [HO]; · iexact HO
      isplitl [Ht]; · iexact Ht
      isplitr; · iexact Hcr
      iapply (Entails.of_eq (show iprop(slotFact (su g (pr g c)) g (par m) (m / 2 + 2) ∗ slotFact (su g (pr g c)) g (par (m + 1)) ((m + 1) / 2 + 1)) = payOf sv (pr g c) (.cred g) 0 m from rfl))
      rw [su_pr]
      unfold slotFact
      isplitr
      · isplitr; · iexact Hrel
        isplitr; · iexact F01
        iexact F11
      · isplitr; · iexact HL1
        isplitr; · iexact F00
        iexact F10
    iintro HO
    iapply Hk
    isplitl [HO]; · iexact HO
    isplitl [HR HR1 Hp]
    · isplitl [HR1]
      · isplitl [HR1]; · iexact HR1
        iexact HL1
      isplitl [HR]
      · isplitl [HR]; · iexact HR
        iexact Hrel
      isplitr; · iexact Hcr
      iexact Hp
    isplitl [H0] <;> iassumption
  · obtain rfl : m = 29 := by omega
    unfold got
    rw [if_neg (by omega), if_pos (by omega), if_pos (by omega), if_neg (by omega), add_zero]
    show _ ⊢ WP c (.ret _) Kt
    iintro ⟨⟨#HC, HO, ⟨-, HR1, #Hcr, -⟩, ⟨HG0, HG1⟩, H0, H1⟩, Hk⟩
    iapply (WP_ret c _ Kt)
    iapply Hk
    isplitl [HO]; · iexact HO
    isplitl [HR1 HG0 HG1]
    · isplitl [HR1]; · iexact HR1
      isplitl [HG0 HG1]
      · iapply (Entails.of_eq (show iprop(recvAny c g (par 29) 0 ∗ recvAny c g (par 29) 1) = relSt (F := F) c g (29 + 1 + 1) from
          (if_neg (show ¬ 29 + 1 + 1 ≤ 30 by omega)).symm))
        isplitl [HG0]
        · iexact HG0
        iexact HG1
      isplitr; · iexact Hcr
      rw [show Finset.Ico (29 + 1) 29 = ∅ from rfl, bigSep_empty]
      iempintro
    isplitl [H0] <;> iassumption

theorem wp_takeCredit0 (c : Dev nD) (g : Fin 3) (h : ℕ) (hh : h < 31) (O : CellTallies nD τ sig ℕ) (hO : Above h O) (Kt : PUnit → sProp (𝕄 F)) :
    iprop((Ctx sv κ ιs ∗ owe c O ∗ creds c g h)
        ∗ ((owe c O ∗ creds c g (h + 1) ∗ slotFact (su g c) g (par h) (h / 2 + 1)) -∗ Kt ⟨⟩))
      ⊢ WP c ((Rg g).takeCredit h 0) Kt := by
  unfold Ring.takeCredit creds
  by_cases h2 : 2 ≤ h
  · obtain ⟨m, rfl⟩ := Nat.exists_eq_add_of_le' h2
    rw [if_pos ⟨h2, rfl⟩, show m + 2 - 2 = m from rfl, show m + 2 + 1 - 2 = m + 1 from rfl]
    iintro ⟨⟨#HC, HO, #HB, HA, Hp⟩, Hk⟩
    ihave Hp := (pool_pop (F := F) (fun i => cred (tallyAt (cell c (.cred g)) i 1)) (show m < 29 by omega)) $$ Hp
    icases Hp with ⟨Hc, Hp⟩
    iapply (wp_takeCredit sv κ ιs c g m (by omega) O hO Kt)
    isplitl [HO HA Hc]
    · isplitr; · iexact HC
      isplitl [HO]; · iexact HO
      isplitl [Hc] <;> iassumption
    iintro ⟨HO, HA⟩
    unfold credAt
    icases HA with ⟨%T, %hT, Hat, #HT⟩
    iapply Hk
    isplitl [HO]; · iexact HO
    isplitl [Hat Hp]
    · isplitr; · iexact HB
      isplitl [Hat]
      · iexists T
        isplitr; · ipureintro; exact hT
        isplitl [Hat]; · iexact Hat
        iexact HT
      iexact Hp
    obtain ⟨i, hi, him⟩ : ∃ i ∈ T, m ≤ i := by
      by_contra hcon
      have h1 : T ⊆ Finset.range m := fun i hi => Finset.mem_range.mpr (not_le.mp fun hle => hcon ⟨i, hi, hle⟩)
      have := Finset.card_le_card h1
      rw [Finset.card_range] at this
      omega
    ihave #Hi := (cred_pick c g hi) $$ HT
    iapply (credPay_slot c g m i him)
    iexact Hi
  · rw [if_neg (by omega), show h - 2 = h + 1 - 2 by omega]
    show _ ⊢ WP c (.ret _) Kt
    iintro ⟨⟨#HC, HO, #HB, HA, Hp⟩, Hk⟩
    iapply (WP_ret c _ Kt)
    iapply Hk
    isplitl [HO]; · iexact HO
    isplitl [HA Hp]
    · isplitr; · iexact HB
      isplitl [HA] <;> iassumption
    icases HB with ⟨#HB0, #HB1⟩
    rcases (show h = 0 ∨ h = 1 by omega) with rfl | rfl
    · iexact HB0
    · iexact HB1

/-- Before hop `m + 2`, once hop `m`'s transfer is under way. -/
theorem sendSt_two (c : Dev nD) (g : Fin 3) (j : Fin 2) (m : ℕ) :
    iprop(atPos ER (cell c (.send g (par m) j)) (m / 2) ∅ 0 ∗ cred (tallyAt (cell c (.send g (par m) j)) 0 (N g))) ⊢ (sendSt c g j (m + 2) : sProp (𝕄 F)) := by
  unfold sendSt
  rw [if_pos (by omega), par_two, half_two, Nat.add_sub_cancel]

/-- Sending half `j` of hop `h` when the successor's half is in hand. -/
theorem wp_send (c : Dev nD) (g : Fin 3) (j : Fin 2) (h : ℕ) (hh : h < 31) (O : CellTallies nD τ sig ℕ) (Kt : PUnit → sProp (𝕄 F)) :
    iprop((Ctx sv κ ιs ∗ sendAt c g (par h) j (sv g j c h) ∗ recvAny (su g c) g (par h) j ∗ slotFact (su g c) g (par h) (h / 2 + 1)
          ∗ owe c (O + tallyAt (cell (su g c) (.recv g (par h) j)) h (N g))
          ∗ (atPos ER (cell c (.send g (par h) j)) (h / 2) ∅ 0 ∗ reached ER (cell c (.send g (par h) j)) (h / 2))
          ∗ sendSt c g j (h + 1) ∗ bigSep (Finset.Ico h 31) (sendTok c g j))
        ∗ ((owe c O ∗ sends c g j (h + 1)) -∗ Kt ⟨⟩))
      ⊢ WP c ((Rg g).start (su g c) (par h) j) Kt := by
  iintro ⟨⟨#HC, Hs, Hd, #HF, HO, ⟨Ha, Hr⟩, Hn, Hp⟩, Hk⟩
  ihave Hp := (pool_pop (F := F) (sendTok c g j) hh) $$ Hp
  icases Hp with ⟨Ht, Hp⟩
  ihave Ht := (Entails.of_eq (sendTok.eq_1 (F := F) c g j h)) $$ Ht
  unfold slotFact
  icases HF with ⟨-, #HF0, #HF1⟩
  iapply (wp_start sv κ ιs c g j h hh O Kt)
  isplitl [Hs Hd HO Ht Hr]
  · isplitr; · iexact HC
    isplitl [Hs]; · iexact Hs
    isplitl [Hd]; · iexact Hd
    isplitl [HO]; · iexact HO
    isplitl [Ht]; · iexact Ht
    isplitl [Hr]; · iexact Hr
    fin_cases j
    · iexact HF0
    · iexact HF1
  iintro ⟨HO, Hc⟩
  iapply Hk
  isplitl [HO]; · iexact HO
  unfold sends
  isplitl [Hn]; · iexact Hn
  isplitl [Ha Hc]
  · iapply (sendSt_two (F := F) c g j h)
    isplitl [Ha] <;> iassumption
  iexact Hp

/-- Taking the successor's parity for hop `h`. -/
theorem take (c : Dev nD) (g : Fin 3) (h : ℕ) (hh : h < 31) :
    iprop(Ctx sv κ ιs ∗ slotFact (su g c) g (par h) (h / 2 + 1) ∗ writes c g h)
      ⊢ (|={Set.univ}=> ((recvAny (su g c) g (par h) 0 ∗ recvAny (su g c) g (par h) 1) ∗ writes c g (h + 1)) : sProp (𝕄 F)) := by
  unfold writes slotFact
  iintro ⟨#HC, ⟨HF, -⟩, Hp⟩
  ihave Hp := (pool_pop (F := F) (fun k => Release.writeTok ES ((su g c, g, par k) : Key) (k / 2 + 1)) hh) $$ Hp
  icases Hp with ⟨Ht, Hp⟩
  ihave #HI := (Ctx_slot sv κ ιs (su g c, g, par h)) $$ HC
  imod (Release.slot_take ES (S := parAny (su g c, g, par h)) (Set.mem_univ _) (h / 2 + 1)) $$ [HI HF Ht] with H
  · isplitr; · iexact HI
    isplitl [HF] <;> iassumption
  imodintro
  isplitl [H]; · unfold parAny; iexact H
  iexact Hp

/-! ## The steps -/

/-- What a device holds of ring `g` before hop `h`. -/
def ringSt (c : Dev nD) (g : Fin 3) (h : ℕ) : sProp (𝕄 F) :=
  iprop((recvs c g 0 h ∗ recvs c g 1 h) ∗ (sends c g 0 h ∗ sends c g 1 h) ∗ rels c g h ∗ creds c g h ∗ writes c g h)
/-- What it holds between the two halves of hop `h`. -/
def ringMid (c : Dev nD) (g : Fin 3) (h : ℕ) : sProp (𝕄 F) :=
  iprop((recvs c g 0 (h + 1) ∗ recvs c g 1 h) ∗ (sends c g 0 (h + 1) ∗ sends c g 1 h) ∗ rels c g h ∗ creds c g (h + 1) ∗ writes c g (h + 1)
    ∗ got c g 0 h ∗ recvAny (su g c) g (par h) 1 ∗ slotFact (su g c) g (par h) (h / 2 + 1))

theorem wp_step0 [Facts] (c : Dev nD) (g : Fin 3) (h : ℕ) (hh : h < 31) (q : FVec F (S2w (Rg g).WW) .f32)
    (hq : truncf .bf16 (acc sv c g 0 h ((Rg g).half 0 q)) bitsLt_bf16_f32 = sv g 0 c h)
    (O : CellTallies nD τ sig ℕ) (hO : Above h O) (Kt : PUnit → sProp (𝕄 F)) :
    iprop((Ctx sv κ ιs ∗ owe c (due c h g 0 O) ∗ ringSt c g h) ∗ ((owe c O ∗ ringMid c g h) -∗ Kt ⟨⟩))
      ⊢ WP c ((Rg g).step (su g c) (pr g c) h 0 q) Kt := by
  have hO' : Above h (due c h g 0 O) := Above.due g 0 hh le_rfl hO
  have hO2 : Above h (O + tallyAt (cell (su g c) (.recv g (par h) 0)) h (N g)) := hO.add (Above.recv _ _ _ _ _ _ hh le_rfl)
  unfold Ring.step ringSt ringMid
  iintro ⟨⟨#HC, HO, ⟨HR0, HR1⟩, ⟨HS0, HS1⟩, HL, HD, HW⟩, Hk⟩
  iapply (WP_bind c)
  iapply (wp_addRecv sv κ ιs c g 0 h hh _ _ hO' _)
  isplitl [HO HR0]
  · isplitr; · iexact HC
    isplitl [HO] <;> iassumption
  iintro ⟨HO, HR0, HG⟩
  iapply (WP_bind c)
  ihave HS0 := (Entails.of_eq (sends.eq_1 (F := F) c g 0 h)) $$ HS0
  icases HS0 with ⟨HS0, HS0', Ht⟩
  iapply (wp_freeSend sv κ ιs c g 0 h hh _ (hO'.mono (Nat.zero_le _)) _)
  isplitl [HO HS0]
  · isplitr; · iexact HC
    isplitl [HO] <;> iassumption
  unfold sendFree
  iintro ⟨HO, Ha, HS⟩
  iapply (WP_bind c)
  rw [hq]
  iapply (wp_putSend c g (par h) 0 (sv g 0 c h) _)
  isplitl [HS]; · iexact HS
  iintro HS
  iapply (WP_bind c)
  unfold Ring.giveCredit
  rw [if_neg (by rintro ⟨-, -, h⟩; exact absurd h (by decide))]
  iapply (WP_ret c)
  unfold due
  rw [if_neg (by rintro ⟨-, -, h⟩; exact absurd h (by decide)), add_zero]
  iapply (WP_bind c)
  iapply (wp_takeCredit0 sv κ ιs c g h hh _ hO2 _)
  isplitl [HO HD]
  · isplitr; · iexact HC
    isplitl [HO] <;> iassumption
  iintro ⟨HO, HD, #HF⟩
  imod (take sv κ ιs c g h hh) $$ [HW] with ⟨⟨HA, HB⟩, HW⟩
  · isplitr; · iexact HC
    isplitr; · iexact HF
    iexact HW
  iapply (wp_send sv κ ιs c g 0 h hh O Kt)
  isplitl [HO HS HA Ha HS0' Ht]
  · isplitr; · iexact HC
    isplitl [HS]; · iexact HS
    isplitl [HA]; · iexact HA
    isplitr; · iexact HF
    isplitl [HO]; · iexact HO
    isplitl [Ha]; · iexact Ha
    isplitl [HS0'] <;> iassumption
  iintro ⟨HO, HS⟩
  iapply Hk
  isplitl [HO]; · iexact HO
  isplitl [HR0 HR1]; · isplitl [HR0] <;> iassumption
  isplitl [HS HS1]; · isplitl [HS] <;> iassumption
  isplitl [HL]; · iexact HL
  isplitl [HD]; · iexact HD
  isplitl [HW]; · iexact HW
  isplitl [HG]; · iexact HG
  isplitl [HB]; · iexact HB
  iexact HF

theorem wp_step1 [Facts] (c : Dev nD) (g : Fin 3) (h : ℕ) (hh : h < 31) (q : FVec F (S2w (Rg g).WW) .f32)
    (hq : truncf .bf16 (acc sv c g 1 h ((Rg g).half 1 q)) bitsLt_bf16_f32 = sv g 1 c h)
    (O : CellTallies nD τ sig ℕ) (hO : Above h O) (Kt : PUnit → sProp (𝕄 F)) :
    iprop((Ctx sv κ ιs ∗ owe c (due c h g 1 O) ∗ ringMid c g h) ∗ ((owe c O ∗ ringSt c g (h + 1)) -∗ Kt ⟨⟩))
      ⊢ WP c ((Rg g).step (su g c) (pr g c) h 1 q) Kt := by
  have hO' : Above h (due c h g 1 O) := Above.due g 1 hh le_rfl hO
  unfold Ring.step ringSt ringMid
  iintro ⟨⟨#HC, HO, ⟨HR0, HR1⟩, ⟨HS0, HS1⟩, HL, HD, HW, HG, HB, #HF⟩, Hk⟩
  iapply (WP_bind c)
  iapply (wp_addRecv sv κ ιs c g 1 h hh _ _ hO' _)
  isplitl [HO HR1]
  · isplitr; · iexact HC
    isplitl [HO] <;> iassumption
  iintro ⟨HO, HR1, HG1⟩
  iapply (WP_bind c)
  ihave HS1 := (Entails.of_eq (sends.eq_1 (F := F) c g 1 h)) $$ HS1
  icases HS1 with ⟨HS1, HS1', Ht⟩
  iapply (wp_freeSend sv κ ιs c g 1 h hh _ (hO'.mono (Nat.zero_le _)) _)
  isplitl [HO HS1]
  · isplitr; · iexact HC
    isplitl [HO] <;> iassumption
  unfold sendFree
  iintro ⟨HO, Ha, HS⟩
  iapply (WP_bind c)
  rw [hq]
  iapply (wp_putSend c g (par h) 1 (sv g 1 c h) _)
  isplitl [HS]; · iexact HS
  iintro HS
  iapply (WP_bind c)
  unfold due
  iapply (wp_giveCredit sv κ ιs c g h hh _ _)
  isplitl [HO HL HG HG1 HR0 HR1]
  · isplitr; · iexact HC
    isplitl [HO]; · iexact HO
    isplitl [HL]; · iexact HL
    isplitl [HG HG1]; · isplitl [HG] <;> iassumption
    isplitl [HR0] <;> iassumption
  iintro ⟨HO, HL, HR0, HR1⟩
  iapply (WP_bind c)
  unfold Ring.takeCredit
  rw [if_neg (by rintro ⟨-, h⟩; exact absurd h (by decide))]
  iapply (WP_ret c)
  iapply (wp_send sv κ ιs c g 1 h hh O Kt)
  isplitl [HO HS HB Ha HS1' Ht]
  · isplitr; · iexact HC
    isplitl [HS]; · iexact HS
    isplitl [HB]; · iexact HB
    isplitr; · iexact HF
    isplitl [HO]; · iexact HO
    isplitl [Ha]; · iexact Ha
    isplitl [HS1'] <;> iassumption
  iintro ⟨HO, HS⟩
  iapply Hk
  isplitl [HO]; · iexact HO
  isplitl [HR0 HR1]; · isplitl [HR0] <;> iassumption
  isplitl [HS HS0]; · isplitl [HS0] <;> iassumption
  isplitl [HL]; · iexact HL
  isplitl [HD]; · iexact HD
  iexact HW

end Cert.KernelIdeal.Rings
-- ==== Proof.Hop.lean ====
/- One hop of the three rings: the products of the blocks that the tables name, then the six steps. -/
module

public import proofs.«01_k».proof.Proof.Step

@[expose] public section

set_option maxRecDepth 20000

noncomputable section

namespace Cert.KernelIdeal.Rings

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

/-! ## Reading what is owned -/

/-- A memref's contents, held whole. -/
abbrev own (c : Dev nD) {sp : Space} {sh : Shape} {e : EltTy} (m : Memref sig .tc sp sh e) (X : sh.Idx → Elt F e) : sProp (𝕄 F) :=
  owns (c : Thread nD τ) m fullShare X

theorem wp_loadOwn (c : Dev nD) {cs : CoreSpace} {sh : Shape} {e : EltTy} (m : Memref sig .tc cs sh e) (r : Rect sh) (hl : m.view.LoadsAt r.toLoadRect)
    (X : sh.Idx → Elt F e) (v : r.shape.Idx → Elt F e) (hv : v = fun i => X (r.emb i)) (Kt : (r.shape.Idx → Elt F e) → sProp (𝕄 F)) :
    iprop(own c m X ∗ (own c m X -∗ Kt v)) ⊢ WP c (Prog.lift (.load m r.toLoadRect hl)) Kt := by
  subst hv
  unfold own owns
  show _ ⊢ WP c (.op _ .ret) Kt
  iintro ⟨⟨%f, %hf, H⟩, Hk⟩
  iapply (wp_load_rect 𝒱₀ (c : Thread nD τ) none Set.univ (m := m) (r := r) (View.set_slice_subset _ _)) $$ H
  iintro H
  iapply (WP_ret c _ Kt)
  rw [show (m.access r).read (Elt F) f = fun i => X (r.emb i) by rw [← hf]; rfl]
  iapply Hk
  iexists f
  isplitr; · ipureintro; exact hf
  iexact H

theorem wp_smemOwn (c : Dev nD) {sh : Shape} {e : EltTy} (m : Memref sig .tc .smem sh e) (r : Rect sh) (h1 : r.shape.numel = 1) (hp : e.packing = 1)
    (X : sh.Idx → Elt F e) (Kt : Elt F e → sProp (𝕄 F)) :
    iprop(own c m X ∗ (own c m X -∗ Kt (X (r.emb (Shape.Idx.first (h1.symm ▸ Nat.one_pos)))))) ⊢ WP c (smemLoad m r h1 hp) Kt := by
  unfold own owns smemLoad
  iintro ⟨⟨%f, %hf, H⟩, Hk⟩
  iapply (wp_smemLoadElt 𝒱₀ (c : Thread nD τ) none Set.univ (m := m) (r := r) (View.set_slice_subset _ _)) $$ H
  iintro H
  iapply (WP_ret c _ Kt)
  rw [show (m.access r).read (Elt F) f = fun i => X (r.emb i) by rw [← hf]; rfl]
  iapply Hk
  iexists f
  isplitr; · ipureintro; exact hf
  iexact H

/-- Writing a rectangle: the contents there are replaced. -/
theorem wp_storeOwn (c : Dev nD) {cs : CoreSpace} {sh : Shape} {e : EltTy} (m : Memref sig .tc cs sh e) (r : Rect sh) (w : r.shape.Idx → Elt F e)
    (hx : (m.access r).Stores Finset.univ) (hm : (Finset.univ : Finset r.shape.Idx) = Finset.univ ∨ ∀ a, r.stride a = 1)
    (X : sh.Idx → Elt F e) (Kt : PUnit → sProp (𝕄 F)) :
    iprop(own c m X ∗ (own c m (r.overlay X w) -∗ Kt ⟨⟩)) ⊢ WP c (Prog.lift (.store m r w Finset.univ hx hm)) Kt := by
  unfold own owns
  show _ ⊢ WP c (.op _ .ret) Kt
  iintro ⟨⟨%f, %hf, H⟩, Hk⟩
  iapply (wp_store 𝒱₀ (c : Thread nD τ) none Set.univ (m := m) (r := r) (Mk := Finset.univ) (by rw [View.setOn_univ]; exact View.set_slice_subset _ _)) $$ H
  iintro H
  iapply (WP_ret c _ Kt)
  iapply Hk
  iexists _
  isplitr [H]; swap; · iexact H
  ipureintro
  funext y
  by_cases hy : y ∈ Finset.univ.map r.emb
  · obtain ⟨i, -, rfl⟩ := Finset.mem_map.mp hy
    rw [Rect.overlay_emb]
    exact View.read_slice_write_emb r f w (Finset.mem_univ i)
  · rw [Rect.overlay_of_not_mem r X w (by rw [← Rect.map_emb_univ]; exact hy), ← hf]
    exact View.read_slice_write_of_not_mem r f w Finset.univ hy

/-! ## The words of the tables -/

/-- A device's number as a word. -/
def wordOf (d : Dev nD) : BitVec 32 := BitVec.ofNat 32 d.val

theorem off1_word : ∀ d : Dev nD, k0_off1 (wordOf d) = ![d.val * 128, 0] := by decide +kernel
theorem off94_eq : ∀ d : Dev nD, k0_off94 d = ![d.val * 128, 0] := by decide +kernel

/-- Block `d` of the left operand lies in it. -/
theorem blk_inb (d : Dev nD) : ∀ a, (![d.val * 128, 0] : Fin 2 → ℕ) a + S128x128.size a ≤ S4096x128.size a := by
  intro a
  have := d.isLt
  have h : nD = 32 := rfl
  fin_cases a <;> simp <;> omega

theorem chk7_word (d : Dev nD) : k0_chk7 (wordOf d) := by
  unfold k0_chk7; rw [off1_word]; exact blk_inb d

/-- Block `d` of the left operand. -/
def blkX (X : S4096x128.Idx → Elt F .fp8e4m3) (d : Dev nD) : S128x128.Idx → Elt F .fp8e4m3 :=
  fun i => X ((Rect.unit (s := S4096x128) ![d.val * 128, 0] S128x128.size (blk_inb d)).emb i)

/-- Ring `g`'s columns of the right operand. -/
def colW (g : Fin 3) (W : S128x8192.Idx → Elt F .fp8e4m3) : (S2w (Rg g).WW).Idx → Elt F .fp8e4m3 :=
  fun i => W ((Rect.unit (s := S128x8192) ![0, (Rg g).lo] (S2w (Rg g).WW).size (Rg g).wide.inbW).emb i)

/-- The block that device `c` multiplies in hop `h` of ring `g`. -/
def blk (g : Fin 3) (c : Dev nD) (h : ℕ) : Dev nD := (pr g)^[h + 1] c

/-- The product of block `d` with ring `g`'s columns. -/
def qv (g : Fin 3) (X : S4096x128.Idx → Elt F .fp8e4m3) (W : S128x8192.Idx → Elt F .fp8e4m3) (d : Dev nD) : FVec F (S2w (Rg g).WW) .f32 :=
  (Rg g).prod (blkX X d) (colW g W)

theorem wp_chunkAt (c : Dev nD) (g : Fin 3) (x : Memref sig .tc .vmem S4096x128 .fp8e4m3) (w : Memref sig .tc .vmem S128x8192 .fp8e4m3)
    (off : Fin 2 → ℕ) (hoff : ∀ a, off a + S128x128.size a ≤ S4096x128.size a) (d : Dev nD) (e : off = ![d.val * 128, 0])
    (X : S4096x128.Idx → Elt F .fp8e4m3) (W : S128x8192.Idx → Elt F .fp8e4m3) (Kt : FVec F (S2w (Rg g).WW) .f32 → sProp (𝕄 F)) :
    iprop((own c x X ∗ own c w W) ∗ ((own c x X ∗ own c w W) -∗ Kt (qv g X W d))) ⊢ WP c ((Rg g).chunkAt x w off hoff) Kt := by
  subst e
  unfold Ring.chunkAt
  iintro ⟨⟨Hx, Hw⟩, Hk⟩
  iapply (WP_bind c)
  iapply (wp_loadOwn c x (Rect.unit (s := S4096x128) ![d.val * 128, 0] S128x128.size hoff) _ X (blkX X d) rfl _)
  isplitl [Hx]; · iexact Hx
  iintro Hx
  iapply (WP_bind c)
  iapply (wp_loadOwn c w (Rect.unit (s := S128x8192) ![0, (Rg g).lo] (S2w (Rg g).WW).size (Rg g).wide.inbW) _ W (colW g W) rfl _)
  isplitl [Hw]; · iexact Hw
  iintro Hw
  iapply (WP_ret c _ Kt)
  unfold qv
  iapply Hk
  isplitl [Hx] <;> iassumption

/-- The table of ring `g` on device `c` names the blocks. -/
def Names (g : Fin 3) (c : Dev nD) (T : S31.Idx → Elt F .i32) : Prop := ∀ i : S31.Idx, T i = wordOf (blk g c (i 0).val)

theorem first31 (h : Fin 31) (x : (Rect.unit (s := S31) ![h.val] S1.size (inb31 h)).shape.Idx) :
    ((Rect.unit (s := S31) ![h.val] S1.size (inb31 h)).emb x 0).val = h.val := by
  have hx : (x 0).val < 1 := (x 0).isLt
  show h.val + 1 * (x 0).val = h.val
  omega

theorem wp_chunk [Facts] (c : Dev nD) (g : Fin 3) (x : Memref sig .tc .vmem S4096x128 .fp8e4m3) (w : Memref sig .tc .vmem S128x8192 .fp8e4m3) (h : Fin 31)
    (T : S31.Idx → Elt F .i32) (hT : Names g c T)
    (X : S4096x128.Idx → Elt F .fp8e4m3) (W : S128x8192.Idx → Elt F .fp8e4m3) (Kt : FVec F (S2w (Rg g).WW) .f32 → sProp (𝕄 F)) :
    iprop((own c (Rg g).tab T ∗ own c x X ∗ own c w W)
        ∗ ((own c (Rg g).tab T ∗ own c x X ∗ own c w W) -∗ Kt (qv g X W (blk g c h.val)))) ⊢ WP c ((Rg g).chunk x w h) Kt := by
  unfold Ring.chunk
  iintro ⟨⟨HT, Hx, Hw⟩, Hk⟩
  iapply (WP_bind c)
  iapply (wp_smemOwn c (Rg g).tab _ _ _ T _)
  isplitl [HT]; · iexact HT
  iintro HT
  rw [hT, first31]
  iapply (WP_bind c)
  iapply (wp_assume 𝒱₀ (c : Thread nD τ) none Set.univ (chk7_word (blk g c h.val)))
  iapply (WP_ret c)
  iapply (wp_chunkAt c g x w _ _ (blk g c h.val) (off1_word _) X W Kt)
  isplitl [Hx Hw]; · isplitl [Hx] <;> iassumption
  iintro ⟨Hx, Hw⟩
  iapply Hk
  isplitl [HT]; · iexact HT
  isplitl [Hx] <;> iassumption

/-! ## What travels -/

/-- What device `d` sends in hop `h` of ring `g`, half `j`: its product in that hop, and from the second hop on what it received added. -/
def sendVal (X : Dev nD → S4096x128.Idx → Elt F .fp8e4m3) (W : Dev nD → S128x8192.Idx → Elt F .fp8e4m3) (g : Fin 3) (j : Fin 2) : Dev nD → ℕ → FVec F (S2w (Rg g).W) .bf16
  | d, 0 => truncf .bf16 ((Rg g).half j (qv g (X d) (W d) (blk g d 0))) bitsLt_bf16_f32
  | d, h + 1 => truncf .bf16 (addf ((Rg g).half j (qv g (X d) (W d) (blk g d (h + 1)))) (extf .f32 (sendVal X W g j (pr g d) h) bitsLt_bf16_f32)) bitsLt_bf16_f32

variable (X : Dev nD → S4096x128.Idx → Elt F .fp8e4m3) (W : Dev nD → S128x8192.Idx → Elt F .fp8e4m3)

/-- The values of the three rings. -/
abbrev sV : (g : Fin 3) → Fin 2 → Dev nD → ℕ → FVec F (S2w (Rg g).W) .bf16 := sendVal X W

theorem sendVal_acc (g : Fin 3) (j : Fin 2) (c : Dev nD) (h : ℕ) :
    truncf .bf16 (acc (sV X W) c g j h ((Rg g).half j (qv g (X c) (W c) (blk g c h)))) bitsLt_bf16_f32 = sV X W g j c h := by
  cases h with
  | zero => rfl
  | succ h => simp only [acc, sV]; rw [if_pos (by omega)]; rfl

/-! ## One hop -/

/-- What a hop reads: the three tables and the two operands. -/
def reads (c : Dev nD) (x : Memref sig .tc .vmem S4096x128 .fp8e4m3) (w : Memref sig .tc .vmem S128x8192 .fp8e4m3) (T : Fin 3 → S31.Idx → Elt F .i32) : sProp (𝕄 F) :=
  iprop((own c (Rg 0).tab (T 0) ∗ own c (Rg 1).tab (T 1) ∗ own c (Rg 2).tab (T 2)) ∗ own c x (X c) ∗ own c w (W c))

/-- The three rings before hop `h`. -/
def rings (F : FTy → Type) [FloatOps F] (c : Dev nD) (h : ℕ) : sProp (𝕄 F) := iprop(ringSt c 0 h ∗ ringSt c 1 h ∗ ringSt c 2 h)

theorem wp_hop [Facts] (κ : GSem nD τ sig → ℕ) (ιs : Key → ℕ) (c : Dev nD) (x : Memref sig .tc .vmem S4096x128 .fp8e4m3) (w : Memref sig .tc .vmem S128x8192 .fp8e4m3)
    (T : Fin 3 → S31.Idx → Elt F .i32) (hT : ∀ g, Names g c (T g)) (h : Fin 31)
    (O : CellTallies nD τ sig ℕ) (hO : Above h.val O) (Kt : PUnit → sProp (𝕄 F)) :
    iprop((Ctx (sV X W) κ ιs ∗ owe c (hopDue c h.val O) ∗ reads X W c x w T ∗ rings F c h.val)
        ∗ ((owe c O ∗ reads X W c x w T ∗ rings F c (h.val + 1)) -∗ Kt ⟨⟩))
      ⊢ WP c (hop (Rg 0) (Rg 1) (Rg 2) x w (fun g => su g c) (fun g => pr g c) h) Kt := by
  have hh := h.isLt
  have a5 := hO.due (c := c) 2 1 hh le_rfl
  have a4 := a5.due (c := c) 1 1 hh le_rfl
  have a3 := a4.due (c := c) 0 1 hh le_rfl
  have a2 := a3.due (c := c) 2 0 hh le_rfl
  have a1 := a2.due (c := c) 1 0 hh le_rfl
  unfold hop hopDue reads rings
  iintro ⟨⟨#Hc, Ho, ⟨⟨HT0, HT1, HT2⟩, Hx, Hw⟩, R0, R1, R2⟩, Hk⟩
  iapply (WP_bind c)
  iapply (wp_chunk c 0 x w h (T 0) (hT 0) (X c) (W c) _)
  isplitl [HT0 Hx Hw]
  · isplitl [HT0]; · iexact HT0
    isplitl [Hx] <;> iassumption
  iintro ⟨HT0, Hx, Hw⟩
  iapply (WP_bind c)
  iapply (wp_chunk c 1 x w h (T 1) (hT 1) (X c) (W c) _)
  isplitl [HT1 Hx Hw]
  · isplitl [HT1]; · iexact HT1
    isplitl [Hx] <;> iassumption
  iintro ⟨HT1, Hx, Hw⟩
  iapply (WP_bind c)
  iapply (wp_chunk c 2 x w h (T 2) (hT 2) (X c) (W c) _)
  isplitl [HT2 Hx Hw]
  · isplitl [HT2]; · iexact HT2
    isplitl [Hx] <;> iassumption
  iintro ⟨HT2, Hx, Hw⟩
  iapply (WP_bind c)
  iapply (wp_step0 (sV X W) κ ιs c 0 h.val hh _ (sendVal_acc X W 0 0 c h.val) _ a1 _)
  isplitl [Ho R0]
  · isplitr; · iexact Hc
    isplitl [Ho] <;> iassumption
  iintro ⟨Ho, R0⟩
  iapply (WP_bind c)
  iapply (wp_step0 (sV X W) κ ιs c 1 h.val hh _ (sendVal_acc X W 1 0 c h.val) _ a2 _)
  isplitl [Ho R1]
  · isplitr; · iexact Hc
    isplitl [Ho] <;> iassumption
  iintro ⟨Ho, R1⟩
  iapply (WP_bind c)
  iapply (wp_step0 (sV X W) κ ιs c 2 h.val hh _ (sendVal_acc X W 2 0 c h.val) _ a3 _)
  isplitl [Ho R2]
  · isplitr; · iexact Hc
    isplitl [Ho] <;> iassumption
  iintro ⟨Ho, R2⟩
  iapply (WP_bind c)
  iapply (wp_step1 (sV X W) κ ιs c 0 h.val hh _ (sendVal_acc X W 0 1 c h.val) _ a4 _)
  isplitl [Ho R0]
  · isplitr; · iexact Hc
    isplitl [Ho] <;> iassumption
  iintro ⟨Ho, R0⟩
  iapply (WP_bind c)
  iapply (wp_step1 (sV X W) κ ιs c 1 h.val hh _ (sendVal_acc X W 1 1 c h.val) _ a5 _)
  isplitl [Ho R1]
  · isplitr; · iexact Hc
    isplitl [Ho] <;> iassumption
  iintro ⟨Ho, R1⟩
  iapply (wp_step1 (sV X W) κ ιs c 2 h.val hh _ (sendVal_acc X W 2 1 c h.val) _ hO Kt)
  isplitl [Ho R2]
  · isplitr; · iexact Hc
    isplitl [Ho] <;> iassumption
  iintro ⟨Ho, R2⟩
  iapply Hk
  isplitl [Ho]; · iexact Ho
  isplitl [HT0 HT1 HT2 Hx Hw]
  · isplitl [HT0 HT1 HT2]
    · isplitl [HT0]; · iexact HT0
      isplitl [HT1] <;> iassumption
    · isplitl [Hx] <;> iassumption
  · isplitl [R0]; · iexact R0
    isplitl [R1] <;> iassumption

/-- The last `n` hops. -/
theorem wp_hops [Facts] (κ : GSem nD τ sig → ℕ) (ιs : Key → ℕ) (c : Dev nD) (x : Memref sig .tc .vmem S4096x128 .fp8e4m3) (w : Memref sig .tc .vmem S128x8192 .fp8e4m3)
    (T : Fin 3 → S31.Idx → Elt F .i32) (hT : ∀ g, Names g c (T g)) (Kt : PUnit → sProp (𝕄 F)) : ∀ (n : ℕ) (hn : n ≤ 31),
    iprop((Ctx (sV X W) κ ιs ∗ owe c (oweFrom c n) ∗ reads X W c x w T ∗ rings F c (31 - n))
        ∗ ((owe c 0 ∗ reads X W c x w T ∗ rings F c 31) -∗ Kt ⟨⟩))
      ⊢ WP c (hops (Rg 0) (Rg 1) (Rg 2) x w (fun g => su g c) (fun g => pr g c) n hn) Kt
  | 0, _ => by
    unfold hops oweFrom
    iintro ⟨⟨-, H⟩, Hk⟩
    iapply (WP_ret c _ Kt)
    iapply Hk
    iexact H
  | n + 1, hn => by
    unfold hops oweFrom
    have hO := Above.oweFrom c n (30 - n) (by omega) (by omega)
    have h1 : 31 - (n + 1) = 30 - n := by omega
    have h2 : 31 - n = 30 - n + 1 := by omega
    have ih := wp_hops κ ιs c x w T hT Kt n (by omega)
    rw [h2] at ih
    rw [h1]
    iintro ⟨⟨#Hc, Ho, Hr, R⟩, Hk⟩
    iapply (WP_bind c)
    iapply (wp_hop X W κ ιs c x w T hT _ _ hO _)
    isplitl [Ho Hr R]
    · isplitr; · iexact Hc
      isplitl [Ho]; · iexact Ho
      isplitl [Hr]; · iexact Hr
      iexact R
    iintro H
    iapply ih
    isplitl [H]
    · isplitr; · iexact Hc
      iexact H
    · iexact Hk

end Cert.KernelIdeal.Rings
-- ==== Proof.End.lean ====
/- The end of a ring: the last arrival, the own product, the ring's columns of the result, the last departures; and what a device holds of a
   ring before the first hop and after the last. -/
module

public import proofs.«01_k».proof.Proof.Hop

@[expose] public section

set_option maxRecDepth 20000

noncomputable section

namespace Cert.KernelIdeal.Rings

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

/-! ## A ring's nine semaphores and eight halves of buffers -/

/-- The kinds of a ring's semaphores. -/
def kd (g : Fin 3) : Fin 9 → Kind :=
  ![.cred g, .send g 0 0, .send g 0 1, .send g 1 0, .send g 1 1, .recv g 0 0, .recv g 0 1, .recv g 1 0, .recv g 1 1]

/-- Something for each of a ring's semaphores. -/
def nine (g : Fin 3) (Φ : Kind → sProp (𝕄 F)) : sProp (𝕄 F) :=
  iprop(Φ (.cred g) ∗ (Φ (.send g 0 0) ∗ Φ (.send g 0 1) ∗ Φ (.send g 1 0) ∗ Φ (.send g 1 1))
    ∗ (Φ (.recv g 0 0) ∗ Φ (.recv g 0 1) ∗ Φ (.recv g 1 0) ∗ Φ (.recv g 1 1)))

theorem nine_eq (g : Fin 3) (Φ : Kind → sProp (𝕄 F)) : bigSep Finset.univ (fun i : Fin 9 => Φ (kd g i)) = nine g Φ := by
  rw [bigSep_univ_eq_bigSepL [(0 : Fin 9), 1, 2, 3, 4, 5, 6, 7, 8] (by decide) (by decide) (fun i : Fin 9 => Φ (kd g i))]
  have ha (P Q R : sProp (𝕄 F)) : iprop((P ∗ Q) ∗ R) = iprop(P ∗ Q ∗ R) :=
    (show Idealize.SL.BI.Entails _ _ from (Laws.sep_assoc (P := P) (Q := Q) (R := R)).1).antisymm (Laws.sep_assoc (P := P) (Q := Q) (R := R)).2
  unfold nine
  rw [ha, ha, ha]
  rfl

/-- A ring's two buffers. -/
def bufs2 (c : Dev nD) (g : Fin 3) : sProp (𝕄 F) :=
  iprop((parAny (c, g, 0) ∗ parAny (c, g, 1)) ∗ (sendAny c g 0 0 ∗ sendAny c g 0 1 ∗ sendAny c g 1 0 ∗ sendAny c g 1 1))

variable (sv : (g : Fin 3) → Fin 2 → Dev nD → ℕ → FVec F (S2w (Rg g).W) .bf16)
variable (κ : GSem nD τ sig → ℕ) (ιs : Key → ℕ)

/-! ## After the last hop -/

/-- The kind's semaphore is past its last round. -/
def atEnd (c : Dev nD) (k : Kind) : sProp (𝕄 F) := atPos ER (cell c k) (endOf k) ∅ 0

/-- What is held of a ring after its end: every semaphore past its last round, the credits' but for one step; and the buffers. -/
def ringFin (c : Dev nD) (g : Fin 3) : sProp (𝕄 F) :=
  iprop(credAt c g 29 ∗ ((atEnd c (.send g 0 0) ∗ atEnd c (.send g 0 1) ∗ atEnd c (.send g 1 0) ∗ atEnd c (.send g 1 1))
    ∗ (atEnd c (.recv g 0 0) ∗ atEnd c (.recv g 0 1) ∗ atEnd c (.recv g 1 0) ∗ atEnd c (.recv g 1 1))) ∗ bufs2 c g)

/-- The ring's rectangle of the result. -/
abbrev outRect (g : Fin 3) : Rect S128x8192 := Rect.unit (s := S128x8192) ![0, (Rg g).lo] (S2w (Rg g).WW).size (Rg g).wide.inbW

theorem wp_finish [Facts] (c : Dev nD) (g : Fin 3) (x : Memref sig .tc .vmem S4096x128 .fp8e4m3) (w : Memref sig .tc .vmem S128x8192 .fp8e4m3)
    (o : Memref sig .tc .vmem S128x8192 .f32) (sc : F .f32)
    (X : S4096x128.Idx → Elt F .fp8e4m3) (W : S128x8192.Idx → Elt F .fp8e4m3) (Y : S128x8192.Idx → Elt F .f32) (Kt : PUnit → sProp (𝕄 F)) :
    iprop((Ctx sv κ ιs ∗ owe c 0 ∗ (own c x X ∗ own c w W) ∗ own c o Y ∗ ringSt c g 31)
        ∗ ((owe c 0 ∗ (own c x X ∗ own c w W)
          ∗ own c o ((outRect g).overlay Y ((Rg g).outVal (qv g X W c) (sv g 0 (pr g c) 30) (sv g 1 (pr g c) 30) sc)) ∗ ringFin c g) -∗ Kt ⟨⟩))
      ⊢ WP c ((Rg g).finish x w o c sc) Kt := by
  have h0 : Above 31 0 := Above.zero 31
  unfold Ring.finish ringSt recvs sends
  iintro ⟨⟨#HC, HO, ⟨Hx, Hw⟩, Ho, ⟨⟨V00, V10, C0⟩, V01, V11, C1⟩, ⟨⟨S00, S10, -⟩, S01, S11, -⟩, Hrel, Hcr, -⟩, Hk⟩
  ihave C0 := (pool_pop (F := F) (fun i => cred (tallyAt (cell c (.recv g (par i) 0)) i (N g))) (show 30 < 31 by omega)) $$ C0
  icases C0 with ⟨C0, -⟩
  ihave C1 := (pool_pop (F := F) (fun i => cred (tallyAt (cell c (.recv g (par i) 1)) i (N g))) (show 30 < 31 by omega)) $$ C1
  icases C1 with ⟨C1, -⟩
  ihave V00 := (Entails.of_eq (show recvSt c g 0 (31 - 1) = (iprop(atPos ER (cell c (.recv g 0 0)) 15 ∅ 0 ∗ reached ER (cell c (.recv g 0 0)) 15) : sProp (𝕄 F)) from rfl)) $$ V00
  ihave V01 := (Entails.of_eq (show recvSt c g 1 (31 - 1) = (iprop(atPos ER (cell c (.recv g 0 1)) 15 ∅ 0 ∗ reached ER (cell c (.recv g 0 1)) 15) : sProp (𝕄 F)) from rfl)) $$ V01
  ihave V10 := (Entails.of_eq (show recvSt c g 0 (31 - 1 + 1) = (iprop(atPos ER (cell c (.recv g 1 0)) 15 ∅ 0 ∗ reached ER (cell c (.recv g 1 0)) 15) : sProp (𝕄 F)) from rfl)) $$ V10
  ihave V11 := (Entails.of_eq (show recvSt c g 1 (31 - 1 + 1) = (iprop(atPos ER (cell c (.recv g 1 1)) 15 ∅ 0 ∗ reached ER (cell c (.recv g 1 1)) 15) : sProp (𝕄 F)) from rfl)) $$ V11
  icases V00 with ⟨V00, -⟩
  icases V01 with ⟨V01, -⟩
  icases V10 with ⟨V10, -⟩
  icases V11 with ⟨V11, -⟩
  ihave S00 := (Entails.of_eq (show sendSt c g 0 31 = (iprop(atPos ER (cell c (.send g 1 0)) 14 ∅ 0 ∗ cred (tallyAt (cell c (.send g 1 0)) 0 (N g))) : sProp (𝕄 F)) from if_pos (by decide))) $$ S00
  ihave S01 := (Entails.of_eq (show sendSt c g 1 31 = (iprop(atPos ER (cell c (.send g 1 1)) 14 ∅ 0 ∗ cred (tallyAt (cell c (.send g 1 1)) 0 (N g))) : sProp (𝕄 F)) from if_pos (by decide))) $$ S01
  ihave S10 := (Entails.of_eq (show sendSt c g 0 (31 + 1) = (iprop(atPos ER (cell c (.send g 0 0)) 15 ∅ 0 ∗ cred (tallyAt (cell c (.send g 0 0)) 0 (N g))) : sProp (𝕄 F)) from if_pos (by decide))) $$ S10
  ihave S11 := (Entails.of_eq (show sendSt c g 1 (31 + 1) = (iprop(atPos ER (cell c (.send g 0 1)) 15 ∅ 0 ∗ cred (tallyAt (cell c (.send g 0 1)) 0 (N g))) : sProp (𝕄 F)) from if_pos (by decide))) $$ S11
  icases S00 with ⟨S10', c10⟩
  icases S01 with ⟨S11', c11⟩
  icases S10 with ⟨S00', c00⟩
  icases S11 with ⟨S01', c01⟩
  iapply (WP_bind c)
  iapply (wp_waitRecv sv κ ιs c g 0 0 15 30 (by decide) rfl (by decide) 0 h0 _)
  isplitl [HO V00 C0]
  · isplitr; · iexact HC
    isplitl [C0]; · iexact C0
    isplitl [HO] <;> iassumption
  iintro ⟨HO, ⟨V00, -⟩, A0⟩
  iapply (WP_bind c)
  iapply (wp_waitRecv sv κ ιs c g 0 1 15 30 (by decide) rfl (by decide) 0 h0 _)
  isplitl [HO V01 C1]
  · isplitr; · iexact HC
    isplitl [C1]; · iexact C1
    isplitl [HO] <;> iassumption
  iintro ⟨HO, ⟨V01, -⟩, A1⟩
  iapply (WP_bind c)
  iapply (wp_readRecv c g 0 0 (sv g 0 (pr g c) 30) _)
  isplitl [A0]; · iexact A0
  iintro A0
  iapply (WP_bind c)
  iapply (wp_readRecv c g 0 1 (sv g 1 (pr g c) 30) _)
  isplitl [A1]; · iexact A1
  iintro A1
  iapply (WP_bind c)
  iapply (wp_chunkAt c g x w _ _ c (off94_eq c) X W _)
  isplitl [Hx Hw]; · isplitl [Hx] <;> iassumption
  iintro Hxw
  iapply (WP_bind c)
  iapply (wp_loadOwn c o (outRect g) _ Y _ rfl _)
  isplitl [Ho]; · iexact Ho
  iintro Ho
  iapply (WP_bind c)
  iapply (wp_storeOwn c o (outRect g) _ _ _ Y _)
  isplitl [Ho]; · iexact Ho
  iintro Ho
  iapply (WP_bind c)
  iapply (wp_waitSend sv κ ιs c g 1 0 14 (by decide) 0 (Above.zero 0) _)
  isplitl [HO S10' c10]
  · isplitr; · iexact HC
    isplitl [c10]; · iexact c10
    isplitl [HO] <;> iassumption
  iintro ⟨HO, ⟨S10, -⟩, B10⟩
  iapply (WP_bind c)
  iapply (wp_waitSend sv κ ιs c g 1 1 14 (by decide) 0 (Above.zero 0) _)
  isplitl [HO S11' c11]
  · isplitr; · iexact HC
    isplitl [c11]; · iexact c11
    isplitl [HO] <;> iassumption
  iintro ⟨HO, ⟨S11, -⟩, B11⟩
  iapply (WP_bind c)
  iapply (wp_waitSend sv κ ιs c g 0 0 15 (by decide) 0 (Above.zero 0) _)
  isplitl [HO S00' c00]
  · isplitr; · iexact HC
    isplitl [c00]; · iexact c00
    isplitl [HO] <;> iassumption
  iintro ⟨HO, ⟨S00, -⟩, B00⟩
  iapply (wp_waitSend sv κ ιs c g 0 1 15 (by decide) 0 (Above.zero 0) Kt)
  isplitl [HO S01' c01]
  · isplitr; · iexact HC
    isplitl [c01]; · iexact c01
    isplitl [HO] <;> iassumption
  iintro ⟨HO, ⟨S01, -⟩, B01⟩
  iapply Hk
  isplitl [HO]; · iexact HO
  isplitl [Hxw]; · iexact Hxw
  isplitl [Ho]; · iexact Ho
  unfold ringFin
  isplitl [Hcr]
  · unfold creds
    icases Hcr with ⟨-, H, -⟩
    iexact H
  isplitl [S00 S01 S10 S11 V00 V01 V10 V11]
  · unfold atEnd
    isplitl [S00 S01 S10 S11]
    · isplitl [S00]; · iexact S00
      isplitl [S01]; · iexact S01
      isplitl [S10]; · iexact S10
      iexact S11
    · isplitl [V00]; · iexact V00
      isplitl [V01]; · iexact V01
      isplitl [V10]; · iexact V10
      iexact V11
  unfold bufs2
  isplitl [A0 A1 Hrel]
  · isplitl [A0 A1]
    · unfold parAny
      isplitl [A0]
      · iapply (recvAt_any c g 0 0 _); iexact A0
      · iapply (recvAt_any c g 0 1 _); iexact A1
    · unfold rels
      icases Hrel with ⟨-, H, -⟩
      iapply (Entails.of_eq (show relSt c g (31 - 1 + 1) = (parAny (c, g, 1) : sProp (𝕄 F)) from if_neg (by decide)))
      iexact H
  · isplitl [B00]; · iexact B00
    isplitl [B01]; · iexact B01
    isplitl [B10]; · iexact B10
    iexact B11

/-! ## Closing the semaphores -/

theorem Rd_unit (g : GSem nD τ sig) : ¬(Rd sv).unitless g := by
  intro h; exact h

theorem close_one (c : Dev nD) (k : Kind) : iprop(Ctx sv κ ιs ∗ atEnd c k) ⊢ (|={Set.univ}=> semVal (cell c k) 0 : sProp (𝕄 F)) := by
  unfold atEnd
  iintro ⟨#HC, H⟩
  iapply (cell_close ER (Rd sv) (κ := κ (cell c k)) (Set.mem_univ _) (Rd_unit sv _) (Rd_later sv c k))
  isplitr; · iapply (Ctx_inv sv κ ιs c k); iexact HC
  iexact H

theorem close_cred (c : Dev nD) (g : Fin 3) : iprop(Ctx sv κ ιs ∗ credAt c g 29) ⊢ (|={Set.univ}=> atEnd c (.cred g) : sProp (𝕄 F)) := by
  unfold credAt atEnd
  iintro ⟨#HC, ⟨%T, %hT, H, -⟩⟩
  have hd : (Rd sv).duties (cell c (.cred g)) 0 = Finset.range 29 := by rw [Rd_duties]; rfl
  have e : T = Finset.range 29 := Finset.eq_of_subset_of_card_le hT.1 (by rw [Finset.card_range]; exact hT.2)
  imod (fupd_skip ER (Rd sv) (κ := κ (cell c (.cred g))) (g := cell c (.cred g)) (R := 0) (m := 29) (T := T) (by rw [hd, e])
    (by rw [Rd_expect]; rfl) (Es := Set.univ) (Set.mem_univ _)) $$ [H] with ⟨H, -⟩
  · isplitr; · iapply (Ctx_inv sv κ ιs c (.cred g)); iexact HC
    iexact H
  imodintro
  iexact H

/-- A ring's semaphores all at zero. -/
def ringZero (c : Dev nD) (g : Fin 3) : sProp (𝕄 F) := nine g fun k => semVal (cell c k) 0

theorem close_ring (c : Dev nD) (g : Fin 3) : iprop(Ctx sv κ ιs ∗ ringFin c g) ⊢ (|={Set.univ}=> (ringZero c g ∗ bufs2 c g) : sProp (𝕄 F)) := by
  unfold ringFin ringZero nine
  iintro ⟨#HC, Hcr, ⟨⟨S0, S1, S2, S3⟩, V0, V1, V2, V3⟩, Hb⟩
  imod (close_cred sv κ ιs c g) $$ [Hcr] with Hcr
  · isplitr; · iexact HC
    iexact Hcr
  imod (close_one sv κ ιs c (.cred g)) $$ [Hcr] with Hcr
  · isplitr; · iexact HC
    iexact Hcr
  imod (close_one sv κ ιs c (.send g 0 0)) $$ [S0] with S0
  · isplitr; · iexact HC
    iexact S0
  imod (close_one sv κ ιs c (.send g 0 1)) $$ [S1] with S1
  · isplitr; · iexact HC
    iexact S1
  imod (close_one sv κ ιs c (.send g 1 0)) $$ [S2] with S2
  · isplitr; · iexact HC
    iexact S2
  imod (close_one sv κ ιs c (.send g 1 1)) $$ [S3] with S3
  · isplitr; · iexact HC
    iexact S3
  imod (close_one sv κ ιs c (.recv g 0 0)) $$ [V0] with V0
  · isplitr; · iexact HC
    iexact V0
  imod (close_one sv κ ιs c (.recv g 0 1)) $$ [V1] with V1
  · isplitr; · iexact HC
    iexact V1
  imod (close_one sv κ ιs c (.recv g 1 0)) $$ [V2] with V2
  · isplitr; · iexact HC
    iexact V2
  imod (close_one sv κ ιs c (.recv g 1 1)) $$ [V3] with V3
  · isplitr; · iexact HC
    iexact V3
  imodintro
  isplitr [Hb]
  · isplitl [Hcr]; · iexact Hcr
    isplitl [S0 S1 S2 S3]
    · isplitl [S0]; · iexact S0
      isplitl [S1]; · iexact S1
      isplitl [S2] <;> iassumption
    · isplitl [V0]; · iexact V0
      isplitl [V1]; · iexact V1
      isplitl [V2] <;> iassumption
  · iexact Hb

/-! ## Before the first hop -/

/-- What a device has of a ring at launch besides its semaphores: the credits of what will arrive, the rights to send, the counts of
    its releases, the rights to tell the predecessor, the credits of what it will be told, the rights to write. -/
def ringRights (F : FTy → Type) [FloatOps F] (c : Dev nD) (g : Fin 3) : sProp (𝕄 F) :=
  iprop(((bigSep (Finset.Ico 0 31) fun i => cred (tallyAt (cell c (.recv g (par i) 0)) i (N g)))
      ∗ (bigSep (Finset.Ico 0 31) fun i => cred (tallyAt (cell c (.recv g (par i) 1)) i (N g)))
      ∗ (bigSep (Finset.Ico 0 29) fun i => cred (tallyAt (cell c (.cred g)) i 1)))
    ∗ ((bigSep (Finset.Ico 0 31) (sendTok c g 0)) ∗ (bigSep (Finset.Ico 0 31) (sendTok c g 1))
      ∗ (bigSep (Finset.Ico 0 29) fun i => dutyTok ER (cell (pr g c) (.cred g)) 0 i))
    ∗ (Release.readerAt ES ((c, g, 0) : Key) 0 ∗ Release.readerAt ES ((c, g, 1) : Key) 0)
    ∗ writes c g 0)

/-- The kind's semaphore at its first round. -/
def atStart (c : Dev nD) (k : Kind) : sProp (𝕄 F) := iprop(atPos ER (cell c k) 0 ∅ 0 ∗ reached ER (cell c k) 0)

/-- What is held of a ring after both parities of the receive buffer were released for the first time. -/
def ringBoot (F : FTy → Type) [FloatOps F] (c : Dev nD) (g : Fin 3) : sProp (𝕄 F) :=
  iprop((recvs c g 0 0 ∗ recvs c g 1 0) ∗ (sends c g 0 0 ∗ sends c g 1 0)
    ∗ (relSt c g 0 ∗ relSt c g 1 ∗ bigSep (Finset.Ico 0 29) fun i => dutyTok ER (cell (pr g c) (.cred g)) 0 i)
    ∗ (credAt c g 0 ∗ bigSep (Finset.Ico 0 29) fun i => cred (tallyAt (cell c (.cred g)) i 1)) ∗ writes c g 0)

/-- What the neighbours may know of a device's ring before the first hop. -/
def ringTells (F : FTy → Type) [FloatOps F] (c : Dev nD) (g : Fin 3) : sProp (𝕄 F) :=
  iprop(reached ER (cell c (.cred g)) 0 ∗ slotFact c g 0 1 ∗ slotFact c g 1 1)

instance ringTells_persistent (c : Dev nD) (g : Fin 3) : BI.Persistent (ringTells F c g) := by unfold ringTells; infer_instance

theorem boot_ring (c : Dev nD) (g : Fin 3) :
    iprop(Ctx sv κ ιs ∗ nine g (atStart c) ∗ ringRights F c g ∗ bufs2 c g) ⊢ (|={Set.univ}=> (ringBoot F c g ∗ ringTells F c g) : sProp (𝕄 F)) := by
  unfold nine atStart ringRights bufs2
  iintro ⟨#HC, ⟨⟨Hca, #Hcr⟩, ⟨S00, S01, S10, S11⟩, ⟨V00, #R00⟩, ⟨V01, #R01⟩, ⟨V10, #R10⟩, V11, #R11⟩,
    ⟨⟨C0, C1, Cc⟩, ⟨T0, T1, Tc⟩, ⟨A0, A1⟩, Hw⟩, ⟨P0, P1⟩, B00, B01, B10, B11⟩
  imod (Release.slot_release ES (ι := ιs (c, g, 0)) (k := ((c, g, 0) : Key)) (S := parAny (c, g, 0)) (Es := Set.univ) (Set.mem_univ _) (parAny_false (c, g, 0)) 0) $$ [A0 P0] with ⟨A0, #F0⟩
  · isplitr; · iapply (Ctx_slot sv κ ιs (c, g, 0)); iexact HC
    isplitl [A0] <;> iassumption
  imod (Release.slot_release ES (ι := ιs (c, g, 1)) (k := ((c, g, 1) : Key)) (S := parAny (c, g, 1)) (Es := Set.univ) (Set.mem_univ _) (parAny_false (c, g, 1)) 0) $$ [A1 P1] with ⟨A1, #F1⟩
  · isplitr; · iapply (Ctx_slot sv κ ιs (c, g, 1)); iexact HC
    isplitl [A1] <;> iassumption
  imodintro
  isplitr []
  · unfold ringBoot
    isplitl [V00 V10 V01 V11 C0 C1]
    · unfold recvs
      isplitl [V00 V10 C0]
      · isplitl [V00]
        · iapply (Entails.of_eq (show (iprop(atPos ER (cell c (.recv g 0 0)) 0 ∅ 0 ∗ reached ER (cell c (.recv g 0 0)) 0) : sProp (𝕄 F)) = recvSt c g 0 (0 - 1) from rfl))
          isplitl [V00]; · iexact V00
          iexact R00
        isplitl [V10]
        · iapply (Entails.of_eq (show (iprop(atPos ER (cell c (.recv g 1 0)) 0 ∅ 0 ∗ reached ER (cell c (.recv g 1 0)) 0) : sProp (𝕄 F)) = recvSt c g 0 (0 - 1 + 1) from rfl))
          isplitl [V10]; · iexact V10
          iexact R10
        iexact C0
      · isplitl [V01]
        · iapply (Entails.of_eq (show (iprop(atPos ER (cell c (.recv g 0 1)) 0 ∅ 0 ∗ reached ER (cell c (.recv g 0 1)) 0) : sProp (𝕄 F)) = recvSt c g 1 (0 - 1) from rfl))
          isplitl [V01]; · iexact V01
          iexact R01
        isplitl [V11]
        · iapply (Entails.of_eq (show (iprop(atPos ER (cell c (.recv g 1 1)) 0 ∅ 0 ∗ reached ER (cell c (.recv g 1 1)) 0) : sProp (𝕄 F)) = recvSt c g 1 (0 - 1 + 1) from rfl))
          isplitl [V11]; · iexact V11
          iexact R11
        iexact C1
    isplitl [S00 S01 S10 S11 B00 B01 B10 B11 T0 T1]
    · unfold sends
      isplitl [S00 B00 S10 B10 T0]
      · isplitl [S00 B00]
        · iapply (Entails.of_eq (show (iprop((atPos ER (cell c (.send g 0 0)) 0 ∅ 0 ∗ reached ER (cell c (.send g 0 0)) 0) ∗ sendAny c g 0 0) : sProp (𝕄 F)) = sendSt c g 0 0 from (if_neg (by decide)).symm))
          isplitl [S00] <;> iassumption
        isplitl [S10 B10]
        · iapply (Entails.of_eq (show (iprop((atPos ER (cell c (.send g 1 0)) 0 ∅ 0 ∗ reached ER (cell c (.send g 1 0)) 0) ∗ sendAny c g 1 0) : sProp (𝕄 F)) = sendSt c g 0 (0 + 1) from (if_neg (by decide)).symm))
          isplitl [S10] <;> iassumption
        iexact T0
      · isplitl [S01 B01]
        · iapply (Entails.of_eq (show (iprop((atPos ER (cell c (.send g 0 1)) 0 ∅ 0 ∗ reached ER (cell c (.send g 0 1)) 0) ∗ sendAny c g 0 1) : sProp (𝕄 F)) = sendSt c g 1 0 from (if_neg (by decide)).symm))
          isplitl [S01] <;> iassumption
        isplitl [S11 B11]
        · iapply (Entails.of_eq (show (iprop((atPos ER (cell c (.send g 1 1)) 0 ∅ 0 ∗ reached ER (cell c (.send g 1 1)) 0) ∗ sendAny c g 1 1) : sProp (𝕄 F)) = sendSt c g 1 (0 + 1) from (if_neg (by decide)).symm))
          isplitl [S11] <;> iassumption
        iexact T1
    isplitl [A0 A1 Tc]
    · isplitl [A0]
      · iapply (Entails.of_eq (show (iprop(Release.readerAt ES ((c, g, 0) : Key) (0 + 1) ∗ Release.released ES ((c, g, 0) : Key) (0 + 1)) : sProp (𝕄 F)) = relSt c g 0 from (if_pos (by decide)).symm))
        isplitl [A0]; · iexact A0
        iexact F0
      isplitl [A1]
      · iapply (Entails.of_eq (show (iprop(Release.readerAt ES ((c, g, 1) : Key) (0 + 1) ∗ Release.released ES ((c, g, 1) : Key) (0 + 1)) : sProp (𝕄 F)) = relSt c g 1 from (if_pos (by decide)).symm))
        isplitl [A1]; · iexact A1
        iexact F1
      iexact Tc
    isplitl [Hca Cc]
    · isplitl [Hca]
      · unfold credAt
        iexists ∅
        isplitr; · ipureintro; exact ⟨Finset.empty_subset _, Nat.zero_le _⟩
        isplitl [Hca]; · iexact Hca
        rw [bigSep_empty]; iempintro
      iexact Cc
    iexact Hw
  · unfold ringTells slotFact
    isplitr; · iexact Hcr
    isplitr
    · isplitr; · iexact F0
      isplitr; · iexact R00
      iexact R01
    · isplitr; · iexact F1
      isplitr; · iexact R10
      iexact R11

/-- With what the neighbours tell, the ring is ready for its first hop. -/
theorem ready_ring (c : Dev nD) (g : Fin 3) :
    iprop(ringBoot F c g ∗ reached ER (cell (pr g c) (.cred g)) 0 ∗ (slotFact (su g c) g 0 1 ∗ slotFact (su g c) g 1 1)) ⊢ (ringSt c g 0 : sProp (𝕄 F)) := by
  unfold ringBoot ringSt rels creds
  iintro ⟨⟨HV, HS, ⟨R0, R1, Tc⟩, ⟨Ca, Cc⟩, Hw⟩, Hr, Hf⟩
  isplitl [HV]; · iexact HV
  isplitl [HS]; · iexact HS
  isplitl [R0 R1 Tc Hr]
  · isplitl [R0]; · iexact R0
    isplitl [R1]; · iexact R1
    isplitl [Hr] <;> iassumption
  isplitl [Ca Cc Hf]
  · isplitl [Hf]; · iexact Hf
    isplitl [Ca] <;> iassumption
  iexact Hw

end Cert.KernelIdeal.Rings
-- ==== Proof.Body.lean ====
/- The whole body of the kernel on one device. -/
module

public import proofs.«01_k».proof.Proof.End

@[expose] public section

set_option maxRecDepth 20000

noncomputable section

namespace Cert.KernelIdeal.Rings

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

/-! ## What the barrier's signals hand over -/

theorem barPay_lo (c : Dev nD) (g : Fin 3) : barPay c g.val = (reached ER (cell (pr g c) (.cred g)) 0 : sProp (𝕄 F)) := by
  unfold barPay; rw [dif_pos g.isLt]
theorem barPay_hi (c : Dev nD) (g : Fin 3) :
    barPay c (3 + g.val) = (iprop(slotFact (su g c) g 0 1 ∗ slotFact (su g c) g 1 1) : sProp (𝕄 F)) := by
  unfold barPay
  have e : (⟨3 + g.val - 3, by omega⟩ : Fin 3) = g := Fin.ext (by show 3 + g.val - 3 = g.val; omega)
  rw [dif_neg (by omega), dif_pos (by omega), e]
theorem barPay_su (c : Dev nD) (g : Fin 3) : barPay (su g c) g.val = (reached ER (cell c (.cred g)) 0 : sProp (𝕄 F)) := by
  rw [barPay_lo, pr_su]
theorem barPay_pr (c : Dev nD) (g : Fin 3) :
    barPay (pr g c) (3 + g.val) = (iprop(slotFact c g 0 1 ∗ slotFact c g 1 1) : sProp (𝕄 F)) := by
  rw [barPay_hi, su_pr]

theorem range6 (Φ : ℕ → sProp (𝕄 F)) :
    bigSep (Finset.range 6) Φ = iprop(Φ (0 : Fin 3).val ∗ Φ (1 : Fin 3).val ∗ Φ (2 : Fin 3).val ∗ Φ (3 + (0 : Fin 3).val) ∗ Φ (3 + (1 : Fin 3).val) ∗ Φ (3 + (2 : Fin 3).val)) := by
  rw [show Finset.range 6 = {0, 1, 2, 3, 4, 5} from by decide, bigSep_insert (by decide), bigSep_insert (by decide), bigSep_insert (by decide),
    bigSep_insert (by decide), bigSep_insert (by decide), bigSep_singleton]
  rfl

/-- What a device has of the barriers: its own at the first round, the credits of its six signals, and the rights to signal its neighbours. -/
def barRights (F : FTy → Type) [FloatOps F] (c : Dev nD) : sProp (𝕄 F) :=
  iprop(atPos ER (cell c .bar) 0 ∅ 0 ∗ cred (tallyAt (cell c .bar) 0 6)
    ∗ (dutyTok ER (cell (su 0 c) .bar) 0 (0 : Fin 3).val ∗ dutyTok ER (cell (su 1 c) .bar) 0 (1 : Fin 3).val ∗ dutyTok ER (cell (su 2 c) .bar) 0 (2 : Fin 3).val)
    ∗ (dutyTok ER (cell (pr 0 c) .bar) 0 (3 + (0 : Fin 3).val) ∗ dutyTok ER (cell (pr 1 c) .bar) 0 (3 + (1 : Fin 3).val)
      ∗ dutyTok ER (cell (pr 2 c) .bar) 0 (3 + (2 : Fin 3).val)))

variable (sv : (g : Fin 3) → Fin 2 → Dev nD → ℕ → FVec F (S2w (Rg g).W) .bf16)
variable (κ : GSem nD τ sig → ℕ) (ιs : Key → ℕ)

/-- Signalling a successor. -/
theorem wp_signalSu (c : Dev nD) (g : Fin 3) (O : CellTallies nD τ sig ℕ) (Kt : PUnit → sProp (𝕄 F)) :
    iprop((Ctx sv κ ιs ∗ owe c (O + tallyAt (cell (su g c) .bar) 0 1) ∗ dutyTok ER (cell (su g c) .bar) 0 g.val ∗ ringTells F c g) ∗ (owe c O -∗ Kt ⟨⟩))
      ⊢ WP c (semSignalWord (su g c) (sig.barrier 0 rfl) 1#32) Kt := by
  have hu : g.val ∈ dutyOf .bar 0 := by
    show g.val ∈ (if 0 = 0 then Finset.range 6 else ∅)
    rw [if_pos rfl, Finset.mem_range]; omega
  unfold ringTells
  iintro ⟨⟨#HC, HO, Ht, #Hr, -⟩, Hk⟩
  iapply (wp_signalWord sv κ ιs c (su g c) .bar (sig.barrier 0 rfl) rfl g.val 0 rfl hu O Kt)
  isplitr [Hk]
  · isplitr; · iexact HC
    isplitl [HO]; · iexact HO
    isplitl [Ht]; · iexact Ht
    isplitr; · iapply (Ctx_bar sv κ ιs (su g c)); iexact HC
    iapply (Entails.of_eq (show (reached ER (cell c (.cred g)) 0 : sProp (𝕄 F)) = payOf sv (su g c) .bar 0 g.val from (barPay_su c g).symm))
    iexact Hr
  · iexact Hk

/-- Signalling a predecessor. -/
theorem wp_signalPr (c : Dev nD) (g : Fin 3) (O : CellTallies nD τ sig ℕ) (Kt : PUnit → sProp (𝕄 F)) :
    iprop((Ctx sv κ ιs ∗ owe c (O + tallyAt (cell (pr g c) .bar) 0 1) ∗ dutyTok ER (cell (pr g c) .bar) 0 (3 + g.val) ∗ ringTells F c g) ∗ (owe c O -∗ Kt ⟨⟩))
      ⊢ WP c (semSignalWord (pr g c) (sig.barrier 0 rfl) 1#32) Kt := by
  have hu : 3 + g.val ∈ dutyOf .bar 0 := by
    show 3 + g.val ∈ (if 0 = 0 then Finset.range 6 else ∅)
    rw [if_pos rfl, Finset.mem_range]; omega
  unfold ringTells
  iintro ⟨⟨#HC, HO, Ht, -, #Hr⟩, Hk⟩
  iapply (wp_signalWord sv κ ιs c (pr g c) .bar (sig.barrier 0 rfl) rfl (3 + g.val) 0 rfl hu O Kt)
  isplitr [Hk]
  · isplitr; · iexact HC
    isplitl [HO]; · iexact HO
    isplitl [Ht]; · iexact Ht
    isplitr; · iapply (Ctx_bar sv κ ιs (pr g c)); iexact HC
    iapply (Entails.of_eq (show (iprop(slotFact c g 0 1 ∗ slotFact c g 1 1) : sProp (𝕄 F)) = payOf sv (pr g c) .bar 0 (3 + g.val) from (barPay_pr c g).symm))
    iexact Hr
  · iexact Hk

/-! ## The result -/

variable (X : Dev nD → S4096x128.Idx → Elt F .fp8e4m3) (W : Dev nD → S128x8192.Idx → Elt F .fp8e4m3)

/-- The scale: the product of the two given ones. -/
def scOf (Sx Sw : S1.Idx → Elt F .f32) : F .f32 :=
  Scalar.mulf (Sx (Shape.Idx.first (numel1_S1.symm ▸ Nat.one_pos)) : F .f32) (Sw (Shape.Idx.first (numel1_S1.symm ▸ Nat.one_pos)))

theorem first1 (x : (Rect.unit (s := S1) ![0] S1.size inb_S1_S1_0).shape.Idx) :
    (Rect.unit (s := S1) ![0] S1.size inb_S1_S1_0).emb x = Shape.Idx.first (numel1_S1.symm ▸ Nat.one_pos) := by
  funext a
  refine Fin.ext ?_
  have h1 := ((Rect.unit (s := S1) ![0] S1.size inb_S1_S1_0).emb x a).isLt
  have h2 := (Shape.Idx.first (s := S1) (numel1_S1.symm ▸ Nat.one_pos) a).isLt
  have h3 : S1.size a = 1 := by fin_cases a; rfl
  omega

/-- The columns of ring `g` of device `c`'s result. -/
def outG (sc : F .f32) (c : Dev nD) (g : Fin 3) : FVec F (S2w (Rg g).WW) .f32 :=
  (Rg g).outVal (qv g (X c) (W c) c) (sV X W g 0 (pr g c) 30) (sV X W g 1 (pr g c) 30) sc

/-- The three rings' columns written over `Y`. -/
def outAll (sc : F .f32) (c : Dev nD) (Y : S128x8192.Idx → Elt F .f32) : S128x8192.Idx → Elt F .f32 :=
  (outRect 2).overlay ((outRect 1).overlay ((outRect 0).overlay Y (outG X W sc c 0)) (outG X W sc c 1)) (outG X W sc c 2)

/-! ## The body -/

/-- Something for each ring. -/
def three (Φ : Fin 3 → sProp (𝕄 F)) : sProp (𝕄 F) := iprop(Φ 0 ∗ Φ 1 ∗ Φ 2)

/-- What a device has when the kernel begins. -/
def begins (F : FTy → Type) [FloatOps F] (c : Dev nD) : sProp (𝕄 F) :=
  iprop(barRights F c ∗ three (fun g => nine g (atStart c)) ∗ three (fun g => ringRights F c g) ∗ three (fun g => bufs2 c g))
/-- What it has when the kernel ends. -/
def finishes (F : FTy → Type) [FloatOps F] (c : Dev nD) : sProp (𝕄 F) :=
  iprop(semVal (cell c .bar) 0 ∗ three (fun g => ringZero c g) ∗ three (fun g => bufs2 c g))

/-- An update after the program's end. -/
theorem wp_fupd_post {α : Type} (c : Dev nD) (p : Prog (TpuEff nD τ sig (Elt F) Λ₀ .tc) α) (Q : α → sProp (𝕄 F)) :
    WP c p (fun a => iprop(|={Set.univ}=> Q a)) ⊢ WP c p Q := wp_fupd _ _ _ p Q

theorem O₀_eq (c : Dev nD) : O₀ c = oweFrom c 31 + tallyAt (cell (pr 2 c) .bar) 0 1 + tallyAt (cell (pr 1 c) .bar) 0 1 + tallyAt (cell (pr 0 c) .bar) 0 1
    + tallyAt (cell (su 2 c) .bar) 0 1 + tallyAt (cell (su 1 c) .bar) 0 1 + tallyAt (cell (su 0 c) .bar) 0 1 := by
  unfold O₀ oweBar
  simp only [← add_assoc]

theorem wp_main [Facts] (c : Dev nD) (x : Memref sig .tc .vmem S4096x128 .fp8e4m3) (w : Memref sig .tc .vmem S128x8192 .fp8e4m3)
    (sx sw : Memref sig .tc .smem S1 .f32) (o : Memref sig .tc .vmem S128x8192 .f32)
    (T : Fin 3 → S31.Idx → Elt F .i32) (hT : ∀ g, Names g c (T g)) (Sx Sw : S1.Idx → Elt F .f32) (Y : S128x8192.Idx → Elt F .f32) (Kt : PUnit → sProp (𝕄 F)) :
    iprop((Ctx (sV X W) κ ιs ∗ owe c (O₀ c) ∗ begins F c ∗ reads X W c x w T ∗ (own c sx Sx ∗ own c sw Sw) ∗ own c o Y)
        ∗ ((owe c 0 ∗ finishes F c ∗ reads X W c x w T ∗ (own c sx Sx ∗ own c sw Sw) ∗ own c o (outAll X W (scOf Sx Sw) c Y)) -∗ Kt ⟨⟩))
      ⊢ WP c (main (Rg 0) (Rg 1) (Rg 2) x w sx sw o c (fun g => su g c) (fun g => pr g c)) Kt := by
  rw [O₀_eq]
  unfold main begins barRights three
  iintro ⟨⟨#HC, HO, ⟨⟨Hb, Hbc, ⟨s0, s1, s2⟩, p0, p1, p2⟩, ⟨A0, A1, A2⟩, ⟨R0, R1, R2⟩, B0, B1, B2⟩, Hrd, Hs, Ho⟩, Hk⟩
  imod (boot_ring (sV X W) κ ιs c 0) $$ [A0 R0 B0] with ⟨G0, #t0⟩
  · isplitr; · iexact HC
    isplitl [A0]; · iexact A0
    isplitl [R0] <;> iassumption
  imod (boot_ring (sV X W) κ ιs c 1) $$ [A1 R1 B1] with ⟨G1, #t1⟩
  · isplitr; · iexact HC
    isplitl [A1]; · iexact A1
    isplitl [R1] <;> iassumption
  imod (boot_ring (sV X W) κ ιs c 2) $$ [A2 R2 B2] with ⟨G2, #t2⟩
  · isplitr; · iexact HC
    isplitl [A2]; · iexact A2
    isplitl [R2] <;> iassumption
  iapply (WP_bind c)
  iapply (wp_signalSu (sV X W) κ ιs c 0 _ _)
  isplitl [HO s0]
  · isplitr; · iexact HC
    isplitl [HO]; · iexact HO
    isplitl [s0]; · iexact s0
    iexact t0
  iintro HO
  iapply (WP_bind c)
  iapply (wp_signalSu (sV X W) κ ιs c 1 _ _)
  isplitl [HO s1]
  · isplitr; · iexact HC
    isplitl [HO]; · iexact HO
    isplitl [s1]; · iexact s1
    iexact t1
  iintro HO
  iapply (WP_bind c)
  iapply (wp_signalSu (sV X W) κ ιs c 2 _ _)
  isplitl [HO s2]
  · isplitr; · iexact HC
    isplitl [HO]; · iexact HO
    isplitl [s2]; · iexact s2
    iexact t2
  iintro HO
  iapply (WP_bind c)
  iapply (wp_signalPr (sV X W) κ ιs c 0 _ _)
  isplitl [HO p0]
  · isplitr; · iexact HC
    isplitl [HO]; · iexact HO
    isplitl [p0]; · iexact p0
    iexact t0
  iintro HO
  iapply (WP_bind c)
  iapply (wp_signalPr (sV X W) κ ιs c 1 _ _)
  isplitl [HO p1]
  · isplitr; · iexact HC
    isplitl [HO]; · iexact HO
    isplitl [p1]; · iexact p1
    iexact t1
  iintro HO
  iapply (WP_bind c)
  iapply (wp_signalPr (sV X W) κ ιs c 2 _ _)
  isplitl [HO p2]
  · isplitr; · iexact HC
    isplitl [HO]; · iexact HO
    isplitl [p2]; · iexact p2
    iexact t2
  iintro HO
  iapply (WP_bind c)
  iapply (wp_barrier (sV X W) κ ιs c (oweFrom c 31) (Above.oweFrom c 31 0 (by omega) (by omega)) _)
  isplitl [HO Hbc Hb]
  · isplitr; · iexact HC
    isplitl [HO]; · iexact HO
    isplitl [Hbc] <;> iassumption
  rw [range6, barPay_lo, barPay_lo, barPay_lo, barPay_hi, barPay_hi, barPay_hi]
  iintro ⟨HO, Hb, l0, l1, l2, h0, h1, h2⟩
  ihave G0 := (ready_ring c 0) $$ [G0 l0 h0]
  · isplitl [G0]; · iexact G0
    isplitl [l0] <;> iassumption
  ihave G1 := (ready_ring c 1) $$ [G1 l1 h1]
  · isplitl [G1]; · iexact G1
    isplitl [l1] <;> iassumption
  ihave G2 := (ready_ring c 2) $$ [G2 l2 h2]
  · isplitl [G2]; · iexact G2
    isplitl [l2] <;> iassumption
  iapply (WP_bind c)
  iapply (wp_hops X W κ ιs c x w T hT _ 31 _)
  isplitl [HO Hrd G0 G1 G2]
  · isplitr; · iexact HC
    isplitl [HO]; · iexact HO
    isplitl [Hrd]; · iexact Hrd
    unfold rings
    isplitl [G0]; · iexact G0
    isplitl [G1] <;> iassumption
  unfold rings reads epilogue
  iintro ⟨HO, ⟨HT, Hxw⟩, G0, G1, G2⟩
  icases Hs with ⟨Hsx, Hsw⟩
  iapply (WP_bind c)
  iapply (wp_smemOwn c sx _ _ _ Sx _)
  isplitl [Hsx]; · iexact Hsx
  iintro Hsx
  iapply (WP_bind c)
  iapply (wp_smemOwn c sw _ _ _ Sw _)
  isplitl [Hsw]; · iexact Hsw
  iintro Hsw
  rw [first1]
  iapply (WP_bind c)
  iapply (wp_finish (sV X W) κ ιs c 0 x w o (scOf Sx Sw) (X c) (W c) Y _)
  isplitl [HO Hxw Ho G0]
  · isplitr; · iexact HC
    isplitl [HO]; · iexact HO
    isplitl [Hxw]; · iexact Hxw
    isplitl [Ho] <;> iassumption
  iintro ⟨HO, Hxw, Ho, G0⟩
  iapply (WP_bind c)
  iapply (wp_finish (sV X W) κ ιs c 1 x w o (scOf Sx Sw) (X c) (W c) _ _)
  isplitl [HO Hxw Ho G1]
  · isplitr; · iexact HC
    isplitl [HO]; · iexact HO
    isplitl [Hxw]; · iexact Hxw
    isplitl [Ho] <;> iassumption
  iintro ⟨HO, Hxw, Ho, G1⟩
  imod (close_ring (sV X W) κ ιs c 0) $$ [G0] with ⟨Z0, B0⟩
  · isplitr; · iexact HC
    iexact G0
  imod (close_ring (sV X W) κ ιs c 1) $$ [G1] with ⟨Z1, B1⟩
  · isplitr; · iexact HC
    iexact G1
  imod (close_one (sV X W) κ ιs c .bar) $$ [Hb] with Hb
  · isplitr; · iexact HC
    iapply (Entails.of_eq (show (atPos ER (cell c .bar) 1 ∅ 0 : sProp (𝕄 F)) = atEnd c .bar from rfl)); iexact Hb
  iapply (wp_fupd_post c)
  iapply (wp_finish (sV X W) κ ιs c 2 x w o (scOf Sx Sw) (X c) (W c) _ _)
  isplitl [HO Hxw Ho G2]
  · isplitr; · iexact HC
    isplitl [HO]; · iexact HO
    isplitl [Hxw]; · iexact Hxw
    isplitl [Ho] <;> iassumption
  iintro ⟨HO, Hxw, Ho, G2⟩
  imod (close_ring (sV X W) κ ιs c 2) $$ [G2] with ⟨Z2, B2⟩
  · isplitr; · iexact HC
    iexact G2
  imodintro
  iapply Hk
  isplitl [HO]; · iexact HO
  isplitl [Hb Z0 Z1 Z2 B0 B1 B2]
  · unfold finishes three
    isplitl [Hb]; · iexact Hb
    isplitl [Z0 Z1 Z2]
    · isplitl [Z0]; · iexact Z0
      isplitl [Z1] <;> iassumption
    · isplitl [B0]; · iexact B0
      isplitl [B1] <;> iassumption
  isplitl [HT Hxw]; · isplitl [HT] <;> iassumption
  isplitl [Hsx Hsw]; · isplitl [Hsx] <;> iassumption
  unfold outAll outG
  iexact Ho

/-! ## The neighbours' words -/

/-- The neighbours of device `c`: its three successors, then its three predecessors. -/
def nbr (c : Dev nD) : Fin 6 → Dev nD := ![su 0 c, su 1 c, su 2 c, pr 0 c, pr 1 c, pr 2 c]

theorem chk1_word : ∀ d : Dev nD, k0_chk1 (wordOf d) := by decide +kernel
theorem chk2_word : ∀ d : Dev nD, k0_chk2 (wordOf d) := by decide +kernel
theorem chk3_word : ∀ d : Dev nD, k0_chk3 (wordOf d) := by decide +kernel
theorem chk4_word : ∀ d : Dev nD, k0_chk4 (wordOf d) := by decide +kernel
theorem chk5_word : ∀ d : Dev nD, k0_chk5 (wordOf d) := by decide +kernel
theorem chk6_word : ∀ d : Dev nD, k0_chk6 (wordOf d) := by decide +kernel
theorem dev1_word : ∀ d : Dev nD, k0_dev1 (wordOf d) = d.val := by decide +kernel
theorem dev2_word : ∀ d : Dev nD, k0_dev2 (wordOf d) = d.val := by decide +kernel
theorem dev3_word : ∀ d : Dev nD, k0_dev3 (wordOf d) = d.val := by decide +kernel
theorem dev4_word : ∀ d : Dev nD, k0_dev4 (wordOf d) = d.val := by decide +kernel
theorem dev5_word : ∀ d : Dev nD, k0_dev5 (wordOf d) = d.val := by decide +kernel
theorem dev6_word : ∀ d : Dev nD, k0_dev6 (wordOf d) = d.val := by decide +kernel

/-- One neighbour's word, read and checked. -/
theorem wp_nbr (c : Dev nD) (nb : Memref sig .tc .smem S6 .i32) (Nb : S6.Idx → Elt F .i32) (hN : ∀ i, Nb i = wordOf (nbr c (i 0)))
    (k : ℕ) (hk : k < 6) (inb : ∀ a, (![k] : Fin 1 → ℕ) a + S1.size a ≤ S6.size a) (Kt : Elt F .i32 → sProp (𝕄 F)) :
    iprop(own c nb Nb ∗ (own c nb Nb -∗ Kt (wordOf (nbr c ⟨k, hk⟩))))
      ⊢ WP c (smemLoad nb (Rect.unit (s := S6) ![k] S1.size inb) numel1_S1 rfl) Kt := by
  have e : Nb ((Rect.unit (s := S6) ![k] S1.size inb).emb (Shape.Idx.first (numel1_S1.symm ▸ Nat.one_pos))) = wordOf (nbr c ⟨k, hk⟩) := by
    rw [hN]
    refine congrArg (fun i => wordOf (nbr c i)) (Fin.ext ?_)
    have h1 : (Shape.Idx.first (s := S1) (numel1_S1.symm ▸ Nat.one_pos) 0).val < 1 := (Shape.Idx.first (s := S1) (numel1_S1.symm ▸ Nat.one_pos) 0).isLt
    show k + 1 * (Shape.Idx.first (s := S1) (numel1_S1.symm ▸ Nat.one_pos) 0).val = k
    omega
  rw [← e]
  exact wp_smemOwn c nb _ _ _ Nb Kt

/-- The device's own number. -/
theorem wp_device (c : Dev nD) (Kt : Dev nD → sProp (𝕄 F)) : Kt c ⊢ WP c (Prog.lift .deviceId) Kt := by
  refine (WP_ret c c Kt).trans (Entails.of_eq ?_)
  exact (wp_deviceId ..).symm

/-- A check that holds. -/
theorem wp_check (c : Dev nD) (P : Prop) (d : Decidable P) (h : P) (Kt : PLift P → sProp (𝕄 F)) :
    Kt ⟨h⟩ ⊢ WP c (Prog.lift (TpuEff.assume P d)) Kt := by
  iintro Hk
  iapply (wp_assume 𝒱₀ (c : Thread nD τ) none Set.univ h)
  iapply (WP_ret c _ Kt)
  iexact Hk

theorem wp_body [Facts] (c : Dev nD) (x : Memref sig .tc .vmem S4096x128 .fp8e4m3) (w : Memref sig .tc .vmem S128x8192 .fp8e4m3)
    (sx sw : Memref sig .tc .smem S1 .f32) (nb : Memref sig .tc .smem S6 .i32) (o : Memref sig .tc .vmem S128x8192 .f32)
    (T : Fin 3 → S31.Idx → Elt F .i32) (hT : ∀ g, Names g c (T g)) (Nb : S6.Idx → Elt F .i32) (hN : ∀ i, Nb i = wordOf (nbr c (i 0)))
    (Sx Sw : S1.Idx → Elt F .f32) (Y : S128x8192.Idx → Elt F .f32) (Kt : PUnit → sProp (𝕄 F)) :
    iprop((Ctx (sV X W) κ ιs ∗ owe c (O₀ c) ∗ begins F c ∗ reads X W c x w T ∗ (own c sx Sx ∗ own c sw Sw) ∗ own c nb Nb ∗ own c o Y)
        ∗ ((owe c 0 ∗ finishes F c ∗ reads X W c x w T ∗ (own c sx Sx ∗ own c sw Sw) ∗ own c nb Nb ∗ own c o (outAll X W (scOf Sx Sw) c Y)) -∗ Kt ⟨⟩))
      ⊢ WP c (body (Rg 0) (Rg 1) (Rg 2) x w sx sw nb o) Kt := by
  have es : (![⟨k0_dev1 (wordOf (nbr c ⟨0, by omega⟩)), k0_dev1_lt _ (chk1_word _)⟩, ⟨k0_dev2 (wordOf (nbr c ⟨1, by omega⟩)), k0_dev2_lt _ (chk2_word _)⟩,
      ⟨k0_dev3 (wordOf (nbr c ⟨2, by omega⟩)), k0_dev3_lt _ (chk3_word _)⟩] : Fin 3 → Dev nD) = fun g => su g c := by
    funext g
    fin_cases g
    · exact Fin.ext (dev1_word _)
    · exact Fin.ext (dev2_word _)
    · exact Fin.ext (dev3_word _)
  have ep : (![⟨k0_dev4 (wordOf (nbr c ⟨3, by omega⟩)), k0_dev4_lt _ (chk4_word _)⟩, ⟨k0_dev5 (wordOf (nbr c ⟨4, by omega⟩)), k0_dev5_lt _ (chk5_word _)⟩,
      ⟨k0_dev6 (wordOf (nbr c ⟨5, by omega⟩)), k0_dev6_lt _ (chk6_word _)⟩] : Fin 3 → Dev nD) = fun g => pr g c := by
    funext g
    fin_cases g
    · exact Fin.ext (dev4_word _)
    · exact Fin.ext (dev5_word _)
    · exact Fin.ext (dev6_word _)
  unfold body
  iintro ⟨⟨#HC, HO, HB, Hrd, Hs, Hn, Ho⟩, Hk⟩
  iapply (WP_bind c)
  iapply (wp_device c _)
  iapply (WP_bind c)
  iapply (wp_nbr c nb Nb hN 0 (by omega) _ _); isplitl [Hn]; · iexact Hn
  iintro Hn
  iapply (WP_bind c)
  iapply (wp_check c _ _ (chk1_word _) _)
  iapply (WP_bind c)
  iapply (wp_nbr c nb Nb hN 1 (by omega) _ _); isplitl [Hn]; · iexact Hn
  iintro Hn
  iapply (WP_bind c)
  iapply (wp_check c _ _ (chk2_word _) _)
  iapply (WP_bind c)
  iapply (wp_nbr c nb Nb hN 2 (by omega) _ _); isplitl [Hn]; · iexact Hn
  iintro Hn
  iapply (WP_bind c)
  iapply (wp_check c _ _ (chk3_word _) _)
  iapply (WP_bind c)
  iapply (wp_nbr c nb Nb hN 3 (by omega) _ _); isplitl [Hn]; · iexact Hn
  iintro Hn
  iapply (WP_bind c)
  iapply (wp_check c _ _ (chk4_word _) _)
  iapply (WP_bind c)
  iapply (wp_nbr c nb Nb hN 4 (by omega) _ _); isplitl [Hn]; · iexact Hn
  iintro Hn
  iapply (WP_bind c)
  iapply (wp_check c _ _ (chk5_word _) _)
  iapply (WP_bind c)
  iapply (wp_nbr c nb Nb hN 5 (by omega) _ _); isplitl [Hn]; · iexact Hn
  iintro Hn
  iapply (WP_bind c)
  iapply (wp_check c _ _ (chk6_word _) _)
  dsimp only
  rw [es, ep]
  iapply (wp_main κ ιs X W c x w sx sw o T hT Sx Sw Y Kt)
  isplitl [HO HB Hrd Hs Ho]
  · isplitr; · iexact HC
    isplitl [HO]; · iexact HO
    isplitl [HB]; · iexact HB
    isplitl [Hrd]; · iexact Hrd
    isplitl [Hs] <;> iassumption
  iintro ⟨HO, HB, Hrd, Hs, Ho⟩
  iapply Hk
  isplitl [HO]; · iexact HO
  isplitl [HB]; · iexact HB
  isplitl [Hrd]; · iexact Hrd
  isplitl [Hs]; · iexact Hs
  isplitl [Hn] <;> iassumption

end Cert.KernelIdeal.Rings
-- ==== Proof.Tables.lean ====
/- The tables that the host computes before the kernel: for each ring the blocks of the hops, and the six neighbours. -/
module

public import proofs.«01_k».proof.Proof.Body

@[expose] public section

set_option maxRecDepth 20000

noncomputable section

namespace Cert.KernelIdeal.Rings

open Cert.KernelIdeal
open Idealize.ShloMosaic Idealize.ShloMosaic.TcCoe

/-! ## The host's arithmetic, on words -/

/-- A scalar word. -/
abbrev sc0 (x : BitVec 32) : IVec S_ 32 := constantI S_ 32 x
/-- A scalar spread over the hops. -/
abbrev sp31 {w : ℕ} (x : IVec S_ w) : IVec S31 w := broadcastInDim S31 ![] Gen.bcast_S_S31 x
/-- An index, from the end when it is negative. -/
def norm0 (x : IVec S_ 32) : IVec S_ 32 := select (cmpi .slt x (sc0 0#32)) (addi x (sc0 32#32)) x
def norm31 (x : IVec S31 32) : IVec S31 32 := select (cmpi .slt x (sp31 (sc0 0#32))) (addi x (sp31 (sc0 32#32))) x
/-- The entry of a table at an index. -/
def entry (t : Fin 32 → BitVec 32) (x : IVec S_ 32) : IVec S_ 32 :=
  shapeCast S_ (Host.dynamicSlice S1 (fun i : S32.Idx => t (S32.rowMajor i)) (fun k : Fin 1 => ((![norm0 x] : Fin 1 → IVec S_ 32) k (Shape.Idx.first Gen.h_S_)).toInt) Gen.sliceFits_S32_S1) Gen.shapeCasts_S1_S_
/-- The divisor: never zero. -/
def dv : IVec S_ 32 := select (cmpi .eq (sc0 32#32) (sc0 0#32)) (sc0 1#32) (sc0 32#32)
/-- The remainder with the divisor's sign. -/
def rem0 (x : IVec S_ 32) : IVec S_ 32 :=
  select (andi (cmpi .ne (cmpi .slt (Host.remsi x dv) (sc0 0#32)) (cmpi .slt dv (sc0 0#32))) (cmpi .ne (Host.remsi x dv) (sc0 0#32)))
    (addi (Host.remsi x dv) dv) (Host.remsi x dv)
def rem31 (x : IVec S31 32) : IVec S31 32 :=
  select (andi (cmpi .ne (cmpi .slt (Host.remsi x (sp31 dv)) (sp31 (sc0 0#32))) (sp31 (cmpi .slt dv (sc0 0#32)))) (cmpi .ne (Host.remsi x (sp31 dv)) (sp31 (sc0 0#32))))
    (addi (Host.remsi x (sp31 dv)) (sp31 dv)) (Host.remsi x (sp31 dv))
/-- The device's own number. -/
def me (c : Dev nD) : IVec S_ 32 := Host.remui (Host.divui (sc0 (Dev.word c)) (sc0 1#32)) (sc0 32#32)
/-- Ring by ring, the table of the ring and the table of places. -/
def ringT : Fin 3 → Fin 32 → BitVec 32 := ![lit0, lit2, lit4]
def placeT : Fin 3 → Fin 32 → BitVec 32 := ![lit1, lit3, lit5]
/-- The device's place on ring `g`. -/
def place (g : Fin 3) (c : Dev nD) : IVec S_ 32 := entry (placeT g) (me c)
/-- The blocks of the hops on ring `g`. -/
def hopsT (g : Fin 3) (c : Dev nD) : IVec S31 32 :=
  Host.gather gather_S32_S31x1_S31_n_0_n_n_0_1_1 (fun i : S32.Idx => ringT g (S32.rowMajor i))
    (broadcastInDim S31x1 ![0] Gen.bcast_S31_S31x1_0 (norm31 (rem31 (subi (sp31 (subi (place g c) (sc0 1#32))) (iotaInDim S31 32 0)))))
def succT (g : Fin 3) (c : Dev nD) : IVec S_ 32 := entry (ringT g) (rem0 (addi (place g c) (sc0 1#32)))
def predT (g : Fin 3) (c : Dev nD) : IVec S_ 32 := entry (ringT g) (rem0 (subi (place g c) (sc0 1#32)))
/-- A scalar as one entry. -/
abbrev one1 (x : IVec S_ 32) : IVec S1 32 := broadcastInDim S1 ![] Gen.bcast_S_S1 x
/-- The six neighbours. -/
def nbrT (c : Dev nD) : IVec S6 32 :=
  concatenate S6 0 [⟨S1, one1 (succT 0 c)⟩, ⟨S1, one1 (succT 1 c)⟩, ⟨S1, one1 (succT 2 c)⟩, ⟨S1, one1 (predT 0 c)⟩, ⟨S1, one1 (predT 1 c)⟩, ⟨S1, one1 (predT 2 c)⟩]
    Gen.concatenates_S1_S1_S1_S1_S1_S1_S6_d0

/-- A hop as an index of the table. -/
def idx31 (k : Fin 31) : S31.Idx := fun a => ⟨k.val, by fin_cases a; exact k.isLt⟩
def idx6 (k : Fin 6) : S6.Idx := fun a => ⟨k.val, by fin_cases a; exact k.isLt⟩

theorem hopsT_names : ∀ (g : Fin 3) (c : Dev nD) (k : Fin 31), hopsT g c (idx31 k) = wordOf (blk g c k.val) := by decide +kernel

theorem nbrT_names : ∀ (c : Dev nD) (k : Fin 6), nbrT c (idx6 k) = wordOf (nbr c k) := by decide +kernel

end Cert.KernelIdeal.Rings
-- ==== Proof.Host.lean ====
/- What the host leaves in the kernel's tables. -/
module

public import proofs.«01_k».proof.Proof.Tables
public import proofs.«01_k».proof.Proof.Gen.KernelIdeal.Regions
public import Idealize.ShloMosaic.Lib.StableHlo.RunRead

@[expose] public section

set_option maxRecDepth 20000

noncomputable section

namespace Cert.KernelIdeal.Rings

open Cert.KernelIdeal
open Idealize.ShloMosaic Idealize.ShloMosaic.TcCoe

variable {F : FTy → Type} [FloatOps F]
variable (m : (ℓ : Loc nD τ sig) → Buf (Elt F) ℓ)

theorem V19_v21 (c : Dev nD) : Gen.V19 m c main_v21 = hopsT 0 c := by
  after_reads_simp [StableHlo.unaryIndexed_result_read, StableHlo.indexContents_cons, StableHlo.indexContents_empty, StableHlo.TRef.ofBuf_toBuf]
  rfl
theorem V19_v51 (c : Dev nD) : Gen.V19 m c main_v51 = hopsT 1 c := by
  after_reads_simp [StableHlo.unaryIndexed_result_read, StableHlo.indexContents_cons, StableHlo.indexContents_empty, StableHlo.TRef.ofBuf_toBuf]
  rfl
theorem V19_v81 (c : Dev nD) : Gen.V19 m c main_v81 = hopsT 2 c := by
  after_reads_simp [StableHlo.unaryIndexed_result_read, StableHlo.indexContents_cons, StableHlo.indexContents_empty, StableHlo.TRef.ofBuf_toBuf]
  rfl
/-- The six scalars, each as one entry, joined. -/
theorem nbrT_of (c : Dev nD) (x0 x1 x2 x3 x4 x5 : IVec S1 32) (h0 : x0 = one1 (succT 0 c)) (h1 : x1 = one1 (succT 1 c)) (h2 : x2 = one1 (succT 2 c))
    (h3 : x3 = one1 (predT 0 c)) (h4 : x4 = one1 (predT 1 c)) (h5 : x5 = one1 (predT 2 c)) :
    concatenate S6 0 [⟨S1, x0⟩, ⟨S1, x1⟩, ⟨S1, x2⟩, ⟨S1, x3⟩, ⟨S1, x4⟩, ⟨S1, x5⟩] Gen.concatenates_S1_S1_S1_S1_S1_S1_S6_d0 = nbrT c := by
  subst h0 h1 h2 h3 h4 h5; rfl

theorem V19_v102 (c : Dev nD) : Gen.V19 m c main_v102 = nbrT c := by
  simp only [StableHlo.readAfter, StableHlo.nary_result']
  refine nbrT_of c _ _ _ _ _ _ ?_ ?_ ?_ ?_ ?_ ?_ <;> dsimp only [Matrix.cons_val]
  · after_reads_simp [StableHlo.unaryIndexed_result_read, StableHlo.indexContents_cons, StableHlo.indexContents_empty, StableHlo.TRef.ofBuf_toBuf]
    rfl
  · after_reads_simp [StableHlo.unaryIndexed_result_read, StableHlo.indexContents_cons, StableHlo.indexContents_empty, StableHlo.TRef.ofBuf_toBuf]
    rfl
  · after_reads_simp [StableHlo.unaryIndexed_result_read, StableHlo.indexContents_cons, StableHlo.indexContents_empty, StableHlo.TRef.ofBuf_toBuf]
    rfl
  · after_reads_simp [StableHlo.unaryIndexed_result_read, StableHlo.indexContents_cons, StableHlo.indexContents_empty, StableHlo.TRef.ofBuf_toBuf]
    rfl
  · after_reads_simp [StableHlo.unaryIndexed_result_read, StableHlo.indexContents_cons, StableHlo.indexContents_empty, StableHlo.TRef.ofBuf_toBuf]
    rfl
  · after_reads_simp [StableHlo.unaryIndexed_result_read, StableHlo.indexContents_cons, StableHlo.indexContents_empty, StableHlo.TRef.ofBuf_toBuf]
    rfl

/-- The tables of the three rings, as the kernel finds them. -/
def tabs (F : FTy → Type) (c : Dev nD) (g : Fin 3) : S31.Idx → Elt F .i32 := hopsT g c

theorem tabs_names (c : Dev nD) (g : Fin 3) : Names (F := F) g c (tabs F c g) := by
  intro i
  have e : i = idx31 (i 0) := by
    funext a
    fin_cases a
    rfl
  have h := hopsT_names g c (i 0)
  rw [← e] at h
  exact h

/-- The six neighbours, as the kernel finds them. -/
def nbrs (F : FTy → Type) (c : Dev nD) : S6.Idx → Elt F .i32 := nbrT c

theorem nbrs_names (c : Dev nD) (i : S6.Idx) : nbrs F c i = wordOf (nbr c (i 0)) := by
  have e : i = idx6 (i 0) := by
    funext a
    fin_cases a
    rfl
  have h := nbrT_names c (i 0)
  rw [← e] at h
  exact h

end Cert.KernelIdeal.Rings
-- ==== Proof.Output.lean ====
/- The three rings' columns make up the whole result. -/
module

public import proofs.«01_k».proof.Proof.Body

@[expose] public section

set_option maxRecDepth 20000

noncomputable section

namespace Cert.KernelIdeal.Rings

open Cert.KernelIdeal
open Idealize.ShloMosaic Idealize.ShloMosaic.TcCoe

variable {F : FTy → Type} [FloatOps F]
variable (X : Dev nD → S4096x128.Idx → Elt F .fp8e4m3) (W : Dev nD → S128x8192.Idx → Elt F .fp8e4m3)

/-- Where ring `g`'s columns begin and end. -/
theorem lo_eq : ∀ g : Fin 3, (Rg g).lo = ![0, 2816, 5632] g := fun g => by fin_cases g <;> rfl
theorem WW_eq : ∀ g : Fin 3, (Rg g).WW = ![2816, 2816, 2560] g := fun g => by fin_cases g <;> rfl

/-- Every element of the result is in exactly one ring's columns. -/
theorem outRect_mem (g : Fin 3) (i : S128x8192.Idx) :
    i ∈ (outRect g).set ↔ (![0, 2816, 5632] : Fin 3 → ℕ) g ≤ (i 1).val ∧ (i 1).val < (![0, 2816, 5632] : Fin 3 → ℕ) g + (![2816, 2816, 2560] : Fin 3 → ℕ) g := by
  rw [← lo_eq, ← WW_eq, Rect.mem_set_unit]
  constructor
  · intro h; exact h 1
  · intro h a
    fin_cases a
    · exact ⟨Nat.zero_le _, by show (i 0).val < 0 + 128; have := (i 0).isLt; have e : S128x8192.size 0 = 128 := rfl; omega⟩
    · exact h

/-- An element of ring `g`'s columns holds what ring `g` left. -/
theorem outAll_emb (sc : F .f32) (c : Dev nD) (Y : S128x8192.Idx → Elt F .f32) (g : Fin 3) (k : (outRect g).shape.Idx) :
    outAll X W sc c Y ((outRect g).emb k) = outG X W sc c g k := by
  have hm := (outRect_mem g _).mp (by rw [← Rect.map_emb_univ]; exact Finset.mem_map_of_mem _ (Finset.mem_univ k))
  have hn (g' : Fin 3) (h : g' ≠ g) : (outRect g).emb k ∉ (outRect g').set := fun h' => by
    have h2 := (outRect_mem g' _).mp h'
    revert hm h2
    generalize ((outRect g).emb k 1).val = v
    fin_cases g <;> fin_cases g' <;> first | exact absurd rfl h | (intro a b; simp at a b; omega)
  unfold outAll
  fin_cases g
  · rw [Rect.overlay_of_not_mem _ _ _ (hn 2 (by decide)), Rect.overlay_of_not_mem _ _ _ (hn 1 (by decide))]
    exact Rect.overlay_emb _ _ _ _
  · rw [Rect.overlay_of_not_mem _ _ _ (hn 2 (by decide))]
    exact Rect.overlay_emb _ _ _ _
  · exact Rect.overlay_emb _ _ _ _

/-- The ring an element of the result is in. -/
theorem outRect_cover (i : S128x8192.Idx) : ∃ g, i ∈ (outRect g).set := by
  have hi : (i 1).val < 8192 := (i 1).isLt
  by_cases h0 : (i 1).val < 2816
  · exact ⟨0, (outRect_mem 0 i).mpr ⟨Nat.zero_le _, by simpa using h0⟩⟩
  by_cases h1 : (i 1).val < 5632
  · exact ⟨1, (outRect_mem 1 i).mpr ⟨by simp; omega, by simp; omega⟩⟩
  · exact ⟨2, (outRect_mem 2 i).mpr ⟨by simp; omega, by simp; omega⟩⟩

/-- What the result's buffer held before does not matter. -/
theorem outAll_any (sc : F .f32) (c : Dev nD) (Y Y' : S128x8192.Idx → Elt F .f32) : outAll X W sc c Y = outAll X W sc c Y' := by
  funext i
  obtain ⟨g, hg⟩ := outRect_cover i
  rw [← Rect.map_emb_univ] at hg
  obtain ⟨k, -, rfl⟩ := Finset.mem_map.mp hg
  rw [outAll_emb, outAll_emb]

end Cert.KernelIdeal.Rings
-- ==== Proof.Algebra.lean ====
/- Over the extended reals: what each device's result holds at a row and a column is the rectified, scaled sum over all the
   devices of their products. -/
module

public import proofs.«01_k».proof.Proof.Host
public import proofs.«01_k».proof.Proof.Output
public import Idealize.ShloMosaic.Lib.Pipeline.ValueKit
public import Idealize.ShloMosaic.Lib.MatmulPlain

@[expose] public section

set_option maxRecDepth 20000

noncomputable section

namespace Cert.KernelIdeal.Rings

open Cert.KernelIdeal
open Idealize.ShloMosaic Idealize.ShloMosaic.TcCoe

/-! ## Walking back along a ring -/

/-- Walking `t` devices back along ring `g` lowers the place by `t`. -/
theorem pr_iter (g : Fin 3) (c : Dev nD) (t : ℕ) : (pr g)^[t] c = ringAt g (placeOf g c - Fin.ofNat 32 t) := by
  induction t with
  | zero => rw [show Fin.ofNat 32 0 = 0 from rfl, sub_zero, ringAt_placeOf]; rfl
  | succ t ih =>
    rw [Function.iterate_succ_apply', ih, pr, placeOf_ringAt]
    congr 1
    have h : Fin.ofNat 32 (t + 1) = Fin.ofNat 32 t + 1 := by
      apply Fin.ext; simp [Fin.ofNat, Fin.val_add]
    rw [h, sub_sub]

/-- Walking the whole ring leads back. -/
theorem pr_round (g : Fin 3) (c : Dev nD) : (pr g)^[32] c = c := by
  rw [pr_iter, show Fin.ofNat 32 32 = 0 from rfl, sub_zero, ringAt_placeOf]

/-- The first 32 devices met are all the devices. -/
theorem sum_ring {M : Type} [AddCommMonoid M] (g : Fin 3) (c : Dev nD) (f : Dev nD → M) :
    ∑ t ∈ Finset.range 32, f ((pr g)^[t] c) = ∑ d : Dev nD, f d := by
  rw [Finset.sum_range]
  refine Finset.sum_nbij' (fun t : Fin 32 => (pr g)^[t.val] c) (fun d => placeOf g c - placeOf g d) ?_ ?_ ?_ ?_ ?_
  · intros; exact Finset.mem_univ _
  · intros; exact Finset.mem_univ _
  · intro t _
    show placeOf g c - placeOf g ((pr g)^[t.val] c) = t
    rw [pr_iter, placeOf_ringAt, sub_sub_cancel]
    exact Fin.ext (Nat.mod_eq_of_lt t.isLt)
  · intro d _
    show (pr g)^[(placeOf g c - placeOf g d).val] c = d
    rw [pr_iter, show Fin.ofNat 32 (placeOf g c - placeOf g d).val = placeOf g c - placeOf g d from
      Fin.ext (Nat.mod_eq_of_lt (placeOf g c - placeOf g d).isLt), sub_sub_cancel, ringAt_placeOf]
  · intros; rfl

/-! ## One ring's operations -/

/-- A ring's product at a row and a column is the inner product. -/
theorem prod_apply (R : Ring) (hd : R.dot = DotDims.plain 128 128 R.WW) (a : Vec Ideal S128x128 .fp8e4m3) (b : Vec Ideal (S2w R.WW) .fp8e4m3)
    (r : Fin 128) (j : Fin R.WW) :
    R.prod a b (ValueIdx.ix2 r j) = (∑ k : Fin 128, (a (ValueIdx.ix2 r k) : EReal) * (b (ValueIdx.ix2 k j) : EReal) : EReal) := by
  unfold Ring.prod
  rw [hd, shapeCast_self, shapeCast_self]
  show FloatOps.matmul (F := Ideal) (DotDims.plain 128 128 R.WW) none a b (constant (S2w R.WW) .f32 0x00000000#32) (ValueIdx.ix2 r j) = _
  rw [Ideal.matmul_plain_apply, ValueIdx.constant_apply, Ideal.ofBits_zero_f32, zero_add]

/-- The three rings' products are plain ones, -/
theorem dot_eq : ∀ g : Fin 3, (Rg g).dot = DotDims.plain 128 128 (Rg g).WW := fun g => by fin_cases g <;> rfl

/-- and their chunks are two halves wide. -/
theorem two_W : ∀ g : Fin 3, (Rg g).WW = (Rg g).W + (Rg g).W := fun g => by fin_cases g <;> rfl

/-- The two halves of a chunk side by side are the chunk. -/
theorem cat_half (R : Ring) (hW : R.WW = R.W + R.W) (p : FVec Ideal (S2w R.WW) .f32) (v₀ v₁ : FVec Ideal (S2w R.W) .bf16)
    (h₀ : ∀ i, v₀ i = R.half 0 p i) (h₁ : ∀ i, v₁ i = R.half 1 p i) (i : (S2w R.WW).Idx) :
    concatenate (S2w R.WW) 1 [⟨S2w R.W, v₀⟩, ⟨S2w R.W, v₁⟩] R.wide.cat i = p i := by
  have hi : (i 1).val < R.WW := (i 1).isLt
  by_cases h : (i 1).val < R.W
  · rw [concatenate_pair_apply_left 1 v₀ v₁ R.wide.cat i rfl (ValueIdx.ix2 (i 0) ⟨(i 1).val, h⟩ : (S2w R.W).Idx)
      (fun b => by fin_cases b <;> rfl), h₀]
    refine extractStridedSlice_apply _ _ _ _ _ fun a => ?_
    fin_cases a
    · exact (Nat.zero_add _).symm
    · show (i 1).val = 0 * R.W + (i 1).val; omega
  · rw [concatenate_pair_apply_right 1 v₀ v₁ R.wide.cat i rfl rfl (ValueIdx.ix2 (i 0) ⟨(i 1).val - R.W, by omega⟩ : (S2w R.W).Idx)
      (fun b hb => by fin_cases b <;> first | rfl | exact absurd rfl hb) (by show (i 1).val - R.W + R.W = (i 1).val; omega), h₁]
    refine extractStridedSlice_apply _ _ _ _ _ fun a => ?_
    fin_cases a
    · exact (Nat.zero_add _).symm
    · show (i 1).val = 1 * R.W + ((i 1).val - R.W); omega

/-! ## What travels along a ring -/

variable (X : Dev nD → S4096x128.Idx → Elt Ideal .fp8e4m3) (W : Dev nD → S128x8192.Idx → Elt Ideal .fp8e4m3)

/-- What device `d` sends in hop `h` is the sum of the products of the `h + 1` devices that end with it, all of one block. -/
theorem sendVal_sum (g : Fin 3) (j : Fin 2) (h : ℕ) (d : Dev nD) (i : (S2w (Rg g).W).Idx) :
    sendVal X W g j d h i
      = (∑ t ∈ Finset.range (h + 1), (Rg g).half j (qv g (X ((pr g)^[t] d)) (W ((pr g)^[t] d)) ((pr g)^[h + 1] d)) i : EReal) := by
  induction h generalizing d with
  | zero => rw [Finset.sum_range_one]; rfl
  | succ h ih =>
    show ((Rg g).half j (qv g (X d) (W d) (blk g d (h + 1))) i + sendVal X W g j (pr g d) h i : EReal) = _
    rw [ih, Finset.sum_range_succ' _ (h + 1)]
    exact add_comm _ _

/-- One ring's columns of device `c`'s result. -/
theorem outG_apply (sc : EReal) (c : Dev nD) (g : Fin 3) (i : (S2w (Rg g).WW).Idx) :
    outG (F := Ideal) X W sc c g i = max ((∑ d : Dev nD, (qv g (X d) (W d) c i : EReal)) * sc) 0 := by
  let p : FVec Ideal (S2w (Rg g).WW) .f32 := fun k => (∑ t ∈ Finset.range 31, (qv g (X ((pr g)^[t] (pr g c))) (W ((pr g)^[t] (pr g c))) c k : EReal) : EReal)
  have hp (j : Fin 2) (k) : sV X W g j (pr g c) 30 k = (Rg g).half j p k := by
    have hr : (pr g)^[30 + 1] (pr g c) = c := by rw [← Function.iterate_succ_apply]; exact pr_round g c
    refine (sendVal_sum X W g j 30 (pr g c) k).trans ?_
    rw [hr]
    rfl
  have hs : (qv g (X c) (W c) c i + p i : EReal) = ∑ d : Dev nD, (qv g (X d) (W d) c i : EReal) := by
    rw [← sum_ring g c, Finset.sum_range_succ', add_comm]
    rfl
  unfold outG Ring.outVal
  show max ((qv g (X c) (W c) c i + concatenate (S2w (Rg g).WW) 1 [⟨S2w (Rg g).W, sV X W g 0 (pr g c) 30⟩, ⟨S2w (Rg g).W, sV X W g 1 (pr g c) 30⟩] (Rg g).wide.cat i : EReal) * sc)
    (Ideal.ofBits .f32 0x00000000#32) = _
  rw [cat_half (Rg g) (two_W g) p _ _ (hp 0) (hp 1), Ideal.ofBits_zero_f32, hs]

/-! ## The whole result -/

/-- A product at an element of ring `g`'s columns: the inner product of the row of the block and the column. -/
theorem qv_apply (g : Fin 3) (A : S4096x128.Idx → Elt Ideal .fp8e4m3) (B : S128x8192.Idx → Elt Ideal .fp8e4m3) (c : Dev nD) (k : (outRect g).shape.Idx)
    (row : Fin 4096) (hrow : row.val = c.val * 128 + ((outRect g).emb k 0).val) :
    qv g A B c k = (∑ l : Fin 128, (A (ValueIdx.ix2 row l) : EReal) * (B (ValueIdx.ix2 l ((outRect g).emb k 1)) : EReal) : EReal) := by
  obtain ⟨r, j, rfl⟩ : ∃ r j, k = (ValueIdx.ix2 r j : (S2w (Rg g).WW).Idx) := ⟨_, _, ValueIdx.eq_ix2 k⟩
  unfold qv
  rw [prod_apply (Rg g) (dot_eq g)]
  refine Finset.sum_congr rfl fun l _ => congrArg₂ (fun x y : EReal => x * y) (congrArg A (funext fun a => ?_)) (congrArg B (funext fun a => ?_))
  · fin_cases a
    · refine Fin.ext ?_
      have e : ((outRect g).emb (ValueIdx.ix2 r j : (S2w (Rg g).WW).Idx) 0).val = 0 + 1 * r.val := rfl
      show c.val * 128 + 1 * r.val = row.val
      omega
    · refine Fin.ext ?_
      show 0 + 1 * l.val = l.val
      omega
  · fin_cases a
    · refine Fin.ext ?_
      show 0 + 1 * l.val = l.val
      omega
    · rfl

/-- Device `c`'s result at a row and a column: over all the devices, the inner products of their rows and columns summed, times
    the scale, at least zero. -/
theorem outAll_apply (sc : EReal) (c : Dev nD) (Y : S128x8192.Idx → Elt Ideal .f32) (i : S128x8192.Idx)
    (row : Fin 4096) (hrow : row.val = c.val * 128 + (i 0).val) :
    outAll (F := Ideal) X W sc c Y i
      = max ((∑ d : Dev nD, ∑ l : Fin 128, (X d (ValueIdx.ix2 row l) : EReal) * (W d (ValueIdx.ix2 l (i 1)) : EReal)) * sc) 0 := by
  obtain ⟨g, hg⟩ := outRect_cover i
  rw [← Rect.map_emb_univ] at hg
  obtain ⟨k, -, rfl⟩ := Finset.mem_map.mp hg
  rw [outAll_emb, outG_apply]
  exact congrArg (fun s : EReal => max (s * sc) 0) (Finset.sum_congr rfl fun d _ => qv_apply g (X d) (W d) c k row hrow)

end Cert.KernelIdeal.Rings

end
-- ==== Proof.Buffers.lean ====
/- A ring's two buffers, whole, are their halves. -/
module

public import proofs.«01_k».proof.Proof.End
public import Idealize.ShloMosaic.Lib.Ring
public import Idealize.ShloMosaic.Lib.ViewIndex

@[expose] public section

set_option maxRecDepth 20000

noncomputable section

namespace Cert.KernelIdeal.Rings

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

section halves

variable (W : ℕ) (m : Memref sig .tc .vmem (S4w W) .bf16) (hm : m.IsWhole)

/-- Half `b.2` of parity `b.1`. -/
abbrev rectW (b : Fin 2 × Fin 2) : Rect (S4w W) := Rect.unit (s := S4w W) ![b.1.val, b.2.val, 0, 0] (S1w W).size (inb4 W b.1 b.2)

theorem rectW_disjoint (b b' : Fin 2 × Fin 2) (h : b ≠ b') : Disjoint (rectW W b).set (rectW W b').set := by
  by_cases h1 : b.1 = b'.1
  · have h2 : b.2.val ≠ b'.2.val := fun e => h (Prod.ext h1 (Fin.ext e))
    refine Rect.unit_disjoint 1 ?_
    show b.2.val + 1 ≤ b'.2.val ∨ b'.2.val + 1 ≤ b.2.val
    omega
  · have h2 : b.1.val ≠ b'.1.val := fun e => h1 (Fin.ext e)
    refine Rect.unit_disjoint 0 ?_
    show b.1.val + 1 ≤ b'.1.val ∨ b'.1.val + 1 ≤ b.1.val
    omega

theorem rectW_mem (i : (S4w W).Idx) : i ∈ (rectW W ((i 0 : Fin 2), (i 1 : Fin 2))).set := by
  refine Rect.mem_set_unit.mpr fun a => ?_
  have ha := (i a).isLt
  fin_cases a
  · exact ⟨Nat.le_refl _, Nat.lt_succ_self _⟩
  · exact ⟨Nat.le_refl _, Nat.lt_succ_self _⟩
  · exact ⟨Nat.zero_le _, by show _ < 0 + _; rw [Nat.zero_add]; exact ha⟩
  · exact ⟨Nat.zero_le _, by show _ < 0 + _; rw [Nat.zero_add]; exact ha⟩

/-- The elements of a half. -/
abbrev halfSet (c : Dev nD) (b : Fin 2 × Fin 2) : Finset (Idx (m.view.loc (c : Thread nD τ))) := (m.view.slice (rectW W b)).set

include hm in
theorem halfSet_cover (c : Dev nD) : Finset.univ.biUnion (halfSet W m c) = Finset.univ := by
  refine Finset.eq_univ_iff_forall.mpr fun i => ?_
  have hi : i ∈ m.view.set := by rw [hm.set_eq_univ]; exact Finset.mem_univ _
  obtain ⟨x, -, rfl⟩ := Finset.mem_map.mp hi
  refine Finset.mem_biUnion.mpr ⟨((x 0 : Fin 2), (x 1 : Fin 2)), Finset.mem_univ _, ?_⟩
  unfold halfSet
  rw [View.set_slice]
  exact Finset.mem_map_of_mem _ (rectW_mem W x)

/-- Something for each half. -/
abbrev four {M : Type} [URA M] (Φ : Fin 2 → Fin 2 → sProp M) : sProp M := iprop((Φ 0 0 ∗ Φ 0 1) ∗ Φ 1 0 ∗ Φ 1 1)

theorem bigSep_four {M : Type} [URA M] (Φ : Fin 2 → Fin 2 → sProp M) : bigSep Finset.univ (fun b : Fin 2 × Fin 2 => Φ b.1 b.2) = four Φ := by
  rw [bigSep_univ_prod, bigSep_fin_two, bigSep_fin_two, bigSep_fin_two]; rfl

include hm in
/-- A whole buffer is its halves; -/
theorem whole_split (c : Dev nD) : iprop(∃ f, (m.view.loc (c : Thread nD τ)) ↦{fullShare} f)
    ⊢ (four fun p j => Release.slot (m.view.loc (c : Thread nD τ)) (halfSet W m c (p, j)) : sProp (𝕄 F)) := by
  rw [← bigSep_four (fun p j => (Release.slot (m.view.loc (c : Thread nD τ)) (halfSet W m c (p, j)) : sProp (𝕄 F)))]
  iintro ⟨%f, H⟩
  iapply (show ((m.view.loc (c : Thread nD τ)) ↦{fullShare} f : sProp (𝕄 F)) ⊢ bigSep Finset.univ (fun b : Fin 2 × Fin 2 => Release.slot (m.view.loc (c : Thread nD τ)) (halfSet W m c (b.1, b.2))) from by
    rw [Ring.pointsTo_blocks (halfSet W m c) (fun b b' h => View.disjoint_slice (rectW_disjoint W b b' h)) (halfSet_cover W m hm c) f]
    exact bigSep_mono fun b _ => show _ ⊢ Release.slot _ _ from by unfold Release.slot; iintro H; iexists f; iexact H)
  iexact H

include hm in
/-- and its halves are the whole buffer. -/
theorem whole_join (c : Dev nD) : (four fun p j => Release.slot (m.view.loc (c : Thread nD τ)) (halfSet W m c (p, j)) : sProp (𝕄 F))
    ⊢ iprop(∃ f, (m.view.loc (c : Thread nD τ)) ↦{fullShare} f) := by
  have h : (four fun p j => Release.slot (m.view.loc (c : Thread nD τ)) (halfSet W m c (p, j)) : sProp (𝕄 F))
      ⊢ iprop((∃ f₀ : Buf (Elt F) (m.view.loc (c : Thread nD τ)), ⌜True⌝) ∗ four fun p j => Release.slot (m.view.loc (c : Thread nD τ)) (halfSet W m c (p, j))) := by
    unfold four Release.slot
    iintro ⟨⟨⟨%f, H⟩, H1⟩, H2⟩
    isplitr
    · iexists f; ipureintro; trivial
    · isplitl [H H1]
      · isplitl [H]; · iexists f; iexact H
        iexact H1
      · iexact H2
  refine h.trans ?_
  rw [← bigSep_four (fun p j => (Release.slot (m.view.loc (c : Thread nD τ)) (halfSet W m c (p, j)) : sProp (𝕄 F)))]
  iintro ⟨⟨%f₀, -⟩, H⟩
  iapply (Ring.pointsTo_blocks_join_exists (halfSet W m c) (fun b b' h => View.disjoint_slice (rectW_disjoint W b b' h)) (halfSet_cover W m hm c) f₀)
  iexact H

end halves

/-- A ring's two buffers, whole. -/
def wholes (F : FTy → Type) [FloatOps F] (c : Dev nD) (g : Fin 3) : sProp (𝕄 F) :=
  iprop((∃ f, ((Rg g).recv.view.loc (c : Thread nD τ)) ↦{fullShare} f) ∗ (∃ f, ((Rg g).send.view.loc (c : Thread nD τ)) ↦{fullShare} f))

theorem recv_half (c : Dev nD) (g : Fin 3) (p j : Fin 2) :
    (Release.slot ((Rg g).recv.view.loc (c : Thread nD τ)) (halfSet (Rg g).W (Rg g).recv c (p, j)) : sProp (𝕄 F)) = recvAny c g p j :=
  congrArg (Release.slot ((Rg g).recv.view.loc (c : Thread nD τ))) (recv_set g p j)
theorem send_half (c : Dev nD) (g : Fin 3) (p j : Fin 2) :
    (Release.slot ((Rg g).send.view.loc (c : Thread nD τ)) (halfSet (Rg g).W (Rg g).send c (p, j)) : sProp (𝕄 F)) = sendAny c g p j :=
  congrArg (Release.slot ((Rg g).send.view.loc (c : Thread nD τ))) (send_set g p j)

theorem wholes_split (c : Dev nD) (g : Fin 3) : wholes F c g ⊢ bufs2 c g := by
  unfold wholes bufs2 parAny
  iintro ⟨Hr, Hs⟩
  ihave Hr := (whole_split (Rg g).W (Rg g).recv (Rg g).hrecv c) $$ Hr
  ihave Hs := (whole_split (Rg g).W (Rg g).send (Rg g).hsend c) $$ Hs
  simp only [four, recv_half, send_half]
  icases Hr with ⟨⟨Ha, Hb⟩, Hc, Hd⟩
  icases Hs with ⟨⟨Ga, Gb⟩, Gc, Gd⟩
  isplitl [Ha Hb Hc Hd]
  · isplitl [Ha Hb]
    · isplitl [Ha] <;> iassumption
    · isplitl [Hc] <;> iassumption
  isplitl [Ga]; · iexact Ga
  isplitl [Gb]; · iexact Gb
  isplitl [Gc] <;> iassumption

theorem wholes_join (c : Dev nD) (g : Fin 3) : bufs2 c g ⊢ wholes F c g := by
  unfold wholes bufs2 parAny
  iintro ⟨⟨Ha, Hb⟩, Ga, Gb, Gc, Gd⟩
  isplitl [Ha Hb]
  · iapply (whole_join (Rg g).W (Rg g).recv (Rg g).hrecv c)
    simp only [four, recv_half]
    isplitl [Ha] <;> iassumption
  · iapply (whole_join (Rg g).W (Rg g).send (Rg g).hsend c)
    simp only [four, send_half]
    isplitl [Ga Gb]
    · isplitl [Ga] <;> iassumption
    · isplitl [Gc] <;> iassumption

end Cert.KernelIdeal.Rings
-- ==== Proof.Pipe.lean ====
/- The kernel's one grid point: what its windows hold before and after, what else it is entered with and leaves. -/
module

public import proofs.«01_k».proof.Proof.Output
public import proofs.«01_k».proof.Proof.Buffers
public import proofs.«01_k».proof.Proof.Host
public import Idealize.ShloMosaic.Lib.Pipeline.TalkSched
public import Idealize.ShloMosaic.Lib.Pipeline.Value
public import Idealize.ShloMosaic.Lib.Pipeline.RegionTalk

@[expose] public section

set_option maxRecDepth 20000

noncomputable section

namespace Cert.KernelIdeal.Rings

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]
variable (m : (ℓ : Loc nD τ sig) → Buf (Elt F) ℓ)

/-! ## The arguments and the result -/

/-- Device `d`'s columns of the left factor. -/
def Xm (d : Dev nD) : S4096x128.Idx → Elt F .fp8e4m3 := m ((d : Thread nD τ).loc main_arg0)
/-- Device `d`'s rows of the right factor. -/
def Wm (d : Dev nD) : S128x8192.Idx → Elt F .fp8e4m3 := m ((d : Thread nD τ).loc main_arg1)
/-- The two scales. -/
def Sx (d : Dev nD) : S1.Idx → Elt F .f32 := m ((d : Thread nD τ).loc main_arg2)
def Sw (d : Dev nD) : S1.Idx → Elt F .f32 := m ((d : Thread nD τ).loc main_arg3)
/-- What device `c` leaves as its result. -/
def outC (c : Dev nD) : S128x8192.Idx → Elt F .f32 :=
  outAll (Xm m) (Wm m) (scOf (Sx m c) (Sw m c)) c (m ((c : Thread nD τ).loc main_v103))

/-- The contents after the kernel. -/
def outs : Gen.Outs (F := F) := fun _ r c => Function.update (Gen.V19 m c) (Proc.devRef .tc main_v103) (outC m c) (Proc.devRef .tc r)

theorem V20_v103 (c : Dev nD) : Gen.V20 m (outs m) c main_v103 = outC m c := by
  show Function.update (Gen.V19 m c) (Proc.devRef .tc main_v103) (outs m 20 main_v103 c) (Proc.devRef .tc main_v103) = _
  rw [Function.update_self]
  unfold outs
  rw [Function.update_self]

theorem V19_arg0 (c : Dev nD) : Gen.V19 m c main_arg0 = Xm m c := (Gen.V20_of m (outs m) c main_arg0 (by decide)).symm.trans (Gen.V20_main_arg0 m (outs m) c)
theorem V19_arg1 (c : Dev nD) : Gen.V19 m c main_arg1 = Wm m c := (Gen.V20_of m (outs m) c main_arg1 (by decide)).symm.trans (Gen.V20_main_arg1 m (outs m) c)
theorem V19_arg2 (c : Dev nD) : Gen.V19 m c main_arg2 = Sx m c := (Gen.V20_of m (outs m) c main_arg2 (by decide)).symm.trans (Gen.V20_main_arg2 m (outs m) c)
theorem V19_arg3 (c : Dev nD) : Gen.V19 m c main_arg3 = Sw m c := (Gen.V20_of m (outs m) c main_arg3 (by decide)).symm.trans (Gen.V20_main_arg3 m (outs m) c)

/-! ## The point -/

/-- What is held beside the windows before the body. -/
def entering (c : Dev nD) : sProp (𝕄 F) :=
  iprop((∃ κ ιs, Ctx (sV (Xm m) (Wm m)) κ ιs) ∗ (barRights F c ∗ (three fun g => nine g (atStart c)) ∗ three fun g => ringRights F c g))

/-- The point before the body. -/
def atEntry (c : Dev nD) : sProp (𝕄 F) := iprop(entering m c ∗ (three fun g => wholes F c g) ∗ ∃ r, prngReg c r)
/-- And after it. -/
def atExit (c : Dev nD) : sProp (𝕄 F) :=
  iprop(semVal (cell c .bar) 0 ∗ (three fun g => ringZero c g) ∗ (three fun g => wholes F c g) ∗ ∃ r, prngReg c r)

/-- The kernel's windows and what rides beside them. -/
def dat (c : Dev nD) : Pipeline.Dat τ (Elt F) ℕ ℕ UU ℕ cfg0 c where
  A w := Gen.V19 m c (Proc.devRef .tc (Pipeline.arrRef spec0 w))
  after w t := match w with
    | ⟨0, _⟩ => Xm m c
    | ⟨1, _⟩ => Wm m c
    | ⟨2, _⟩ => Sx m c
    | ⟨3, _⟩ => Sw m c
    | ⟨4, _⟩ => tabs F c 0
    | ⟨5, _⟩ => tabs F c 1
    | ⟨6, _⟩ => tabs F c 2
    | ⟨7, _⟩ => nbrs F c
    | ⟨8, _⟩ => outC m c
    | ⟨_ + 9, h⟩ => absurd h (Nat.not_lt.2 (Nat.le_add_left _ _))
  Φ t := if t.val = 0 then atEntry m c else atExit c
  q _ := fullShare
  owed t := if t.val = 0 then O₀ c else 0

theorem owed_first (c : Dev nD) : (dat m c).owed 0 = O₀ c := by
  show (if ((0 : Fin (cfg0.N + 1)).val = 0) then O₀ c else 0) = O₀ c; exact if_pos rfl
theorem owed_start (c : Dev nD) : (dat m c).owed Gen.t0_0.castSucc = O₀ c := by
  show (if (Gen.t0_0.castSucc : Fin (cfg0.N + 1)).val = 0 then O₀ c else 0) = O₀ c; exact if_pos rfl
theorem owed_last (c : Dev nD) : (dat m c).owed (Fin.last _) = 0 := by
  show (if (Fin.last cfg0.N).val = 0 then O₀ c else 0) = 0
  rw [Fin.val_last, if_neg (by rw [show cfg0.N = 1 from Gen.N_0]; decide)]
theorem owed_end (c : Dev nD) : (dat m c).owed Gen.t0_0.succ = 0 := by
  show (if (Gen.t0_0.succ : Fin (cfg0.N + 1)).val = 0 then O₀ c else 0) = 0
  exact if_neg (by decide)

theorem V19_tab0 (c : Dev nD) : Gen.V19 m c main_v21 = tabs F c 0 := by unfold tabs; exact V19_v21 m c
theorem V19_tab1 (c : Dev nD) : Gen.V19 m c main_v51 = tabs F c 1 := by unfold tabs; exact V19_v51 m c
theorem V19_tab2 (c : Dev nD) : Gen.V19 m c main_v81 = tabs F c 2 := by unfold tabs; exact V19_v81 m c

/-! Each input window is the whole of its array, so it holds what the host left there. -/

theorem A_eq (c : Dev nD) (w) : (dat m c).A w = Gen.V19 m c (Proc.devRef .tc (Pipeline.arrRef spec0 w)) := by exact rfl

theorem found0 (c : Dev nD) (D : Pipeline.Dat τ (Elt F) ℕ ℕ UU ℕ cfg0 c) (d) : D.before 0 Gen.t0_0 d = D.A 0 := by
  unfold Pipeline.Dat.before
  rw [if_pos (Gen.fetch0_0 Gen.t0_0)]
  refine funext fun x => ?_
  exact congrArg (D.A 0) (funext fun a => Fin.ext (win0_0.rect_emb_val_of_index_zero Gen.t0_0 a rfl x))
theorem found1 (c : Dev nD) (D : Pipeline.Dat τ (Elt F) ℕ ℕ UU ℕ cfg0 c) (d) : D.before 1 Gen.t0_0 d = D.A 1 := by
  unfold Pipeline.Dat.before
  rw [if_pos (Gen.fetch0_1 Gen.t0_0)]
  refine funext fun x => ?_
  exact congrArg (D.A 1) (funext fun a => Fin.ext (win0_1.rect_emb_val_of_index_zero Gen.t0_0 a rfl x))
theorem found2 (c : Dev nD) (D : Pipeline.Dat τ (Elt F) ℕ ℕ UU ℕ cfg0 c) (d) : D.before 2 Gen.t0_0 d = D.A 2 := by
  unfold Pipeline.Dat.before
  rw [if_pos (Gen.fetch0_2 Gen.t0_0)]
  refine funext fun x => ?_
  exact congrArg (D.A 2) (funext fun a => Fin.ext (win0_2.rect_emb_val_of_index_zero Gen.t0_0 a rfl x))
theorem found3 (c : Dev nD) (D : Pipeline.Dat τ (Elt F) ℕ ℕ UU ℕ cfg0 c) (d) : D.before 3 Gen.t0_0 d = D.A 3 := by
  unfold Pipeline.Dat.before
  rw [if_pos (Gen.fetch0_3 Gen.t0_0)]
  refine funext fun x => ?_
  exact congrArg (D.A 3) (funext fun a => Fin.ext (win0_3.rect_emb_val_of_index_zero Gen.t0_0 a rfl x))
theorem found4 (c : Dev nD) (D : Pipeline.Dat τ (Elt F) ℕ ℕ UU ℕ cfg0 c) (d) : D.before 4 Gen.t0_0 d = D.A 4 := by
  unfold Pipeline.Dat.before
  rw [if_pos (Gen.fetch0_4 Gen.t0_0)]
  refine funext fun x => ?_
  exact congrArg (D.A 4) (funext fun a => Fin.ext (win0_4.rect_emb_val_of_index_zero Gen.t0_0 a rfl x))
theorem found5 (c : Dev nD) (D : Pipeline.Dat τ (Elt F) ℕ ℕ UU ℕ cfg0 c) (d) : D.before 5 Gen.t0_0 d = D.A 5 := by
  unfold Pipeline.Dat.before
  rw [if_pos (Gen.fetch0_5 Gen.t0_0)]
  refine funext fun x => ?_
  exact congrArg (D.A 5) (funext fun a => Fin.ext (win0_5.rect_emb_val_of_index_zero Gen.t0_0 a rfl x))
theorem found6 (c : Dev nD) (D : Pipeline.Dat τ (Elt F) ℕ ℕ UU ℕ cfg0 c) (d) : D.before 6 Gen.t0_0 d = D.A 6 := by
  unfold Pipeline.Dat.before
  rw [if_pos (Gen.fetch0_6 Gen.t0_0)]
  refine funext fun x => ?_
  exact congrArg (D.A 6) (funext fun a => Fin.ext (win0_6.rect_emb_val_of_index_zero Gen.t0_0 a rfl x))
theorem found7 (c : Dev nD) (D : Pipeline.Dat τ (Elt F) ℕ ℕ UU ℕ cfg0 c) (d) : D.before 7 Gen.t0_0 d = D.A 7 := by
  unfold Pipeline.Dat.before
  rw [if_pos (Gen.fetch0_7 Gen.t0_0)]
  refine funext fun x => ?_
  exact congrArg (D.A 7) (funext fun a => Fin.ext (win0_7.rect_emb_val_of_index_zero Gen.t0_0 a rfl x))
theorem arr0 (c : Dev nD) : (dat m c).A 0 = Gen.V19 m c main_arg0 := by exact A_eq m c 0
theorem arr1 (c : Dev nD) : (dat m c).A 1 = Gen.V19 m c main_arg1 := by exact A_eq m c 1
theorem arr2 (c : Dev nD) : (dat m c).A 2 = Gen.V19 m c main_arg2 := by exact A_eq m c 2
theorem arr3 (c : Dev nD) : (dat m c).A 3 = Gen.V19 m c main_arg3 := by exact A_eq m c 3
theorem arr4 (c : Dev nD) : (dat m c).A 4 = Gen.V19 m c main_v21 := by exact A_eq m c 4
theorem arr5 (c : Dev nD) : (dat m c).A 5 = Gen.V19 m c main_v51 := by exact A_eq m c 5
theorem arr6 (c : Dev nD) : (dat m c).A 6 = Gen.V19 m c main_v81 := by exact A_eq m c 6
theorem arr7 (c : Dev nD) : (dat m c).A 7 = Gen.V19 m c main_v102 := by exact A_eq m c 7
theorem before0 (c : Dev nD) (d) : (dat m c).before 0 Gen.t0_0 d = Xm m c := by
  rw [found0 c (dat m c) d, arr0 m c]; exact V19_arg0 m c
theorem before1 (c : Dev nD) (d) : (dat m c).before 1 Gen.t0_0 d = Wm m c := by
  rw [found1 c (dat m c) d, arr1 m c]; exact V19_arg1 m c
theorem before2 (c : Dev nD) (d) : (dat m c).before 2 Gen.t0_0 d = Sx m c := by
  rw [found2 c (dat m c) d, arr2 m c]; exact V19_arg2 m c
theorem before3 (c : Dev nD) (d) : (dat m c).before 3 Gen.t0_0 d = Sw m c := by
  rw [found3 c (dat m c) d, arr3 m c]; exact V19_arg3 m c
theorem before4 (c : Dev nD) (d) : (dat m c).before 4 Gen.t0_0 d = tabs F c 0 := by
  rw [found4 c (dat m c) d, arr4 m c]; exact V19_tab0 m c
theorem before5 (c : Dev nD) (d) : (dat m c).before 5 Gen.t0_0 d = tabs F c 1 := by
  rw [found5 c (dat m c) d, arr5 m c]; exact V19_tab1 m c
theorem before6 (c : Dev nD) (d) : (dat m c).before 6 Gen.t0_0 d = tabs F c 2 := by
  rw [found6 c (dat m c) d, arr6 m c]; exact V19_tab2 m c
theorem before7 (c : Dev nD) (d) : (dat m c).before 7 Gen.t0_0 d = nbrs F c := by
  rw [found7 c (dat m c) d, arr7 m c]; exact V19_v102 m c

end Cert.KernelIdeal.Rings
-- ==== Proof.Point.lean ====
/- The kernel's body run at its one grid point. -/
module

public import proofs.«01_k».proof.Proof.Pipe
public import Idealize.ShloMosaic.Lib.Pipeline.TalkSched
public import Idealize.ShloMosaic.Lib.Pipeline.Value
public import Idealize.ShloMosaic.Lib.Pipeline.RegionTalk

@[expose] public section

set_option maxRecDepth 20000

noncomputable section

namespace Cert.KernelIdeal.Rings

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]
variable (m : (ℓ : Loc nD τ sig) → Buf (Elt F) ℓ)

theorem three_bufs (c : Dev nD) (Φ Ψ : Fin 3 → sProp (𝕄 F)) (h : ∀ g, Φ g ⊢ Ψ g) : three Φ ⊢ three Ψ := by
  unfold three
  exact BI.sep_mono (h 0) (BI.sep_mono (h 1) (h 2))

/-- What the windows hold when the body is done. -/
def winsAfter (c : Dev nD) (Y : S128x8192.Idx → Elt F .f32) : sProp (𝕄 F) :=
  iprop(own c (win0_0.stage (cfg0.slots Gen.t0_0 0)) (Xm m c) ∗ own c (win0_1.stage (cfg0.slots Gen.t0_0 1)) (Wm m c) ∗ own c (win0_2.stage (cfg0.slots Gen.t0_0 2)) (Sx m c) ∗ own c (win0_3.stage (cfg0.slots Gen.t0_0 3)) (Sw m c) ∗ own c (win0_4.stage (cfg0.slots Gen.t0_0 4)) (tabs F c 0) ∗ own c (win0_5.stage (cfg0.slots Gen.t0_0 5)) (tabs F c 1) ∗ own c (win0_6.stage (cfg0.slots Gen.t0_0 6)) (tabs F c 2) ∗ own c (win0_7.stage (cfg0.slots Gen.t0_0 7)) (nbrs F c) ∗ own c (win0_8.stage (cfg0.slots Gen.t0_0 8)) Y)

theorem point_run [Facts] (c : Dev nD) (Y : S128x8192.Idx → Elt F .f32) (Kt : PUnit → sProp (𝕄 F)) :
    iprop((atEntry m c ∗ owe c (O₀ c) ∗ winsAfter m c Y) ∗ ((atExit c ∗ owe c 0 ∗ winsAfter m c (outC m c)) -∗ Kt ⟨⟩))
      ⊢ WP c (Gen.bodyAt0 Gen.t0_0) Kt := by
  rw [show Gen.bodyAt0 (F := F) Gen.t0_0 = body (Rg 0) (Rg 1) (Rg 2) (win0_0.stage (cfg0.slots Gen.t0_0 0)) (win0_1.stage (cfg0.slots Gen.t0_0 1)) (win0_2.stage (cfg0.slots Gen.t0_0 2)) (win0_3.stage (cfg0.slots Gen.t0_0 3)) (win0_7.stage (cfg0.slots Gen.t0_0 7)) (win0_8.stage (cfg0.slots Gen.t0_0 8)) from body_eq ..]
  unfold atEntry entering atExit winsAfter
  iintro ⟨⟨⟨⟨⟨%κ, %ιs, #HC⟩, HB, Hat, Hri⟩, Hbuf, Hreg⟩, HO', H0, H1, H2, H3, H4, H5, H6, H7, H8⟩, Hk⟩
  ihave Hbuf := (three_bufs c _ _ fun g => wholes_split c g) $$ Hbuf
  iapply (wp_body κ ιs (Xm m) (Wm m) c _ _ _ _ _ _ (tabs F c) (tabs_names c) (nbrs F c) (nbrs_names c) (Sx m c) (Sw m c) Y Kt)
  isplitr [Hreg Hk]
  · isplitr; · iexact HC
    isplitl [HO']; · iexact HO'
    isplitl [HB Hat Hri Hbuf]
    · unfold begins
      isplitl [HB]; · iexact HB
      isplitl [Hat]; · iexact Hat
      isplitl [Hri] <;> iassumption
    isplitl [H0 H1 H4 H5 H6]
    · unfold reads
      isplitl [H4 H5 H6]
      · isplitl [H4]; · iexact H4
        isplitl [H5]; · iexact H5
        iexact H6
      isplitl [H0] <;> iassumption
    isplitl [H2 H3]; · isplitl [H2] <;> iassumption
    isplitl [H7] <;> iassumption
  unfold reads finishes
  iintro ⟨HO, ⟨Hb0, Hz, Hbuf⟩, ⟨⟨H4, H5, H6⟩, H0, H1⟩, ⟨H2, H3⟩, H7, H8⟩
  ihave Hbuf := (three_bufs c _ _ fun g => wholes_join c g) $$ Hbuf
  iapply Hk
  isplitl [Hb0 Hz Hbuf Hreg]
  · isplitl [Hb0]; · iexact Hb0
    isplitl [Hz]; · iexact Hz
    isplitl [Hbuf] <;> iassumption
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold outC
  iapply (Entails.of_eq (congrArg (own c _) (outAll_any (Xm m) (Wm m) (scOf (Sx m c) (Sw m c)) c _ _)))
  iexact H8

theorem inv_start (c : Dev nD) : (dat m c).Φ Gen.t0_0.castSucc = atEntry m c := by
  show (if (Gen.t0_0.castSucc : Fin (cfg0.N + 1)).val = 0 then atEntry m c else atExit c) = _
  exact if_pos rfl
theorem inv_end (c : Dev nD) : (dat m c).Φ Gen.t0_0.succ = atExit c := by
  show (if (Gen.t0_0.succ : Fin (cfg0.N + 1)).val = 0 then atEntry m c else atExit c) = _
  exact if_neg (by decide)
theorem after0 (c : Dev nD) : (dat m c).after 0 Gen.t0_0 = Xm m c := by dsimp only [dat]
theorem after1 (c : Dev nD) : (dat m c).after 1 Gen.t0_0 = Wm m c := by dsimp only [dat]
theorem after2 (c : Dev nD) : (dat m c).after 2 Gen.t0_0 = Sx m c := by dsimp only [dat]
theorem after3 (c : Dev nD) : (dat m c).after 3 Gen.t0_0 = Sw m c := by dsimp only [dat]
theorem after4 (c : Dev nD) : (dat m c).after 4 Gen.t0_0 = tabs F c 0 := by dsimp only [dat]
theorem after5 (c : Dev nD) : (dat m c).after 5 Gen.t0_0 = tabs F c 1 := by dsimp only [dat]
theorem after6 (c : Dev nD) : (dat m c).after 6 Gen.t0_0 = tabs F c 2 := by dsimp only [dat]
theorem after7 (c : Dev nD) : (dat m c).after 7 Gen.t0_0 = nbrs F c := by dsimp only [dat]
theorem after8 (c : Dev nD) : (dat m c).after 8 Gen.t0_0 = outC m c := by dsimp only [dat]

/-- What the point is entered with: the entry invariant, what the device owes, each window's buffer at what the loop brought in. -/
def pointPre (c : Dev nD) : sProp (𝕄 F) :=
  iprop((dat m c).Φ Gen.t0_0.castSucc ∗ (dat m c).owesAt 0 Gen.t0_0.castSucc
    ∗ (∃ d, own c ((cfg0.win 0).stage (cfg0.slots Gen.t0_0 0)) ((dat m c).before 0 Gen.t0_0 d))
    ∗ (∃ d, own c ((cfg0.win 1).stage (cfg0.slots Gen.t0_0 1)) ((dat m c).before 1 Gen.t0_0 d))
    ∗ (∃ d, own c ((cfg0.win 2).stage (cfg0.slots Gen.t0_0 2)) ((dat m c).before 2 Gen.t0_0 d))
    ∗ (∃ d, own c ((cfg0.win 3).stage (cfg0.slots Gen.t0_0 3)) ((dat m c).before 3 Gen.t0_0 d))
    ∗ (∃ d, own c ((cfg0.win 4).stage (cfg0.slots Gen.t0_0 4)) ((dat m c).before 4 Gen.t0_0 d))
    ∗ (∃ d, own c ((cfg0.win 5).stage (cfg0.slots Gen.t0_0 5)) ((dat m c).before 5 Gen.t0_0 d))
    ∗ (∃ d, own c ((cfg0.win 6).stage (cfg0.slots Gen.t0_0 6)) ((dat m c).before 6 Gen.t0_0 d))
    ∗ (∃ d, own c ((cfg0.win 7).stage (cfg0.slots Gen.t0_0 7)) ((dat m c).before 7 Gen.t0_0 d))
    ∗ (∃ d, own c ((cfg0.win 8).stage (cfg0.slots Gen.t0_0 8)) ((dat m c).before 8 Gen.t0_0 d)))

/-- What the point leaves: the exit invariant, nothing owed, each window's buffer at what the body leaves there. -/
def pointPost (c : Dev nD) : sProp (𝕄 F) :=
  iprop((dat m c).Φ Gen.t0_0.succ ∗ (dat m c).owesAt 0 Gen.t0_0.succ
    ∗ own c ((cfg0.win 0).stage (cfg0.slots Gen.t0_0 0)) ((dat m c).after 0 Gen.t0_0)
    ∗ own c ((cfg0.win 1).stage (cfg0.slots Gen.t0_0 1)) ((dat m c).after 1 Gen.t0_0)
    ∗ own c ((cfg0.win 2).stage (cfg0.slots Gen.t0_0 2)) ((dat m c).after 2 Gen.t0_0)
    ∗ own c ((cfg0.win 3).stage (cfg0.slots Gen.t0_0 3)) ((dat m c).after 3 Gen.t0_0)
    ∗ own c ((cfg0.win 4).stage (cfg0.slots Gen.t0_0 4)) ((dat m c).after 4 Gen.t0_0)
    ∗ own c ((cfg0.win 5).stage (cfg0.slots Gen.t0_0 5)) ((dat m c).after 5 Gen.t0_0)
    ∗ own c ((cfg0.win 6).stage (cfg0.slots Gen.t0_0 6)) ((dat m c).after 6 Gen.t0_0)
    ∗ own c ((cfg0.win 7).stage (cfg0.slots Gen.t0_0 7)) ((dat m c).after 7 Gen.t0_0)
    ∗ own c ((cfg0.win 8).stage (cfg0.slots Gen.t0_0 8)) ((dat m c).after 8 Gen.t0_0))

/-- The body, entered at the point's windows and holdings, leaves what the point's end says. -/
theorem point_triple [Facts] (c : Dev nD) : pointPre m c ⊢ WP c (Gen.bodyAt0 Gen.t0_0) (fun _ => pointPost m c) := by
  unfold pointPre pointPost
  rw [inv_start m c, inv_end m c, after0, after1, after2, after3, after4, after5, after6, after7, after8]
  simp only [before0, before1, before2, before3, before4, before5, before6, before7]
  iintro ⟨HE, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HO' := (TalkSites.owesAt_elim (dat m c) 0 _ (O₀ c) (owed_start m c)) $$ HO
  iapply (point_run m c ((dat m c).before 8 Gen.t0_0 d8) _)
  isplitl
  · isplitl [HE]; · iexact HE
    isplitl [HO']; · unfold owe; iexact HO'
    unfold winsAfter
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro ⟨HE, HO, HW⟩
  isplitl [HE]; · iexact HE
  isplitl [HO]
  · unfold owe
    icases HO with ⟨%W', HO⟩
    iapply (TalkSites.owesAt_intro (dat m c) 0 Gen.t0_0.succ 0 (owed_end m c) rfl W'); iexact HO
  unfold winsAfter; iexact HW

/-- The table's row at the point is the body. -/
theorem row_eq : defs₀ (F := F) .tc cfg0.body (cfg0.bodyArgs Gen.t0_0 (cfg0.slots Gen.t0_0)) = Gen.bodyAt0 Gen.t0_0 := by
  unfold defs₀; rw [Defs.onTc_tc]

/-- The point's run, in the form the loop asks for. -/
theorem body_point [Facts] (c : Dev nD) : Pipeline.BodyObligation (dat m c) defs₀ 𝒱₀ 0 Set.univ := fun t => by
  obtain rfl := Gen.fin_N0 t
  rw [Gen.bigSep_W0, Gen.bigSep_W0, row_eq]
  refine triple_restated (point_triple m c) rfl ?_ fun _ => ?_
  · exact .rfl
  · exact .rfl

end Cert.KernelIdeal.Rings
-- ==== Proof.Region.lean ====
/- The kernel's call as a segment of the program: what it is entered with, what it leaves. -/
module

public import proofs.«01_k».proof.Proof.Point
public import proofs.«01_k».proof.Proof.Gen.KernelIdeal.Regions
public import Idealize.ShloMosaic.Lib.Pipeline.TalkSched
public import Idealize.ShloMosaic.Lib.Pipeline.Value
public import Idealize.ShloMosaic.Lib.Pipeline.RegionTalk

@[expose] public section

set_option maxRecDepth 20000

noncomputable section

namespace Cert.KernelIdeal.Rings

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]
variable (m : (ℓ : Loc nD τ sig) → Buf (Elt F) ℓ)

/-! ## The kernel's own semaphores and buffers -/

/-- The kernel's own semaphores, ring by ring. -/
def osem (x : Fin 3 × Fin 9) : SemLoc sig := (kd x.1 x.2).sem

theorem osem_facts : Pipeline.OwnSemFacts spec0 osem := by decide +kernel

theorem fin3_eq (Φ : Fin 3 → sProp (𝕄 F)) : bigSep Finset.univ Φ = three Φ :=
  bigSep_univ_eq_bigSepL [(0 : Fin 3), 1, 2] (by decide) (by decide) Φ

/-- Something for each of the kernel's own semaphores, ring by ring. -/
theorem osem_split (Ψ : Kind → sProp (𝕄 F)) :
    (bigSep Finset.univ fun x : Fin 3 × Fin 9 => Ψ (kd x.1 x.2)) = three fun g => nine g Ψ := by
  rw [bigSep_univ_prod, ← fin3_eq]
  exact bigSep_congr fun g _ => nine_eq g Ψ

theorem ownSems0_split (c : Dev nD) : (Pipeline.ownSems0 osem c : sProp (𝕄 F)) = three fun g => ringZero c g := by
  unfold ringZero
  rw [← osem_split]
  rfl

theorem scopedRest_split (c : Dev nD) :
    (Pipeline.scopedRest spec0 c : sProp (𝕄 F)) ⊢ three fun g => wholes F c g := by
  rw [Gen.scopedRest0_eq]
  unfold three wholes
  iintro ⟨H0, H1, H2, H3, H4, H5⟩
  isplitl [H0 H1]; · isplitl [H0]; · iexact H0
                     iexact H1
  isplitl [H2 H3]; · isplitl [H2]; · iexact H2
                     iexact H3
  isplitl [H4]; · iexact H4
  iexact H5

theorem scopedRest_join (c : Dev nD) :
    (three fun g => wholes F c g) ⊢ (Pipeline.scopedRest spec0 c : sProp (𝕄 F)) := by
  rw [Gen.scopedRest0_eq]
  unfold three wholes
  iintro ⟨⟨H0, H1⟩, ⟨H2, H3⟩, H4, H5⟩
  isplitl [H0]; · iexact H0
  isplitl [H1]; · iexact H1
  isplitl [H2]; · iexact H2
  isplitl [H3]; · iexact H3
  isplitl [H4]; · iexact H4
  iexact H5

/-! ## What rides into the call -/

/-- What the launch keeps for the call: the records, the barrier's rights, the right to open each own semaphore, the rings' rights. -/
def keeps (c : Dev nD) : sProp (𝕄 F) :=
  iprop((∃ κ ιs, Ctx (sV (Xm m) (Wm m)) κ ιs) ∗ (barRights F c ∗ (three fun g => nine g fun k => openTok ER (cell c k)) ∗ three fun g => ringRights F c g))

/-- One own semaphore opened. -/
theorem open_one (κ : GSem nD τ sig → ℕ) (ιs : Key → ℕ) (c : Dev nD) (k : Kind) :
    iprop(Ctx (sV (Xm m) (Wm m)) κ ιs ∗ (openTok ER (cell c k) ∗ semVal (cell c k) 0)) ⊢ (|={Set.univ}=> atStart c k : sProp (𝕄 F)) := by
  unfold atStart
  iintro ⟨#HC, Ho, Hv⟩
  iapply (Rounds.cell_open ER (Rd (sV (Xm m) (Wm m))) (g := cell c k) (Set.mem_univ (κ (cell c k))))
  isplitr; · iapply (Ctx_inv (sV (Xm m) (Wm m)) κ ιs c k); iexact HC
  isplitl [Ho] <;> iassumption

/-- All own semaphores opened. -/
theorem open_all (κ : GSem nD τ sig → ℕ) (ιs : Key → ℕ) (c : Dev nD) :
    iprop(Ctx (sV (Xm m) (Wm m)) κ ιs ∗ ((three fun g => nine g fun k => openTok ER (cell c k)) ∗ three fun g => ringZero c g))
      ⊢ (|={Set.univ}=> (three fun g => nine g (atStart c)) : sProp (𝕄 F)) := by
  unfold ringZero
  rw [← osem_split, ← osem_split, ← osem_split, ← bigSep_sep']
  refine BI.Entails.trans ?_ (bigSep_fupd _ _)
  exact bigSep_with_persistent fun x _ => open_one m κ ιs c (kd x.1 x.2)

theorem opening (c : Dev nD) : iprop(keeps m c ∗ Pipeline.ownSems0 osem c ∗ levAts L lv) ⊢ (|={Set.univ}=> entering m c : sProp (𝕄 F)) := by
  rw [ownSems0_split]
  unfold keeps entering
  iintro ⟨⟨⟨%κ, %ιs, #HC⟩, HB, Ho, Hr⟩, Hz, -⟩
  imod (open_all m κ ιs c) $$ [Ho Hz] with Ha
  · isplitr; · iexact HC
    isplitl [Ho] <;> iassumption
  imodintro
  isplitr; · iexists κ; iexists ιs; iexact HC
  isplitl [HB]; · iexact HB
  isplitl [Ha] <;> iassumption

theorem entering_phi (c : Dev nD) :
    iprop(Pipeline.scopedRest spec0 c ∗ (∃ r, prngReg c r) ∗ StableHlo.held (c.tc : Thread nD τ) ∅ (Gen.V19 m c) ∗ entering m c) ⊢ (dat m c).Φ 0 := by
  rw [show (dat m c).Φ 0 = atEntry m c from inv_start m c]
  unfold atEntry
  iintro ⟨Hs, Hp, -, HX⟩
  isplitl [HX]; · iexact HX
  isplitl [Hs]; · iapply (scopedRest_split c); iexact Hs
  iexact Hp

theorem phi_leaving (c : Dev nD) :
    (dat m c).Φ Gen.t0_0.succ ⊢ iprop(Pipeline.scopedRest spec0 c ∗ (∃ r, prngReg c r) ∗ StableHlo.held (c.tc : Thread nD τ) ∅ (Gen.V20 m (outs m) c)
      ∗ Pipeline.ownSems0 osem c ∗ semVal (cell c .bar) 0) := by
  rw [inv_end m c, ownSems0_split]
  unfold atExit StableHlo.held
  rw [BI.bigSep_empty]
  iintro ⟨Hb, Hz, Hw, Hp⟩
  isplitl [Hw]; · iapply (scopedRest_join c); iexact Hw
  isplitl [Hp]; · iexact Hp
  isplitr; · iempintro
  isplitl [Hz] <;> iassumption

/-! ## The arrays after the call -/

theorem V20_in (c : Dev nD) (w : Fin 9) (h : w ≠ 8) :
    Gen.V20 m (outs m) c (Proc.devRef .tc (Pipeline.arrRef spec0 w)) = Gen.V19 m c (Proc.devRef .tc (Pipeline.arrRef spec0 w)) := by
  revert h; revert w
  intro w h
  exact Gen.V20_of m (outs m) c _ (by revert h; revert w; decide)

theorem flushed8 (c : Dev nD) (t : Fin cfg0.N) : (dat m c).flushed 8 t = ((cfg0.win 8).blk t).view.read (Elt F) (outC m c) := by
  obtain rfl := Gen.fin_N0 t
  funext x
  exact congrArg (outC m c) (funext fun a => Fin.ext (win0_8.rect_emb_val_of_index_zero Gen.t0_0 a rfl x).symm)

theorem left8 (c : Dev nD) : (dat m c).arrAt 8 cfg0.N = outC m c :=
  Pipeline.Dat.arrAt_eq_of_cover (dat m c) 8 (outC m c) (fun t _ => flushed8 m c t)
    fun i => ⟨Gen.t0_0, Gen.flush0_8 _, Finset.mem_map.mpr ⟨i, Finset.mem_univ _,
      funext fun a => Fin.ext (win0_8.rect_emb_val_of_index_zero Gen.t0_0 a rfl i)⟩⟩

theorem arr_before (c : Dev nD) (w : Fin 9) : (dat m c).arrAt w 0 = Gen.V19 m c (Proc.devRef .tc (Pipeline.arrRef spec0 w)) := by exact rfl

theorem arr_after (c : Dev nD) (w : Fin 9) : (dat m c).arrAt w cfg0.N = Gen.V20 m (outs m) c (Proc.devRef .tc (Pipeline.arrRef spec0 w)) := by
  by_cases h : w = 8
  · subst h
    exact (left8 m c).trans (V20_v103 m c).symm
  · rw [V20_in m c w h, ← A_eq m c w]
    exact (dat m c).arrAt_in w (by revert h; revert w; decide) _

/-! ## The segment -/

/-- The one call's data. -/
abbrev pdats : (p : Fin 1) → (c : Dev nD) → Pipeline.Dat τ (Elt F) ℕ ℕ UU ℕ (cfgs p) c := fun p c => match p with | 0 => dat m c

/-- Whatever is owed is owed at a known label and above the staging transfers. -/
def Pos (O : CellTallies nD τ sig ℕ) : Prop := ∀ g i, 0 < O g i → i ∈ L g ∧ 0 < lv g i

theorem Pos.add {O O' : CellTallies nD τ sig ℕ} (h : Pos O) (h' : Pos O') : Pos (O + O') := fun g i hi => by
  rw [Pi.add_apply, Finsupp.add_apply] at hi
  rcases Nat.eq_zero_or_pos (O g i) with h0 | h0
  · exact h' g i (by omega)
  · exact h g i h0

theorem Pos.bar (d : Dev nD) : Pos (tallyAt (cell d .bar) 0 1) := fun g i hi => by
  obtain ⟨rfl, rfl⟩ := Pipeline.tallyAt_pos hi
  refine ⟨by rw [L_tc]; decide, ?_⟩
  show 0 < lvOf (kindOf Kind.bar.sem) 0
  rw [kindOf_sem]; decide

theorem Pos.all (c : Dev nD) : Pos (O₀ c) := by
  unfold O₀ oweBar
  refine Pos.add (fun g i hi => ?_) ((((((Pos.bar _).add (.bar _)).add (.bar _)).add (.bar _)).add (.bar _)).add (.bar _))
  have := Above.oweFrom c 31 0 (by omega) (by omega) g i hi
  exact ⟨this.1, by omega⟩

theorem Pos.dat (c : Dev nD) (t : Fin (cfg0.N + 1)) : Pos ((dat m c).owed t) := by
  show Pos (if t.val = 0 then O₀ c else 0)
  split
  · exact Pos.all c
  · exact fun g i hi => absurd hi (Nat.lt_irrefl 0)

theorem staging_kind : ∀ (w : Fin 9) (s : Fin (spec0 w).nbuf), kindOf (.dma ((spec0 w).sem s)) = none := by decide +kernel

/-- The buffers the call leaves alone. -/
abbrev others : Finset (DevRef τ sig) := Pipeline.ucRefs τ sig \ Pipeline.arrRefs spec0

theorem others_same (c : Dev nD) : ∀ b ∈ others \ ∅, Gen.V20 m (outs m) c b = Gen.V19 m c b := fun b hb => by
  rw [Finset.sdiff_empty] at hb
  refine Function.update_of_ne (fun h => ?_) _ _
  subst h
  exact (Finset.mem_sdiff.mp hb).2 (by decide)

theorem levels_cut : Pipeline.LevelCutOwed (pcfgs (F := F)) Gen.adm (pdats m) 0 L lv 0 (fun _ => 0) :=
  ⟨fun c w s => by rw [L_tc]; decide,
    fun c w s => by
      show lvOf (kindOf (.dma ((spec0 w).sem s))) 0 ≤ 0
      rw [staging_kind w s]; exact le_rfl,
    fun c t g i h => Pos.dat m c t g i h⟩

set_option backward.isDefEq.respectTransparency.types false in
/-- The call as a segment. -/
def call [Facts] : Pipeline.RegionSeg (pcfgs (F := F)) Gen.adm (pdats m) 0 defs₀ 𝒱₀ L lv 0 :=
  Pipeline.RegionSeg.ofTalk (pcfgs (F := F)) Gen.adm (pdats m) 0 defs₀ 𝒱₀ L lv 0 osem osem_facts
    ∅ others (Finset.empty_subset _) Gen.launch0.toP rfl (fun c => (body_point m c).loose)
    (fun _ => 0) O₀ (fun c => (owed_first m c).trans (zero_add _).symm) (owed_last m) (fun _ => rfl) (fun c w => (dat m c).share_full (fun _ => rfl) w)
    (Gen.V19 m) (Gen.V20 m (outs m)) (others_same m)
    (keeps m) (fun c => semVal (cell c .bar) 0) (entering m) (fun c => semVal (cell c .bar) 0) (opening m) (entering_phi m) (phi_leaving m)
    (fun c => by iintro H; imodintro; iexact H)
    (fun _ => 0) (levels_cut m) (fun _ => iprop(emp)) (arr_before m) (arr_after m)

end Cert.KernelIdeal.Rings
-- ==== Proof.Owed.lean ====
/- What the devices owe one another at launch, counted by the device it is owed to: each device's credit. -/
module

public import proofs.«01_k».proof.Proof.Region

@[expose] public section

set_option maxRecDepth 20000

noncomputable section

namespace Cert.KernelIdeal.Rings

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Finset (sum_comm sum_congr sum_add_distrib)

variable {F : FTy → Type} [FloatOps F]

/-- A device's tallies. -/
local notation "TT" => CellTallies nD τ sig ℕ

/-- The arrival of half `j` of hop `h` on a device's ring. -/
def arrival (g : Fin 3) (j : Fin 2) (h : ℕ) (c : Dev nD) : TT := tallyAt (cell c (.recv g (par h) j)) h (N g)
/-- The `i`-th credit a device hears of on a ring. -/
def heard (g : Fin 3) (i : ℕ) (c : Dev nD) : TT := tallyAt (cell c (.cred g)) i 1
/-- The credit that hop `h` pays, if it pays one. -/
def paid (g : Fin 3) (h : ℕ) (c : Dev nD) : TT := if 1 ≤ h ∧ h ≤ 29 then heard g (h - 1) c else 0
/-- All that hop `h` pays on a ring. -/
def hopPays (c : Dev nD) (h : ℕ) (g : Fin 3) : TT := arrival g 0 h (su g c) + arrival g 1 h (su g c) + paid g h (pr g c)

theorem hopDue_eq (c : Dev nD) (h : ℕ) (O : TT) : hopDue c h O = O + ∑ g, hopPays c h g := by
  rw [Fin.sum_univ_three]
  unfold hopDue due hopPays arrival paid heard
  have h1 (P : Prop) [Decidable P] (x : TT) : (if 1 ≤ h ∧ h ≤ 29 ∧ (0 : Fin 2) = 1 then x else 0) = 0 := if_neg (by rintro ⟨-, -, h⟩; exact absurd h (by decide))
  have h0 (x : TT) : (if 1 ≤ h ∧ h ≤ 29 ∧ (0 : Fin 2) = 1 then x else 0) = 0 := if_neg (by rintro ⟨-, -, h⟩; exact absurd h (by decide))
  have h2 (x : TT) : (if 1 ≤ h ∧ h ≤ 29 ∧ (1 : Fin 2) = 1 then x else 0) = if 1 ≤ h ∧ h ≤ 29 then x else 0 := by simp
  rw [h0, h0, h0, h2, h2, h2]
  abel

theorem oweFrom_eq (c : Dev nD) : ∀ n, oweFrom c n = ∑ i ∈ Finset.range n, ∑ g, hopPays c (31 - 1 - i) g
  | 0 => (Finset.sum_range_zero _).symm
  | n + 1 => by rw [Finset.sum_range_succ, ← oweFrom_eq c n]; exact hopDue_eq c (30 - n) _

/-- Everything owed along the rings, hop by hop. -/
theorem oweFrom_all (c : Dev nD) : oweFrom c 31 = ∑ h ∈ Finset.range 31, ∑ g, hopPays c h g := by
  rw [oweFrom_eq]
  refine Finset.sum_nbij' (fun i => 31 - 1 - i) (fun i => 31 - 1 - i) ?_ ?_ ?_ ?_ fun _ _ => rfl <;> intro i hi <;>
    simp only [Finset.mem_range] at hi ⊢ <;> omega

/-- What the others owe a device along one ring. -/
def ringDue (g : Fin 3) (c : Dev nD) : TT :=
  (∑ h ∈ Finset.Ico 0 31, arrival g 0 h c) + (∑ h ∈ Finset.Ico 0 31, arrival g 1 h c) + ∑ i ∈ Finset.Ico 0 29, heard g i c
/-- All that the others owe a device. -/
def allDue (c : Dev nD) : TT := (ringDue 0 c + ringDue 1 c + ringDue 2 c) + tallyAt (cell c .bar) 0 6

theorem paid_sum (g : Fin 3) (c : Dev nD) : ∑ h ∈ Finset.range 31, paid g h c = ∑ i ∈ Finset.Ico 0 29, heard g i c := by
  rw [Finset.sum_range_succ', Finset.sum_range_succ, ← Finset.range_eq_Ico]
  have h0 : paid g 0 c = 0 := if_neg (by omega)
  have h1 : paid g (29 + 1) c = 0 := if_neg (by omega)
  rw [h0, h1, add_zero, add_zero]
  refine sum_congr rfl fun i hi => ?_
  have := Finset.mem_range.mp hi
  exact if_pos (by omega)

theorem ring_sum (g : Fin 3) : (∑ d, ∑ h ∈ Finset.range 31, hopPays d h g) = ∑ c, ringDue g c := by
  have hs (f : Dev nD → TT) : ∑ d, f (su g d) = ∑ c, f c := (around g).sum_comp f
  have hp (f : Dev nD → TT) : ∑ d, f (pr g d) = ∑ c, f c := (around g).symm.sum_comp f
  unfold hopPays ringDue
  simp only [sum_add_distrib, ← paid_sum]
  rw [hs fun c => ∑ h ∈ Finset.range 31, arrival g 0 h c, hs fun c => ∑ h ∈ Finset.range 31, arrival g 1 h c,
    hp fun c => ∑ h ∈ Finset.range 31, paid g h c, Finset.range_eq_Ico]

theorem bar_sum : (∑ d, oweBar d) = ∑ c, (tallyAt (cell c .bar) 0 6 : TT) := by
  have hs (g : Fin 3) (f : Dev nD → TT) : ∑ d, f (su g d) = ∑ c, f c := (around g).sum_comp f
  have hp (g : Fin 3) (f : Dev nD → TT) : ∑ d, f (pr g d) = ∑ c, f c := (around g).symm.sum_comp f
  unfold oweBar
  simp only [sum_add_distrib]
  have e1 (g : Fin 3) : ∑ d, (tallyAt (cell (su g d) .bar) 0 1 : TT) = ∑ c, tallyAt (cell c .bar) 0 1 := hs g fun c => tallyAt (cell c .bar) 0 1
  have e2 (g : Fin 3) : ∑ d, (tallyAt (cell (pr g d) .bar) 0 1 : TT) = ∑ c, tallyAt (cell c .bar) 0 1 := hp g fun c => tallyAt (cell c .bar) 0 1
  rw [e1, e1, e1, e2, e2, e2]
  simp only [← sum_add_distrib, tallyAt_add]

/-- What all owe is what all are owed. -/
theorem owed_sum : (∑ d, O₀ d) = ∑ c, allDue c := by
  unfold O₀ allDue
  simp only [sum_add_distrib, bar_sum, oweFrom_all]
  congr 1
  rw [← ring_sum, ← ring_sum, ← ring_sum, ← sum_add_distrib, ← sum_add_distrib]
  refine sum_congr rfl fun d _ => ?_
  rw [← sum_add_distrib, ← sum_add_distrib]
  refine sum_congr rfl fun h _ => ?_
  rw [Fin.sum_univ_three]

/-- Tallies of one device only. -/
def Mine (c : Dev nD) (T : TT) : Prop := ∀ g, T g ≠ 0 → g.1 = (c.tc : Thread nD τ)

theorem Mine.zero (c : Dev nD) : Mine c 0 := fun g h => absurd rfl h
theorem Mine.add {c : Dev nD} {T T' : TT} (h : Mine c T) (h' : Mine c T') : Mine c (T + T') := fun g hg => by
  by_cases h0 : T g = 0
  · exact h' g fun h1 => hg (by rw [Pi.add_apply, h0, h1, add_zero])
  · exact h g h0
theorem Mine.sum {α : Type} {c : Dev nD} {s : Finset α} {f : α → TT} (h : ∀ a, Mine c (f a)) : Mine c (∑ a ∈ s, f a) :=
  Finset.sum_induction f (Mine c) (fun _ _ => Mine.add) (Mine.zero c) fun a _ => h a
theorem Mine.at (c : Dev nD) (k : Kind) (i n : ℕ) : Mine c (tallyAt (cell c k) i n) := fun g hg => by
  by_contra h
  exact hg (tallyAt_ne_cell (fun e => h (congrArg Prod.fst e)) _ _)

theorem allDue_mine (c : Dev nD) : Mine c (allDue c) := by
  have hr (g : Fin 3) : Mine c (ringDue g c) :=
    ((Mine.sum fun h => Mine.at c _ _ _).add (Mine.sum fun h => Mine.at c _ _ _)).add (Mine.sum fun h => Mine.at c _ _ _)
  exact (((hr 0).add (hr 1)).add (hr 2)).add (Mine.at c _ _ _)

/-- A ring's credit: for every arrival, and for every credit heard of. -/
def ringCredit (F : FTy → Type) [FloatOps F] (c : Dev nD) (g : Fin 3) : sProp (𝕄 F) :=
  iprop((bigSep (Finset.Ico 0 31) fun i => cred (tallyAt (cell c (.recv g (par i) 0)) i (N g)))
      ∗ (bigSep (Finset.Ico 0 31) fun i => cred (tallyAt (cell c (.recv g (par i) 1)) i (N g)))
      ∗ (bigSep (Finset.Ico 0 29) fun i => cred (tallyAt (cell c (.cred g)) i 1)))

theorem ringDue_credit (c : Dev nD) (g : Fin 3) : (cred (ringDue g c) : sProp (𝕄 F)) ⊢ ringCredit F c g := by
  unfold ringDue ringCredit
  show _ ⊢ (_ : sProp (𝕄 F))
  iintro H
  ihave H := (cred_add _ _).1 $$ H
  icases H with ⟨H, H3⟩
  ihave H := (cred_add _ _).1 $$ H
  icases H with ⟨H1, H2⟩
  ihave H1 := (Entails.of_eq (Pipeline.cred_finsetSum (Finset.Ico 0 31) fun h => arrival g 0 h c)) $$ H1
  ihave H2 := (Entails.of_eq (Pipeline.cred_finsetSum (Finset.Ico 0 31) fun h => arrival g 1 h c)) $$ H2
  ihave H3 := (Entails.of_eq (Pipeline.cred_finsetSum (Finset.Ico 0 29) fun h => heard g h c)) $$ H3
  isplitl [H1]
  · iexact H1
  isplitl [H2]
  · iexact H2
  · iexact H3

/-- The launch gives each device its credit. -/
theorem launch_credit (c : Dev nD) :
    (Pipeline.launchCred O₀ c : sProp (𝕄 F)) ⊢ iprop((three fun g => ringCredit F c g) ∗ cred (tallyAt (cell c .bar) 0 6)) := by
  rw [Pipeline.launchCred_of_sum O₀ allDue owed_sum allDue_mine c]
  unfold allDue three
  show _ ⊢ (_ : sProp (𝕄 F))
  iintro H
  ihave H := (cred_add _ _).1 $$ H
  icases H with ⟨H, Hb⟩
  ihave H := (cred_add _ _).1 $$ H
  icases H with ⟨H, H2⟩
  ihave H := (cred_add _ _).1 $$ H
  icases H with ⟨H0, H1⟩
  ihave H0 := (ringDue_credit c 0) $$ H0
  ihave H1 := (ringDue_credit c 1) $$ H1
  ihave H2 := (ringDue_credit c 2) $$ H2
  iframe H0 H1 H2 Hb

end Cert.KernelIdeal.Rings
-- ==== Proof.Tokens.lean ====
/- Dealing the launch's tokens: the right to every payment goes to the device that makes it. -/
module

public import proofs.«01_k».proof.Proof.Owed

@[expose] public section

set_option maxRecDepth 20000

noncomputable section

namespace Cert.KernelIdeal.Rings

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The semaphores -/

/-- The devices' barrier semaphores. -/
def barEmb : Dev nD ↪ GSem nD τ sig := ⟨fun c => cell c .bar, fun _ _ h => (cell_inj h).1⟩
/-- The devices' other semaphores. -/
def ownEmb : Dev nD × (Fin 3 × Fin 9) ↪ GSem nD τ sig :=
  ⟨fun x => cell x.1 (kd x.2.1 x.2.2), fun a b h => Prod.ext (cell_inj h).1 (osem_facts.inj (congrArg Prod.snd h))⟩
/-- All of them. -/
def cellEmb : Dev nD × Kind ↪ GSem nD τ sig := ⟨fun x => cell x.1 x.2, fun a b h => Prod.ext (cell_inj h).1 (cell_inj h).2⟩

abbrev barCells : Finset (GSem nD τ sig) := Finset.univ.map barEmb
abbrev ownCells : Finset (GSem nD τ sig) := Finset.univ.map ownEmb

theorem kd_ne_bar : ∀ x : Fin 3 × Fin 9, kd x.1 x.2 ≠ .bar := by decide +kernel

theorem kind_cases : ∀ k : Kind, k = .bar ∨ ∃ x : Fin 3 × Fin 9, kd x.1 x.2 = k
  | .bar => .inl rfl
  | .cred g => .inr ⟨(g, 0), rfl⟩
  | .send g p j => .inr (by revert g p j; decide +kernel)
  | .recv g p j => .inr (by revert g p j; decide +kernel)

theorem cells_disjoint : Disjoint barCells ownCells := by
  rw [Finset.disjoint_left]
  rintro g h₁ h₂
  obtain ⟨c, -, rfl⟩ := Finset.mem_map.mp h₁
  obtain ⟨x, -, h⟩ := Finset.mem_map.mp h₂
  exact kd_ne_bar x.2 (cell_inj h).2

theorem cells_all : barCells ∪ ownCells = Finset.univ.map cellEmb := by
  ext s
  constructor
  · intro h
    rcases Finset.mem_union.mp h with h | h
    · obtain ⟨c, -, rfl⟩ := Finset.mem_map.mp h
      exact Finset.mem_map_of_mem cellEmb (Finset.mem_univ (c, Kind.bar))
    · obtain ⟨x, -, rfl⟩ := Finset.mem_map.mp h
      exact Finset.mem_map_of_mem cellEmb (Finset.mem_univ (x.1, kd x.2.1 x.2.2))
  · intro h
    obtain ⟨⟨c, k⟩, -, rfl⟩ := Finset.mem_map.mp h
    rcases kind_cases k with rfl | ⟨x, rfl⟩
    · exact Finset.mem_union_left _ (Finset.mem_map_of_mem barEmb (Finset.mem_univ c))
    · exact Finset.mem_union_right _ (Finset.mem_map_of_mem ownEmb (Finset.mem_univ (c, x)))

/-! ## The duties -/

/-- What a device's semaphores expect: the barrier's signals, the credits, the departures, the arrivals. -/
abbrev TokIx : Type := Fin 6 ⊕ (Fin 3 × Fin 29) ⊕ (Fin 3 × Fin 2 × Fin 31) ⊕ (Fin 3 × Fin 2 × Fin 31)

/-- The semaphore, the round and the duty of each. -/
def tokAt : TokIx → Kind × ℕ × ℕ
  | .inl u => (.bar, 0, u.val)
  | .inr (.inl x) => (.cred x.1, 0, x.2.val)
  | .inr (.inr (.inl x)) => (.send x.1 (par x.2.2.val) x.2.1, x.2.2.val / 2, 0)
  | .inr (.inr (.inr x)) => (.recv x.1 (par x.2.2.val) x.2.1, x.2.2.val / 2, 0)

theorem half_inj {a b : ℕ} (h : par a = par b) (h' : a / 2 = b / 2) : a = b := by
  have h1 : a % 2 = b % 2 := congrArg Fin.val h
  omega

theorem tokAt_inj : Function.Injective tokAt := by
  rintro (a | a | ⟨g, j, a⟩ | ⟨g, j, a⟩) (b | b | ⟨g', j', b⟩ | ⟨g', j', b⟩) h <;>
    simp only [tokAt, Prod.mk.injEq, reduceCtorEq, false_and, Kind.cred.injEq, Kind.send.injEq, Kind.recv.injEq, true_and] at h
  · rw [Fin.ext h]
  · rw [Prod.ext h.1 (Fin.ext h.2)]
  · obtain ⟨⟨rfl, h1, rfl⟩, h2, -⟩ := h
    rw [Fin.ext (half_inj h1 h2)]
  · obtain ⟨⟨rfl, h1, rfl⟩, h2, -⟩ := h
    rw [Fin.ext (half_inj h1 h2)]

/-- All the duties of all devices. -/
def toks : Finset (GSem nD τ sig × ℕ × ℕ) :=
  Finset.univ.map ⟨fun x : Dev nD × TokIx => (cell x.1 (tokAt x.2).1, (tokAt x.2).2.1, (tokAt x.2).2.2), fun x y h => by
    have h1 := cell_inj (congrArg (fun t : GSem nD τ sig × ℕ × ℕ => t.1) h)
    exact Prod.ext h1.1 (tokAt_inj (Prod.ext h1.2 (congrArg (fun t : GSem nD τ sig × ℕ × ℕ => t.2) h)))⟩

/-- Something for each number below `n`. -/
theorem fin_ico (n : ℕ) (Ψ : ℕ → sProp (𝕄 F)) : (bigSep Finset.univ fun i : Fin n => Ψ i.val) = bigSep (Finset.Ico 0 n) Ψ := by
  rw [Idealize.ShloMosaic.Ring.bigSep_fin_eq_range n _ Ψ fun _ _ => rfl, Finset.range_eq_Ico]

/-- Something for each ring, half and hop. -/
theorem ring_hops (Ψ : Fin 3 → Fin 2 → ℕ → sProp (𝕄 F)) :
    (bigSep Finset.univ fun x : Fin 3 × Fin 2 × Fin 31 => Ψ x.1 x.2.1 x.2.2.val)
      = three fun g => iprop(bigSep (Finset.Ico 0 31) (Ψ g 0) ∗ bigSep (Finset.Ico 0 31) (Ψ g 1)) := by
  rw [bigSep_univ_prod, ← fin3_eq]
  refine bigSep_congr fun g _ => ?_
  rw [bigSep_univ_prod]
  refine (BI.bigSep_fin_two _).trans ?_
  rw [← fin_ico, ← fin_ico]
  rfl

/-- The right to the departure of half `j` of hop `k`. -/
abbrev outTok (g : Fin 3) (j : Fin 2) (c : Dev nD) (k : ℕ) : sProp (𝕄 F) := dutyTok ER (cell c (.send g (par k) j)) (k / 2) 0
/-- The right to the arrival of half `j` of hop `k`. -/
abbrev inTok (g : Fin 3) (j : Fin 2) (c : Dev nD) (k : ℕ) : sProp (𝕄 F) := dutyTok ER (cell c (.recv g (par k) j)) (k / 2) 0
/-- The right to the `i`-th credit. -/
abbrev credTok (g : Fin 3) (c : Dev nD) (i : ℕ) : sProp (𝕄 F) := dutyTok ER (cell c (.cred g)) 0 i

/-- The rights of one device's semaphores. -/
def devToks (F : FTy → Type) [FloatOps F] (c : Dev nD) : sProp (𝕄 F) :=
  iprop(((three fun g => dutyTok ER (cell c .bar) 0 g.val) ∗ (three fun g => dutyTok ER (cell c .bar) 0 (3 + g.val)))
    ∗ (three fun g => bigSep (Finset.Ico 0 29) (credTok g c))
    ∗ (three fun g => iprop(bigSep (Finset.Ico 0 31) (outTok g 0 c) ∗ bigSep (Finset.Ico 0 31) (outTok g 1 c)))
    ∗ (three fun g => iprop(bigSep (Finset.Ico 0 31) (inTok g 0 c) ∗ bigSep (Finset.Ico 0 31) (inTok g 1 c))))

theorem six_eq (Φ : ℕ → sProp (𝕄 F)) :
    (bigSep Finset.univ fun u : Fin 6 => Φ u.val) = iprop((three fun g => Φ g.val) ∗ (three fun g => Φ (3 + g.val))) := by
  rw [bigSep_univ_equiv (finSumFinEquiv : Fin 3 ⊕ Fin 3 ≃ Fin 6) (fun u : Fin 6 => Φ u.val), bigSep_univ_sum, fin3_eq, fin3_eq]
  rfl

theorem toks_eq : bigSep toks (fun x => (dutyTok ER x.1 x.2.1 x.2.2 : sProp (𝕄 F))) = bigSep Finset.univ (devToks F) := by
  unfold toks
  rw [bigSep_map, bigSep_univ_prod]
  refine bigSep_congr fun c _ => ?_
  rw [bigSep_univ_sum, bigSep_univ_sum, bigSep_univ_sum]
  unfold devToks
  have h1 := six_eq (F := F) fun u => dutyTok ER (cell c .bar) 0 u
  have h2 : (bigSep Finset.univ fun x : Fin 3 × Fin 29 => (credTok x.1 c x.2.val : sProp (𝕄 F))) = three fun g => bigSep (Finset.Ico 0 29) (credTok g c) := by
    rw [bigSep_univ_prod, ← fin3_eq]
    exact bigSep_congr fun g _ => fin_ico 29 (credTok g c)
  have h3 := ring_hops (F := F) fun g j k => outTok g j c k
  have h4 := ring_hops (F := F) fun g j k => inTok g j c k
  rw [← h1, ← h2, ← h3, ← h4]
  rfl

/-- What is held of every device's ring may be held by its neighbour on that ring. -/
theorem deal (e : Fin 3 → Dev nD ≃ Dev nD) (Φ : Fin 3 → Dev nD → sProp (𝕄 F)) :
    (bigSep Finset.univ fun c => three fun g => Φ g c) = bigSep Finset.univ fun c => three fun g => Φ g (e g c) := by
  unfold three
  rw [bigSep_sep', bigSep_sep', bigSep_sep', bigSep_sep', bigSep_univ_equiv (e 0) (Φ 0), bigSep_univ_equiv (e 1) (Φ 1), bigSep_univ_equiv (e 2) (Φ 2)]

/-- The rights a device makes use of. -/
def dealt (F : FTy → Type) [FloatOps F] (c : Dev nD) : sProp (𝕄 F) :=
  iprop(((three fun g => dutyTok ER (cell (su g c) .bar) 0 g.val) ∗ (three fun g => dutyTok ER (cell (pr g c) .bar) 0 (3 + g.val)))
    ∗ (three fun g => bigSep (Finset.Ico 0 29) (credTok g (pr g c)))
    ∗ (three fun g => iprop(bigSep (Finset.Ico 0 31) (outTok g 0 c) ∗ bigSep (Finset.Ico 0 31) (outTok g 1 c)))
    ∗ (three fun g => iprop(bigSep (Finset.Ico 0 31) (inTok g 0 (su g c)) ∗ bigSep (Finset.Ico 0 31) (inTok g 1 (su g c)))))

theorem toks_dealt : (bigSep Finset.univ (devToks F) : sProp (𝕄 F)) = bigSep Finset.univ (dealt F) := by
  unfold devToks dealt
  rw [bigSep_sep', bigSep_sep', bigSep_sep', bigSep_sep', bigSep_sep', bigSep_sep', bigSep_sep', bigSep_sep',
    deal around fun g c => dutyTok ER (cell c .bar) 0 g.val, deal (fun g => (around g).symm) fun g c => dutyTok ER (cell c .bar) 0 (3 + g.val),
    deal (fun g => (around g).symm) fun g c => bigSep (Finset.Ico 0 29) (credTok g c),
    deal around fun g c => iprop(bigSep (Finset.Ico 0 31) (inTok g 0 c) ∗ bigSep (Finset.Ico 0 31) (inTok g 1 c))]
  rfl

/-! ## The releases -/

/-- The writes of all hops, each with the buffer half it goes to and its turn there. -/
def writeEmb : Dev nD × Fin 3 × Fin 31 ↪ Key × ℕ :=
  ⟨fun x => ((x.1, x.2.1, par x.2.2.val), x.2.2.val / 2), fun x y h => by
    obtain ⟨a, g, i⟩ := x
    obtain ⟨b, g', j⟩ := y
    simp only [Prod.mk.injEq] at h
    obtain ⟨⟨rfl, rfl, h1⟩, h2⟩ := h
    rw [Fin.ext (half_inj h1 h2)]⟩

theorem writes_dealt :
    (bigSep ((Finset.univ : Finset Key) ×ˢ Finset.range 16) fun x => (Release.writeTok ES x.1 (x.2 + 1) : sProp (𝕄 F)))
      ⊢ bigSep Finset.univ fun c => three fun g => writes c g 0 := by
  have hsub : Finset.univ.map writeEmb ⊆ (Finset.univ : Finset Key) ×ˢ Finset.range 16 := fun x hx => by
    obtain ⟨y, -, rfl⟩ := Finset.mem_map.mp hx
    refine Finset.mem_product.mpr ⟨Finset.mem_univ _, Finset.mem_range.mpr ?_⟩
    show y.2.2.val / 2 < 16
    have := y.2.2.isLt
    omega
  refine BI.Entails.trans (bigSep_subset hsub) (show _ ⊢ (_ : sProp (𝕄 F)) from Entails.of_eq ?_)
  have h := deal (F := F) around fun g c => bigSep (Finset.Ico 0 31) fun k => Release.writeTok ES ((c, g, par k) : Key) (k / 2 + 1)
  rw [bigSep_map, bigSep_univ_prod]
  refine Eq.trans ?_ h
  refine bigSep_congr fun c _ => ?_
  rw [bigSep_univ_prod, ← fin3_eq]
  exact bigSep_congr fun g _ => fin_ico 31 fun k => Release.writeTok ES ((c, g, par k) : Key) (k / 2 + 1)

theorem readers_dealt :
    (bigSep (Finset.univ : Finset Key) fun k => (Release.readerAt ES k 0 : sProp (𝕄 F)))
      = bigSep Finset.univ fun c => three fun g => iprop(Release.readerAt ES ((c, g, 0) : Key) 0 ∗ Release.readerAt ES ((c, g, 1) : Key) 0) := by
  rw [bigSep_univ_prod]
  refine bigSep_congr fun c _ => ?_
  rw [bigSep_univ_prod, ← fin3_eq]
  exact bigSep_congr fun g _ => BI.bigSep_fin_two _

/-! ## What each device keeps -/

/-- All the launch deals a device. -/
def dealtAll (F : FTy → Type) [FloatOps F] (c : Dev nD) : sProp (𝕄 F) :=
  iprop(atPos ER (cell c .bar) 0 ∅ 0 ∗ (three fun g => nine g fun k => openTok ER (cell c k)) ∗ dealt F c
    ∗ (three fun g => writes c g 0) ∗ (three fun g => iprop(Release.readerAt ES ((c, g, 0) : Key) 0 ∗ Release.readerAt ES ((c, g, 1) : Key) 0))
    ∗ (three fun g => ringCredit F c g) ∗ cred (tallyAt (cell c .bar) 0 6))

theorem three_sep (Φ Ψ : Fin 3 → sProp (𝕄 F)) : iprop(three Φ ∗ three Ψ) ⊢ three fun g => iprop(Φ g ∗ Ψ g) := by
  rw [← fin3_eq, ← fin3_eq, ← fin3_eq]
  exact Entails.of_eq (bigSep_sep' _ _ _).symm

theorem three_mono {Φ Ψ : Fin 3 → sProp (𝕄 F)} (h : ∀ g, Φ g ⊢ Ψ g) : three Φ ⊢ three Ψ := by
  rw [← fin3_eq, ← fin3_eq]
  exact bigSep_mono fun g _ => h g

/-- A ring's rights from what was dealt of it. -/
theorem ring_intro (c : Dev nD) (g : Fin 3) :
    iprop(((((bigSep (Finset.Ico 0 29) (credTok g (pr g c))) ∗ (bigSep (Finset.Ico 0 31) (outTok g 0 c) ∗ bigSep (Finset.Ico 0 31) (outTok g 1 c)))
      ∗ (bigSep (Finset.Ico 0 31) (inTok g 0 (su g c)) ∗ bigSep (Finset.Ico 0 31) (inTok g 1 (su g c))))
      ∗ writes c g 0) ∗ (Release.readerAt ES ((c, g, 0) : Key) 0 ∗ Release.readerAt ES ((c, g, 1) : Key) 0) ∗ ringCredit F c g)
      ⊢ (ringRights F c g : sProp (𝕄 F)) := by
  have hs (j : Fin 2) : bigSep (Finset.Ico 0 31) (sendTok (F := F) c g j)
      = iprop(bigSep (Finset.Ico 0 31) (outTok g j c) ∗ bigSep (Finset.Ico 0 31) (inTok g j (su g c))) := bigSep_sep' _ _ _
  unfold ringRights
  rw [hs, hs]
  unfold ringCredit
  iintro ⟨⟨⟨⟨H1, H2, H3⟩, H4, H5⟩, H6⟩, H7, H8⟩
  iframe H8 H2 H4 H3 H5 H7 H6
  iexact H1

theorem rights_intro (c : Dev nD) :
    dealtAll F c ⊢ (iprop(barRights F c ∗ (three fun g => nine g fun k => openTok ER (cell c k)) ∗ three fun g => ringRights F c g) : sProp (𝕄 F)) := by
  unfold dealtAll dealt barRights
  iintro ⟨Ha, Ho, ⟨⟨Hs, Hp⟩, H1, H2, H3⟩, Hw, Hr, Hc, Hb⟩
  isplitl [Ha Hs Hp Hb]
  · unfold three
    iframe Ha Hb Hs
    iexact Hp
  isplitl [Ho]
  · iexact Ho
  iapply (three_mono (ring_intro (F := F) c))
  ihave H := (three_sep _ _) $$ [H1 H2]
  · isplitl [H1] <;> iassumption
  ihave H := (three_sep _ _) $$ [H H3]
  · isplitl [H] <;> iassumption
  ihave H := (three_sep _ _) $$ [H Hw]
  · isplitl [H] <;> iassumption
  ihave H' := (three_sep _ _) $$ [Hr Hc]
  · isplitl [Hr] <;> iassumption
  iapply (three_sep _ _)
  isplitl [H] <;> iassumption

end Cert.KernelIdeal.Rings
-- ==== Proof.Launch.lean ====
/- The whole run: the launch deals the rights, every device runs the program, and the result is read at the end. -/
module

public import proofs.«01_k».proof.Proof.Tokens
public import Idealize.ShloMosaic.Lib.Quiescent

@[expose] public section

set_option maxRecDepth 20000

noncomputable section

namespace Cert.KernelIdeal.Rings

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]
variable (m : (ℓ : Loc nD τ sig) → Buf (Elt F) ℓ) (ρ : Dev nD → PrngReg)

/-! ## Beside the buffers -/

/-- What a device holds beside its buffers before the call, and after it. -/
def beside : Fin 2 → Dev nD → sProp (𝕄 F)
  | 0, c => iprop(keeps m c ∗ (∃ r, prngReg c r) ∗ ∃ W, owes (c : Thread nD τ) (O₀ c) W)
  | 1, c => iprop(semVal (cell c .bar) 0 ∗ ∃ W, owes (c : Thread nD τ) (0 : CellTallies nD τ sig ℕ) W)

theorem arr_unscoped : Pipeline.arrRefs (τ := τ) spec0 ⊆ Pipeline.ucRefs τ sig :=
  Pipeline.arrRefs_sub_ucRefs spec0 (by decide)

theorem call_pre [Facts] (c : Dev nD) :
    iprop(StableHlo.held (c : Thread nD τ) (Pipeline.ucRefs τ sig) (Gen.V19 m c) ∗ beside m 0 c) ⊢ (call m).pre c := by
  show _ ⊢ iprop(StableHlo.held (c.tc : Thread nD τ) (Pipeline.arrRefs (τ := τ) spec0) (Gen.V19 m c) ∗ (∃ r, prngReg c r)
    ∗ (StableHlo.held (c.tc : Thread nD τ) others (Gen.V19 m c) ∗ emp) ∗ keeps m c ∗ ∃ Wd, owes (c : Thread nD τ) (0 + O₀ c) Wd)
  rw [zero_add, StableHlo.held_sub_split (c.tc : Thread nD τ) arr_unscoped (Gen.V19 m c)]
  unfold beside
  iintro ⟨⟨Ha, Hr⟩, Hk, Hp, HO⟩
  isplitl [Ha]; · iexact Ha
  isplitl [Hp]; · iexact Hp
  isplitl [Hr]
  · isplitl [Hr]; · iexact Hr
    iempintro
  isplitl [Hk]; · iexact Hk
  iexact HO

theorem call_post [Facts] (c : Dev nD) :
    (call m).post c ⊢ iprop(StableHlo.held (c : Thread nD τ) (Pipeline.ucRefs τ sig) (Gen.V20 m (outs m) c) ∗ beside m 1 c) := by
  show iprop(StableHlo.held (c.tc : Thread nD τ) (Pipeline.arrRefs (τ := τ) spec0) (Gen.V20 m (outs m) c) ∗ (∃ r, prngReg c r)
    ∗ (StableHlo.held (c.tc : Thread nD τ) others (Gen.V20 m (outs m) c) ∗ emp) ∗ semVal (cell c .bar) 0
    ∗ ∃ Wd, owes (c : Thread nD τ) (0 : CellTallies nD τ sig ℕ) Wd) ⊢ _
  rw [StableHlo.held_sub_split (c.tc : Thread nD τ) arr_unscoped (Gen.V20 m (outs m) c)]
  unfold beside
  iintro ⟨Ha, -, ⟨Hr, -⟩, Hb, HO⟩
  isplitl [Ha Hr]
  · isplitl [Ha] <;> iassumption
  isplitl [Hb] <;> iassumption

theorem last_intro [Facts] (c : Dev nD) :
    (call m).post c ⊢ iprop((StableHlo.held (c : Thread nD τ) (Pipeline.ucRefs τ sig) (Gen.V20 m (outs m) c) ∗ semVal (cell c .bar) 0)
      ∗ ∃ W, owes (c : Thread nD τ) (0 : CellTallies nD τ sig ℕ) W) := by
  refine (call_post m c).trans ?_
  unfold beside
  iintro ⟨Hh, Hb, HO⟩
  isplitr [HO]
  · isplitl [Hh] <;> iassumption
  · iexact HO

/-! ## The launch -/

/-- The state of the whole mesh the launch starts from. -/
def u₀ : UU :=
  (initOf (Pipeline.cells cfgs Gen.cellOf_inj) (Pipeline.launchToks cfgs Gen.cellOf_inj),
    (launchOf barCells ownCells toks, Release.initSlots (Finset.univ : Finset Key) 16))

/-- Something held by one device only. -/
def onDev (d : Dev nD) (X : sProp (𝕄 F)) (c : Dev nD) : sProp (𝕄 F) := if c = d then X else iprop(emp)

theorem bigSep_onDev (d : Dev nD) (X : sProp (𝕄 F)) : bigSep Finset.univ (onDev d X) = X := by
  unfold onDev
  rw [bigSep_univ_at _ d, bigSep_congr (s := Finset.univ.erase d) (Φ := fun c => if c = d then X else iprop(emp)) (Ψ := fun _ => (BI.emp : sProp (𝕄 F)))
    fun c hc => if_neg (Finset.ne_of_mem_erase hc), BI.bigSep_emp_const, if_pos rfl]
  exact BI.equiv_iff.mp sep_emp

/-- The tokens before they are dealt. -/
def undealt (F : FTy → Type) [FloatOps F] : sProp (𝕄 F) :=
  iprop(BI.own (ER (launchOf barCells ownCells toks)) ∗ BI.own (ES (Release.initSlots (Finset.univ : Finset Key) 16)))

theorem unscopedSems0_eq (c : Dev nD) : (unscopedSems0 c : sProp (𝕄 F)) = semVal (cell c .bar) 0 := by
  unfold unscopedSems0
  rw [show (Finset.univ.filter fun sm : SemLoc sig => ¬ sm.isScoped .tc) = {Kind.bar.sem} from by decide +kernel, BI.bigSep_singleton]

theorem unscoped_bar : ∀ sm : SemLoc sig, sm.isScoped .tc = false → sm = Kind.bar.sem := by decide +kernel

theorem launch_own : (ownU u₀ : sProp (𝕄 F))
    ⊢ |={Set.univ}=> iprop(BI.own (EP (initOf (Pipeline.cells cfgs Gen.cellOf_inj) (Pipeline.launchToks cfgs Gen.cellOf_inj)))
        ∗ bigSep Finset.univ (onDev 0 (undealt F))) := by
  unfold u₀
  rw [bigSep_onDev]
  unfold undealt
  iintro Hu
  ihave H := (ownU_pair _ _) $$ Hu
  icases H with ⟨HP, HX⟩
  ihave HX := (show (BI.own (embR (launchOf barCells ownCells toks, Release.initSlots (Finset.univ : Finset Key) 16)) : sProp (𝕄 F))
    ⊢ iprop(BI.own (ER (launchOf barCells ownCells toks)) ∗ BI.own (ES (Release.initSlots (Finset.univ : Finset Key) 16))) from
      BI.own_op_elim (embR.op_of_mem (Prod.mk_mem_op (URA.mem_op_one _) (URA.mem_one_op _)))) $$ HX
  imodintro
  isplitl [HP]; · iexact HP
  iexact HX

/-- The records, once every semaphore and buffer half has its own. -/
theorem ctx_intro (κ : GSem nD τ sig → ℕ) (ιs : Key → ℕ) :
    iprop((bigSep (barCells ∪ ownCells) fun g => cellInv ER (Rd (sV (Xm m) (Wm m))) (κ g) g)
      ∗ (bigSep (Finset.univ : Finset Key) fun k => Release.slotInv ES (ιs k) k (parAny k))
      ∗ (bigSep barCells fun g => reached ER g 0) ∗ levAts L lv) ⊢ (Ctx (sV (Xm m) (Wm m)) κ ιs : sProp (𝕄 F)) := by
  unfold Ctx
  rw [cells_all, bigSep_map, bigSep_map]
  exact .rfl

/-- What of a device's holdings at launch isn't a token. -/
def bundle (c : Dev nD) : sProp (𝕄 F) :=
  iprop(StableHlo.held (c : Thread nD τ) (Pipeline.ucRefs τ sig) (Gen.V0 m c) ∗ (∃ r, prngReg c r) ∗ ∃ W, owes (c : Thread nD τ) (O₀ c) W)

theorem first_intro (κ : GSem nD τ sig → ℕ) (ιs : Key → ℕ) (c : Dev nD) :
    iprop(Ctx (sV (Xm m) (Wm m)) κ ιs ∗ (dealtAll F c ∗ bundle m c))
      ⊢ (iprop(StableHlo.held (c : Thread nD τ) (Pipeline.ucRefs τ sig) (Gen.V0 m c) ∗ beside m 0 c) : sProp (𝕄 F)) := by
  unfold bundle beside keeps
  iintro ⟨#HC, Hd, Hh, Hp, HO⟩
  ihave Hd := (rights_intro c) $$ Hd
  isplitl [Hh]; · iexact Hh
  isplitl [Hd]
  · isplitr; · iexists κ; iexists ιs; iexact HC
    iexact Hd
  isplitl [Hp] <;> iassumption

/-- What one device is given at launch. -/
def given (c : Dev nD) : sProp (𝕄 F) :=
  iprop(unscopedBufs c (fun b => m ((c : Thread nD τ).loc b)) ∗ unscopedSems0 c
    ∗ owes (c : Thread nD τ) (O₀ c) ∅ ∗ Pipeline.launchCred O₀ c ∗ prngReg c (ρ c) ∗ onDev 0 (undealt F) c)

theorem given_split (c : Dev nD) :
    given m ρ c ⊢ (iprop(bundle m c ∗ ((three fun g => ringCredit F c g) ∗ cred (tallyAt (cell c .bar) 0 6)) ∗ semVal (cell c .bar) 0 ∗ onDev 0 (undealt F) c) : sProp (𝕄 F)) := by
  unfold given bundle
  rw [unscopedSems0_eq, show unscopedBufs c (fun b => m ((c : Thread nD τ).loc b)) = StableHlo.held (c : Thread nD τ) (Pipeline.ucRefs τ sig) (Gen.V0 m c) from
    Pipeline.unscopedBufs_held c (Gen.V0 m c)]
  iintro ⟨Hh, Hb, HO, Hc, Hp, HG⟩
  ihave Hc := (launch_credit c) $$ Hc
  isplitl [Hh Hp HO]
  · isplitl [Hh]; · iexact Hh
    isplitl [Hp]; · iexists _; iexact Hp
    iexists _; iexact HO
  isplitl [Hc]; · iexact Hc
  isplitl [Hb] <;> iassumption

/-- A family of pairs is a pair of families. -/
theorem families {Φ Ψ : Dev nD → sProp (𝕄 F)} :
    (bigSep Finset.univ fun c => iprop(Φ c ∗ Ψ c)) ⊢ iprop(bigSep Finset.univ Φ ∗ bigSep Finset.univ Ψ) :=
  Entails.of_eq (bigSep_sep' _ _ _)
theorem family {Φ Ψ : Dev nD → sProp (𝕄 F)} :
    iprop(bigSep Finset.univ Φ ∗ bigSep Finset.univ Ψ) ⊢ (bigSep Finset.univ fun c => iprop(Φ c ∗ Ψ c)) :=
  Entails.of_eq (bigSep_sep' _ _ _).symm

/-- Dealing: from what the devices are given to what each holds when the program begins. -/
theorem launched :
    iprop((bigSep Finset.univ (given m ρ)) ∗ levAts L lv)
      ⊢ (|={Set.univ}=> bigSep Finset.univ fun c : Dev nD => iprop(StableHlo.held (c : Thread nD τ) (Pipeline.ucRefs τ sig) (Gen.V0 m c) ∗ beside m 0 c) : sProp (𝕄 F)) := by
  have hv : bigSep Finset.univ (fun c : Dev nD => (semVal (cell c .bar) 0 : sProp (𝕄 F))) ⊢ bigSep barCells (fun g => (semVal g 0 : sProp (𝕄 F))) :=
    Entails.of_eq (bigSep_map (s := Finset.univ) barEmb (Φ := fun g : GSem nD τ sig => (semVal g 0 : sProp (𝕄 F)))).symm
  have hat : bigSep barCells (fun g => (atPos ER g 0 ∅ 0 : sProp (𝕄 F))) ⊢ bigSep Finset.univ (fun c : Dev nD => (atPos ER (cell c .bar) 0 ∅ 0 : sProp (𝕄 F))) :=
    Entails.of_eq (bigSep_map (s := Finset.univ) barEmb (Φ := fun g : GSem nD τ sig => (atPos ER g 0 ∅ 0 : sProp (𝕄 F))))
  have hopen : bigSep ownCells (fun g => (openTok ER g : sProp (𝕄 F)))
      ⊢ bigSep Finset.univ (fun c : Dev nD => three fun g => nine g fun k => openTok ER (cell c k)) :=
    Entails.of_eq (by
      rw [bigSep_map, bigSep_univ_prod]
      exact bigSep_congr fun c _ => osem_split fun k => openTok ER (cell c k))
  have htok : bigSep toks (fun x => (dutyTok ER x.1 x.2.1 x.2.2 : sProp (𝕄 F))) ⊢ bigSep Finset.univ (dealt F) :=
    Entails.of_eq (toks_eq.trans toks_dealt)
  have hsplit : bigSep Finset.univ (given m ρ) ⊢ (bigSep Finset.univ fun c => iprop(bundle m c
      ∗ ((three fun g => ringCredit F c g) ∗ cred (tallyAt (cell c .bar) 0 6)) ∗ semVal (cell c .bar) 0 ∗ onDev 0 (undealt F) c) : sProp (𝕄 F)) :=
    bigSep_mono fun c _ => given_split m ρ c
  iintro ⟨H, #Hlv⟩
  ihave H := hsplit $$ H
  ihave H := families $$ H; icases H with ⟨HB, H⟩
  ihave H := families $$ H; icases H with ⟨Hcr, H⟩
  ihave H := families $$ H; icases H with ⟨Hv, HG⟩
  ihave HG := (show bigSep Finset.univ (onDev 0 (undealt F)) ⊢ undealt F from Entails.of_eq (bigSep_onDev 0 (undealt F))) $$ HG
  unfold undealt
  icases HG with ⟨HR, HS⟩
  imod (Rounds.fund_launch ER (Rd (sV (Xm m) (Wm m))) cells_disjoint (fun g _ h => h) toks) $$ [Hv HR] with ⟨%κ, -, #Hinv, #Hr, Hat, Hopen, Htok⟩
  · isplitl [Hv]
    · iapply hv $$ Hv
    · iexact HR
  imod (Release.slots_init ES (Finset.univ : Finset Key) 16 (fun k => parAny k)) $$ HS with ⟨%ιs, -, #Hsl, Hrd, Hwr⟩
  imodintro
  iapply (bigSep_with_persistent (R := Ctx (sV (Xm m) (Wm m)) κ ιs) (Φ := fun c => iprop(dealtAll F c ∗ bundle m c)) fun c _ => first_intro m κ ιs c)
  isplitr
  · iapply (ctx_intro m κ ιs)
    isplitr; · iexact Hinv
    isplitr; · iexact Hsl
    isplitr; · iexact Hr
    iexact Hlv
  iapply family
  isplitr [HB]
  · unfold dealtAll
    iapply family; isplitl [Hat]; · iapply hat $$ Hat
    iapply family; isplitl [Hopen]; · iapply hopen $$ Hopen
    iapply family; isplitl [Htok]; · iapply htok $$ Htok
    iapply family; isplitl [Hwr]; · iapply writes_dealt $$ Hwr
    iapply family; isplitl [Hrd]; · iapply (Entails.of_eq readers_dealt) $$ Hrd
    iexact Hcr
  · iexact HB

/-! ## The run -/

/-- What a device's memory holds at the end. -/
def Ends (c : Dev nD) (s : MemSt nD τ sig (Elt F)) : Prop :=
  (s.mem ((c.tc : Thread nD τ).loc main_v103) = outC m c
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3))
  ∧ s.sem (cell c .bar) = 0

theorem read_end (c : Dev nD) (s' : Phys nD τ sig (Elt F)) :
    iprop((StableHlo.held (c : Thread nD τ) (Pipeline.ucRefs τ sig) (Gen.V20 m (outs m) c) ∗ semVal (cell c .bar) 0) ∗ SI s')
      ⊢ (|={Set.univ}=> iprop(⌜Ends m c s'.mem⌝ ∗ SI s') : sProp (𝕄 F)) := by
  unfold StableHlo.held
  iintro ⟨⟨Hh, Hb⟩, HSI⟩
  icombine HSI Hb gives %hb
  ihave Hr := (pointsTo_read_all (Pipeline.ucRefs τ sig) (fun b => ((c : Thread nD τ).1, b)) (Gen.V20 m (outs m) c) s') $$ [Hh HSI]
  · isplitl [Hh] <;> iassumption
  icases Hr with ⟨%h, HSI⟩
  imodintro
  isplitr
  · ipureintro
    have hr (b : Ref sig .tc) (hb' : ¬ (Proc.devRef (τ := τ) .tc b).isScoped) := h (Proc.devRef .tc b) (Finset.mem_filter.mpr ⟨StableHlo.devRef_mem_tcRefs b, hb'⟩)
    exact ⟨⟨(hr main_v103 (by decide)).trans (V20_v103 m c), (hr main_arg0 (by decide)).trans (Gen.V20_main_arg0 m (outs m) c),
      (hr main_arg1 (by decide)).trans (Gen.V20_main_arg1 m (outs m) c), (hr main_arg2 (by decide)).trans (Gen.V20_main_arg2 m (outs m) c),
      (hr main_arg3 (by decide)).trans (Gen.V20_main_arg3 m (outs m) c)⟩, by simpa using hb⟩
  · iexact HSI

/-- The program is its host steps and the call, one after another. -/
theorem run_segs [Facts] (c : Dev nD) :
    Pipeline.Seg.run (Gen.segs m 𝒱₀ L lv (beside m) 0 (pdats m) (call m) c) = Cert.KernelIdeal.main (F := F) c := by
  rw [Gen.main_chain c, Pipeline.Seg.run_eq_chain]
  rfl

set_option backward.isDefEq.respectTransparency.types false in
/-- The run: from any memory with every semaphore at zero, every fair execution on the 32 devices ends; each device's result then
    is its block product summed over the rings, its arguments are as they were, and every semaphore is at zero again. -/
theorem run_main [Facts] : θ_run defs (onTc (τ := τ) (Cert.KernelIdeal.main (F := F))) ⟨m, fun _ => 0, ρ⟩ (fun r =>
    (∀ c : Dev nD, r.2.mem ((c.tc : Thread nD τ).loc main_v103) = outC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) := by
  refine Pipeline.θ_run_regions_kit_dev_sems (pcfgs (F := F)) Gen.adm (pdats m) 0 Gen.cellOf_inj EP defs₀ 𝒱₀ L lv m ρ Cert.KernelIdeal.main
    (Gen.segs m 𝒱₀ L lv (beside m) 0 (pdats m) (call m))
    (fun c Q => by rw [run_segs m c])
    (fun c => by simp only [Gen.segs, Pipeline.Seg.pipes_host, Pipeline.Seg.pipes_region, Pipeline.Seg.pipes_nil]; decide)
    O₀ L_of_ne (onDev 0 (undealt F)) u₀ launch_own
    (T₀ := fun c => iprop(StableHlo.held (c : Thread nD τ) (Pipeline.ucRefs τ sig) (Gen.V0 m c) ∗ beside m 0 c))
    (Tₙ := fun c => iprop(StableHlo.held (c : Thread nD τ) (Pipeline.ucRefs τ sig) (Gen.V20 m (outs m) c) ∗ semVal (cell c .bar) 0))
    (hch := fun c => ⟨.rfl, .rfl, .rfl, .rfl, .rfl, .rfl, .rfl, .rfl, .rfl, .rfl, .rfl, .rfl, .rfl, .rfl, .rfl, .rfl, .rfl, .rfl, .rfl,
      call_pre m c, last_intro m c⟩)
    (hinit := launched m ρ) (QY := Ends m) (hfin := read_end m)
    (hQ := fun s h hs => ⟨fun c => (h c).1, sem_eq_zero hs fun c sm hsm => by
      obtain rfl := unscoped_bar sm hsm
      exact (h c).2⟩)

end Cert.KernelIdeal.Rings
-- ==== Proof.Frames.lean ====
/- That the kernel runs, leaving its arguments as they were and every semaphore at zero: as printed and over the extended
   reals. -/
module

public import proofs.«01_k».proof.Defs
public import proofs.«01_k».proof.Proof.Gen.Kernel
public import proofs.«01_k».proof.Proof.Launch

@[expose] public section

noncomputable section

namespace Cert.KernelIdeal.Rings

open Cert.KernelIdeal
open Idealize.ShloMosaic Idealize.ShloMosaic.TcCoe Idealize.SL.Sem

/-- From every memory the kernel over the float values `F` runs, its arguments end as they were and every semaphore at zero. -/
def Runs (F : FTy → Type) [FloatOps F] : Prop :=
  ∀ (m : (ℓ : Loc nD τ sig) → Buf (Elt F) ℓ) (ρ : Dev nD → PrngReg), True →
    θ_run (defs (F := F)) (onTc (τ := τ) (Cert.KernelIdeal.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

/-- The kernel runs over every float values. -/
theorem runs (F : FTy → Type) [FloatOps F] : Runs F := fun m ρ _ =>
  (θ_run (defs (F := F)) _ _).mono (fun _ h => ⟨fun c => (h.1 c).2, h.2⟩) (run_main (F := F) m ρ)

/-- The program as printed and the one read over the extended reals are one text, so the claim about the first is `Runs` at
    the printed floats. -/
theorem same_text : Cert.quiescent_Kernel (hKernel := Cert.Kernel.Gen.facts) = Runs Bits := by sl_kernel_rfl

/-- The kernel as printed runs, its arguments end as they were and every semaphore at zero. -/
theorem kernel_frame : Cert.quiescent_Kernel (hKernel := Cert.Kernel.Gen.facts) := same_text ▸ runs Bits

/-- The same over the extended reals. -/
theorem ideal_frame : Cert.quiescent_KernelIdeal (hKernelIdeal := Cert.KernelIdeal.Gen.facts) := runs Ideal

end Cert.KernelIdeal.Rings

end
-- ==== Proof.RefValue.lean ====
/- The reference's result as one function of its arguments: the rectified scaled product of the whole arrays, first as the
   body's own expression and then, over the extended reals, at an index. -/
module

public import proofs.«01_k».proof.Proof.Gen.ReferenceIdeal.Value
public import Idealize.ShloMosaic.Lib.Pipeline.ValueKit
public import Idealize.ShloMosaic.Lib.MatmulPlain

@[expose] public section

noncomputable section

namespace Cert.ReferenceIdeal.Whole

open Cert.ReferenceIdeal Cert.ReferenceIdeal.Gen Idealize.ShloMosaic Idealize.ShloMosaic.TcCoe Idealize.SL.Sem

section
variable {F : FTy → Type} [FloatOps F]
variable (m : (ℓ : Loc nD τ sig) → Buf (Elt F) ℓ) (ρ : Dev nD → PrngReg)

/-- The one word of a one-word argument. -/
def word : S1.Idx := fun a => match a with | ⟨0, _⟩ => (0 : Fin 1)

/-- Every index of a one-word argument is its one word. -/
theorem eq_word (i : S1.Idx) : i = word := by
  funext a
  have h := (i a).isLt
  match a with
  | ⟨0, _⟩ => exact Fin.ext (Nat.lt_one_iff.mp h)

/-- The reference's result as the body's expression over the argument arrays. -/
def refOut (c : Dev nD) : FVec F S4096x8192 .f32 :=
  k0_pay1 (m (c.tc.loc main_arg0)) (m (c.tc.loc main_arg1)) (m (c.tc.loc main_arg2) word) (m (c.tc.loc main_arg3) word)

/-- What the body leaves in the output's buffer is its expression over the input buffers' contents. -/
theorem out_eq (c : Dev nD) (arg0 : Memref sig .tc .vmem S4096x4096 .fp8e4m3) (h0 : arg0.IsWhole)
    (arg1 : Memref sig .tc .vmem S4096x8192 .fp8e4m3) (h1 : arg1.IsWhole) (arg2 : Memref sig .tc .smem S1 .f32) (h2 : arg2.IsWhole)
    (arg3 : Memref sig .tc .smem S1 .f32) (h3 : arg3.IsWhole) (arg4 : Memref sig .tc .vmem S4096x8192 .f32) (h4 : arg4.IsWhole)
    (x0 : Vec F S4096x4096 .fp8e4m3) (x1 : Vec F S4096x8192 .fp8e4m3) (x2 x3 : Vec F S1 .f32) :
    out0_A_4 c arg0 h0 arg1 h1 arg2 h2 arg3 h3 arg4 h4 x0 x1 x2 x3 = k0_pay1 x0 x1 (x2 word) (x3 word) := by
  frame_out
  exact congrArg₂ (k0_pay1 x0 x1) (congrArg x2 (eq_word _)) (congrArg x3 (eq_word _))

/-- At the one grid point an input window's block is its whole array: the features, -/
theorem iblk0_eq (c : Dev nD) : iblk m c 0 t0_0 = m (c.tc.loc main_arg0) := by
  funext x
  exact congrArg (m (c.tc.loc main_arg0)) (funext fun a => Fin.ext (win0_0.rect_emb_val_of_index_zero t0_0 a rfl x))

/-- the weights, -/
theorem iblk1_eq (c : Dev nD) : iblk m c 1 t0_0 = m (c.tc.loc main_arg1) := by
  funext x
  exact congrArg (m (c.tc.loc main_arg1)) (funext fun a => Fin.ext (win0_1.rect_emb_val_of_index_zero t0_0 a rfl x))

/-- and the two scales. -/
theorem iblk2_eq (c : Dev nD) : iblk m c 2 t0_0 word = m (c.tc.loc main_arg2) word := by
  exact congrArg (m (c.tc.loc main_arg2)) (eq_word _)

theorem iblk3_eq (c : Dev nD) : iblk m c 3 t0_0 word = m (c.tc.loc main_arg3) word := by
  exact congrArg (m (c.tc.loc main_arg3)) (eq_word _)

/-- What the one grid point writes back is the expression's block, the whole of it. -/
theorem flushed_eq (c : Dev nD) (t : Fin cfg0.N) :
    (dats m 0 c).flushed 4 t = ((cfg0.win 4).blk t).view.read (Elt F) (refOut m c) := by
  obtain rfl := fin_N0 t
  rw [Value.flushed4_A, out_eq, iblk0_eq, iblk1_eq, iblk2_eq, iblk3_eq]
  funext x
  exact congrArg (refOut m c) (funext fun a => Fin.ext (win0_4.rect_emb_val_of_index_zero t0_0 a rfl x).symm)

/-- The result array after the run is the body's expression over the arguments as launched. -/
theorem whole_out (c : Dev nD) : (dats m 0 c).arrAt 4 cfg0.N = refOut m c :=
  (dats m 0 c).arrAt_eq_of_cover 4 (refOut m c) (fun t _ => flushed_eq m c t)
    fun i => ⟨t0_0, flush0_4 _, Finset.mem_map.mpr ⟨i, Finset.mem_univ _,
      funext fun a => Fin.ext (win0_4.rect_emb_val_of_index_zero t0_0 a rfl i)⟩⟩

/-- The reference's run: its result is the expression, and its arguments end as they were. -/
theorem run_whole : θ_run defs (onTc (τ := τ) (main (F := F))) ⟨m, fun _ => 0, ρ⟩ fun r => ∀ c : Dev nD,
      r.2.mem ((c.tc : Thread nD τ).loc main_v0) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (whole_out m c), (h c).2⟩) (Value.run_blocks m ρ)

end

/-- The product's dimensions are the plain ones. -/
theorem dot_plain : dot_S4096x4096_S4096x8192_S4096x8192_1_0_0_1_n_n = DotDims.plain 4096 4096 8192 := by rfl

/-- The rectified, scaled product of two arrays of extended reals: at row `r` and column `j` the inner product of the row
    and the column, times the product of the two scales, and at least zero. -/
def rectified (x : S4096x4096.Idx → EReal) (w : S4096x8192.Idx → EReal) (a b : EReal) (i : S4096x8192.Idx) : EReal :=
  max ((∑ k : Fin 4096, x (ValueIdx.ix2 (i 0) k) * w (ValueIdx.ix2 k (i 1))) * (a * b)) 0

/-- Over the extended reals the body's expression is the rectified, scaled product. -/
theorem pay_eq (x : Vec Ideal S4096x4096 .fp8e4m3) (w : Vec Ideal S4096x8192 .fp8e4m3) (a b : Elt Ideal .f32) :
    k0_pay1 x w a b = rectified x w a b := by
  funext i
  obtain ⟨r, j, rfl⟩ : ∃ r j, i = ValueIdx.ix2 r j := ⟨_, _, ValueIdx.eq_ix2 i⟩
  unfold k0_pay1
  rw [dot_plain]
  show max (FloatOps.matmul (F := Ideal) (DotDims.plain 4096 4096 8192) none x w (constant S4096x8192 .f32 0x00000000#32) (ValueIdx.ix2 r j) * (a * b))
    (Ideal.ofBits .f32 0x00000000#32) = _
  rw [Ideal.matmul_plain_apply, ValueIdx.constant_apply, Ideal.ofBits_zero_f32, zero_add]
  rfl

end Cert.ReferenceIdeal.Whole

end
-- ==== Proof.Value.lean ====
/- Over the extended reals the kernel and the reference compute the same function of the whole arrays. -/
module

public import proofs.«01_k».proof.Defs
public import proofs.«01_k».proof.Proof.Algebra
public import proofs.«01_k».proof.Proof.Frames
public import proofs.«01_k».proof.Proof.RefValue

@[expose] public section

set_option maxRecDepth 20000

noncomputable section

namespace Cert.KernelIdeal.Rings

open Cert.KernelIdeal
open Idealize.ShloMosaic Idealize.ShloMosaic.TcCoe Idealize.SL.Sem

/-- The inner products over the 32 blocks of 128 add up to the inner product over the whole of 4096. -/
theorem sum_blocks (f : Fin 4096 → EReal) :
    ∑ d : Fin 32, ∑ l : Fin 128, f ⟨d.val * 128 + l.val, by omega⟩ = ∑ k : Fin 4096, f k := by
  rw [← Fin.sum_divmod_fin (N := 4096) (A := 32) 128 (fun d l => f ⟨d.val * 128 + l.val, by omega⟩)]
  exact Finset.sum_congr rfl fun k _ => congrArg f (Fin.ext (by show k.val / 128 * 128 + k.val % 128 = k.val; omega))

/-- Where the devices hold the parts of the whole arrays `A` and `B` and copies of the scales, device `c`'s result is its
    block of rows of the rectified, scaled product of `A` and `B`. -/
theorem outC_block (m : (ℓ : Loc nD τ sig) → Buf (Elt Ideal) ℓ) (A : (⟨2, ![4096, 4096]⟩ : Shape).Idx → EReal)
    (B : (⟨2, ![4096, 8192]⟩ : Shape).Idx → EReal) (a b : Cert.ReferenceIdeal.S1.Idx → EReal)
    (hA : ∀ d : Dev nD, m (d.tc.loc main_arg0) = Layout.block ⟨2, ![4096, 128]⟩ ⟨2, ![4096, 4096]⟩ 1 32 d A)
    (hB : ∀ d : Dev nD, m (d.tc.loc main_arg1) = Layout.block ⟨2, ![128, 8192]⟩ ⟨2, ![4096, 8192]⟩ 0 32 d B)
    (ha : ∀ d : Dev nD, m (d.tc.loc main_arg2) = a) (hb : ∀ d : Dev nD, m (d.tc.loc main_arg3) = b) (c : Dev nD) :
    outC m c = Layout.block ⟨2, ![128, 8192]⟩ ⟨2, ![4096, 8192]⟩ 0 32 c
      (Cert.ReferenceIdeal.Whole.rectified A B (a Cert.ReferenceIdeal.Whole.word) (b Cert.ReferenceIdeal.Whole.word)) := by
  funext i
  have hi : (i 0).val < 128 := (i 0).isLt
  have hc : c.val < 32 := c.isLt
  unfold outC
  refine (outAll_apply (Xm m) (Wm m) _ c _ i ⟨c.val * 128 + (i 0).val, by omega⟩ rfl).trans ?_
  rw [Layout.block_apply]
  unfold Cert.ReferenceIdeal.Whole.rectified
  have hs : (scOf (Sx m c) (Sw m c) : EReal) = a Cert.ReferenceIdeal.Whole.word * b Cert.ReferenceIdeal.Whole.word := by
    show (Sx m c _ : EReal) * (Sw m c _ : EReal) = _
    exact congrArg₂ (fun x y : EReal => x * y) ((congrFun (ha c) _).trans (congrArg a (Cert.ReferenceIdeal.Whole.eq_word _)))
      ((congrFun (hb c) _).trans (congrArg b (Cert.ReferenceIdeal.Whole.eq_word _)))
  rw [hs]
  refine congrArg (fun s : EReal => max (s * _) 0) ?_
  rw [← sum_blocks]
  refine Finset.sum_congr rfl fun d _ => Finset.sum_congr rfl fun l _ => ?_
  refine congrArg₂ (fun x y : EReal => x * y) ((congrFun (hA d) _).trans (congrArg A (funext fun e => ?_)))
    ((congrFun (hB d) _).trans (congrArg B (funext fun e => ?_)))
  · fin_cases e <;> rfl
  · fin_cases e <;> rfl

/-- The kernel and the reference, over the extended reals and on the same arrays, leave the same result. -/
theorem same_value : Cert.algebraic_KernelIdeal_ReferenceIdeal (hKernelIdeal := Cert.KernelIdeal.Gen.facts)
    (hReferenceIdeal := Cert.ReferenceIdeal.Gen.facts) := fun m ρ m' ρ' _ hm => by
  have hk := fun c => outC_block m _ _ _ _ (fun d => (hm d).1) (fun d => (hm d).2.1) (fun d => (hm d).2.2.1) (fun d => (hm d).2.2.2) c
  refine ⟨_, (θ_run (defs (F := Ideal)) _ _).mono (fun _ h c => ⟨(h.1 c).1.trans (hk c), (h.1 c).2⟩) (run_main (F := Ideal) m ρ), ?_⟩
  exact (θ_run Cert.ReferenceIdeal.defs _ _).mono (fun _ h => ⟨(h 0).1.trans (Cert.ReferenceIdeal.Whole.pay_eq _ _ _ _), (h 0).2⟩)
    (Cert.ReferenceIdeal.Whole.run_whole (F := Ideal) m' ρ')

end Cert.KernelIdeal.Rings

end
-- ==== Proof.lean ====
/- The claims put together: the frames of the kernel and of the reference, and that the kernel's result on every device is its
   block of the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference runs, its arguments end as they were and every semaphore at zero. -/
theorem reference_frame : Cert.quiescent_ReferenceIdeal (hReferenceIdeal := Cert.ReferenceIdeal.Gen.facts) := fun m ρ _ =>
  Cert.ReferenceIdeal.Gen.frame m ρ

/-- All the claims. -/
theorem claim : Cert.Claim := ⟨Cert.Kernel.Gen.facts, Cert.KernelIdeal.Gen.facts, Cert.ReferenceIdeal.Gen.facts,
  Cert.KernelIdeal.Rings.kernel_frame, Cert.KernelIdeal.Rings.ideal_frame, reference_frame, trivial, Cert.KernelIdeal.Rings.same_value⟩

end Cert.Proof

end
